-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x128x64 : Shape := ⟨4, ![2, 256, 128, 64]⟩
abbrev S256x512 : Shape := ⟨2, ![256, 512]⟩
abbrev S256x256 : Shape := ⟨2, ![256, 256]⟩
abbrev S_ : Shape := ⟨0, ![]⟩
abbrev S2x256x256 : Shape := ⟨3, ![2, 256, 256]⟩
abbrev S2x256x4x64 : Shape := ⟨4, ![2, 256, 4, 64]⟩
abbrev S2x4x256x64 : Shape := ⟨4, ![2, 4, 256, 64]⟩
abbrev S2x4x64x256 : Shape := ⟨4, ![2, 4, 64, 256]⟩
abbrev S2x4x256x256 : Shape := ⟨4, ![2, 4, 256, 256]⟩
abbrev S1x1x256x256 : Shape := ⟨4, ![1, 1, 256, 256]⟩
abbrev S2x4x256 : Shape := ⟨3, ![2, 4, 256]⟩
abbrev S2x4x256x1 : Shape := ⟨4, ![2, 4, 256, 1]⟩
abbrev S512x512 : Shape := ⟨2, ![512, 512]⟩
abbrev S576x512 : Shape := ⟨2, ![576, 512]⟩
abbrev S8 : Shape := ⟨1, ![8]⟩
abbrev S1 : Shape := ⟨1, ![1]⟩
abbrev S128x256 : Shape := ⟨2, ![128, 256]⟩
abbrev S64x256 : Shape := ⟨2, ![64, 256]⟩

abbrev nBuf : Space → Nat
  | .hbm => 78
  | .vmem => 3
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x128x64, .f32⟩
  | .hbm, ⟨3, _⟩ => ⟨S2x256x128x64, .f32⟩
  | .hbm, ⟨4, _⟩ => ⟨S256x512, .f32⟩
  | .hbm, ⟨5, _⟩ => ⟨S256x256, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S2x256x256, .f32⟩
  | .hbm, ⟨13, _⟩ => ⟨S2x256x4x64, .f32⟩
  | .hbm, ⟨14, _⟩ => ⟨S2x4x256x64, .f32⟩
  | .hbm, ⟨15, _⟩ => ⟨S2x4x256x64, .bf16⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S2x256x4x64, .f32⟩
  | .hbm, ⟨27, _⟩ => ⟨S2x4x64x256, .f32⟩
  | .hbm, ⟨28, _⟩ => ⟨S2x4x64x256, .bf16⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S2x256x4x64, .f32⟩
  | .hbm, ⟨40, _⟩ => ⟨S2x4x256x64, .f32⟩
  | .hbm, ⟨41, _⟩ => ⟨S2x4x256x64, .bf16⟩
  | .hbm, ⟨42, _⟩ => ⟨S2x4x256x256, .f32⟩
  | .hbm, ⟨43, _⟩ => ⟨S_, .f32⟩
  | .hbm, ⟨44, _⟩ => ⟨S2x4x256x256, .f32⟩
  | .hbm, ⟨45, _⟩ => ⟨S2x4x256x256, .f32⟩
  | .hbm, ⟨46, _⟩ => ⟨S1x1x256x256, .i1⟩
  | .hbm, ⟨47, _⟩ => ⟨S_, .f32⟩
  | .hbm, ⟨48, _⟩ => ⟨S_, .f32⟩
  | .hbm, ⟨49, _⟩ => ⟨S2x4x256x256, .i1⟩
  | .hbm, ⟨50, _⟩ => ⟨S2x4x256x256, .f32⟩
  | .hbm, ⟨51, _⟩ => ⟨S2x4x256x256, .f32⟩
  | .hbm, ⟨52, _⟩ => ⟨S_, .f32⟩
  | .hbm, ⟨53, _⟩ => ⟨S2x4x256, .f32⟩
  | .hbm, ⟨54, _⟩ => ⟨S_, .f32⟩
  | .hbm, ⟨55, _⟩ => ⟨S2x4x256, .f32⟩
  | .hbm, ⟨56, _⟩ => ⟨S2x4x256, .f32⟩
  | .hbm, ⟨57, _⟩ => ⟨S2x4x256x1, .f32⟩
  | .hbm, ⟨58, _⟩ => ⟨S2x4x256x256, .f32⟩
  | .hbm, ⟨59, _⟩ => ⟨S2x4x256x256, .f32⟩
  | .hbm, ⟨60, _⟩ => ⟨S2x4x256x256, .f32⟩
  | .hbm, ⟨61, _⟩ => ⟨S_, .f32⟩
  | .hbm, ⟨62, _⟩ => ⟨S2x4x256, .f32⟩
  | .hbm, ⟨63, _⟩ => ⟨S2x4x256x1, .f32⟩
  | .hbm, ⟨64, _⟩ => ⟨S2x4x256x256, .f32⟩
  | .hbm, ⟨65, _⟩ => ⟨S2x4x256x256, .f32⟩
  | .hbm, ⟨66, _⟩ => ⟨S2x4x256x256, .bf16⟩
  | .hbm, ⟨67, _⟩ => ⟨S2x4x256x64, .f32⟩
  | .hbm, ⟨68, _⟩ => ⟨S2x4x256x64, .bf16⟩
  | .hbm, ⟨69, _⟩ => ⟨S2x256x4x64, .bf16⟩
  | .hbm, ⟨70, _⟩ => ⟨S2x256x256, .bf16⟩
  | .hbm, ⟨71, _⟩ => ⟨S256x512, .bf16⟩
  | .hbm, ⟨72, _⟩ => ⟨S2x256x512, .f32⟩
  | .hbm, ⟨73, _⟩ => ⟨S2x256x512, .bf16⟩
  | .hbm, ⟨74, _⟩ => ⟨S512x512, .bf16⟩
  | .hbm, ⟨75, _⟩ => ⟨S512x512, .bf16⟩
  | .hbm, ⟨76, _⟩ => ⟨S512x512, .f32⟩
  | .hbm, ⟨77, _⟩ => ⟨S2x256x512, .f32⟩
  | .local _ .vmem, ⟨0, _⟩ => ⟨S512x512, .bf16⟩
  | .local _ .vmem, ⟨1, _⟩ => ⟨S512x512, .bf16⟩
  | .local _ .vmem, ⟨2, _⟩ => ⟨S576x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_c_4 : Ref sig .tc := ⟨.hbm, 20, rfl⟩
abbrev main_v11 : Ref sig .tc := ⟨.hbm, 21, rfl⟩
abbrev main_v12 : Ref sig .tc := ⟨.hbm, 22, rfl⟩
abbrev main_c_5 : Ref sig .tc := ⟨.hbm, 23, rfl⟩
abbrev main_c_6 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_8 : Ref sig .tc := ⟨.hbm, 29, rfl⟩
abbrev main_v16 : Ref sig .tc := ⟨.hbm, 30, rfl⟩
abbrev main_c_9 : Ref sig .tc := ⟨.hbm, 31, rfl⟩
abbrev main_v17 : Ref sig .tc := ⟨.hbm, 32, rfl⟩
abbrev main_c_10 : Ref sig .tc := ⟨.hbm, 33, rfl⟩
abbrev main_v18 : Ref sig .tc := ⟨.hbm, 34, rfl⟩
abbrev main_v19 : Ref sig .tc := ⟨.hbm, 35, rfl⟩
abbrev main_c_11 : Ref sig .tc := ⟨.hbm, 36, rfl⟩
abbrev main_c_12 : Ref sig .tc := ⟨.hbm, 37, rfl⟩
abbrev main_c_13 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_14 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v27 : Ref sig .tc := ⟨.hbm, 51, rfl⟩
abbrev main_cst_15 : Ref sig .tc := ⟨.hbm, 52, rfl⟩
abbrev main_v28 : Ref sig .tc := ⟨.hbm, 53, rfl⟩
abbrev main_cst_16 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_17 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_495 : BitVec 32 := 0#32
  let c2_i32_138 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_77 : BitVec 32 := 1#32
  let c2_i32_76 : BitVec 32 := 2#32
  let c0_i32_64 : BitVec 32 := 0#32
  let v141 : BitVec 1 := Scalar.cmpi .sgt v131 c0_i32_64
  let v142 : BitVec 32 := Scalar.extui v141
  let c0_i32_65 : BitVec 32 := 0#32
  let v143 : BitVec 1 := Scalar.cmpi .slt v131 c0_i32_65
  let v144 : BitVec 32 := Scalar.extui v143
  let v145 : BitVec 32 := Scalar.subi v142 v144
  let c1_i32_63 : BitVec 32 := 1#32
  let c0_i32_66 : BitVec 32 := 0#32
  let v146 : BitVec 1 := Scalar.cmpi .sgt c1_i32_63 c0_i32_66
  let v147 : BitVec 32 := Scalar.extui v146
  let c0_i32_67 : BitVec 32 := 0#32
  let v148 : BitVec 1 := Scalar.cmpi .slt c1_i32_63 c0_i32_67
  let v149 : BitVec 32 := Scalar.extui v148
  let v150 : BitVec 32 := Scalar.subi v147 v149
  let v151 : BitVec 1 := Scalar.cmpi .ne v145 v150
  let v152 : BitVec 32 := Scalar.remsi v131 c1_i32_63
  let c0_i32_68 : BitVec 32 := 0#32
  let v153 : BitVec 1 := Scalar.cmpi .ne v152 c0_i32_68
  let v154 : BitVec 1 := Scalar.andi v151 v153
  let v140 : BitVec 32 := Scalar.divsi v131 c1_i32_63
  let c1_i32_69 : BitVec 32 := 1#32
  let v155 : BitVec 32 := Scalar.subi v140 c1_i32_69
  let v156 : BitVec 32 := Scalar.select v154 v155 v140
  let c2_i32_70 : BitVec 32 := 2#32
  let c0_i32_71 : BitVec 32 := 0#32
  let v157 : BitVec 1 := Scalar.cmpi .eq c2_i32_70 c0_i32_71
  let c1_i32_72 : BitVec 32 := 1#32
  let v158 : BitVec 32 := Scalar.select v157 c1_i32_72 c2_i32_70
  let v159 : BitVec 32 := Scalar.remsi v156 v158
  let c0_i32_74 : BitVec 32 := 0#32
  let v161 : BitVec 1 := Scalar.cmpi .slt v159 c0_i32_74
  let c0_i32_75 : BitVec 32 := 0#32
  let v162 : BitVec 1 := Scalar.cmpi .slt v158 c0_i32_75
  let v163 : BitVec 1 := Scalar.xori v161 v162
  let c0_i32_73 : BitVec 32 := 0#32
  let v160 : BitVec 1 := Scalar.cmpi .ne v159 c0_i32_73
  let v164 : BitVec 1 := Scalar.andi v163 v160
  let v165 : BitVec 32 := Scalar.addi v159 v158
  let v166 : BitVec 32 := Scalar.select v164 v165 v159
  let v167 : BitVec 32 := Scalar.muli c2_i32_76 v166
  let v168 : BitVec 32 := Scalar.subi c1_i32_77 v167
  let c1_i32_78 : BitVec 32 := 1#32
  let v169 : BitVec 32 := Scalar.muli v168 c1_i32_78
  let v170 : BitVec 32 := Scalar.addi v131 v169
  let c2_i32_131 : BitVec 32 := 2#32
  let c0_i32_132 : BitVec 32 := 0#32
  let v279 : BitVec 1 := Scalar.cmpi .eq c2_i32_131 c0_i32_132
  let c1_i32_133 : BitVec 32 := 1#32
  let v280 : BitVec 32 := Scalar.select v279 c1_i32_133 c2_i32_131
  let v281 : BitVec 32 := Scalar.remsi v170 v280
  let c0_i32_135 : BitVec 32 := 0#32
  let v283 : BitVec 1 := Scalar.cmpi .slt v281 c0_i32_135
  let c0_i32_136 : BitVec 32 := 0#32
  let v284 : BitVec 1 := Scalar.cmpi .slt v280 c0_i32_136
  let v285 : BitVec 1 := Scalar.xori v283 v284
  let c0_i32_134 : BitVec 32 := 0#32
  let v282 : BitVec 1 := Scalar.cmpi .ne v281 c0_i32_134
  let v286 : BitVec 1 := Scalar.andi v285 v282
  let v287 : BitVec 32 := Scalar.addi v281 v280
  let v288 : BitVec 32 := Scalar.select v286 v287 v281
  let v291 : BitVec 32 := Scalar.muli c2_i32_138 v288
  let c0_i32_106 : BitVec 32 := 0#32
  let v226 : BitVec 1 := Scalar.cmpi .sgt v170 c0_i32_106
  let v227 : BitVec 32 := Scalar.extui v226
  let c0_i32_107 : BitVec 32 := 0#32
  let v228 : BitVec 1 := Scalar.cmpi .slt v170 c0_i32_107
  let v229 : BitVec 32 := Scalar.extui v228
  let v230 : BitVec 32 := Scalar.subi v227 v229
  let c4_i32_105 : BitVec 32 := 4#32
  let c0_i32_108 : BitVec 32 := 0#32
  let v231 : BitVec 1 := Scalar.cmpi .sgt c4_i32_105 c0_i32_108
  let v232 : BitVec 32 := Scalar.extui v231
  let c0_i32_109 : BitVec 32 := 0#32
  let v233 : BitVec 1 := Scalar.cmpi .slt c4_i32_105 c0_i32_109
  let v234 : BitVec 32 := Scalar.extui v233
  let v235 : BitVec 32 := Scalar.subi v232 v234
  let v236 : BitVec 1 := Scalar.cmpi .ne v230 v235
  let v237 : BitVec 32 := Scalar.remsi v170 c4_i32_105
  let c0_i32_110 : BitVec 32 := 0#32
  let v238 : BitVec 1 := Scalar.cmpi .ne v237 c0_i32_110
  let v239 : BitVec 1 := Scalar.andi v236 v238
  let v225 : BitVec 32 := Scalar.divsi v170 c4_i32_105
  let c1_i32_111 : BitVec 32 := 1#32
  let v240 : BitVec 32 := Scalar.subi v225 c1_i32_111
  let v241 : BitVec 32 := Scalar.select v239 v240 v225
  let c2_i32_112 : BitVec 32 := 2#32
  let c0_i32_113 : BitVec 32 := 0#32
  let v242 : BitVec 1 := Scalar.cmpi .eq c2_i32_112 c0_i32_113
  let c1_i32_114 : BitVec 32 := 1#32
  let v243 : BitVec 32 := Scalar.select v242 c1_i32_114 c2_i32_112
  let v244 : BitVec 32 := Scalar.remsi v241 v243
  let c0_i32_116 : BitVec 32 := 0#32
  let v246 : BitVec 1 := Scalar.cmpi .slt v244 c0_i32_116
  let c0_i32_117 : BitVec 32 := 0#32
  let v247 : BitVec 1 := Scalar.cmpi .slt v243 c0_i32_117
  let v248 : BitVec 1 := Scalar.xori v246 v247
  let c0_i32_115 : BitVec 32 := 0#32
  let v245 : BitVec 1 := Scalar.cmpi .ne v244 c0_i32_115
  let v249 : BitVec 1 := Scalar.andi v248 v245
  let v250 : BitVec 32 := Scalar.addi v244 v243
  let v251 : BitVec 32 := Scalar.select v249 v250 v244
  let v292 : BitVec 32 := Scalar.addi v291 v251
  let c8_i32_139 : BitVec 32 := 8#32
  let v293 : BitVec 32 := Scalar.muli v292 c8_i32_139
  let c2_i32_137 : BitVec 32 := 2#32
  let c0_i32_119 : BitVec 32 := 0#32
  let v253 : BitVec 1 := Scalar.cmpi .sgt v170 c0_i32_119
  let v254 : BitVec 32 := Scalar.extui v253
  let c0_i32_120 : BitVec 32 := 0#32
  let v255 : BitVec 1 := Scalar.cmpi .slt v170 c0_i32_120
  let v256 : BitVec 32 := Scalar.extui v255
  let v257 : BitVec 32 := Scalar.subi v254 v256
  let c2_i32_118 : BitVec 32 := 2#32
  let c0_i32_121 : BitVec 32 := 0#32
  let v258 : BitVec 1 := Scalar.cmpi .sgt c2_i32_118 c0_i32_121
  let v259 : BitVec 32 := Scalar.extui v258
  let c0_i32_122 : BitVec 32 := 0#32
  let v260 : BitVec 1 := Scalar.cmpi .slt c2_i32_118 c0_i32_122
  let v261 : BitVec 32 := Scalar.extui v260
  let v262 : BitVec 32 := Scalar.subi v259 v261
  let v263 : BitVec 1 := Scalar.cmpi .ne v257 v262
  let v264 : BitVec 32 := Scalar.remsi v170 c2_i32_118
  let c0_i32_123 : BitVec 32 := 0#32
  let v265 : BitVec 1 := Scalar.cmpi .ne v264 c0_i32_123
  let v266 : BitVec 1 := Scalar.andi v263 v265
  let v252 : BitVec 32 := Scalar.divsi v170 c2_i32_118
  let c1_i32_124 : BitVec 32 := 1#32
  let v267 : BitVec 32 := Scalar.subi v252 c1_i32_124
  let v268 : BitVec 32 := Scalar.select v266 v267 v252
  let c2_i32_125 : BitVec 32 := 2#32
  let c0_i32_126 : BitVec 32 := 0#32
  let v269 : BitVec 1 := Scalar.cmpi .eq c2_i32_125 c0_i32_126
  let c1_i32_127 : BitVec 32 := 1#32
  let v270 : BitVec 32 := Scalar.select v269 c1_i32_127 c2_i32_125
  let v271 : BitVec 32 := Scalar.remsi v268 v270
  let c0_i32_129 : BitVec 32 := 0#32
  let v273 : BitVec 1 := Scalar.cmpi .slt v271 c0_i32_129
  let c0_i32_130 : BitVec 32 := 0#32
  let v274 : BitVec 1 := Scalar.cmpi .slt v270 c0_i32_130
  let v275 : BitVec 1 := Scalar.xori v273 v274
  let c0_i32_128 : BitVec 32 := 0#32
  let v272 : BitVec 1 := Scalar.cmpi .ne v271 c0_i32_128
  let v276 : BitVec 1 := Scalar.andi v275 v272
  let v277 : BitVec 32 := Scalar.addi v271 v270
  let v278 : BitVec 32 := Scalar.select v276 v277 v271
  let v289 : BitVec 32 := Scalar.muli c2_i32_137 v278
  let c0_i32_93 : BitVec 32 := 0#32
  let v199 : BitVec 1 := Scalar.cmpi .sgt v170 c0_i32_93
  let v200 : BitVec 32 := Scalar.extui v199
  let c0_i32_94 : BitVec 32 := 0#32
  let v201 : BitVec 1 := Scalar.cmpi .slt v170 c0_i32_94
  let v202 : BitVec 32 := Scalar.extui v201
  let v203 : BitVec 32 := Scalar.subi v200 v202
  let c8_i32_92 : BitVec 32 := 8#32
  let c0_i32_95 : BitVec 32 := 0#32
  let v204 : BitVec 1 := Scalar.cmpi .sgt c8_i32_92 c0_i32_95
  let v205 : BitVec 32 := Scalar.extui v204
  let c0_i32_96 : BitVec 32 := 0#32
  let v206 : BitVec 1 := Scalar.cmpi .slt c8_i32_92 c0_i32_96
  let v207 : BitVec 32 := Scalar.extui v206
  let v208 : BitVec 32 := Scalar.subi v205 v207
  let v209 : BitVec 1 := Scalar.cmpi .ne v203 v208
  let v210 : BitVec 32 := Scalar.remsi v170 c8_i32_92
  let c0_i32_97 : BitVec 32 := 0#32
  let v211 : BitVec 1 := Scalar.cmpi .ne v210 c0_i32_97
  let v212 : BitVec 1 := Scalar.andi v209 v211
  let v198 : BitVec 32 := Scalar.divsi v170 c8_i32_92
  let c1_i32_98 : BitVec 32 := 1#32
  let v213 : BitVec 32 := Scalar.subi v198 c1_i32_98
  let v214 : BitVec 32 := Scalar.select v212 v213 v198
  let c2_i32_99 : BitVec 32 := 2#32
  let c0_i32_100 : BitVec 32 := 0#32
  let v215 : BitVec 1 := Scalar.cmpi .eq c2_i32_99 c0_i32_100
  let c1_i32_101 : BitVec 32 := 1#32
  let v216 : BitVec 32 := Scalar.select v215 c1_i32_101 c2_i32_99
  let v217 : BitVec 32 := Scalar.remsi v214 v216
  let c0_i32_103 : BitVec 32 := 0#32
  let v219 : BitVec 1 := Scalar.cmpi .slt v217 c0_i32_103
  let c0_i32_104 : BitVec 32 := 0#32
  let v220 : BitVec 1 := Scalar.cmpi .slt v216 c0_i32_104
  let v221 : BitVec 1 := Scalar.xori v219 v220
  let c0_i32_102 : BitVec 32 := 0#32
  let v218 : BitVec 1 := Scalar.cmpi .ne v217 c0_i32_102
  let v222 : BitVec 1 := Scalar.andi v221 v218
  let v223 : BitVec 32 := Scalar.addi v217 v216
  let v224 : BitVec 32 := Scalar.select v222 v223 v217
  let v290 : BitVec 32 := Scalar.addi v289 v224
  let c2_i32_140 : BitVec 32 := 2#32
  let v294 : BitVec 32 := Scalar.muli v290 c2_i32_140
  let v295 : BitVec 32 := Scalar.addi v293 v294
  let c2_i32_141 : BitVec 32 := 2#32
  let c0_i32_142 : BitVec 32 := 0#32
  let v296 : BitVec 1 := Scalar.cmpi .eq c2_i32_141 c0_i32_142
  let c1_i32_143 : BitVec 32 := 1#32
  let v297 : BitVec 32 := Scalar.select v296 c1_i32_143 c2_i32_141
  let v298 : BitVec 32 := Scalar.remsi v290 v297
  let c0_i32_145 : BitVec 32 := 0#32
  let v300 : BitVec 1 := Scalar.cmpi .slt v298 c0_i32_145
  let c0_i32_146 : BitVec 32 := 0#32
  let v301 : BitVec 1 := Scalar.cmpi .slt v297 c0_i32_146
  let v302 : BitVec 1 := Scalar.xori v300 v301
  let c0_i32_144 : BitVec 32 := 0#32
  let v299 : BitVec 1 := Scalar.cmpi .ne v298 c0_i32_144
  let v303 : BitVec 1 := Scalar.andi v302 v299
  let v304 : BitVec 32 := Scalar.addi v298 v297
  let v305 : BitVec 32 := Scalar.select v303 v304 v298
  let c0_i32_147 : BitVec 32 := 0#32
  let v306 : BitVec 1 := Scalar.cmpi .eq v305 c0_i32_147
  let c0_i32_80 : BitVec 32 := 0#32
  let v172 : BitVec 1 := Scalar.cmpi .sgt v170 c0_i32_80
  let v173 : BitVec 32 := Scalar.extui v172
  let c0_i32_81 : BitVec 32 := 0#32
  let v174 : BitVec 1 := Scalar.cmpi .slt v170 c0_i32_81
  let v175 : BitVec 32 := Scalar.extui v174
  let v176 : BitVec 32 := Scalar.subi v173 v175
  let c16_i32_79 : BitVec 32 := 16#32
  let c0_i32_82 : BitVec 32 := 0#32
  let v177 : BitVec 1 := Scalar.cmpi .sgt c16_i32_79 c0_i32_82
  let v178 : BitVec 32 := Scalar.extui v177
  let c0_i32_83 : BitVec 32 := 0#32
  let v179 : BitVec 1 := Scalar.cmpi .slt c16_i32_79 c0_i32_83
  let v180 : BitVec 32 := Scalar.extui v179
  let v181 : BitVec 32 := Scalar.subi v178 v180
  let v182 : BitVec 1 := Scalar.cmpi .ne v176 v181
  let v183 : BitVec 32 := Scalar.remsi v170 c16_i32_79
  let c0_i32_84 : BitVec 32 := 0#32
  let v184 : BitVec 1 := Scalar.cmpi .ne v183 c0_i32_84
  let v185 : BitVec 1 := Scalar.andi v182 v184
  let v171 : BitVec 32 := Scalar.divsi v170 c16_i32_79
  let c1_i32_85 : BitVec 32 := 1#32
  let v186 : BitVec 32 := Scalar.subi v171 c1_i32_85
  let v187 : BitVec 32 := Scalar.select v185 v186 v171
  let c2_i32_86 : BitVec 32 := 2#32
  let c0_i32_87 : BitVec 32 := 0#32
  let v188 : BitVec 1 := Scalar.cmpi .eq c2_i32_86 c0_i32_87
  let c1_i32_88 : BitVec 32 := 1#32
  let v189 : BitVec 32 := Scalar.select v188 c1_i32_88 c2_i32_86
  let v190 : BitVec 32 := Scalar.remsi v187 v189
  let c0_i32_90 : BitVec 32 := 0#32
  let v192 : BitVec 1 := Scalar.cmpi .slt v190 c0_i32_90
  let c0_i32_91 : BitVec 32 := 0#32
  let v193 : BitVec 1 := Scalar.cmpi .slt v189 c0_i32_91
  let v194 : BitVec 1 := Scalar.xori v192 v193
  let c0_i32_89 : BitVec 32 := 0#32
  let v191 : BitVec 1 := Scalar.cmpi .ne v190 c0_i32_89
  let v195 : BitVec 1 := Scalar.andi v194 v191
  let v196 : BitVec 32 := Scalar.addi v190 v189
  let v197 : BitVec 32 := Scalar.select v195 v196 v190
  let c1_i32_148 : BitVec 32 := 1#32
  let v307 : BitVec 32 := Scalar.subi c1_i32_148 v197
  let v308 : BitVec 32 := Scalar.select v306 v197 v307
  let v309 : BitVec 32 := Scalar.addi v295 v308
  let c1_i32_494 : BitVec 32 := 1#32
  let v991 : BitVec 32 := Scalar.muli v309 c1_i32_494
  let v992 : BitVec 32 := Scalar.addi c0_i32_495 v991
  v992.toNat
def k0_dev2 (d0 : Dev nD) : Nat :=
  let c0_i32_498 : BitVec 32 := 0#32
  let c2_i32_224 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_163 : BitVec 32 := 1#32
  let c2_i32_162 : BitVec 32 := 2#32
  let c0_i32_150 : BitVec 32 := 0#32
  let v311 : BitVec 1 := Scalar.cmpi .sgt v131 c0_i32_150
  let v312 : BitVec 32 := Scalar.extui v311
  let c0_i32_151 : BitVec 32 := 0#32
  let v313 : BitVec 1 := Scalar.cmpi .slt v131 c0_i32_151
  let v314 : BitVec 32 := Scalar.extui v313
  let v315 : BitVec 32 := Scalar.subi v312 v314
  let c2_i32_149 : BitVec 32 := 2#32
  let c0_i32_152 : BitVec 32 := 0#32
  let v316 : BitVec 1 := Scalar.cmpi .sgt c2_i32_149 c0_i32_152
  let v317 : BitVec 32 := Scalar.extui v316
  let c0_i32_153 : BitVec 32 := 0#32
  let v318 : BitVec 1 := Scalar.cmpi .slt c2_i32_149 c0_i32_153
  let v319 : BitVec 32 := Scalar.extui v318
  let v320 : BitVec 32 := Scalar.subi v317 v319
  let v321 : BitVec 1 := Scalar.cmpi .ne v315 v320
  let v322 : BitVec 32 := Scalar.remsi v131 c2_i32_149
  let c0_i32_154 : BitVec 32 := 0#32
  let v323 : BitVec 1 := Scalar.cmpi .ne v322 c0_i32_154
  let v324 : BitVec 1 := Scalar.andi v321 v323
  let v310 : BitVec 32 := Scalar.divsi v131 c2_i32_149
  let c1_i32_155 : BitVec 32 := 1#32
  let v325 : BitVec 32 := Scalar.subi v310 c1_i32_155
  let v326 : BitVec 32 := Scalar.select v324 v325 v310
  let c2_i32_156 : BitVec 32 := 2#32
  let c0_i32_157 : BitVec 32 := 0#32
  let v327 : BitVec 1 := Scalar.cmpi .eq c2_i32_156 c0_i32_157
  let c1_i32_158 : BitVec 32 := 1#32
  let v328 : BitVec 32 := Scalar.select v327 c1_i32_158 c2_i32_156
  let v329 : BitVec 32 := Scalar.remsi v326 v328
  let c0_i32_160 : BitVec 32 := 0#32
  let v331 : BitVec 1 := Scalar.cmpi .slt v329 c0_i32_160
  let c0_i32_161 : BitVec 32 := 0#32
  let v332 : BitVec 1 := Scalar.cmpi .slt v328 c0_i32_161
  let v333 : BitVec 1 := Scalar.xori v331 v332
  let c0_i32_159 : BitVec 32 := 0#32
  let v330 : BitVec 1 := Scalar.cmpi .ne v329 c0_i32_159
  let v334 : BitVec 1 := Scalar.andi v333 v330
  let v335 : BitVec 32 := Scalar.addi v329 v328
  let v336 : BitVec 32 := Scalar.select v334 v335 v329
  let v337 : BitVec 32 := Scalar.muli c2_i32_162 v336
  let v338 : BitVec 32 := Scalar.subi c1_i32_163 v337
  let c2_i32_164 : BitVec 32 := 2#32
  let v339 : BitVec 32 := Scalar.muli v338 c2_i32_164
  let v340 : BitVec 32 := Scalar.addi v131 v339
  let c2_i32_217 : BitVec 32 := 2#32
  let c0_i32_218 : BitVec 32 := 0#32
  let v449 : BitVec 1 := Scalar.cmpi .eq c2_i32_217 c0_i32_218
  let c1_i32_219 : BitVec 32 := 1#32
  let v450 : BitVec 32 := Scalar.select v449 c1_i32_219 c2_i32_217
  let v451 : BitVec 32 := Scalar.remsi v340 v450
  let c0_i32_221 : BitVec 32 := 0#32
  let v453 : BitVec 1 := Scalar.cmpi .slt v451 c0_i32_221
  let c0_i32_222 : BitVec 32 := 0#32
  let v454 : BitVec 1 := Scalar.cmpi .slt v450 c0_i32_222
  let v455 : BitVec 1 := Scalar.xori v453 v454
  let c0_i32_220 : BitVec 32 := 0#32
  let v452 : BitVec 1 := Scalar.cmpi .ne v451 c0_i32_220
  let v456 : BitVec 1 := Scalar.andi v455 v452
  let v457 : BitVec 32 := Scalar.addi v451 v450
  let v458 : BitVec 32 := Scalar.select v456 v457 v451
  let v461 : BitVec 32 := Scalar.muli c2_i32_224 v458
  let c0_i32_192 : BitVec 32 := 0#32
  let v396 : BitVec 1 := Scalar.cmpi .sgt v340 c0_i32_192
  let v397 : BitVec 32 := Scalar.extui v396
  let c0_i32_193 : BitVec 32 := 0#32
  let v398 : BitVec 1 := Scalar.cmpi .slt v340 c0_i32_193
  let v399 : BitVec 32 := Scalar.extui v398
  let v400 : BitVec 32 := Scalar.subi v397 v399
  let c4_i32_191 : BitVec 32 := 4#32
  let c0_i32_194 : BitVec 32 := 0#32
  let v401 : BitVec 1 := Scalar.cmpi .sgt c4_i32_191 c0_i32_194
  let v402 : BitVec 32 := Scalar.extui v401
  let c0_i32_195 : BitVec 32 := 0#32
  let v403 : BitVec 1 := Scalar.cmpi .slt c4_i32_191 c0_i32_195
  let v404 : BitVec 32 := Scalar.extui v403
  let v405 : BitVec 32 := Scalar.subi v402 v404
  let v406 : BitVec 1 := Scalar.cmpi .ne v400 v405
  let v407 : BitVec 32 := Scalar.remsi v340 c4_i32_191
  let c0_i32_196 : BitVec 32 := 0#32
  let v408 : BitVec 1 := Scalar.cmpi .ne v407 c0_i32_196
  let v409 : BitVec 1 := Scalar.andi v406 v408
  let v395 : BitVec 32 := Scalar.divsi v340 c4_i32_191
  let c1_i32_197 : BitVec 32 := 1#32
  let v410 : BitVec 32 := Scalar.subi v395 c1_i32_197
  let v411 : BitVec 32 := Scalar.select v409 v410 v395
  let c2_i32_198 : BitVec 32 := 2#32
  let c0_i32_199 : BitVec 32 := 0#32
  let v412 : BitVec 1 := Scalar.cmpi .eq c2_i32_198 c0_i32_199
  let c1_i32_200 : BitVec 32 := 1#32
  let v413 : BitVec 32 := Scalar.select v412 c1_i32_200 c2_i32_198
  let v414 : BitVec 32 := Scalar.remsi v411 v413
  let c0_i32_202 : BitVec 32 := 0#32
  let v416 : BitVec 1 := Scalar.cmpi .slt v414 c0_i32_202
  let c0_i32_203 : BitVec 32 := 0#32
  let v417 : BitVec 1 := Scalar.cmpi .slt v413 c0_i32_203
  let v418 : BitVec 1 := Scalar.xori v416 v417
  let c0_i32_201 : BitVec 32 := 0#32
  let v415 : BitVec 1 := Scalar.cmpi .ne v414 c0_i32_201
  let v419 : BitVec 1 := Scalar.andi v418 v415
  let v420 : BitVec 32 := Scalar.addi v414 v413
  let v421 : BitVec 32 := Scalar.select v419 v420 v414
  let v462 : BitVec 32 := Scalar.addi v461 v421
  let c8_i32_225 : BitVec 32 := 8#32
  let v463 : BitVec 32 := Scalar.muli v462 c8_i32_225
  let c2_i32_223 : BitVec 32 := 2#32
  let c0_i32_205 : BitVec 32 := 0#32
  let v423 : BitVec 1 := Scalar.cmpi .sgt v340 c0_i32_205
  let v424 : BitVec 32 := Scalar.extui v423
  let c0_i32_206 : BitVec 32 := 0#32
  let v425 : BitVec 1 := Scalar.cmpi .slt v340 c0_i32_206
  let v426 : BitVec 32 := Scalar.extui v425
  let v427 : BitVec 32 := Scalar.subi v424 v426
  let c2_i32_204 : BitVec 32 := 2#32
  let c0_i32_207 : BitVec 32 := 0#32
  let v428 : BitVec 1 := Scalar.cmpi .sgt c2_i32_204 c0_i32_207
  let v429 : BitVec 32 := Scalar.extui v428
  let c0_i32_208 : BitVec 32 := 0#32
  let v430 : BitVec 1 := Scalar.cmpi .slt c2_i32_204 c0_i32_208
  let v431 : BitVec 32 := Scalar.extui v430
  let v432 : BitVec 32 := Scalar.subi v429 v431
  let v433 : BitVec 1 := Scalar.cmpi .ne v427 v432
  let v434 : BitVec 32 := Scalar.remsi v340 c2_i32_204
  let c0_i32_209 : BitVec 32 := 0#32
  let v435 : BitVec 1 := Scalar.cmpi .ne v434 c0_i32_209
  let v436 : BitVec 1 := Scalar.andi v433 v435
  let v422 : BitVec 32 := Scalar.divsi v340 c2_i32_204
  let c1_i32_210 : BitVec 32 := 1#32
  let v437 : BitVec 32 := Scalar.subi v422 c1_i32_210
  let v438 : BitVec 32 := Scalar.select v436 v437 v422
  let c2_i32_211 : BitVec 32 := 2#32
  let c0_i32_212 : BitVec 32 := 0#32
  let v439 : BitVec 1 := Scalar.cmpi .eq c2_i32_211 c0_i32_212
  let c1_i32_213 : BitVec 32 := 1#32
  let v440 : BitVec 32 := Scalar.select v439 c1_i32_213 c2_i32_211
  let v441 : BitVec 32 := Scalar.remsi v438 v440
  let c0_i32_215 : BitVec 32 := 0#32
  let v443 : BitVec 1 := Scalar.cmpi .slt v441 c0_i32_215
  let c0_i32_216 : BitVec 32 := 0#32
  let v444 : BitVec 1 := Scalar.cmpi .slt v440 c0_i32_216
  let v445 : BitVec 1 := Scalar.xori v443 v444
  let c0_i32_214 : BitVec 32 := 0#32
  let v442 : BitVec 1 := Scalar.cmpi .ne v441 c0_i32_214
  let v446 : BitVec 1 := Scalar.andi v445 v442
  let v447 : BitVec 32 := Scalar.addi v441 v440
  let v448 : BitVec 32 := Scalar.select v446 v447 v441
  let v459 : BitVec 32 := Scalar.muli c2_i32_223 v448
  let c0_i32_179 : BitVec 32 := 0#32
  let v369 : BitVec 1 := Scalar.cmpi .sgt v340 c0_i32_179
  let v370 : BitVec 32 := Scalar.extui v369
  let c0_i32_180 : BitVec 32 := 0#32
  let v371 : BitVec 1 := Scalar.cmpi .slt v340 c0_i32_180
  let v372 : BitVec 32 := Scalar.extui v371
  let v373 : BitVec 32 := Scalar.subi v370 v372
  let c8_i32_178 : BitVec 32 := 8#32
  let c0_i32_181 : BitVec 32 := 0#32
  let v374 : BitVec 1 := Scalar.cmpi .sgt c8_i32_178 c0_i32_181
  let v375 : BitVec 32 := Scalar.extui v374
  let c0_i32_182 : BitVec 32 := 0#32
  let v376 : BitVec 1 := Scalar.cmpi .slt c8_i32_178 c0_i32_182
  let v377 : BitVec 32 := Scalar.extui v376
  let v378 : BitVec 32 := Scalar.subi v375 v377
  let v379 : BitVec 1 := Scalar.cmpi .ne v373 v378
  let v380 : BitVec 32 := Scalar.remsi v340 c8_i32_178
  let c0_i32_183 : BitVec 32 := 0#32
  let v381 : BitVec 1 := Scalar.cmpi .ne v380 c0_i32_183
  let v382 : BitVec 1 := Scalar.andi v379 v381
  let v368 : BitVec 32 := Scalar.divsi v340 c8_i32_178
  let c1_i32_184 : BitVec 32 := 1#32
  let v383 : BitVec 32 := Scalar.subi v368 c1_i32_184
  let v384 : BitVec 32 := Scalar.select v382 v383 v368
  let c2_i32_185 : BitVec 32 := 2#32
  let c0_i32_186 : BitVec 32 := 0#32
  let v385 : BitVec 1 := Scalar.cmpi .eq c2_i32_185 c0_i32_186
  let c1_i32_187 : BitVec 32 := 1#32
  let v386 : BitVec 32 := Scalar.select v385 c1_i32_187 c2_i32_185
  let v387 : BitVec 32 := Scalar.remsi v384 v386
  let c0_i32_189 : BitVec 32 := 0#32
  let v389 : BitVec 1 := Scalar.cmpi .slt v387 c0_i32_189
  let c0_i32_190 : BitVec 32 := 0#32
  let v390 : BitVec 1 := Scalar.cmpi .slt v386 c0_i32_190
  let v391 : BitVec 1 := Scalar.xori v389 v390
  let c0_i32_188 : BitVec 32 := 0#32
  let v388 : BitVec 1 := Scalar.cmpi .ne v387 c0_i32_188
  let v392 : BitVec 1 := Scalar.andi v391 v388
  let v393 : BitVec 32 := Scalar.addi v387 v386
  let v394 : BitVec 32 := Scalar.select v392 v393 v387
  let v460 : BitVec 32 := Scalar.addi v459 v394
  let c2_i32_226 : BitVec 32 := 2#32
  let v464 : BitVec 32 := Scalar.muli v460 c2_i32_226
  let v465 : BitVec 32 := Scalar.addi v463 v464
  let c2_i32_227 : BitVec 32 := 2#32
  let c0_i32_228 : BitVec 32 := 0#32
  let v466 : BitVec 1 := Scalar.cmpi .eq c2_i32_227 c0_i32_228
  let c1_i32_229 : BitVec 32 := 1#32
  let v467 : BitVec 32 := Scalar.select v466 c1_i32_229 c2_i32_227
  let v468 : BitVec 32 := Scalar.remsi v460 v467
  let c0_i32_231 : BitVec 32 := 0#32
  let v470 : BitVec 1 := Scalar.cmpi .slt v468 c0_i32_231
  let c0_i32_232 : BitVec 32 := 0#32
  let v471 : BitVec 1 := Scalar.cmpi .slt v467 c0_i32_232
  let v472 : BitVec 1 := Scalar.xori v470 v471
  let c0_i32_230 : BitVec 32 := 0#32
  let v469 : BitVec 1 := Scalar.cmpi .ne v468 c0_i32_230
  let v473 : BitVec 1 := Scalar.andi v472 v469
  let v474 : BitVec 32 := Scalar.addi v468 v467
  let v475 : BitVec 32 := Scalar.select v473 v474 v468
  let c0_i32_233 : BitVec 32 := 0#32
  let v476 : BitVec 1 := Scalar.cmpi .eq v475 c0_i32_233
  let c0_i32_166 : BitVec 32 := 0#32
  let v342 : BitVec 1 := Scalar.cmpi .sgt v340 c0_i32_166
  let v343 : BitVec 32 := Scalar.extui v342
  let c0_i32_167 : BitVec 32 := 0#32
  let v344 : BitVec 1 := Scalar.cmpi .slt v340 c0_i32_167
  let v345 : BitVec 32 := Scalar.extui v344
  let v346 : BitVec 32 := Scalar.subi v343 v345
  let c16_i32_165 : BitVec 32 := 16#32
  let c0_i32_168 : BitVec 32 := 0#32
  let v347 : BitVec 1 := Scalar.cmpi .sgt c16_i32_165 c0_i32_168
  let v348 : BitVec 32 := Scalar.extui v347
  let c0_i32_169 : BitVec 32 := 0#32
  let v349 : BitVec 1 := Scalar.cmpi .slt c16_i32_165 c0_i32_169
  let v350 : BitVec 32 := Scalar.extui v349
  let v351 : BitVec 32 := Scalar.subi v348 v350
  let v352 : BitVec 1 := Scalar.cmpi .ne v346 v351
  let v353 : BitVec 32 := Scalar.remsi v340 c16_i32_165
  let c0_i32_170 : BitVec 32 := 0#32
  let v354 : BitVec 1 := Scalar.cmpi .ne v353 c0_i32_170
  let v355 : BitVec 1 := Scalar.andi v352 v354
  let v341 : BitVec 32 := Scalar.divsi v340 c16_i32_165
  let c1_i32_171 : BitVec 32 := 1#32
  let v356 : BitVec 32 := Scalar.subi v341 c1_i32_171
  let v357 : BitVec 32 := Scalar.select v355 v356 v341
  let c2_i32_172 : BitVec 32 := 2#32
  let c0_i32_173 : BitVec 32 := 0#32
  let v358 : BitVec 1 := Scalar.cmpi .eq c2_i32_172 c0_i32_173
  let c1_i32_174 : BitVec 32 := 1#32
  let v359 : BitVec 32 := Scalar.select v358 c1_i32_174 c2_i32_172
  let v360 : BitVec 32 := Scalar.remsi v357 v359
  let c0_i32_176 : BitVec 32 := 0#32
  let v362 : BitVec 1 := Scalar.cmpi .slt v360 c0_i32_176
  let c0_i32_177 : BitVec 32 := 0#32
  let v363 : BitVec 1 := Scalar.cmpi .slt v359 c0_i32_177
  let v364 : BitVec 1 := Scalar.xori v362 v363
  let c0_i32_175 : BitVec 32 := 0#32
  let v361 : BitVec 1 := Scalar.cmpi .ne v360 c0_i32_175
  let v365 : BitVec 1 := Scalar.andi v364 v361
  let v366 : BitVec 32 := Scalar.addi v360 v359
  let v367 : BitVec 32 := Scalar.select v365 v366 v360
  let c1_i32_234 : BitVec 32 := 1#32
  let v477 : BitVec 32 := Scalar.subi c1_i32_234 v367
  let v478 : BitVec 32 := Scalar.select v476 v367 v477
  let v479 : BitVec 32 := Scalar.addi v465 v478
  let c1_i32_497 : BitVec 32 := 1#32
  let v993 : BitVec 32 := Scalar.muli v479 c1_i32_497
  let v994 : BitVec 32 := Scalar.addi c0_i32_498 v993
  v994.toNat
def k0_dev3 (d0 : Dev nD) : Nat :=
  let c0_i32_501 : BitVec 32 := 0#32
  let c2_i32_310 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_249 : BitVec 32 := 1#32
  let c2_i32_248 : BitVec 32 := 2#32
  let c0_i32_236 : BitVec 32 := 0#32
  let v481 : BitVec 1 := Scalar.cmpi .sgt v131 c0_i32_236
  let v482 : BitVec 32 := Scalar.extui v481
  let c0_i32_237 : BitVec 32 := 0#32
  let v483 : BitVec 1 := Scalar.cmpi .slt v131 c0_i32_237
  let v484 : BitVec 32 := Scalar.extui v483
  let v485 : BitVec 32 := Scalar.subi v482 v484
  let c4_i32_235 : BitVec 32 := 4#32
  let c0_i32_238 : BitVec 32 := 0#32
  let v486 : BitVec 1 := Scalar.cmpi .sgt c4_i32_235 c0_i32_238
  let v487 : BitVec 32 := Scalar.extui v486
  let c0_i32_239 : BitVec 32 := 0#32
  let v488 : BitVec 1 := Scalar.cmpi .slt c4_i32_235 c0_i32_239
  let v489 : BitVec 32 := Scalar.extui v488
  let v490 : BitVec 32 := Scalar.subi v487 v489
  let v491 : BitVec 1 := Scalar.cmpi .ne v485 v490
  let v492 : BitVec 32 := Scalar.remsi v131 c4_i32_235
  let c0_i32_240 : BitVec 32 := 0#32
  let v493 : BitVec 1 := Scalar.cmpi .ne v492 c0_i32_240
  let v494 : BitVec 1 := Scalar.andi v491 v493
  let v480 : BitVec 32 := Scalar.divsi v131 c4_i32_235
  let c1_i32_241 : BitVec 32 := 1#32
  let v495 : BitVec 32 := Scalar.subi v480 c1_i32_241
  let v496 : BitVec 32 := Scalar.select v494 v495 v480
  let c2_i32_242 : BitVec 32 := 2#32
  let c0_i32_243 : BitVec 32 := 0#32
  let v497 : BitVec 1 := Scalar.cmpi .eq c2_i32_242 c0_i32_243
  let c1_i32_244 : BitVec 32 := 1#32
  let v498 : BitVec 32 := Scalar.select v497 c1_i32_244 c2_i32_242
  let v499 : BitVec 32 := Scalar.remsi v496 v498
  let c0_i32_246 : BitVec 32 := 0#32
  let v501 : BitVec 1 := Scalar.cmpi .slt v499 c0_i32_246
  let c0_i32_247 : BitVec 32 := 0#32
  let v502 : BitVec 1 := Scalar.cmpi .slt v498 c0_i32_247
  let v503 : BitVec 1 := Scalar.xori v501 v502
  let c0_i32_245 : BitVec 32 := 0#32
  let v500 : BitVec 1 := Scalar.cmpi .ne v499 c0_i32_245
  let v504 : BitVec 1 := Scalar.andi v503 v500
  let v505 : BitVec 32 := Scalar.addi v499 v498
  let v506 : BitVec 32 := Scalar.select v504 v505 v499
  let v507 : BitVec 32 := Scalar.muli c2_i32_248 v506
  let v508 : BitVec 32 := Scalar.subi c1_i32_249 v507
  let c4_i32_250 : BitVec 32 := 4#32
  let v509 : BitVec 32 := Scalar.muli v508 c4_i32_250
  let v510 : BitVec 32 := Scalar.addi v131 v509
  let c2_i32_303 : BitVec 32 := 2#32
  let c0_i32_304 : BitVec 32 := 0#32
  let v619 : BitVec 1 := Scalar.cmpi .eq c2_i32_303 c0_i32_304
  let c1_i32_305 : BitVec 32 := 1#32
  let v620 : BitVec 32 := Scalar.select v619 c1_i32_305 c2_i32_303
  let v621 : BitVec 32 := Scalar.remsi v510 v620
  let c0_i32_307 : BitVec 32 := 0#32
  let v623 : BitVec 1 := Scalar.cmpi .slt v621 c0_i32_307
  let c0_i32_308 : BitVec 32 := 0#32
  let v624 : BitVec 1 := Scalar.cmpi .slt v620 c0_i32_308
  let v625 : BitVec 1 := Scalar.xori v623 v624
  let c0_i32_306 : BitVec 32 := 0#32
  let v622 : BitVec 1 := Scalar.cmpi .ne v621 c0_i32_306
  let v626 : BitVec 1 := Scalar.andi v625 v622
  let v627 : BitVec 32 := Scalar.addi v621 v620
  let v628 : BitVec 32 := Scalar.select v626 v627 v621
  let v631 : BitVec 32 := Scalar.muli c2_i32_310 v628
  let c0_i32_278 : BitVec 32 := 0#32
  let v566 : BitVec 1 := Scalar.cmpi .sgt v510 c0_i32_278
  let v567 : BitVec 32 := Scalar.extui v566
  let c0_i32_279 : BitVec 32 := 0#32
  let v568 : BitVec 1 := Scalar.cmpi .slt v510 c0_i32_279
  let v569 : BitVec 32 := Scalar.extui v568
  let v570 : BitVec 32 := Scalar.subi v567 v569
  let c4_i32_277 : BitVec 32 := 4#32
  let c0_i32_280 : BitVec 32 := 0#32
  let v571 : BitVec 1 := Scalar.cmpi .sgt c4_i32_277 c0_i32_280
  let v572 : BitVec 32 := Scalar.extui v571
  let c0_i32_281 : BitVec 32 := 0#32
  let v573 : BitVec 1 := Scalar.cmpi .slt c4_i32_277 c0_i32_281
  let v574 : BitVec 32 := Scalar.extui v573
  let v575 : BitVec 32 := Scalar.subi v572 v574
  let v576 : BitVec 1 := Scalar.cmpi .ne v570 v575
  let v577 : BitVec 32 := Scalar.remsi v510 c4_i32_277
  let c0_i32_282 : BitVec 32 := 0#32
  let v578 : BitVec 1 := Scalar.cmpi .ne v577 c0_i32_282
  let v579 : BitVec 1 := Scalar.andi v576 v578
  let v565 : BitVec 32 := Scalar.divsi v510 c4_i32_277
  let c1_i32_283 : BitVec 32 := 1#32
  let v580 : BitVec 32 := Scalar.subi v565 c1_i32_283
  let v581 : BitVec 32 := Scalar.select v579 v580 v565
  let c2_i32_284 : BitVec 32 := 2#32
  let c0_i32_285 : BitVec 32 := 0#32
  let v582 : BitVec 1 := Scalar.cmpi .eq c2_i32_284 c0_i32_285
  let c1_i32_286 : BitVec 32 := 1#32
  let v583 : BitVec 32 := Scalar.select v582 c1_i32_286 c2_i32_284
  let v584 : BitVec 32 := Scalar.remsi v581 v583
  let c0_i32_288 : BitVec 32 := 0#32
  let v586 : BitVec 1 := Scalar.cmpi .slt v584 c0_i32_288
  let c0_i32_289 : BitVec 32 := 0#32
  let v587 : BitVec 1 := Scalar.cmpi .slt v583 c0_i32_289
  let v588 : BitVec 1 := Scalar.xori v586 v587
  let c0_i32_287 : BitVec 32 := 0#32
  let v585 : BitVec 1 := Scalar.cmpi .ne v584 c0_i32_287
  let v589 : BitVec 1 := Scalar.andi v588 v585
  let v590 : BitVec 32 := Scalar.addi v584 v583
  let v591 : BitVec 32 := Scalar.select v589 v590 v584
  let v632 : BitVec 32 := Scalar.addi v631 v591
  let c8_i32_311 : BitVec 32 := 8#32
  let v633 : BitVec 32 := Scalar.muli v632 c8_i32_311
  let c2_i32_309 : BitVec 32 := 2#32
  let c0_i32_291 : BitVec 32 := 0#32
  let v593 : BitVec 1 := Scalar.cmpi .sgt v510 c0_i32_291
  let v594 : BitVec 32 := Scalar.extui v593
  let c0_i32_292 : BitVec 32 := 0#32
  let v595 : BitVec 1 := Scalar.cmpi .slt v510 c0_i32_292
  let v596 : BitVec 32 := Scalar.extui v595
  let v597 : BitVec 32 := Scalar.subi v594 v596
  let c2_i32_290 : BitVec 32 := 2#32
  let c0_i32_293 : BitVec 32 := 0#32
  let v598 : BitVec 1 := Scalar.cmpi .sgt c2_i32_290 c0_i32_293
  let v599 : BitVec 32 := Scalar.extui v598
  let c0_i32_294 : BitVec 32 := 0#32
  let v600 : BitVec 1 := Scalar.cmpi .slt c2_i32_290 c0_i32_294
  let v601 : BitVec 32 := Scalar.extui v600
  let v602 : BitVec 32 := Scalar.subi v599 v601
  let v603 : BitVec 1 := Scalar.cmpi .ne v597 v602
  let v604 : BitVec 32 := Scalar.remsi v510 c2_i32_290
  let c0_i32_295 : BitVec 32 := 0#32
  let v605 : BitVec 1 := Scalar.cmpi .ne v604 c0_i32_295
  let v606 : BitVec 1 := Scalar.andi v603 v605
  let v592 : BitVec 32 := Scalar.divsi v510 c2_i32_290
  let c1_i32_296 : BitVec 32 := 1#32
  let v607 : BitVec 32 := Scalar.subi v592 c1_i32_296
  let v608 : BitVec 32 := Scalar.select v606 v607 v592
  let c2_i32_297 : BitVec 32 := 2#32
  let c0_i32_298 : BitVec 32 := 0#32
  let v609 : BitVec 1 := Scalar.cmpi .eq c2_i32_297 c0_i32_298
  let c1_i32_299 : BitVec 32 := 1#32
  let v610 : BitVec 32 := Scalar.select v609 c1_i32_299 c2_i32_297
  let v611 : BitVec 32 := Scalar.remsi v608 v610
  let c0_i32_301 : BitVec 32 := 0#32
  let v613 : BitVec 1 := Scalar.cmpi .slt v611 c0_i32_301
  let c0_i32_302 : BitVec 32 := 0#32
  let v614 : BitVec 1 := Scalar.cmpi .slt v610 c0_i32_302
  let v615 : BitVec 1 := Scalar.xori v613 v614
  let c0_i32_300 : BitVec 32 := 0#32
  let v612 : BitVec 1 := Scalar.cmpi .ne v611 c0_i32_300
  let v616 : BitVec 1 := Scalar.andi v615 v612
  let v617 : BitVec 32 := Scalar.addi v611 v610
  let v618 : BitVec 32 := Scalar.select v616 v617 v611
  let v629 : BitVec 32 := Scalar.muli c2_i32_309 v618
  let c0_i32_265 : BitVec 32 := 0#32
  let v539 : BitVec 1 := Scalar.cmpi .sgt v510 c0_i32_265
  let v540 : BitVec 32 := Scalar.extui v539
  let c0_i32_266 : BitVec 32 := 0#32
  let v541 : BitVec 1 := Scalar.cmpi .slt v510 c0_i32_266
  let v542 : BitVec 32 := Scalar.extui v541
  let v543 : BitVec 32 := Scalar.subi v540 v542
  let c8_i32_264 : BitVec 32 := 8#32
  let c0_i32_267 : BitVec 32 := 0#32
  let v544 : BitVec 1 := Scalar.cmpi .sgt c8_i32_264 c0_i32_267
  let v545 : BitVec 32 := Scalar.extui v544
  let c0_i32_268 : BitVec 32 := 0#32
  let v546 : BitVec 1 := Scalar.cmpi .slt c8_i32_264 c0_i32_268
  let v547 : BitVec 32 := Scalar.extui v546
  let v548 : BitVec 32 := Scalar.subi v545 v547
  let v549 : BitVec 1 := Scalar.cmpi .ne v543 v548
  let v550 : BitVec 32 := Scalar.remsi v510 c8_i32_264
  let c0_i32_269 : BitVec 32 := 0#32
  let v551 : BitVec 1 := Scalar.cmpi .ne v550 c0_i32_269
  let v552 : BitVec 1 := Scalar.andi v549 v551
  let v538 : BitVec 32 := Scalar.divsi v510 c8_i32_264
  let c1_i32_270 : BitVec 32 := 1#32
  let v553 : BitVec 32 := Scalar.subi v538 c1_i32_270
  let v554 : BitVec 32 := Scalar.select v552 v553 v538
  let c2_i32_271 : BitVec 32 := 2#32
  let c0_i32_272 : BitVec 32 := 0#32
  let v555 : BitVec 1 := Scalar.cmpi .eq c2_i32_271 c0_i32_272
  let c1_i32_273 : BitVec 32 := 1#32
  let v556 : BitVec 32 := Scalar.select v555 c1_i32_273 c2_i32_271
  let v557 : BitVec 32 := Scalar.remsi v554 v556
  let c0_i32_275 : BitVec 32 := 0#32
  let v559 : BitVec 1 := Scalar.cmpi .slt v557 c0_i32_275
  let c0_i32_276 : BitVec 32 := 0#32
  let v560 : BitVec 1 := Scalar.cmpi .slt v556 c0_i32_276
  let v561 : BitVec 1 := Scalar.xori v559 v560
  let c0_i32_274 : BitVec 32 := 0#32
  let v558 : BitVec 1 := Scalar.cmpi .ne v557 c0_i32_274
  let v562 : BitVec 1 := Scalar.andi v561 v558
  let v563 : BitVec 32 := Scalar.addi v557 v556
  let v564 : BitVec 32 := Scalar.select v562 v563 v557
  let v630 : BitVec 32 := Scalar.addi v629 v564
  let c2_i32_312 : BitVec 32 := 2#32
  let v634 : BitVec 32 := Scalar.muli v630 c2_i32_312
  let v635 : BitVec 32 := Scalar.addi v633 v634
  let c2_i32_313 : BitVec 32 := 2#32
  let c0_i32_314 : BitVec 32 := 0#32
  let v636 : BitVec 1 := Scalar.cmpi .eq c2_i32_313 c0_i32_314
  let c1_i32_315 : BitVec 32 := 1#32
  let v637 : BitVec 32 := Scalar.select v636 c1_i32_315 c2_i32_313
  let v638 : BitVec 32 := Scalar.remsi v630 v637
  let c0_i32_317 : BitVec 32 := 0#32
  let v640 : BitVec 1 := Scalar.cmpi .slt v638 c0_i32_317
  let c0_i32_318 : BitVec 32 := 0#32
  let v641 : BitVec 1 := Scalar.cmpi .slt v637 c0_i32_318
  let v642 : BitVec 1 := Scalar.xori v640 v641
  let c0_i32_316 : BitVec 32 := 0#32
  let v639 : BitVec 1 := Scalar.cmpi .ne v638 c0_i32_316
  let v643 : BitVec 1 := Scalar.andi v642 v639
  let v644 : BitVec 32 := Scalar.addi v638 v637
  let v645 : BitVec 32 := Scalar.select v643 v644 v638
  let c0_i32_319 : BitVec 32 := 0#32
  let v646 : BitVec 1 := Scalar.cmpi .eq v645 c0_i32_319
  let c0_i32_252 : BitVec 32 := 0#32
  let v512 : BitVec 1 := Scalar.cmpi .sgt v510 c0_i32_252
  let v513 : BitVec 32 := Scalar.extui v512
  let c0_i32_253 : BitVec 32 := 0#32
  let v514 : BitVec 1 := Scalar.cmpi .slt v510 c0_i32_253
  let v515 : BitVec 32 := Scalar.extui v514
  let v516 : BitVec 32 := Scalar.subi v513 v515
  let c16_i32_251 : BitVec 32 := 16#32
  let c0_i32_254 : BitVec 32 := 0#32
  let v517 : BitVec 1 := Scalar.cmpi .sgt c16_i32_251 c0_i32_254
  let v518 : BitVec 32 := Scalar.extui v517
  let c0_i32_255 : BitVec 32 := 0#32
  let v519 : BitVec 1 := Scalar.cmpi .slt c16_i32_251 c0_i32_255
  let v520 : BitVec 32 := Scalar.extui v519
  let v521 : BitVec 32 := Scalar.subi v518 v520
  let v522 : BitVec 1 := Scalar.cmpi .ne v516 v521
  let v523 : BitVec 32 := Scalar.remsi v510 c16_i32_251
  let c0_i32_256 : BitVec 32 := 0#32
  let v524 : BitVec 1 := Scalar.cmpi .ne v523 c0_i32_256
  let v525 : BitVec 1 := Scalar.andi v522 v524
  let v511 : BitVec 32 := Scalar.divsi v510 c16_i32_251
  let c1_i32_257 : BitVec 32 := 1#32
  let v526 : BitVec 32 := Scalar.subi v511 c1_i32_257
  let v527 : BitVec 32 := Scalar.select v525 v526 v511
  let c2_i32_258 : BitVec 32 := 2#32
  let c0_i32_259 : BitVec 32 := 0#32
  let v528 : BitVec 1 := Scalar.cmpi .eq c2_i32_258 c0_i32_259
  let c1_i32_260 : BitVec 32 := 1#32
  let v529 : BitVec 32 := Scalar.select v528 c1_i32_260 c2_i32_258
  let v530 : BitVec 32 := Scalar.remsi v527 v529
  let c0_i32_262 : BitVec 32 := 0#32
  let v532 : BitVec 1 := Scalar.cmpi .slt v530 c0_i32_262
  let c0_i32_263 : BitVec 32 := 0#32
  let v533 : BitVec 1 := Scalar.cmpi .slt v529 c0_i32_263
  let v534 : BitVec 1 := Scalar.xori v532 v533
  let c0_i32_261 : BitVec 32 := 0#32
  let v531 : BitVec 1 := Scalar.cmpi .ne v530 c0_i32_261
  let v535 : BitVec 1 := Scalar.andi v534 v531
  let v536 : BitVec 32 := Scalar.addi v530 v529
  let v537 : BitVec 32 := Scalar.select v535 v536 v530
  let c1_i32_320 : BitVec 32 := 1#32
  let v647 : BitVec 32 := Scalar.subi c1_i32_320 v537
  let v648 : BitVec 32 := Scalar.select v646 v537 v647
  let v649 : BitVec 32 := Scalar.addi v635 v648
  let c1_i32_500 : BitVec 32 := 1#32
  let v995 : BitVec 32 := Scalar.muli v649 c1_i32_500
  let v996 : BitVec 32 := Scalar.addi c0_i32_501 v995
  v996.toNat
def k0_dev4 (d0 : Dev nD) : Nat :=
  let c0_i32_504 : BitVec 32 := 0#32
  let c2_i32_396 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_335 : BitVec 32 := 1#32
  let c2_i32_334 : BitVec 32 := 2#32
  let c0_i32_322 : BitVec 32 := 0#32
  let v651 : BitVec 1 := Scalar.cmpi .sgt v131 c0_i32_322
  let v652 : BitVec 32 := Scalar.extui v651
  let c0_i32_323 : BitVec 32 := 0#32
  let v653 : BitVec 1 := Scalar.cmpi .slt v131 c0_i32_323
  let v654 : BitVec 32 := Scalar.extui v653
  let v655 : BitVec 32 := Scalar.subi v652 v654
  let c8_i32_321 : BitVec 32 := 8#32
  let c0_i32_324 : BitVec 32 := 0#32
  let v656 : BitVec 1 := Scalar.cmpi .sgt c8_i32_321 c0_i32_324
  let v657 : BitVec 32 := Scalar.extui v656
  let c0_i32_325 : BitVec 32 := 0#32
  let v658 : BitVec 1 := Scalar.cmpi .slt c8_i32_321 c0_i32_325
  let v659 : BitVec 32 := Scalar.extui v658
  let v660 : BitVec 32 := Scalar.subi v657 v659
  let v661 : BitVec 1 := Scalar.cmpi .ne v655 v660
  let v662 : BitVec 32 := Scalar.remsi v131 c8_i32_321
  let c0_i32_326 : BitVec 32 := 0#32
  let v663 : BitVec 1 := Scalar.cmpi .ne v662 c0_i32_326
  let v664 : BitVec 1 := Scalar.andi v661 v663
  let v650 : BitVec 32 := Scalar.divsi v131 c8_i32_321
  let c1_i32_327 : BitVec 32 := 1#32
  let v665 : BitVec 32 := Scalar.subi v650 c1_i32_327
  let v666 : BitVec 32 := Scalar.select v664 v665 v650
  let c2_i32_328 : BitVec 32 := 2#32
  let c0_i32_329 : BitVec 32 := 0#32
  let v667 : BitVec 1 := Scalar.cmpi .eq c2_i32_328 c0_i32_329
  let c1_i32_330 : BitVec 32 := 1#32
  let v668 : BitVec 32 := Scalar.select v667 c1_i32_330 c2_i32_328
  let v669 : BitVec 32 := Scalar.remsi v666 v668
  let c0_i32_332 : BitVec 32 := 0#32
  let v671 : BitVec 1 := Scalar.cmpi .slt v669 c0_i32_332
  let c0_i32_333 : BitVec 32 := 0#32
  let v672 : BitVec 1 := Scalar.cmpi .slt v668 c0_i32_333
  let v673 : BitVec 1 := Scalar.xori v671 v672
  let c0_i32_331 : BitVec 32 := 0#32
  let v670 : BitVec 1 := Scalar.cmpi .ne v669 c0_i32_331
  let v674 : BitVec 1 := Scalar.andi v673 v670
  let v675 : BitVec 32 := Scalar.addi v669 v668
  let v676 : BitVec 32 := Scalar.select v674 v675 v669
  let v677 : BitVec 32 := Scalar.muli c2_i32_334 v676
  let v678 : BitVec 32 := Scalar.subi c1_i32_335 v677
  let c8_i32_336 : BitVec 32 := 8#32
  let v679 : BitVec 32 := Scalar.muli v678 c8_i32_336
  let v680 : BitVec 32 := Scalar.addi v131 v679
  let c2_i32_389 : BitVec 32 := 2#32
  let c0_i32_390 : BitVec 32 := 0#32
  let v789 : BitVec 1 := Scalar.cmpi .eq c2_i32_389 c0_i32_390
  let c1_i32_391 : BitVec 32 := 1#32
  let v790 : BitVec 32 := Scalar.select v789 c1_i32_391 c2_i32_389
  let v791 : BitVec 32 := Scalar.remsi v680 v790
  let c0_i32_393 : BitVec 32 := 0#32
  let v793 : BitVec 1 := Scalar.cmpi .slt v791 c0_i32_393
  let c0_i32_394 : BitVec 32 := 0#32
  let v794 : BitVec 1 := Scalar.cmpi .slt v790 c0_i32_394
  let v795 : BitVec 1 := Scalar.xori v793 v794
  let c0_i32_392 : BitVec 32 := 0#32
  let v792 : BitVec 1 := Scalar.cmpi .ne v791 c0_i32_392
  let v796 : BitVec 1 := Scalar.andi v795 v792
  let v797 : BitVec 32 := Scalar.addi v791 v790
  let v798 : BitVec 32 := Scalar.select v796 v797 v791
  let v801 : BitVec 32 := Scalar.muli c2_i32_396 v798
  let c0_i32_364 : BitVec 32 := 0#32
  let v736 : BitVec 1 := Scalar.cmpi .sgt v680 c0_i32_364
  let v737 : BitVec 32 := Scalar.extui v736
  let c0_i32_365 : BitVec 32 := 0#32
  let v738 : BitVec 1 := Scalar.cmpi .slt v680 c0_i32_365
  let v739 : BitVec 32 := Scalar.extui v738
  let v740 : BitVec 32 := Scalar.subi v737 v739
  let c4_i32_363 : BitVec 32 := 4#32
  let c0_i32_366 : BitVec 32 := 0#32
  let v741 : BitVec 1 := Scalar.cmpi .sgt c4_i32_363 c0_i32_366
  let v742 : BitVec 32 := Scalar.extui v741
  let c0_i32_367 : BitVec 32 := 0#32
  let v743 : BitVec 1 := Scalar.cmpi .slt c4_i32_363 c0_i32_367
  let v744 : BitVec 32 := Scalar.extui v743
  let v745 : BitVec 32 := Scalar.subi v742 v744
  let v746 : BitVec 1 := Scalar.cmpi .ne v740 v745
  let v747 : BitVec 32 := Scalar.remsi v680 c4_i32_363
  let c0_i32_368 : BitVec 32 := 0#32
  let v748 : BitVec 1 := Scalar.cmpi .ne v747 c0_i32_368
  let v749 : BitVec 1 := Scalar.andi v746 v748
  let v735 : BitVec 32 := Scalar.divsi v680 c4_i32_363
  let c1_i32_369 : BitVec 32 := 1#32
  let v750 : BitVec 32 := Scalar.subi v735 c1_i32_369
  let v751 : BitVec 32 := Scalar.select v749 v750 v735
  let c2_i32_370 : BitVec 32 := 2#32
  let c0_i32_371 : BitVec 32 := 0#32
  let v752 : BitVec 1 := Scalar.cmpi .eq c2_i32_370 c0_i32_371
  let c1_i32_372 : BitVec 32 := 1#32
  let v753 : BitVec 32 := Scalar.select v752 c1_i32_372 c2_i32_370
  let v754 : BitVec 32 := Scalar.remsi v751 v753
  let c0_i32_374 : BitVec 32 := 0#32
  let v756 : BitVec 1 := Scalar.cmpi .slt v754 c0_i32_374
  let c0_i32_375 : BitVec 32 := 0#32
  let v757 : BitVec 1 := Scalar.cmpi .slt v753 c0_i32_375
  let v758 : BitVec 1 := Scalar.xori v756 v757
  let c0_i32_373 : BitVec 32 := 0#32
  let v755 : BitVec 1 := Scalar.cmpi .ne v754 c0_i32_373
  let v759 : BitVec 1 := Scalar.andi v758 v755
  let v760 : BitVec 32 := Scalar.addi v754 v753
  let v761 : BitVec 32 := Scalar.select v759 v760 v754
  let v802 : BitVec 32 := Scalar.addi v801 v761
  let c8_i32_397 : BitVec 32 := 8#32
  let v803 : BitVec 32 := Scalar.muli v802 c8_i32_397
  let c2_i32_395 : BitVec 32 := 2#32
  let c0_i32_377 : BitVec 32 := 0#32
  let v763 : BitVec 1 := Scalar.cmpi .sgt v680 c0_i32_377
  let v764 : BitVec 32 := Scalar.extui v763
  let c0_i32_378 : BitVec 32 := 0#32
  let v765 : BitVec 1 := Scalar.cmpi .slt v680 c0_i32_378
  let v766 : BitVec 32 := Scalar.extui v765
  let v767 : BitVec 32 := Scalar.subi v764 v766
  let c2_i32_376 : BitVec 32 := 2#32
  let c0_i32_379 : BitVec 32 := 0#32
  let v768 : BitVec 1 := Scalar.cmpi .sgt c2_i32_376 c0_i32_379
  let v769 : BitVec 32 := Scalar.extui v768
  let c0_i32_380 : BitVec 32 := 0#32
  let v770 : BitVec 1 := Scalar.cmpi .slt c2_i32_376 c0_i32_380
  let v771 : BitVec 32 := Scalar.extui v770
  let v772 : BitVec 32 := Scalar.subi v769 v771
  let v773 : BitVec 1 := Scalar.cmpi .ne v767 v772
  let v774 : BitVec 32 := Scalar.remsi v680 c2_i32_376
  let c0_i32_381 : BitVec 32 := 0#32
  let v775 : BitVec 1 := Scalar.cmpi .ne v774 c0_i32_381
  let v776 : BitVec 1 := Scalar.andi v773 v775
  let v762 : BitVec 32 := Scalar.divsi v680 c2_i32_376
  let c1_i32_382 : BitVec 32 := 1#32
  let v777 : BitVec 32 := Scalar.subi v762 c1_i32_382
  let v778 : BitVec 32 := Scalar.select v776 v777 v762
  let c2_i32_383 : BitVec 32 := 2#32
  let c0_i32_384 : BitVec 32 := 0#32
  let v779 : BitVec 1 := Scalar.cmpi .eq c2_i32_383 c0_i32_384
  let c1_i32_385 : BitVec 32 := 1#32
  let v780 : BitVec 32 := Scalar.select v779 c1_i32_385 c2_i32_383
  let v781 : BitVec 32 := Scalar.remsi v778 v780
  let c0_i32_387 : BitVec 32 := 0#32
  let v783 : BitVec 1 := Scalar.cmpi .slt v781 c0_i32_387
  let c0_i32_388 : BitVec 32 := 0#32
  let v784 : BitVec 1 := Scalar.cmpi .slt v780 c0_i32_388
  let v785 : BitVec 1 := Scalar.xori v783 v784
  let c0_i32_386 : BitVec 32 := 0#32
  let v782 : BitVec 1 := Scalar.cmpi .ne v781 c0_i32_386
  let v786 : BitVec 1 := Scalar.andi v785 v782
  let v787 : BitVec 32 := Scalar.addi v781 v780
  let v788 : BitVec 32 := Scalar.select v786 v787 v781
  let v799 : BitVec 32 := Scalar.muli c2_i32_395 v788
  let c0_i32_351 : BitVec 32 := 0#32
  let v709 : BitVec 1 := Scalar.cmpi .sgt v680 c0_i32_351
  let v710 : BitVec 32 := Scalar.extui v709
  let c0_i32_352 : BitVec 32 := 0#32
  let v711 : BitVec 1 := Scalar.cmpi .slt v680 c0_i32_352
  let v712 : BitVec 32 := Scalar.extui v711
  let v713 : BitVec 32 := Scalar.subi v710 v712
  let c8_i32_350 : BitVec 32 := 8#32
  let c0_i32_353 : BitVec 32 := 0#32
  let v714 : BitVec 1 := Scalar.cmpi .sgt c8_i32_350 c0_i32_353
  let v715 : BitVec 32 := Scalar.extui v714
  let c0_i32_354 : BitVec 32 := 0#32
  let v716 : BitVec 1 := Scalar.cmpi .slt c8_i32_350 c0_i32_354
  let v717 : BitVec 32 := Scalar.extui v716
  let v718 : BitVec 32 := Scalar.subi v715 v717
  let v719 : BitVec 1 := Scalar.cmpi .ne v713 v718
  let v720 : BitVec 32 := Scalar.remsi v680 c8_i32_350
  let c0_i32_355 : BitVec 32 := 0#32
  let v721 : BitVec 1 := Scalar.cmpi .ne v720 c0_i32_355
  let v722 : BitVec 1 := Scalar.andi v719 v721
  let v708 : BitVec 32 := Scalar.divsi v680 c8_i32_350
  let c1_i32_356 : BitVec 32 := 1#32
  let v723 : BitVec 32 := Scalar.subi v708 c1_i32_356
  let v724 : BitVec 32 := Scalar.select v722 v723 v708
  let c2_i32_357 : BitVec 32 := 2#32
  let c0_i32_358 : BitVec 32 := 0#32
  let v725 : BitVec 1 := Scalar.cmpi .eq c2_i32_357 c0_i32_358
  let c1_i32_359 : BitVec 32 := 1#32
  let v726 : BitVec 32 := Scalar.select v725 c1_i32_359 c2_i32_357
  let v727 : BitVec 32 := Scalar.remsi v724 v726
  let c0_i32_361 : BitVec 32 := 0#32
  let v729 : BitVec 1 := Scalar.cmpi .slt v727 c0_i32_361
  let c0_i32_362 : BitVec 32 := 0#32
  let v730 : BitVec 1 := Scalar.cmpi .slt v726 c0_i32_362
  let v731 : BitVec 1 := Scalar.xori v729 v730
  let c0_i32_360 : BitVec 32 := 0#32
  let v728 : BitVec 1 := Scalar.cmpi .ne v727 c0_i32_360
  let v732 : BitVec 1 := Scalar.andi v731 v728
  let v733 : BitVec 32 := Scalar.addi v727 v726
  let v734 : BitVec 32 := Scalar.select v732 v733 v727
  let v800 : BitVec 32 := Scalar.addi v799 v734
  let c2_i32_398 : BitVec 32 := 2#32
  let v804 : BitVec 32 := Scalar.muli v800 c2_i32_398
  let v805 : BitVec 32 := Scalar.addi v803 v804
  let c2_i32_399 : BitVec 32 := 2#32
  let c0_i32_400 : BitVec 32 := 0#32
  let v806 : BitVec 1 := Scalar.cmpi .eq c2_i32_399 c0_i32_400
  let c1_i32_401 : BitVec 32 := 1#32
  let v807 : BitVec 32 := Scalar.select v806 c1_i32_401 c2_i32_399
  let v808 : BitVec 32 := Scalar.remsi v800 v807
  let c0_i32_403 : BitVec 32 := 0#32
  let v810 : BitVec 1 := Scalar.cmpi .slt v808 c0_i32_403
  let c0_i32_404 : BitVec 32 := 0#32
  let v811 : BitVec 1 := Scalar.cmpi .slt v807 c0_i32_404
  let v812 : BitVec 1 := Scalar.xori v810 v811
  let c0_i32_402 : BitVec 32 := 0#32
  let v809 : BitVec 1 := Scalar.cmpi .ne v808 c0_i32_402
  let v813 : BitVec 1 := Scalar.andi v812 v809
  let v814 : BitVec 32 := Scalar.addi v808 v807
  let v815 : BitVec 32 := Scalar.select v813 v814 v808
  let c0_i32_405 : BitVec 32 := 0#32
  let v816 : BitVec 1 := Scalar.cmpi .eq v815 c0_i32_405
  let c0_i32_338 : BitVec 32 := 0#32
  let v682 : BitVec 1 := Scalar.cmpi .sgt v680 c0_i32_338
  let v683 : BitVec 32 := Scalar.extui v682
  let c0_i32_339 : BitVec 32 := 0#32
  let v684 : BitVec 1 := Scalar.cmpi .slt v680 c0_i32_339
  let v685 : BitVec 32 := Scalar.extui v684
  let v686 : BitVec 32 := Scalar.subi v683 v685
  let c16_i32_337 : BitVec 32 := 16#32
  let c0_i32_340 : BitVec 32 := 0#32
  let v687 : BitVec 1 := Scalar.cmpi .sgt c16_i32_337 c0_i32_340
  let v688 : BitVec 32 := Scalar.extui v687
  let c0_i32_341 : BitVec 32 := 0#32
  let v689 : BitVec 1 := Scalar.cmpi .slt c16_i32_337 c0_i32_341
  let v690 : BitVec 32 := Scalar.extui v689
  let v691 : BitVec 32 := Scalar.subi v688 v690
  let v692 : BitVec 1 := Scalar.cmpi .ne v686 v691
  let v693 : BitVec 32 := Scalar.remsi v680 c16_i32_337
  let c0_i32_342 : BitVec 32 := 0#32
  let v694 : BitVec 1 := Scalar.cmpi .ne v693 c0_i32_342
  let v695 : BitVec 1 := Scalar.andi v692 v694
  let v681 : BitVec 32 := Scalar.divsi v680 c16_i32_337
  let c1_i32_343 : BitVec 32 := 1#32
  let v696 : BitVec 32 := Scalar.subi v681 c1_i32_343
  let v697 : BitVec 32 := Scalar.select v695 v696 v681
  let c2_i32_344 : BitVec 32 := 2#32
  let c0_i32_345 : BitVec 32 := 0#32
  let v698 : BitVec 1 := Scalar.cmpi .eq c2_i32_344 c0_i32_345
  let c1_i32_346 : BitVec 32 := 1#32
  let v699 : BitVec 32 := Scalar.select v698 c1_i32_346 c2_i32_344
  let v700 : BitVec 32 := Scalar.remsi v697 v699
  let c0_i32_348 : BitVec 32 := 0#32
  let v702 : BitVec 1 := Scalar.cmpi .slt v700 c0_i32_348
  let c0_i32_349 : BitVec 32 := 0#32
  let v703 : BitVec 1 := Scalar.cmpi .slt v699 c0_i32_349
  let v704 : BitVec 1 := Scalar.xori v702 v703
  let c0_i32_347 : BitVec 32 := 0#32
  let v701 : BitVec 1 := Scalar.cmpi .ne v700 c0_i32_347
  let v705 : BitVec 1 := Scalar.andi v704 v701
  let v706 : BitVec 32 := Scalar.addi v700 v699
  let v707 : BitVec 32 := Scalar.select v705 v706 v700
  let c1_i32_406 : BitVec 32 := 1#32
  let v817 : BitVec 32 := Scalar.subi c1_i32_406 v707
  let v818 : BitVec 32 := Scalar.select v816 v707 v817
  let v819 : BitVec 32 := Scalar.addi v805 v818
  let c1_i32_503 : BitVec 32 := 1#32
  let v997 : BitVec 32 := Scalar.muli v819 c1_i32_503
  let v998 : BitVec 32 := Scalar.addi c0_i32_504 v997
  v998.toNat
def k0_dev5 (d0 : Dev nD) : Nat :=
  let c0_i32_507 : BitVec 32 := 0#32
  let c2_i32_482 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_421 : BitVec 32 := 1#32
  let c2_i32_420 : BitVec 32 := 2#32
  let c0_i32_408 : BitVec 32 := 0#32
  let v821 : BitVec 1 := Scalar.cmpi .sgt v131 c0_i32_408
  let v822 : BitVec 32 := Scalar.extui v821
  let c0_i32_409 : BitVec 32 := 0#32
  let v823 : BitVec 1 := Scalar.cmpi .slt v131 c0_i32_409
  let v824 : BitVec 32 := Scalar.extui v823
  let v825 : BitVec 32 := Scalar.subi v822 v824
  let c16_i32_407 : BitVec 32 := 16#32
  let c0_i32_410 : BitVec 32 := 0#32
  let v826 : BitVec 1 := Scalar.cmpi .sgt c16_i32_407 c0_i32_410
  let v827 : BitVec 32 := Scalar.extui v826
  let c0_i32_411 : BitVec 32 := 0#32
  let v828 : BitVec 1 := Scalar.cmpi .slt c16_i32_407 c0_i32_411
  let v829 : BitVec 32 := Scalar.extui v828
  let v830 : BitVec 32 := Scalar.subi v827 v829
  let v831 : BitVec 1 := Scalar.cmpi .ne v825 v830
  let v832 : BitVec 32 := Scalar.remsi v131 c16_i32_407
  let c0_i32_412 : BitVec 32 := 0#32
  let v833 : BitVec 1 := Scalar.cmpi .ne v832 c0_i32_412
  let v834 : BitVec 1 := Scalar.andi v831 v833
  let v820 : BitVec 32 := Scalar.divsi v131 c16_i32_407
  let c1_i32_413 : BitVec 32 := 1#32
  let v835 : BitVec 32 := Scalar.subi v820 c1_i32_413
  let v836 : BitVec 32 := Scalar.select v834 v835 v820
  let c2_i32_414 : BitVec 32 := 2#32
  let c0_i32_415 : BitVec 32 := 0#32
  let v837 : BitVec 1 := Scalar.cmpi .eq c2_i32_414 c0_i32_415
  let c1_i32_416 : BitVec 32 := 1#32
  let v838 : BitVec 32 := Scalar.select v837 c1_i32_416 c2_i32_414
  let v839 : BitVec 32 := Scalar.remsi v836 v838
  let c0_i32_418 : BitVec 32 := 0#32
  let v841 : BitVec 1 := Scalar.cmpi .slt v839 c0_i32_418
  let c0_i32_419 : BitVec 32 := 0#32
  let v842 : BitVec 1 := Scalar.cmpi .slt v838 c0_i32_419
  let v843 : BitVec 1 := Scalar.xori v841 v842
  let c0_i32_417 : BitVec 32 := 0#32
  let v840 : BitVec 1 := Scalar.cmpi .ne v839 c0_i32_417
  let v844 : BitVec 1 := Scalar.andi v843 v840
  let v845 : BitVec 32 := Scalar.addi v839 v838
  let v846 : BitVec 32 := Scalar.select v844 v845 v839
  let v847 : BitVec 32 := Scalar.muli c2_i32_420 v846
  let v848 : BitVec 32 := Scalar.subi c1_i32_421 v847
  let c16_i32_422 : BitVec 32 := 16#32
  let v849 : BitVec 32 := Scalar.muli v848 c16_i32_422
  let v850 : BitVec 32 := Scalar.addi v131 v849
  let c2_i32_475 : BitVec 32 := 2#32
  let c0_i32_476 : BitVec 32 := 0#32
  let v959 : BitVec 1 := Scalar.cmpi .eq c2_i32_475 c0_i32_476
  let c1_i32_477 : BitVec 32 := 1#32
  let v960 : BitVec 32 := Scalar.select v959 c1_i32_477 c2_i32_475
  let v961 : BitVec 32 := Scalar.remsi v850 v960
  let c0_i32_479 : BitVec 32 := 0#32
  let v963 : BitVec 1 := Scalar.cmpi .slt v961 c0_i32_479
  let c0_i32_480 : BitVec 32 := 0#32
  let v964 : BitVec 1 := Scalar.cmpi .slt v960 c0_i32_480
  let v965 : BitVec 1 := Scalar.xori v963 v964
  let c0_i32_478 : BitVec 32 := 0#32
  let v962 : BitVec 1 := Scalar.cmpi .ne v961 c0_i32_478
  let v966 : BitVec 1 := Scalar.andi v965 v962
  let v967 : BitVec 32 := Scalar.addi v961 v960
  let v968 : BitVec 32 := Scalar.select v966 v967 v961
  let v971 : BitVec 32 := Scalar.muli c2_i32_482 v968
  let c0_i32_450 : BitVec 32 := 0#32
  let v906 : BitVec 1 := Scalar.cmpi .sgt v850 c0_i32_450
  let v907 : BitVec 32 := Scalar.extui v906
  let c0_i32_451 : BitVec 32 := 0#32
  let v908 : BitVec 1 := Scalar.cmpi .slt v850 c0_i32_451
  let v909 : BitVec 32 := Scalar.extui v908
  let v910 : BitVec 32 := Scalar.subi v907 v909
  let c4_i32_449 : BitVec 32 := 4#32
  let c0_i32_452 : BitVec 32 := 0#32
  let v911 : BitVec 1 := Scalar.cmpi .sgt c4_i32_449 c0_i32_452
  let v912 : BitVec 32 := Scalar.extui v911
  let c0_i32_453 : BitVec 32 := 0#32
  let v913 : BitVec 1 := Scalar.cmpi .slt c4_i32_449 c0_i32_453
  let v914 : BitVec 32 := Scalar.extui v913
  let v915 : BitVec 32 := Scalar.subi v912 v914
  let v916 : BitVec 1 := Scalar.cmpi .ne v910 v915
  let v917 : BitVec 32 := Scalar.remsi v850 c4_i32_449
  let c0_i32_454 : BitVec 32 := 0#32
  let v918 : BitVec 1 := Scalar.cmpi .ne v917 c0_i32_454
  let v919 : BitVec 1 := Scalar.andi v916 v918
  let v905 : BitVec 32 := Scalar.divsi v850 c4_i32_449
  let c1_i32_455 : BitVec 32 := 1#32
  let v920 : BitVec 32 := Scalar.subi v905 c1_i32_455
  let v921 : BitVec 32 := Scalar.select v919 v920 v905
  let c2_i32_456 : BitVec 32 := 2#32
  let c0_i32_457 : BitVec 32 := 0#32
  let v922 : BitVec 1 := Scalar.cmpi .eq c2_i32_456 c0_i32_457
  let c1_i32_458 : BitVec 32 := 1#32
  let v923 : BitVec 32 := Scalar.select v922 c1_i32_458 c2_i32_456
  let v924 : BitVec 32 := Scalar.remsi v921 v923
  let c0_i32_460 : BitVec 32 := 0#32
  let v926 : BitVec 1 := Scalar.cmpi .slt v924 c0_i32_460
  let c0_i32_461 : BitVec 32 := 0#32
  let v927 : BitVec 1 := Scalar.cmpi .slt v923 c0_i32_461
  let v928 : BitVec 1 := Scalar.xori v926 v927
  let c0_i32_459 : BitVec 32 := 0#32
  let v925 : BitVec 1 := Scalar.cmpi .ne v924 c0_i32_459
  let v929 : BitVec 1 := Scalar.andi v928 v925
  let v930 : BitVec 32 := Scalar.addi v924 v923
  let v931 : BitVec 32 := Scalar.select v929 v930 v924
  let v972 : BitVec 32 := Scalar.addi v971 v931
  let c8_i32_483 : BitVec 32 := 8#32
  let v973 : BitVec 32 := Scalar.muli v972 c8_i32_483
  let c2_i32_481 : BitVec 32 := 2#32
  let c0_i32_463 : BitVec 32 := 0#32
  let v933 : BitVec 1 := Scalar.cmpi .sgt v850 c0_i32_463
  let v934 : BitVec 32 := Scalar.extui v933
  let c0_i32_464 : BitVec 32 := 0#32
  let v935 : BitVec 1 := Scalar.cmpi .slt v850 c0_i32_464
  let v936 : BitVec 32 := Scalar.extui v935
  let v937 : BitVec 32 := Scalar.subi v934 v936
  let c2_i32_462 : BitVec 32 := 2#32
  let c0_i32_465 : BitVec 32 := 0#32
  let v938 : BitVec 1 := Scalar.cmpi .sgt c2_i32_462 c0_i32_465
  let v939 : BitVec 32 := Scalar.extui v938
  let c0_i32_466 : BitVec 32 := 0#32
  let v940 : BitVec 1 := Scalar.cmpi .slt c2_i32_462 c0_i32_466
  let v941 : BitVec 32 := Scalar.extui v940
  let v942 : BitVec 32 := Scalar.subi v939 v941
  let v943 : BitVec 1 := Scalar.cmpi .ne v937 v942
  let v944 : BitVec 32 := Scalar.remsi v850 c2_i32_462
  let c0_i32_467 : BitVec 32 := 0#32
  let v945 : BitVec 1 := Scalar.cmpi .ne v944 c0_i32_467
  let v946 : BitVec 1 := Scalar.andi v943 v945
  let v932 : BitVec 32 := Scalar.divsi v850 c2_i32_462
  let c1_i32_468 : BitVec 32 := 1#32
  let v947 : BitVec 32 := Scalar.subi v932 c1_i32_468
  let v948 : BitVec 32 := Scalar.select v946 v947 v932
  let c2_i32_469 : BitVec 32 := 2#32
  let c0_i32_470 : BitVec 32 := 0#32
  let v949 : BitVec 1 := Scalar.cmpi .eq c2_i32_469 c0_i32_470
  let c1_i32_471 : BitVec 32 := 1#32
  let v950 : BitVec 32 := Scalar.select v949 c1_i32_471 c2_i32_469
  let v951 : BitVec 32 := Scalar.remsi v948 v950
  let c0_i32_473 : BitVec 32 := 0#32
  let v953 : BitVec 1 := Scalar.cmpi .slt v951 c0_i32_473
  let c0_i32_474 : BitVec 32 := 0#32
  let v954 : BitVec 1 := Scalar.cmpi .slt v950 c0_i32_474
  let v955 : BitVec 1 := Scalar.xori v953 v954
  let c0_i32_472 : BitVec 32 := 0#32
  let v952 : BitVec 1 := Scalar.cmpi .ne v951 c0_i32_472
  let v956 : BitVec 1 := Scalar.andi v955 v952
  let v957 : BitVec 32 := Scalar.addi v951 v950
  let v958 : BitVec 32 := Scalar.select v956 v957 v951
  let v969 : BitVec 32 := Scalar.muli c2_i32_481 v958
  let c0_i32_437 : BitVec 32 := 0#32
  let v879 : BitVec 1 := Scalar.cmpi .sgt v850 c0_i32_437
  let v880 : BitVec 32 := Scalar.extui v879
  let c0_i32_438 : BitVec 32 := 0#32
  let v881 : BitVec 1 := Scalar.cmpi .slt v850 c0_i32_438
  let v882 : BitVec 32 := Scalar.extui v881
  let v883 : BitVec 32 := Scalar.subi v880 v882
  let c8_i32_436 : BitVec 32 := 8#32
  let c0_i32_439 : BitVec 32 := 0#32
  let v884 : BitVec 1 := Scalar.cmpi .sgt c8_i32_436 c0_i32_439
  let v885 : BitVec 32 := Scalar.extui v884
  let c0_i32_440 : BitVec 32 := 0#32
  let v886 : BitVec 1 := Scalar.cmpi .slt c8_i32_436 c0_i32_440
  let v887 : BitVec 32 := Scalar.extui v886
  let v888 : BitVec 32 := Scalar.subi v885 v887
  let v889 : BitVec 1 := Scalar.cmpi .ne v883 v888
  let v890 : BitVec 32 := Scalar.remsi v850 c8_i32_436
  let c0_i32_441 : BitVec 32 := 0#32
  let v891 : BitVec 1 := Scalar.cmpi .ne v890 c0_i32_441
  let v892 : BitVec 1 := Scalar.andi v889 v891
  let v878 : BitVec 32 := Scalar.divsi v850 c8_i32_436
  let c1_i32_442 : BitVec 32 := 1#32
  let v893 : BitVec 32 := Scalar.subi v878 c1_i32_442
  let v894 : BitVec 32 := Scalar.select v892 v893 v878
  let c2_i32_443 : BitVec 32 := 2#32
  let c0_i32_444 : BitVec 32 := 0#32
  let v895 : BitVec 1 := Scalar.cmpi .eq c2_i32_443 c0_i32_444
  let c1_i32_445 : BitVec 32 := 1#32
  let v896 : BitVec 32 := Scalar.select v895 c1_i32_445 c2_i32_443
  let v897 : BitVec 32 := Scalar.remsi v894 v896
  let c0_i32_447 : BitVec 32 := 0#32
  let v899 : BitVec 1 := Scalar.cmpi .slt v897 c0_i32_447
  let c0_i32_448 : BitVec 32 := 0#32
  let v900 : BitVec 1 := Scalar.cmpi .slt v896 c0_i32_448
  let v901 : BitVec 1 := Scalar.xori v899 v900
  let c0_i32_446 : BitVec 32 := 0#32
  let v898 : BitVec 1 := Scalar.cmpi .ne v897 c0_i32_446
  let v902 : BitVec 1 := Scalar.andi v901 v898
  let v903 : BitVec 32 := Scalar.addi v897 v896
  let v904 : BitVec 32 := Scalar.select v902 v903 v897
  let v970 : BitVec 32 := Scalar.addi v969 v904
  let c2_i32_484 : BitVec 32 := 2#32
  let v974 : BitVec 32 := Scalar.muli v970 c2_i32_484
  let v975 : BitVec 32 := Scalar.addi v973 v974
  let c2_i32_485 : BitVec 32 := 2#32
  let c0_i32_486 : BitVec 32 := 0#32
  let v976 : BitVec 1 := Scalar.cmpi .eq c2_i32_485 c0_i32_486
  let c1_i32_487 : BitVec 32 := 1#32
  let v977 : BitVec 32 := Scalar.select v976 c1_i32_487 c2_i32_485
  let v978 : BitVec 32 := Scalar.remsi v970 v977
  let c0_i32_489 : BitVec 32 := 0#32
  let v980 : BitVec 1 := Scalar.cmpi .slt v978 c0_i32_489
  let c0_i32_490 : BitVec 32 := 0#32
  let v981 : BitVec 1 := Scalar.cmpi .slt v977 c0_i32_490
  let v982 : BitVec 1 := Scalar.xori v980 v981
  let c0_i32_488 : BitVec 32 := 0#32
  let v979 : BitVec 1 := Scalar.cmpi .ne v978 c0_i32_488
  let v983 : BitVec 1 := Scalar.andi v982 v979
  let v984 : BitVec 32 := Scalar.addi v978 v977
  let v985 : BitVec 32 := Scalar.select v983 v984 v978
  let c0_i32_491 : BitVec 32 := 0#32
  let v986 : BitVec 1 := Scalar.cmpi .eq v985 c0_i32_491
  let c0_i32_424 : BitVec 32 := 0#32
  let v852 : BitVec 1 := Scalar.cmpi .sgt v850 c0_i32_424
  let v853 : BitVec 32 := Scalar.extui v852
  let c0_i32_425 : BitVec 32 := 0#32
  let v854 : BitVec 1 := Scalar.cmpi .slt v850 c0_i32_425
  let v855 : BitVec 32 := Scalar.extui v854
  let v856 : BitVec 32 := Scalar.subi v853 v855
  let c16_i32_423 : BitVec 32 := 16#32
  let c0_i32_426 : BitVec 32 := 0#32
  let v857 : BitVec 1 := Scalar.cmpi .sgt c16_i32_423 c0_i32_426
  let v858 : BitVec 32 := Scalar.extui v857
  let c0_i32_427 : BitVec 32 := 0#32
  let v859 : BitVec 1 := Scalar.cmpi .slt c16_i32_423 c0_i32_427
  let v860 : BitVec 32 := Scalar.extui v859
  let v861 : BitVec 32 := Scalar.subi v858 v860
  let v862 : BitVec 1 := Scalar.cmpi .ne v856 v861
  let v863 : BitVec 32 := Scalar.remsi v850 c16_i32_423
  let c0_i32_428 : BitVec 32 := 0#32
  let v864 : BitVec 1 := Scalar.cmpi .ne v863 c0_i32_428
  let v865 : BitVec 1 := Scalar.andi v862 v864
  let v851 : BitVec 32 := Scalar.divsi v850 c16_i32_423
  let c1_i32_429 : BitVec 32 := 1#32
  let v866 : BitVec 32 := Scalar.subi v851 c1_i32_429
  let v867 : BitVec 32 := Scalar.select v865 v866 v851
  let c2_i32_430 : BitVec 32 := 2#32
  let c0_i32_431 : BitVec 32 := 0#32
  let v868 : BitVec 1 := Scalar.cmpi .eq c2_i32_430 c0_i32_431
  let c1_i32_432 : BitVec 32 := 1#32
  let v869 : BitVec 32 := Scalar.select v868 c1_i32_432 c2_i32_430
  let v870 : BitVec 32 := Scalar.remsi v867 v869
  let c0_i32_434 : BitVec 32 := 0#32
  let v872 : BitVec 1 := Scalar.cmpi .slt v870 c0_i32_434
  let c0_i32_435 : BitVec 32 := 0#32
  let v873 : BitVec 1 := Scalar.cmpi .slt v869 c0_i32_435
  let v874 : BitVec 1 := Scalar.xori v872 v873
  let c0_i32_433 : BitVec 32 := 0#32
  let v871 : BitVec 1 := Scalar.cmpi .ne v870 c0_i32_433
  let v875 : BitVec 1 := Scalar.andi v874 v871
  let v876 : BitVec 32 := Scalar.addi v870 v869
  let v877 : BitVec 32 := Scalar.select v875 v876 v870
  let c1_i32_492 : BitVec 32 := 1#32
  let v987 : BitVec 32 := Scalar.subi c1_i32_492 v877
  let v988 : BitVec 32 := Scalar.select v986 v877 v987
  let v989 : BitVec 32 := Scalar.addi v975 v988
  let c1_i32_506 : BitVec 32 := 1#32
  let v999 : BitVec 32 := Scalar.muli v989 c1_i32_506
  let v1000 : BitVec 32 := Scalar.addi c0_i32_507 v999
  v1000.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c0_i32_512 : BitVec 32 := 0#32
  let v1005 : BitVec 1 := Scalar.cmpi .sgt v131 c0_i32_512
  let v1006 : BitVec 32 := Scalar.extui v1005
  let c0_i32_513 : BitVec 32 := 0#32
  let v1007 : BitVec 1 := Scalar.cmpi .slt v131 c0_i32_513
  let v1008 : BitVec 32 := Scalar.extui v1007
  let v1009 : BitVec 32 := Scalar.subi v1006 v1008
  let c32_i32_511 : BitVec 32 := 32#32
  let c0_i32_514 : BitVec 32 := 0#32
  let v1010 : BitVec 1 := Scalar.cmpi .sgt c32_i32_511 c0_i32_514
  let v1011 : BitVec 32 := Scalar.extui v1010
  let c0_i32_515 : BitVec 32 := 0#32
  let v1012 : BitVec 1 := Scalar.cmpi .slt c32_i32_511 c0_i32_515
  let v1013 : BitVec 32 := Scalar.extui v1012
  let v1014 : BitVec 32 := Scalar.subi v1011 v1013
  let v1015 : BitVec 1 := Scalar.cmpi .ne v1009 v1014
  let v1016 : BitVec 32 := Scalar.remsi v131 c32_i32_511
  let c0_i32_516 : BitVec 32 := 0#32
  let v1017 : BitVec 1 := Scalar.cmpi .ne v1016 c0_i32_516
  let v1018 : BitVec 1 := Scalar.andi v1015 v1017
  let v1004 : BitVec 32 := Scalar.divsi v131 c32_i32_511
  let c1_i32_517 : BitVec 32 := 1#32
  let v1019 : BitVec 32 := Scalar.subi v1004 c1_i32_517
  let v1020 : BitVec 32 := Scalar.select v1018 v1019 v1004
  let c32_i32_518 : BitVec 32 := 32#32
  let v1021 : BitVec 32 := Scalar.muli v1020 c32_i32_518
  let c1_i32_532 : BitVec 32 := 1#32
  let c0_i32_520 : BitVec 32 := 0#32
  let v1023 : BitVec 1 := Scalar.cmpi .sgt v131 c0_i32_520
  let v1024 : BitVec 32 := Scalar.extui v1023
  let c0_i32_521 : BitVec 32 := 0#32
  let v1025 : BitVec 1 := Scalar.cmpi .slt v131 c0_i32_521
  let v1026 : BitVec 32 := Scalar.extui v1025
  let v1027 : BitVec 32 := Scalar.subi v1024 v1026
  let c16_i32_519 : BitVec 32 := 16#32
  let c0_i32_522 : BitVec 32 := 0#32
  let v1028 : BitVec 1 := Scalar.cmpi .sgt c16_i32_519 c0_i32_522
  let v1029 : BitVec 32 := Scalar.extui v1028
  let c0_i32_523 : BitVec 32 := 0#32
  let v1030 : BitVec 1 := Scalar.cmpi .slt c16_i32_519 c0_i32_523
  let v1031 : BitVec 32 := Scalar.extui v1030
  let v1032 : BitVec 32 := Scalar.subi v1029 v1031
  let v1033 : BitVec 1 := Scalar.cmpi .ne v1027 v1032
  let v1034 : BitVec 32 := Scalar.remsi v131 c16_i32_519
  let c0_i32_524 : BitVec 32 := 0#32
  let v1035 : BitVec 1 := Scalar.cmpi .ne v1034 c0_i32_524
  let v1036 : BitVec 1 := Scalar.andi v1033 v1035
  let v1022 : BitVec 32 := Scalar.divsi v131 c16_i32_519
  let c1_i32_525 : BitVec 32 := 1#32
  let v1037 : BitVec 32 := Scalar.subi v1022 c1_i32_525
  let v1038 : BitVec 32 := Scalar.select v1036 v1037 v1022
  let c2_i32_526 : BitVec 32 := 2#32
  let c0_i32_527 : BitVec 32 := 0#32
  let v1039 : BitVec 1 := Scalar.cmpi .eq c2_i32_526 c0_i32_527
  let c1_i32_528 : BitVec 32 := 1#32
  let v1040 : BitVec 32 := Scalar.select v1039 c1_i32_528 c2_i32_526
  let v1041 : BitVec 32 := Scalar.remsi v1038 v1040
  let c0_i32_530 : BitVec 32 := 0#32
  let v1043 : BitVec 1 := Scalar.cmpi .slt v1041 c0_i32_530
  let c0_i32_531 : BitVec 32 := 0#32
  let v1044 : BitVec 1 := Scalar.cmpi .slt v1040 c0_i32_531
  let v1045 : BitVec 1 := Scalar.xori v1043 v1044
  let c0_i32_529 : BitVec 32 := 0#32
  let v1042 : BitVec 1 := Scalar.cmpi .ne v1041 c0_i32_529
  let v1046 : BitVec 1 := Scalar.andi v1045 v1042
  let v1047 : BitVec 32 := Scalar.addi v1041 v1040
  let v1048 : BitVec 32 := Scalar.select v1046 v1047 v1041
  let v1049 : BitVec 32 := Scalar.subi c1_i32_532 v1048
  let c16_i32_533 : BitVec 32 := 16#32
  let v1050 : BitVec 32 := Scalar.muli v1049 c16_i32_533
  let v1051 : BitVec 32 := Scalar.addi v1021 v1050
  let c16_i32_534 : BitVec 32 := 16#32
  let v1052 : BitVec 32 := Scalar.muli v1051 c16_i32_534
  let c0_i32_569 : BitVec 32 := 0#32
  ![v1052.toNat, 0]
def k0_dev6 (d0 : Dev nD) : Nat :=
  let c0_i32_566 : BitVec 32 := 0#32
  let c2_i32_482 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_421 : BitVec 32 := 1#32
  let c2_i32_420 : BitVec 32 := 2#32
  let c0_i32_408 : BitVec 32 := 0#32
  let v821 : BitVec 1 := Scalar.cmpi .sgt v131 c0_i32_408
  let v822 : BitVec 32 := Scalar.extui v821
  let c0_i32_409 : BitVec 32 := 0#32
  let v823 : BitVec 1 := Scalar.cmpi .slt v131 c0_i32_409
  let v824 : BitVec 32 := Scalar.extui v823
  let v825 : BitVec 32 := Scalar.subi v822 v824
  let c16_i32_407 : BitVec 32 := 16#32
  let c0_i32_410 : BitVec 32 := 0#32
  let v826 : BitVec 1 := Scalar.cmpi .sgt c16_i32_407 c0_i32_410
  let v827 : BitVec 32 := Scalar.extui v826
  let c0_i32_411 : BitVec 32 := 0#32
  let v828 : BitVec 1 := Scalar.cmpi .slt c16_i32_407 c0_i32_411
  let v829 : BitVec 32 := Scalar.extui v828
  let v830 : BitVec 32 := Scalar.subi v827 v829
  let v831 : BitVec 1 := Scalar.cmpi .ne v825 v830
  let v832 : BitVec 32 := Scalar.remsi v131 c16_i32_407
  let c0_i32_412 : BitVec 32 := 0#32
  let v833 : BitVec 1 := Scalar.cmpi .ne v832 c0_i32_412
  let v834 : BitVec 1 := Scalar.andi v831 v833
  let v820 : BitVec 32 := Scalar.divsi v131 c16_i32_407
  let c1_i32_413 : BitVec 32 := 1#32
  let v835 : BitVec 32 := Scalar.subi v820 c1_i32_413
  let v836 : BitVec 32 := Scalar.select v834 v835 v820
  let c2_i32_414 : BitVec 32 := 2#32
  let c0_i32_415 : BitVec 32 := 0#32
  let v837 : BitVec 1 := Scalar.cmpi .eq c2_i32_414 c0_i32_415
  let c1_i32_416 : BitVec 32 := 1#32
  let v838 : BitVec 32 := Scalar.select v837 c1_i32_416 c2_i32_414
  let v839 : BitVec 32 := Scalar.remsi v836 v838
  let c0_i32_418 : BitVec 32 := 0#32
  let v841 : BitVec 1 := Scalar.cmpi .slt v839 c0_i32_418
  let c0_i32_419 : BitVec 32 := 0#32
  let v842 : BitVec 1 := Scalar.cmpi .slt v838 c0_i32_419
  let v843 : BitVec 1 := Scalar.xori v841 v842
  let c0_i32_417 : BitVec 32 := 0#32
  let v840 : BitVec 1 := Scalar.cmpi .ne v839 c0_i32_417
  let v844 : BitVec 1 := Scalar.andi v843 v840
  let v845 : BitVec 32 := Scalar.addi v839 v838
  let v846 : BitVec 32 := Scalar.select v844 v845 v839
  let v847 : BitVec 32 := Scalar.muli c2_i32_420 v846
  let v848 : BitVec 32 := Scalar.subi c1_i32_421 v847
  let c16_i32_422 : BitVec 32 := 16#32
  let v849 : BitVec 32 := Scalar.muli v848 c16_i32_422
  let v850 : BitVec 32 := Scalar.addi v131 v849
  let c2_i32_475 : BitVec 32 := 2#32
  let c0_i32_476 : BitVec 32 := 0#32
  let v959 : BitVec 1 := Scalar.cmpi .eq c2_i32_475 c0_i32_476
  let c1_i32_477 : BitVec 32 := 1#32
  let v960 : BitVec 32 := Scalar.select v959 c1_i32_477 c2_i32_475
  let v961 : BitVec 32 := Scalar.remsi v850 v960
  let c0_i32_479 : BitVec 32 := 0#32
  let v963 : BitVec 1 := Scalar.cmpi .slt v961 c0_i32_479
  let c0_i32_480 : BitVec 32 := 0#32
  let v964 : BitVec 1 := Scalar.cmpi .slt v960 c0_i32_480
  let v965 : BitVec 1 := Scalar.xori v963 v964
  let c0_i32_478 : BitVec 32 := 0#32
  let v962 : BitVec 1 := Scalar.cmpi .ne v961 c0_i32_478
  let v966 : BitVec 1 := Scalar.andi v965 v962
  let v967 : BitVec 32 := Scalar.addi v961 v960
  let v968 : BitVec 32 := Scalar.select v966 v967 v961
  let v971 : BitVec 32 := Scalar.muli c2_i32_482 v968
  let c0_i32_450 : BitVec 32 := 0#32
  let v906 : BitVec 1 := Scalar.cmpi .sgt v850 c0_i32_450
  let v907 : BitVec 32 := Scalar.extui v906
  let c0_i32_451 : BitVec 32 := 0#32
  let v908 : BitVec 1 := Scalar.cmpi .slt v850 c0_i32_451
  let v909 : BitVec 32 := Scalar.extui v908
  let v910 : BitVec 32 := Scalar.subi v907 v909
  let c4_i32_449 : BitVec 32 := 4#32
  let c0_i32_452 : BitVec 32 := 0#32
  let v911 : BitVec 1 := Scalar.cmpi .sgt c4_i32_449 c0_i32_452
  let v912 : BitVec 32 := Scalar.extui v911
  let c0_i32_453 : BitVec 32 := 0#32
  let v913 : BitVec 1 := Scalar.cmpi .slt c4_i32_449 c0_i32_453
  let v914 : BitVec 32 := Scalar.extui v913
  let v915 : BitVec 32 := Scalar.subi v912 v914
  let v916 : BitVec 1 := Scalar.cmpi .ne v910 v915
  let v917 : BitVec 32 := Scalar.remsi v850 c4_i32_449
  let c0_i32_454 : BitVec 32 := 0#32
  let v918 : BitVec 1 := Scalar.cmpi .ne v917 c0_i32_454
  let v919 : BitVec 1 := Scalar.andi v916 v918
  let v905 : BitVec 32 := Scalar.divsi v850 c4_i32_449
  let c1_i32_455 : BitVec 32 := 1#32
  let v920 : BitVec 32 := Scalar.subi v905 c1_i32_455
  let v921 : BitVec 32 := Scalar.select v919 v920 v905
  let c2_i32_456 : BitVec 32 := 2#32
  let c0_i32_457 : BitVec 32 := 0#32
  let v922 : BitVec 1 := Scalar.cmpi .eq c2_i32_456 c0_i32_457
  let c1_i32_458 : BitVec 32 := 1#32
  let v923 : BitVec 32 := Scalar.select v922 c1_i32_458 c2_i32_456
  let v924 : BitVec 32 := Scalar.remsi v921 v923
  let c0_i32_460 : BitVec 32 := 0#32
  let v926 : BitVec 1 := Scalar.cmpi .slt v924 c0_i32_460
  let c0_i32_461 : BitVec 32 := 0#32
  let v927 : BitVec 1 := Scalar.cmpi .slt v923 c0_i32_461
  let v928 : BitVec 1 := Scalar.xori v926 v927
  let c0_i32_459 : BitVec 32 := 0#32
  let v925 : BitVec 1 := Scalar.cmpi .ne v924 c0_i32_459
  let v929 : BitVec 1 := Scalar.andi v928 v925
  let v930 : BitVec 32 := Scalar.addi v924 v923
  let v931 : BitVec 32 := Scalar.select v929 v930 v924
  let v972 : BitVec 32 := Scalar.addi v971 v931
  let c8_i32_483 : BitVec 32 := 8#32
  let v973 : BitVec 32 := Scalar.muli v972 c8_i32_483
  let c2_i32_481 : BitVec 32 := 2#32
  let c0_i32_463 : BitVec 32 := 0#32
  let v933 : BitVec 1 := Scalar.cmpi .sgt v850 c0_i32_463
  let v934 : BitVec 32 := Scalar.extui v933
  let c0_i32_464 : BitVec 32 := 0#32
  let v935 : BitVec 1 := Scalar.cmpi .slt v850 c0_i32_464
  let v936 : BitVec 32 := Scalar.extui v935
  let v937 : BitVec 32 := Scalar.subi v934 v936
  let c2_i32_462 : BitVec 32 := 2#32
  let c0_i32_465 : BitVec 32 := 0#32
  let v938 : BitVec 1 := Scalar.cmpi .sgt c2_i32_462 c0_i32_465
  let v939 : BitVec 32 := Scalar.extui v938
  let c0_i32_466 : BitVec 32 := 0#32
  let v940 : BitVec 1 := Scalar.cmpi .slt c2_i32_462 c0_i32_466
  let v941 : BitVec 32 := Scalar.extui v940
  let v942 : BitVec 32 := Scalar.subi v939 v941
  let v943 : BitVec 1 := Scalar.cmpi .ne v937 v942
  let v944 : BitVec 32 := Scalar.remsi v850 c2_i32_462
  let c0_i32_467 : BitVec 32 := 0#32
  let v945 : BitVec 1 := Scalar.cmpi .ne v944 c0_i32_467
  let v946 : BitVec 1 := Scalar.andi v943 v945
  let v932 : BitVec 32 := Scalar.divsi v850 c2_i32_462
  let c1_i32_468 : BitVec 32 := 1#32
  let v947 : BitVec 32 := Scalar.subi v932 c1_i32_468
  let v948 : BitVec 32 := Scalar.select v946 v947 v932
  let c2_i32_469 : BitVec 32 := 2#32
  let c0_i32_470 : BitVec 32 := 0#32
  let v949 : BitVec 1 := Scalar.cmpi .eq c2_i32_469 c0_i32_470
  let c1_i32_471 : BitVec 32 := 1#32
  let v950 : BitVec 32 := Scalar.select v949 c1_i32_471 c2_i32_469
  let v951 : BitVec 32 := Scalar.remsi v948 v950
  let c0_i32_473 : BitVec 32 := 0#32
  let v953 : BitVec 1 := Scalar.cmpi .slt v951 c0_i32_473
  let c0_i32_474 : BitVec 32 := 0#32
  let v954 : BitVec 1 := Scalar.cmpi .slt v950 c0_i32_474
  let v955 : BitVec 1 := Scalar.xori v953 v954
  let c0_i32_472 : BitVec 32 := 0#32
  let v952 : BitVec 1 := Scalar.cmpi .ne v951 c0_i32_472
  let v956 : BitVec 1 := Scalar.andi v955 v952
  let v957 : BitVec 32 := Scalar.addi v951 v950
  let v958 : BitVec 32 := Scalar.select v956 v957 v951
  let v969 : BitVec 32 := Scalar.muli c2_i32_481 v958
  let c0_i32_437 : BitVec 32 := 0#32
  let v879 : BitVec 1 := Scalar.cmpi .sgt v850 c0_i32_437
  let v880 : BitVec 32 := Scalar.extui v879
  let c0_i32_438 : BitVec 32 := 0#32
  let v881 : BitVec 1 := Scalar.cmpi .slt v850 c0_i32_438
  let v882 : BitVec 32 := Scalar.extui v881
  let v883 : BitVec 32 := Scalar.subi v880 v882
  let c8_i32_436 : BitVec 32 := 8#32
  let c0_i32_439 : BitVec 32 := 0#32
  let v884 : BitVec 1 := Scalar.cmpi .sgt c8_i32_436 c0_i32_439
  let v885 : BitVec 32 := Scalar.extui v884
  let c0_i32_440 : BitVec 32 := 0#32
  let v886 : BitVec 1 := Scalar.cmpi .slt c8_i32_436 c0_i32_440
  let v887 : BitVec 32 := Scalar.extui v886
  let v888 : BitVec 32 := Scalar.subi v885 v887
  let v889 : BitVec 1 := Scalar.cmpi .ne v883 v888
  let v890 : BitVec 32 := Scalar.remsi v850 c8_i32_436
  let c0_i32_441 : BitVec 32 := 0#32
  let v891 : BitVec 1 := Scalar.cmpi .ne v890 c0_i32_441
  let v892 : BitVec 1 := Scalar.andi v889 v891
  let v878 : BitVec 32 := Scalar.divsi v850 c8_i32_436
  let c1_i32_442 : BitVec 32 := 1#32
  let v893 : BitVec 32 := Scalar.subi v878 c1_i32_442
  let v894 : BitVec 32 := Scalar.select v892 v893 v878
  let c2_i32_443 : BitVec 32 := 2#32
  let c0_i32_444 : BitVec 32 := 0#32
  let v895 : BitVec 1 := Scalar.cmpi .eq c2_i32_443 c0_i32_444
  let c1_i32_445 : BitVec 32 := 1#32
  let v896 : BitVec 32 := Scalar.select v895 c1_i32_445 c2_i32_443
  let v897 : BitVec 32 := Scalar.remsi v894 v896
  let c0_i32_447 : BitVec 32 := 0#32
  let v899 : BitVec 1 := Scalar.cmpi .slt v897 c0_i32_447
  let c0_i32_448 : BitVec 32 := 0#32
  let v900 : BitVec 1 := Scalar.cmpi .slt v896 c0_i32_448
  let v901 : BitVec 1 := Scalar.xori v899 v900
  let c0_i32_446 : BitVec 32 := 0#32
  let v898 : BitVec 1 := Scalar.cmpi .ne v897 c0_i32_446
  let v902 : BitVec 1 := Scalar.andi v901 v898
  let v903 : BitVec 32 := Scalar.addi v897 v896
  let v904 : BitVec 32 := Scalar.select v902 v903 v897
  let v970 : BitVec 32 := Scalar.addi v969 v904
  let c2_i32_484 : BitVec 32 := 2#32
  let v974 : BitVec 32 := Scalar.muli v970 c2_i32_484
  let v975 : BitVec 32 := Scalar.addi v973 v974
  let c2_i32_485 : BitVec 32 := 2#32
  let c0_i32_486 : BitVec 32 := 0#32
  let v976 : BitVec 1 := Scalar.cmpi .eq c2_i32_485 c0_i32_486
  let c1_i32_487 : BitVec 32 := 1#32
  let v977 : BitVec 32 := Scalar.select v976 c1_i32_487 c2_i32_485
  let v978 : BitVec 32 := Scalar.remsi v970 v977
  let c0_i32_489 : BitVec 32 := 0#32
  let v980 : BitVec 1 := Scalar.cmpi .slt v978 c0_i32_489
  let c0_i32_490 : BitVec 32 := 0#32
  let v981 : BitVec 1 := Scalar.cmpi .slt v977 c0_i32_490
  let v982 : BitVec 1 := Scalar.xori v980 v981
  let c0_i32_488 : BitVec 32 := 0#32
  let v979 : BitVec 1 := Scalar.cmpi .ne v978 c0_i32_488
  let v983 : BitVec 1 := Scalar.andi v982 v979
  let v984 : BitVec 32 := Scalar.addi v978 v977
  let v985 : BitVec 32 := Scalar.select v983 v984 v978
  let c0_i32_491 : BitVec 32 := 0#32
  let v986 : BitVec 1 := Scalar.cmpi .eq v985 c0_i32_491
  let c0_i32_424 : BitVec 32 := 0#32
  let v852 : BitVec 1 := Scalar.cmpi .sgt v850 c0_i32_424
  let v853 : BitVec 32 := Scalar.extui v852
  let c0_i32_425 : BitVec 32 := 0#32
  let v854 : BitVec 1 := Scalar.cmpi .slt v850 c0_i32_425
  let v855 : BitVec 32 := Scalar.extui v854
  let v856 : BitVec 32 := Scalar.subi v853 v855
  let c16_i32_423 : BitVec 32 := 16#32
  let c0_i32_426 : BitVec 32 := 0#32
  let v857 : BitVec 1 := Scalar.cmpi .sgt c16_i32_423 c0_i32_426
  let v858 : BitVec 32 := Scalar.extui v857
  let c0_i32_427 : BitVec 32 := 0#32
  let v859 : BitVec 1 := Scalar.cmpi .slt c16_i32_423 c0_i32_427
  let v860 : BitVec 32 := Scalar.extui v859
  let v861 : BitVec 32 := Scalar.subi v858 v860
  let v862 : BitVec 1 := Scalar.cmpi .ne v856 v861
  let v863 : BitVec 32 := Scalar.remsi v850 c16_i32_423
  let c0_i32_428 : BitVec 32 := 0#32
  let v864 : BitVec 1 := Scalar.cmpi .ne v863 c0_i32_428
  let v865 : BitVec 1 := Scalar.andi v862 v864
  let v851 : BitVec 32 := Scalar.divsi v850 c16_i32_423
  let c1_i32_429 : BitVec 32 := 1#32
  let v866 : BitVec 32 := Scalar.subi v851 c1_i32_429
  let v867 : BitVec 32 := Scalar.select v865 v866 v851
  let c2_i32_430 : BitVec 32 := 2#32
  let c0_i32_431 : BitVec 32 := 0#32
  let v868 : BitVec 1 := Scalar.cmpi .eq c2_i32_430 c0_i32_431
  let c1_i32_432 : BitVec 32 := 1#32
  let v869 : BitVec 32 := Scalar.select v868 c1_i32_432 c2_i32_430
  let v870 : BitVec 32 := Scalar.remsi v867 v869
  let c0_i32_434 : BitVec 32 := 0#32
  let v872 : BitVec 1 := Scalar.cmpi .slt v870 c0_i32_434
  let c0_i32_435 : BitVec 32 := 0#32
  let v873 : BitVec 1 := Scalar.cmpi .slt v869 c0_i32_435
  let v874 : BitVec 1 := Scalar.xori v872 v873
  let c0_i32_433 : BitVec 32 := 0#32
  let v871 : BitVec 1 := Scalar.cmpi .ne v870 c0_i32_433
  let v875 : BitVec 1 := Scalar.andi v874 v871
  let v876 : BitVec 32 := Scalar.addi v870 v869
  let v877 : BitVec 32 := Scalar.select v875 v876 v870
  let c1_i32_492 : BitVec 32 := 1#32
  let v987 : BitVec 32 := Scalar.subi c1_i32_492 v877
  let v988 : BitVec 32 := Scalar.select v986 v877 v987
  let v989 : BitVec 32 := Scalar.addi v975 v988
  let c1_i32_565 : BitVec 32 := 1#32
  let v1108 : BitVec 32 := Scalar.muli v989 c1_i32_565
  let v1109 : BitVec 32 := Scalar.addi c0_i32_566 v1108
  v1109.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c16_i32_59 : BitVec 32 := 16#32
  let v132 : BitVec 32 := Scalar.muli v79 c16_i32_59
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c8_i32_60 : BitVec 32 := 8#32
  let v133 : BitVec 32 := Scalar.muli v106 c8_i32_60
  let v134 : BitVec 32 := Scalar.addi v132 v133
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c4_i32_61 : BitVec 32 := 4#32
  let v135 : BitVec 32 := Scalar.muli v69 c4_i32_61
  let v136 : BitVec 32 := Scalar.addi v134 v135
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let c2_i32_62 : BitVec 32 := 2#32
  let v137 : BitVec 32 := Scalar.muli v123 c2_i32_62
  let v138 : BitVec 32 := Scalar.addi v136 v137
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let v139 : BitVec 32 := Scalar.addi v138 v96
  let c0_i32_538 : BitVec 32 := 0#32
  let v1057 : BitVec 1 := Scalar.cmpi .sgt v139 c0_i32_538
  let v1058 : BitVec 32 := Scalar.extui v1057
  let c0_i32_539 : BitVec 32 := 0#32
  let v1059 : BitVec 1 := Scalar.cmpi .slt v139 c0_i32_539
  let v1060 : BitVec 32 := Scalar.extui v1059
  let v1061 : BitVec 32 := Scalar.subi v1058 v1060
  let c32_i32_537 : BitVec 32 := 32#32
  let c0_i32_540 : BitVec 32 := 0#32
  let v1062 : BitVec 1 := Scalar.cmpi .sgt c32_i32_537 c0_i32_540
  let v1063 : BitVec 32 := Scalar.extui v1062
  let c0_i32_541 : BitVec 32 := 0#32
  let v1064 : BitVec 1 := Scalar.cmpi .slt c32_i32_537 c0_i32_541
  let v1065 : BitVec 32 := Scalar.extui v1064
  let v1066 : BitVec 32 := Scalar.subi v1063 v1065
  let v1067 : BitVec 1 := Scalar.cmpi .ne v1061 v1066
  let v1068 : BitVec 32 := Scalar.remsi v139 c32_i32_537
  let c0_i32_542 : BitVec 32 := 0#32
  let v1069 : BitVec 1 := Scalar.cmpi .ne v1068 c0_i32_542
  let v1070 : BitVec 1 := Scalar.andi v1067 v1069
  let v1056 : BitVec 32 := Scalar.divsi v139 c32_i32_537
  let c1_i32_543 : BitVec 32 := 1#32
  let v1071 : BitVec 32 := Scalar.subi v1056 c1_i32_543
  let v1072 : BitVec 32 := Scalar.select v1070 v1071 v1056
  let c32_i32_544 : BitVec 32 := 32#32
  let v1073 : BitVec 32 := Scalar.muli v1072 c32_i32_544
  let c1_i32_558 : BitVec 32 := 1#32
  let c0_i32_546 : BitVec 32 := 0#32
  let v1075 : BitVec 1 := Scalar.cmpi .sgt v139 c0_i32_546
  let v1076 : BitVec 32 := Scalar.extui v1075
  let c0_i32_547 : BitVec 32 := 0#32
  let v1077 : BitVec 1 := Scalar.cmpi .slt v139 c0_i32_547
  let v1078 : BitVec 32 := Scalar.extui v1077
  let v1079 : BitVec 32 := Scalar.subi v1076 v1078
  let c16_i32_545 : BitVec 32 := 16#32
  let c0_i32_548 : BitVec 32 := 0#32
  let v1080 : BitVec 1 := Scalar.cmpi .sgt c16_i32_545 c0_i32_548
  let v1081 : BitVec 32 := Scalar.extui v1080
  let c0_i32_549 : BitVec 32 := 0#32
  let v1082 : BitVec 1 := Scalar.cmpi .slt c16_i32_545 c0_i32_549
  let v1083 : BitVec 32 := Scalar.extui v1082
  let v1084 : BitVec 32 := Scalar.subi v1081 v1083
  let v1085 : BitVec 1 := Scalar.cmpi .ne v1079 v1084
  let v1086 : BitVec 32 := Scalar.remsi v139 c16_i32_545
  let c0_i32_550 : BitVec 32 := 0#32
  let v1087 : BitVec 1 := Scalar.cmpi .ne v1086 c0_i32_550
  let v1088 : BitVec 1 := Scalar.andi v1085 v1087
  let v1074 : BitVec 32 := Scalar.divsi v139 c16_i32_545
  let c1_i32_551 : BitVec 32 := 1#32
  let v1089 : BitVec 32 := Scalar.subi v1074 c1_i32_551
  let v1090 : BitVec 32 := Scalar.select v1088 v1089 v1074
  let c2_i32_552 : BitVec 32 := 2#32
  let c0_i32_553 : BitVec 32 := 0#32
  let v1091 : BitVec 1 := Scalar.cmpi .eq c2_i32_552 c0_i32_553
  let c1_i32_554 : BitVec 32 := 1#32
  let v1092 : BitVec 32 := Scalar.select v1091 c1_i32_554 c2_i32_552
  let v1093 : BitVec 32 := Scalar.remsi v1090 v1092
  let c0_i32_556 : BitVec 32 := 0#32
  let v1095 : BitVec 1 := Scalar.cmpi .slt v1093 c0_i32_556
  let c0_i32_557 : BitVec 32 := 0#32
  let v1096 : BitVec 1 := Scalar.cmpi .slt v1092 c0_i32_557
  let v1097 : BitVec 1 := Scalar.xori v1095 v1096
  let c0_i32_555 : BitVec 32 := 0#32
  let v1094 : BitVec 1 := Scalar.cmpi .ne v1093 c0_i32_555
  let v1098 : BitVec 1 := Scalar.andi v1097 v1094
  let v1099 : BitVec 32 := Scalar.addi v1093 v1092
  let v1100 : BitVec 32 := Scalar.select v1098 v1099 v1093
  let v1101 : BitVec 32 := Scalar.subi c1_i32_558 v1100
  let c16_i32_559 : BitVec 32 := 16#32
  let v1102 : BitVec 32 := Scalar.muli v1101 c16_i32_559
  let v1103 : BitVec 32 := Scalar.addi v1073 v1102
  let c16_i32_560 : BitVec 32 := 16#32
  let v1104 : BitVec 32 := Scalar.muli v1103 c16_i32_560
  let c256_i32_575 : BitVec 32 := 256#32
  ![v1104.toNat, 256]
def k0_dev7 (d0 : Dev nD) : Nat :=
  let c0_i32_573 : BitVec 32 := 0#32
  let c2_i32_396 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_335 : BitVec 32 := 1#32
  let c2_i32_334 : BitVec 32 := 2#32
  let c0_i32_322 : BitVec 32 := 0#32
  let v651 : BitVec 1 := Scalar.cmpi .sgt v131 c0_i32_322
  let v652 : BitVec 32 := Scalar.extui v651
  let c0_i32_323 : BitVec 32 := 0#32
  let v653 : BitVec 1 := Scalar.cmpi .slt v131 c0_i32_323
  let v654 : BitVec 32 := Scalar.extui v653
  let v655 : BitVec 32 := Scalar.subi v652 v654
  let c8_i32_321 : BitVec 32 := 8#32
  let c0_i32_324 : BitVec 32 := 0#32
  let v656 : BitVec 1 := Scalar.cmpi .sgt c8_i32_321 c0_i32_324
  let v657 : BitVec 32 := Scalar.extui v656
  let c0_i32_325 : BitVec 32 := 0#32
  let v658 : BitVec 1 := Scalar.cmpi .slt c8_i32_321 c0_i32_325
  let v659 : BitVec 32 := Scalar.extui v658
  let v660 : BitVec 32 := Scalar.subi v657 v659
  let v661 : BitVec 1 := Scalar.cmpi .ne v655 v660
  let v662 : BitVec 32 := Scalar.remsi v131 c8_i32_321
  let c0_i32_326 : BitVec 32 := 0#32
  let v663 : BitVec 1 := Scalar.cmpi .ne v662 c0_i32_326
  let v664 : BitVec 1 := Scalar.andi v661 v663
  let v650 : BitVec 32 := Scalar.divsi v131 c8_i32_321
  let c1_i32_327 : BitVec 32 := 1#32
  let v665 : BitVec 32 := Scalar.subi v650 c1_i32_327
  let v666 : BitVec 32 := Scalar.select v664 v665 v650
  let c2_i32_328 : BitVec 32 := 2#32
  let c0_i32_329 : BitVec 32 := 0#32
  let v667 : BitVec 1 := Scalar.cmpi .eq c2_i32_328 c0_i32_329
  let c1_i32_330 : BitVec 32 := 1#32
  let v668 : BitVec 32 := Scalar.select v667 c1_i32_330 c2_i32_328
  let v669 : BitVec 32 := Scalar.remsi v666 v668
  let c0_i32_332 : BitVec 32 := 0#32
  let v671 : BitVec 1 := Scalar.cmpi .slt v669 c0_i32_332
  let c0_i32_333 : BitVec 32 := 0#32
  let v672 : BitVec 1 := Scalar.cmpi .slt v668 c0_i32_333
  let v673 : BitVec 1 := Scalar.xori v671 v672
  let c0_i32_331 : BitVec 32 := 0#32
  let v670 : BitVec 1 := Scalar.cmpi .ne v669 c0_i32_331
  let v674 : BitVec 1 := Scalar.andi v673 v670
  let v675 : BitVec 32 := Scalar.addi v669 v668
  let v676 : BitVec 32 := Scalar.select v674 v675 v669
  let v677 : BitVec 32 := Scalar.muli c2_i32_334 v676
  let v678 : BitVec 32 := Scalar.subi c1_i32_335 v677
  let c8_i32_336 : BitVec 32 := 8#32
  let v679 : BitVec 32 := Scalar.muli v678 c8_i32_336
  let v680 : BitVec 32 := Scalar.addi v131 v679
  let c2_i32_389 : BitVec 32 := 2#32
  let c0_i32_390 : BitVec 32 := 0#32
  let v789 : BitVec 1 := Scalar.cmpi .eq c2_i32_389 c0_i32_390
  let c1_i32_391 : BitVec 32 := 1#32
  let v790 : BitVec 32 := Scalar.select v789 c1_i32_391 c2_i32_389
  let v791 : BitVec 32 := Scalar.remsi v680 v790
  let c0_i32_393 : BitVec 32 := 0#32
  let v793 : BitVec 1 := Scalar.cmpi .slt v791 c0_i32_393
  let c0_i32_394 : BitVec 32 := 0#32
  let v794 : BitVec 1 := Scalar.cmpi .slt v790 c0_i32_394
  let v795 : BitVec 1 := Scalar.xori v793 v794
  let c0_i32_392 : BitVec 32 := 0#32
  let v792 : BitVec 1 := Scalar.cmpi .ne v791 c0_i32_392
  let v796 : BitVec 1 := Scalar.andi v795 v792
  let v797 : BitVec 32 := Scalar.addi v791 v790
  let v798 : BitVec 32 := Scalar.select v796 v797 v791
  let v801 : BitVec 32 := Scalar.muli c2_i32_396 v798
  let c0_i32_364 : BitVec 32 := 0#32
  let v736 : BitVec 1 := Scalar.cmpi .sgt v680 c0_i32_364
  let v737 : BitVec 32 := Scalar.extui v736
  let c0_i32_365 : BitVec 32 := 0#32
  let v738 : BitVec 1 := Scalar.cmpi .slt v680 c0_i32_365
  let v739 : BitVec 32 := Scalar.extui v738
  let v740 : BitVec 32 := Scalar.subi v737 v739
  let c4_i32_363 : BitVec 32 := 4#32
  let c0_i32_366 : BitVec 32 := 0#32
  let v741 : BitVec 1 := Scalar.cmpi .sgt c4_i32_363 c0_i32_366
  let v742 : BitVec 32 := Scalar.extui v741
  let c0_i32_367 : BitVec 32 := 0#32
  let v743 : BitVec 1 := Scalar.cmpi .slt c4_i32_363 c0_i32_367
  let v744 : BitVec 32 := Scalar.extui v743
  let v745 : BitVec 32 := Scalar.subi v742 v744
  let v746 : BitVec 1 := Scalar.cmpi .ne v740 v745
  let v747 : BitVec 32 := Scalar.remsi v680 c4_i32_363
  let c0_i32_368 : BitVec 32 := 0#32
  let v748 : BitVec 1 := Scalar.cmpi .ne v747 c0_i32_368
  let v749 : BitVec 1 := Scalar.andi v746 v748
  let v735 : BitVec 32 := Scalar.divsi v680 c4_i32_363
  let c1_i32_369 : BitVec 32 := 1#32
  let v750 : BitVec 32 := Scalar.subi v735 c1_i32_369
  let v751 : BitVec 32 := Scalar.select v749 v750 v735
  let c2_i32_370 : BitVec 32 := 2#32
  let c0_i32_371 : BitVec 32 := 0#32
  let v752 : BitVec 1 := Scalar.cmpi .eq c2_i32_370 c0_i32_371
  let c1_i32_372 : BitVec 32 := 1#32
  let v753 : BitVec 32 := Scalar.select v752 c1_i32_372 c2_i32_370
  let v754 : BitVec 32 := Scalar.remsi v751 v753
  let c0_i32_374 : BitVec 32 := 0#32
  let v756 : BitVec 1 := Scalar.cmpi .slt v754 c0_i32_374
  let c0_i32_375 : BitVec 32 := 0#32
  let v757 : BitVec 1 := Scalar.cmpi .slt v753 c0_i32_375
  let v758 : BitVec 1 := Scalar.xori v756 v757
  let c0_i32_373 : BitVec 32 := 0#32
  let v755 : BitVec 1 := Scalar.cmpi .ne v754 c0_i32_373
  let v759 : BitVec 1 := Scalar.andi v758 v755
  let v760 : BitVec 32 := Scalar.addi v754 v753
  let v761 : BitVec 32 := Scalar.select v759 v760 v754
  let v802 : BitVec 32 := Scalar.addi v801 v761
  let c8_i32_397 : BitVec 32 := 8#32
  let v803 : BitVec 32 := Scalar.muli v802 c8_i32_397
  let c2_i32_395 : BitVec 32 := 2#32
  let c0_i32_377 : BitVec 32 := 0#32
  let v763 : BitVec 1 := Scalar.cmpi .sgt v680 c0_i32_377
  let v764 : BitVec 32 := Scalar.extui v763
  let c0_i32_378 : BitVec 32 := 0#32
  let v765 : BitVec 1 := Scalar.cmpi .slt v680 c0_i32_378
  let v766 : BitVec 32 := Scalar.extui v765
  let v767 : BitVec 32 := Scalar.subi v764 v766
  let c2_i32_376 : BitVec 32 := 2#32
  let c0_i32_379 : BitVec 32 := 0#32
  let v768 : BitVec 1 := Scalar.cmpi .sgt c2_i32_376 c0_i32_379
  let v769 : BitVec 32 := Scalar.extui v768
  let c0_i32_380 : BitVec 32 := 0#32
  let v770 : BitVec 1 := Scalar.cmpi .slt c2_i32_376 c0_i32_380
  let v771 : BitVec 32 := Scalar.extui v770
  let v772 : BitVec 32 := Scalar.subi v769 v771
  let v773 : BitVec 1 := Scalar.cmpi .ne v767 v772
  let v774 : BitVec 32 := Scalar.remsi v680 c2_i32_376
  let c0_i32_381 : BitVec 32 := 0#32
  let v775 : BitVec 1 := Scalar.cmpi .ne v774 c0_i32_381
  let v776 : BitVec 1 := Scalar.andi v773 v775
  let v762 : BitVec 32 := Scalar.divsi v680 c2_i32_376
  let c1_i32_382 : BitVec 32 := 1#32
  let v777 : BitVec 32 := Scalar.subi v762 c1_i32_382
  let v778 : BitVec 32 := Scalar.select v776 v777 v762
  let c2_i32_383 : BitVec 32 := 2#32
  let c0_i32_384 : BitVec 32 := 0#32
  let v779 : BitVec 1 := Scalar.cmpi .eq c2_i32_383 c0_i32_384
  let c1_i32_385 : BitVec 32 := 1#32
  let v780 : BitVec 32 := Scalar.select v779 c1_i32_385 c2_i32_383
  let v781 : BitVec 32 := Scalar.remsi v778 v780
  let c0_i32_387 : BitVec 32 := 0#32
  let v783 : BitVec 1 := Scalar.cmpi .slt v781 c0_i32_387
  let c0_i32_388 : BitVec 32 := 0#32
  let v784 : BitVec 1 := Scalar.cmpi .slt v780 c0_i32_388
  let v785 : BitVec 1 := Scalar.xori v783 v784
  let c0_i32_386 : BitVec 32 := 0#32
  let v782 : BitVec 1 := Scalar.cmpi .ne v781 c0_i32_386
  let v786 : BitVec 1 := Scalar.andi v785 v782
  let v787 : BitVec 32 := Scalar.addi v781 v780
  let v788 : BitVec 32 := Scalar.select v786 v787 v781
  let v799 : BitVec 32 := Scalar.muli c2_i32_395 v788
  let c0_i32_351 : BitVec 32 := 0#32
  let v709 : BitVec 1 := Scalar.cmpi .sgt v680 c0_i32_351
  let v710 : BitVec 32 := Scalar.extui v709
  let c0_i32_352 : BitVec 32 := 0#32
  let v711 : BitVec 1 := Scalar.cmpi .slt v680 c0_i32_352
  let v712 : BitVec 32 := Scalar.extui v711
  let v713 : BitVec 32 := Scalar.subi v710 v712
  let c8_i32_350 : BitVec 32 := 8#32
  let c0_i32_353 : BitVec 32 := 0#32
  let v714 : BitVec 1 := Scalar.cmpi .sgt c8_i32_350 c0_i32_353
  let v715 : BitVec 32 := Scalar.extui v714
  let c0_i32_354 : BitVec 32 := 0#32
  let v716 : BitVec 1 := Scalar.cmpi .slt c8_i32_350 c0_i32_354
  let v717 : BitVec 32 := Scalar.extui v716
  let v718 : BitVec 32 := Scalar.subi v715 v717
  let v719 : BitVec 1 := Scalar.cmpi .ne v713 v718
  let v720 : BitVec 32 := Scalar.remsi v680 c8_i32_350
  let c0_i32_355 : BitVec 32 := 0#32
  let v721 : BitVec 1 := Scalar.cmpi .ne v720 c0_i32_355
  let v722 : BitVec 1 := Scalar.andi v719 v721
  let v708 : BitVec 32 := Scalar.divsi v680 c8_i32_350
  let c1_i32_356 : BitVec 32 := 1#32
  let v723 : BitVec 32 := Scalar.subi v708 c1_i32_356
  let v724 : BitVec 32 := Scalar.select v722 v723 v708
  let c2_i32_357 : BitVec 32 := 2#32
  let c0_i32_358 : BitVec 32 := 0#32
  let v725 : BitVec 1 := Scalar.cmpi .eq c2_i32_357 c0_i32_358
  let c1_i32_359 : BitVec 32 := 1#32
  let v726 : BitVec 32 := Scalar.select v725 c1_i32_359 c2_i32_357
  let v727 : BitVec 32 := Scalar.remsi v724 v726
  let c0_i32_361 : BitVec 32 := 0#32
  let v729 : BitVec 1 := Scalar.cmpi .slt v727 c0_i32_361
  let c0_i32_362 : BitVec 32 := 0#32
  let v730 : BitVec 1 := Scalar.cmpi .slt v726 c0_i32_362
  let v731 : BitVec 1 := Scalar.xori v729 v730
  let c0_i32_360 : BitVec 32 := 0#32
  let v728 : BitVec 1 := Scalar.cmpi .ne v727 c0_i32_360
  let v732 : BitVec 1 := Scalar.andi v731 v728
  let v733 : BitVec 32 := Scalar.addi v727 v726
  let v734 : BitVec 32 := Scalar.select v732 v733 v727
  let v800 : BitVec 32 := Scalar.addi v799 v734
  let c2_i32_398 : BitVec 32 := 2#32
  let v804 : BitVec 32 := Scalar.muli v800 c2_i32_398
  let v805 : BitVec 32 := Scalar.addi v803 v804
  let c2_i32_399 : BitVec 32 := 2#32
  let c0_i32_400 : BitVec 32 := 0#32
  let v806 : BitVec 1 := Scalar.cmpi .eq c2_i32_399 c0_i32_400
  let c1_i32_401 : BitVec 32 := 1#32
  let v807 : BitVec 32 := Scalar.select v806 c1_i32_401 c2_i32_399
  let v808 : BitVec 32 := Scalar.remsi v800 v807
  let c0_i32_403 : BitVec 32 := 0#32
  let v810 : BitVec 1 := Scalar.cmpi .slt v808 c0_i32_403
  let c0_i32_404 : BitVec 32 := 0#32
  let v811 : BitVec 1 := Scalar.cmpi .slt v807 c0_i32_404
  let v812 : BitVec 1 := Scalar.xori v810 v811
  let c0_i32_402 : BitVec 32 := 0#32
  let v809 : BitVec 1 := Scalar.cmpi .ne v808 c0_i32_402
  let v813 : BitVec 1 := Scalar.andi v812 v809
  let v814 : BitVec 32 := Scalar.addi v808 v807
  let v815 : BitVec 32 := Scalar.select v813 v814 v808
  let c0_i32_405 : BitVec 32 := 0#32
  let v816 : BitVec 1 := Scalar.cmpi .eq v815 c0_i32_405
  let c0_i32_338 : BitVec 32 := 0#32
  let v682 : BitVec 1 := Scalar.cmpi .sgt v680 c0_i32_338
  let v683 : BitVec 32 := Scalar.extui v682
  let c0_i32_339 : BitVec 32 := 0#32
  let v684 : BitVec 1 := Scalar.cmpi .slt v680 c0_i32_339
  let v685 : BitVec 32 := Scalar.extui v684
  let v686 : BitVec 32 := Scalar.subi v683 v685
  let c16_i32_337 : BitVec 32 := 16#32
  let c0_i32_340 : BitVec 32 := 0#32
  let v687 : BitVec 1 := Scalar.cmpi .sgt c16_i32_337 c0_i32_340
  let v688 : BitVec 32 := Scalar.extui v687
  let c0_i32_341 : BitVec 32 := 0#32
  let v689 : BitVec 1 := Scalar.cmpi .slt c16_i32_337 c0_i32_341
  let v690 : BitVec 32 := Scalar.extui v689
  let v691 : BitVec 32 := Scalar.subi v688 v690
  let v692 : BitVec 1 := Scalar.cmpi .ne v686 v691
  let v693 : BitVec 32 := Scalar.remsi v680 c16_i32_337
  let c0_i32_342 : BitVec 32 := 0#32
  let v694 : BitVec 1 := Scalar.cmpi .ne v693 c0_i32_342
  let v695 : BitVec 1 := Scalar.andi v692 v694
  let v681 : BitVec 32 := Scalar.divsi v680 c16_i32_337
  let c1_i32_343 : BitVec 32 := 1#32
  let v696 : BitVec 32 := Scalar.subi v681 c1_i32_343
  let v697 : BitVec 32 := Scalar.select v695 v696 v681
  let c2_i32_344 : BitVec 32 := 2#32
  let c0_i32_345 : BitVec 32 := 0#32
  let v698 : BitVec 1 := Scalar.cmpi .eq c2_i32_344 c0_i32_345
  let c1_i32_346 : BitVec 32 := 1#32
  let v699 : BitVec 32 := Scalar.select v698 c1_i32_346 c2_i32_344
  let v700 : BitVec 32 := Scalar.remsi v697 v699
  let c0_i32_348 : BitVec 32 := 0#32
  let v702 : BitVec 1 := Scalar.cmpi .slt v700 c0_i32_348
  let c0_i32_349 : BitVec 32 := 0#32
  let v703 : BitVec 1 := Scalar.cmpi .slt v699 c0_i32_349
  let v704 : BitVec 1 := Scalar.xori v702 v703
  let c0_i32_347 : BitVec 32 := 0#32
  let v701 : BitVec 1 := Scalar.cmpi .ne v700 c0_i32_347
  let v705 : BitVec 1 := Scalar.andi v704 v701
  let v706 : BitVec 32 := Scalar.addi v700 v699
  let v707 : BitVec 32 := Scalar.select v705 v706 v700
  let c1_i32_406 : BitVec 32 := 1#32
  let v817 : BitVec 32 := Scalar.subi c1_i32_406 v707
  let v818 : BitVec 32 := Scalar.select v816 v707 v817
  let v819 : BitVec 32 := Scalar.addi v805 v818
  let c1_i32_572 : BitVec 32 := 1#32
  let v1116 : BitVec 32 := Scalar.muli v819 c1_i32_572
  let v1117 : BitVec 32 := Scalar.addi c0_i32_573 v1116
  v1117.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c0_i32_512 : BitVec 32 := 0#32
  let v1005 : BitVec 1 := Scalar.cmpi .sgt v131 c0_i32_512
  let v1006 : BitVec 32 := Scalar.extui v1005
  let c0_i32_513 : BitVec 32 := 0#32
  let v1007 : BitVec 1 := Scalar.cmpi .slt v131 c0_i32_513
  let v1008 : BitVec 32 := Scalar.extui v1007
  let v1009 : BitVec 32 := Scalar.subi v1006 v1008
  let c32_i32_511 : BitVec 32 := 32#32
  let c0_i32_514 : BitVec 32 := 0#32
  let v1010 : BitVec 1 := Scalar.cmpi .sgt c32_i32_511 c0_i32_514
  let v1011 : BitVec 32 := Scalar.extui v1010
  let c0_i32_515 : BitVec 32 := 0#32
  let v1012 : BitVec 1 := Scalar.cmpi .slt c32_i32_511 c0_i32_515
  let v1013 : BitVec 32 := Scalar.extui v1012
  let v1014 : BitVec 32 := Scalar.subi v1011 v1013
  let v1015 : BitVec 1 := Scalar.cmpi .ne v1009 v1014
  let v1016 : BitVec 32 := Scalar.remsi v131 c32_i32_511
  let c0_i32_516 : BitVec 32 := 0#32
  let v1017 : BitVec 1 := Scalar.cmpi .ne v1016 c0_i32_516
  let v1018 : BitVec 1 := Scalar.andi v1015 v1017
  let v1004 : BitVec 32 := Scalar.divsi v131 c32_i32_511
  let c1_i32_517 : BitVec 32 := 1#32
  let v1019 : BitVec 32 := Scalar.subi v1004 c1_i32_517
  let v1020 : BitVec 32 := Scalar.select v1018 v1019 v1004
  let c32_i32_518 : BitVec 32 := 32#32
  let v1021 : BitVec 32 := Scalar.muli v1020 c32_i32_518
  let c0_i32_520 : BitVec 32 := 0#32
  let v1023 : BitVec 1 := Scalar.cmpi .sgt v131 c0_i32_520
  let v1024 : BitVec 32 := Scalar.extui v1023
  let c0_i32_521 : BitVec 32 := 0#32
  let v1025 : BitVec 1 := Scalar.cmpi .slt v131 c0_i32_521
  let v1026 : BitVec 32 := Scalar.extui v1025
  let v1027 : BitVec 32 := Scalar.subi v1024 v1026
  let c16_i32_519 : BitVec 32 := 16#32
  let c0_i32_522 : BitVec 32 := 0#32
  let v1028 : BitVec 1 := Scalar.cmpi .sgt c16_i32_519 c0_i32_522
  let v1029 : BitVec 32 := Scalar.extui v1028
  let c0_i32_523 : BitVec 32 := 0#32
  let v1030 : BitVec 1 := Scalar.cmpi .slt c16_i32_519 c0_i32_523
  let v1031 : BitVec 32 := Scalar.extui v1030
  let v1032 : BitVec 32 := Scalar.subi v1029 v1031
  let v1033 : BitVec 1 := Scalar.cmpi .ne v1027 v1032
  let v1034 : BitVec 32 := Scalar.remsi v131 c16_i32_519
  let c0_i32_524 : BitVec 32 := 0#32
  let v1035 : BitVec 1 := Scalar.cmpi .ne v1034 c0_i32_524
  let v1036 : BitVec 1 := Scalar.andi v1033 v1035
  let v1022 : BitVec 32 := Scalar.divsi v131 c16_i32_519
  let c1_i32_525 : BitVec 32 := 1#32
  let v1037 : BitVec 32 := Scalar.subi v1022 c1_i32_525
  let v1038 : BitVec 32 := Scalar.select v1036 v1037 v1022
  let c2_i32_526 : BitVec 32 := 2#32
  let c0_i32_527 : BitVec 32 := 0#32
  let v1039 : BitVec 1 := Scalar.cmpi .eq c2_i32_526 c0_i32_527
  let c1_i32_528 : BitVec 32 := 1#32
  let v1040 : BitVec 32 := Scalar.select v1039 c1_i32_528 c2_i32_526
  let v1041 : BitVec 32 := Scalar.remsi v1038 v1040
  let c0_i32_530 : BitVec 32 := 0#32
  let v1043 : BitVec 1 := Scalar.cmpi .slt v1041 c0_i32_530
  let c0_i32_531 : BitVec 32 := 0#32
  let v1044 : BitVec 1 := Scalar.cmpi .slt v1040 c0_i32_531
  let v1045 : BitVec 1 := Scalar.xori v1043 v1044
  let c0_i32_529 : BitVec 32 := 0#32
  let v1042 : BitVec 1 := Scalar.cmpi .ne v1041 c0_i32_529
  let v1046 : BitVec 1 := Scalar.andi v1045 v1042
  let v1047 : BitVec 32 := Scalar.addi v1041 v1040
  let v1048 : BitVec 32 := Scalar.select v1046 v1047 v1041
  let c16_i32_535 : BitVec 32 := 16#32
  let v1053 : BitVec 32 := Scalar.muli v1048 c16_i32_535
  let v1054 : BitVec 32 := Scalar.addi v1021 v1053
  let c16_i32_536 : BitVec 32 := 16#32
  let v1055 : BitVec 32 := Scalar.muli v1054 c16_i32_536
  let v1134 : Index := Scalar.indexCast v1055
  let c0_589 : Index := 0#32
  ![v1134.toNat, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c16_i32_59 : BitVec 32 := 16#32
  let v132 : BitVec 32 := Scalar.muli v79 c16_i32_59
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c8_i32_60 : BitVec 32 := 8#32
  let v133 : BitVec 32 := Scalar.muli v106 c8_i32_60
  let v134 : BitVec 32 := Scalar.addi v132 v133
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c4_i32_61 : BitVec 32 := 4#32
  let v135 : BitVec 32 := Scalar.muli v69 c4_i32_61
  let v136 : BitVec 32 := Scalar.addi v134 v135
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let c2_i32_62 : BitVec 32 := 2#32
  let v137 : BitVec 32 := Scalar.muli v123 c2_i32_62
  let v138 : BitVec 32 := Scalar.addi v136 v137
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let v139 : BitVec 32 := Scalar.addi v138 v96
  let c0_i32_538 : BitVec 32 := 0#32
  let v1057 : BitVec 1 := Scalar.cmpi .sgt v139 c0_i32_538
  let v1058 : BitVec 32 := Scalar.extui v1057
  let c0_i32_539 : BitVec 32 := 0#32
  let v1059 : BitVec 1 := Scalar.cmpi .slt v139 c0_i32_539
  let v1060 : BitVec 32 := Scalar.extui v1059
  let v1061 : BitVec 32 := Scalar.subi v1058 v1060
  let c32_i32_537 : BitVec 32 := 32#32
  let c0_i32_540 : BitVec 32 := 0#32
  let v1062 : BitVec 1 := Scalar.cmpi .sgt c32_i32_537 c0_i32_540
  let v1063 : BitVec 32 := Scalar.extui v1062
  let c0_i32_541 : BitVec 32 := 0#32
  let v1064 : BitVec 1 := Scalar.cmpi .slt c32_i32_537 c0_i32_541
  let v1065 : BitVec 32 := Scalar.extui v1064
  let v1066 : BitVec 32 := Scalar.subi v1063 v1065
  let v1067 : BitVec 1 := Scalar.cmpi .ne v1061 v1066
  let v1068 : BitVec 32 := Scalar.remsi v139 c32_i32_537
  let c0_i32_542 : BitVec 32 := 0#32
  let v1069 : BitVec 1 := Scalar.cmpi .ne v1068 c0_i32_542
  let v1070 : BitVec 1 := Scalar.andi v1067 v1069
  let v1056 : BitVec 32 := Scalar.divsi v139 c32_i32_537
  let c1_i32_543 : BitVec 32 := 1#32
  let v1071 : BitVec 32 := Scalar.subi v1056 c1_i32_543
  let v1072 : BitVec 32 := Scalar.select v1070 v1071 v1056
  let c32_i32_544 : BitVec 32 := 32#32
  let v1073 : BitVec 32 := Scalar.muli v1072 c32_i32_544
  let c0_i32_546 : BitVec 32 := 0#32
  let v1075 : BitVec 1 := Scalar.cmpi .sgt v139 c0_i32_546
  let v1076 : BitVec 32 := Scalar.extui v1075
  let c0_i32_547 : BitVec 32 := 0#32
  let v1077 : BitVec 1 := Scalar.cmpi .slt v139 c0_i32_547
  let v1078 : BitVec 32 := Scalar.extui v1077
  let v1079 : BitVec 32 := Scalar.subi v1076 v1078
  let c16_i32_545 : BitVec 32 := 16#32
  let c0_i32_548 : BitVec 32 := 0#32
  let v1080 : BitVec 1 := Scalar.cmpi .sgt c16_i32_545 c0_i32_548
  let v1081 : BitVec 32 := Scalar.extui v1080
  let c0_i32_549 : BitVec 32 := 0#32
  let v1082 : BitVec 1 := Scalar.cmpi .slt c16_i32_545 c0_i32_549
  let v1083 : BitVec 32 := Scalar.extui v1082
  let v1084 : BitVec 32 := Scalar.subi v1081 v1083
  let v1085 : BitVec 1 := Scalar.cmpi .ne v1079 v1084
  let v1086 : BitVec 32 := Scalar.remsi v139 c16_i32_545
  let c0_i32_550 : BitVec 32 := 0#32
  let v1087 : BitVec 1 := Scalar.cmpi .ne v1086 c0_i32_550
  let v1088 : BitVec 1 := Scalar.andi v1085 v1087
  let v1074 : BitVec 32 := Scalar.divsi v139 c16_i32_545
  let c1_i32_551 : BitVec 32 := 1#32
  let v1089 : BitVec 32 := Scalar.subi v1074 c1_i32_551
  let v1090 : BitVec 32 := Scalar.select v1088 v1089 v1074
  let c2_i32_552 : BitVec 32 := 2#32
  let c0_i32_553 : BitVec 32 := 0#32
  let v1091 : BitVec 1 := Scalar.cmpi .eq c2_i32_552 c0_i32_553
  let c1_i32_554 : BitVec 32 := 1#32
  let v1092 : BitVec 32 := Scalar.select v1091 c1_i32_554 c2_i32_552
  let v1093 : BitVec 32 := Scalar.remsi v1090 v1092
  let c0_i32_556 : BitVec 32 := 0#32
  let v1095 : BitVec 1 := Scalar.cmpi .slt v1093 c0_i32_556
  let c0_i32_557 : BitVec 32 := 0#32
  let v1096 : BitVec 1 := Scalar.cmpi .slt v1092 c0_i32_557
  let v1097 : BitVec 1 := Scalar.xori v1095 v1096
  let c0_i32_555 : BitVec 32 := 0#32
  let v1094 : BitVec 1 := Scalar.cmpi .ne v1093 c0_i32_555
  let v1098 : BitVec 1 := Scalar.andi v1097 v1094
  let v1099 : BitVec 32 := Scalar.addi v1093 v1092
  let v1100 : BitVec 32 := Scalar.select v1098 v1099 v1093
  let c16_i32_561 : BitVec 32 := 16#32
  let v1105 : BitVec 32 := Scalar.muli v1100 c16_i32_561
  let v1106 : BitVec 32 := Scalar.addi v1073 v1105
  let c16_i32_562 : BitVec 32 := 16#32
  let v1107 : BitVec 32 := Scalar.muli v1106 c16_i32_562
  let v1151 : Index := Scalar.indexCast v1107
  let c256 : Index := 256#32
  ![v1151.toNat, 256]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c0_i32_610 : BitVec 32 := 0#32
  let v1159 : BitVec 1 := Scalar.cmpi .sgt v131 c0_i32_610
  let v1160 : BitVec 32 := Scalar.extui v1159
  let c0_i32_611 : BitVec 32 := 0#32
  let v1161 : BitVec 1 := Scalar.cmpi .slt v131 c0_i32_611
  let v1162 : BitVec 32 := Scalar.extui v1161
  let v1163 : BitVec 32 := Scalar.subi v1160 v1162
  let c16_i32_609 : BitVec 32 := 16#32
  let c0_i32_612 : BitVec 32 := 0#32
  let v1164 : BitVec 1 := Scalar.cmpi .sgt c16_i32_609 c0_i32_612
  let v1165 : BitVec 32 := Scalar.extui v1164
  let c0_i32_613 : BitVec 32 := 0#32
  let v1166 : BitVec 1 := Scalar.cmpi .slt c16_i32_609 c0_i32_613
  let v1167 : BitVec 32 := Scalar.extui v1166
  let v1168 : BitVec 32 := Scalar.subi v1165 v1167
  let v1169 : BitVec 1 := Scalar.cmpi .ne v1163 v1168
  let v1170 : BitVec 32 := Scalar.remsi v131 c16_i32_609
  let c0_i32_614 : BitVec 32 := 0#32
  let v1171 : BitVec 1 := Scalar.cmpi .ne v1170 c0_i32_614
  let v1172 : BitVec 1 := Scalar.andi v1169 v1171
  let v1158 : BitVec 32 := Scalar.divsi v131 c16_i32_609
  let c1_i32_615 : BitVec 32 := 1#32
  let v1173 : BitVec 32 := Scalar.subi v1158 c1_i32_615
  let v1174 : BitVec 32 := Scalar.select v1172 v1173 v1158
  let c16_i32_616 : BitVec 32 := 16#32
  let v1175 : BitVec 32 := Scalar.muli v1174 c16_i32_616
  let c1_i32_630 : BitVec 32 := 1#32
  let c0_i32_618 : BitVec 32 := 0#32
  let v1177 : BitVec 1 := Scalar.cmpi .sgt v131 c0_i32_618
  let v1178 : BitVec 32 := Scalar.extui v1177
  let c0_i32_619 : BitVec 32 := 0#32
  let v1179 : BitVec 1 := Scalar.cmpi .slt v131 c0_i32_619
  let v1180 : BitVec 32 := Scalar.extui v1179
  let v1181 : BitVec 32 := Scalar.subi v1178 v1180
  let c8_i32_617 : BitVec 32 := 8#32
  let c0_i32_620 : BitVec 32 := 0#32
  let v1182 : BitVec 1 := Scalar.cmpi .sgt c8_i32_617 c0_i32_620
  let v1183 : BitVec 32 := Scalar.extui v1182
  let c0_i32_621 : BitVec 32 := 0#32
  let v1184 : BitVec 1 := Scalar.cmpi .slt c8_i32_617 c0_i32_621
  let v1185 : BitVec 32 := Scalar.extui v1184
  let v1186 : BitVec 32 := Scalar.subi v1183 v1185
  let v1187 : BitVec 1 := Scalar.cmpi .ne v1181 v1186
  let v1188 : BitVec 32 := Scalar.remsi v131 c8_i32_617
  let c0_i32_622 : BitVec 32 := 0#32
  let v1189 : BitVec 1 := Scalar.cmpi .ne v1188 c0_i32_622
  let v1190 : BitVec 1 := Scalar.andi v1187 v1189
  let v1176 : BitVec 32 := Scalar.divsi v131 c8_i32_617
  let c1_i32_623 : BitVec 32 := 1#32
  let v1191 : BitVec 32 := Scalar.subi v1176 c1_i32_623
  let v1192 : BitVec 32 := Scalar.select v1190 v1191 v1176
  let c2_i32_624 : BitVec 32 := 2#32
  let c0_i32_625 : BitVec 32 := 0#32
  let v1193 : BitVec 1 := Scalar.cmpi .eq c2_i32_624 c0_i32_625
  let c1_i32_626 : BitVec 32 := 1#32
  let v1194 : BitVec 32 := Scalar.select v1193 c1_i32_626 c2_i32_624
  let v1195 : BitVec 32 := Scalar.remsi v1192 v1194
  let c0_i32_628 : BitVec 32 := 0#32
  let v1197 : BitVec 1 := Scalar.cmpi .slt v1195 c0_i32_628
  let c0_i32_629 : BitVec 32 := 0#32
  let v1198 : BitVec 1 := Scalar.cmpi .slt v1194 c0_i32_629
  let v1199 : BitVec 1 := Scalar.xori v1197 v1198
  let c0_i32_627 : BitVec 32 := 0#32
  let v1196 : BitVec 1 := Scalar.cmpi .ne v1195 c0_i32_627
  let v1200 : BitVec 1 := Scalar.andi v1199 v1196
  let v1201 : BitVec 32 := Scalar.addi v1195 v1194
  let v1202 : BitVec 32 := Scalar.select v1200 v1201 v1195
  let v1203 : BitVec 32 := Scalar.subi c1_i32_630 v1202
  let c8_i32_631 : BitVec 32 := 8#32
  let v1204 : BitVec 32 := Scalar.muli v1203 c8_i32_631
  let v1205 : BitVec 32 := Scalar.addi v1175 v1204
  let c16_i32_632 : BitVec 32 := 16#32
  let v1206 : BitVec 32 := Scalar.muli v1205 c16_i32_632
  let c0_i32_667 : BitVec 32 := 0#32
  ![v1206.toNat, 0]
def k0_dev8 (d0 : Dev nD) : Nat :=
  let c0_i32_664 : BitVec 32 := 0#32
  let c2_i32_396 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_335 : BitVec 32 := 1#32
  let c2_i32_334 : BitVec 32 := 2#32
  let c0_i32_322 : BitVec 32 := 0#32
  let v651 : BitVec 1 := Scalar.cmpi .sgt v131 c0_i32_322
  let v652 : BitVec 32 := Scalar.extui v651
  let c0_i32_323 : BitVec 32 := 0#32
  let v653 : BitVec 1 := Scalar.cmpi .slt v131 c0_i32_323
  let v654 : BitVec 32 := Scalar.extui v653
  let v655 : BitVec 32 := Scalar.subi v652 v654
  let c8_i32_321 : BitVec 32 := 8#32
  let c0_i32_324 : BitVec 32 := 0#32
  let v656 : BitVec 1 := Scalar.cmpi .sgt c8_i32_321 c0_i32_324
  let v657 : BitVec 32 := Scalar.extui v656
  let c0_i32_325 : BitVec 32 := 0#32
  let v658 : BitVec 1 := Scalar.cmpi .slt c8_i32_321 c0_i32_325
  let v659 : BitVec 32 := Scalar.extui v658
  let v660 : BitVec 32 := Scalar.subi v657 v659
  let v661 : BitVec 1 := Scalar.cmpi .ne v655 v660
  let v662 : BitVec 32 := Scalar.remsi v131 c8_i32_321
  let c0_i32_326 : BitVec 32 := 0#32
  let v663 : BitVec 1 := Scalar.cmpi .ne v662 c0_i32_326
  let v664 : BitVec 1 := Scalar.andi v661 v663
  let v650 : BitVec 32 := Scalar.divsi v131 c8_i32_321
  let c1_i32_327 : BitVec 32 := 1#32
  let v665 : BitVec 32 := Scalar.subi v650 c1_i32_327
  let v666 : BitVec 32 := Scalar.select v664 v665 v650
  let c2_i32_328 : BitVec 32 := 2#32
  let c0_i32_329 : BitVec 32 := 0#32
  let v667 : BitVec 1 := Scalar.cmpi .eq c2_i32_328 c0_i32_329
  let c1_i32_330 : BitVec 32 := 1#32
  let v668 : BitVec 32 := Scalar.select v667 c1_i32_330 c2_i32_328
  let v669 : BitVec 32 := Scalar.remsi v666 v668
  let c0_i32_332 : BitVec 32 := 0#32
  let v671 : BitVec 1 := Scalar.cmpi .slt v669 c0_i32_332
  let c0_i32_333 : BitVec 32 := 0#32
  let v672 : BitVec 1 := Scalar.cmpi .slt v668 c0_i32_333
  let v673 : BitVec 1 := Scalar.xori v671 v672
  let c0_i32_331 : BitVec 32 := 0#32
  let v670 : BitVec 1 := Scalar.cmpi .ne v669 c0_i32_331
  let v674 : BitVec 1 := Scalar.andi v673 v670
  let v675 : BitVec 32 := Scalar.addi v669 v668
  let v676 : BitVec 32 := Scalar.select v674 v675 v669
  let v677 : BitVec 32 := Scalar.muli c2_i32_334 v676
  let v678 : BitVec 32 := Scalar.subi c1_i32_335 v677
  let c8_i32_336 : BitVec 32 := 8#32
  let v679 : BitVec 32 := Scalar.muli v678 c8_i32_336
  let v680 : BitVec 32 := Scalar.addi v131 v679
  let c2_i32_389 : BitVec 32 := 2#32
  let c0_i32_390 : BitVec 32 := 0#32
  let v789 : BitVec 1 := Scalar.cmpi .eq c2_i32_389 c0_i32_390
  let c1_i32_391 : BitVec 32 := 1#32
  let v790 : BitVec 32 := Scalar.select v789 c1_i32_391 c2_i32_389
  let v791 : BitVec 32 := Scalar.remsi v680 v790
  let c0_i32_393 : BitVec 32 := 0#32
  let v793 : BitVec 1 := Scalar.cmpi .slt v791 c0_i32_393
  let c0_i32_394 : BitVec 32 := 0#32
  let v794 : BitVec 1 := Scalar.cmpi .slt v790 c0_i32_394
  let v795 : BitVec 1 := Scalar.xori v793 v794
  let c0_i32_392 : BitVec 32 := 0#32
  let v792 : BitVec 1 := Scalar.cmpi .ne v791 c0_i32_392
  let v796 : BitVec 1 := Scalar.andi v795 v792
  let v797 : BitVec 32 := Scalar.addi v791 v790
  let v798 : BitVec 32 := Scalar.select v796 v797 v791
  let v801 : BitVec 32 := Scalar.muli c2_i32_396 v798
  let c0_i32_364 : BitVec 32 := 0#32
  let v736 : BitVec 1 := Scalar.cmpi .sgt v680 c0_i32_364
  let v737 : BitVec 32 := Scalar.extui v736
  let c0_i32_365 : BitVec 32 := 0#32
  let v738 : BitVec 1 := Scalar.cmpi .slt v680 c0_i32_365
  let v739 : BitVec 32 := Scalar.extui v738
  let v740 : BitVec 32 := Scalar.subi v737 v739
  let c4_i32_363 : BitVec 32 := 4#32
  let c0_i32_366 : BitVec 32 := 0#32
  let v741 : BitVec 1 := Scalar.cmpi .sgt c4_i32_363 c0_i32_366
  let v742 : BitVec 32 := Scalar.extui v741
  let c0_i32_367 : BitVec 32 := 0#32
  let v743 : BitVec 1 := Scalar.cmpi .slt c4_i32_363 c0_i32_367
  let v744 : BitVec 32 := Scalar.extui v743
  let v745 : BitVec 32 := Scalar.subi v742 v744
  let v746 : BitVec 1 := Scalar.cmpi .ne v740 v745
  let v747 : BitVec 32 := Scalar.remsi v680 c4_i32_363
  let c0_i32_368 : BitVec 32 := 0#32
  let v748 : BitVec 1 := Scalar.cmpi .ne v747 c0_i32_368
  let v749 : BitVec 1 := Scalar.andi v746 v748
  let v735 : BitVec 32 := Scalar.divsi v680 c4_i32_363
  let c1_i32_369 : BitVec 32 := 1#32
  let v750 : BitVec 32 := Scalar.subi v735 c1_i32_369
  let v751 : BitVec 32 := Scalar.select v749 v750 v735
  let c2_i32_370 : BitVec 32 := 2#32
  let c0_i32_371 : BitVec 32 := 0#32
  let v752 : BitVec 1 := Scalar.cmpi .eq c2_i32_370 c0_i32_371
  let c1_i32_372 : BitVec 32 := 1#32
  let v753 : BitVec 32 := Scalar.select v752 c1_i32_372 c2_i32_370
  let v754 : BitVec 32 := Scalar.remsi v751 v753
  let c0_i32_374 : BitVec 32 := 0#32
  let v756 : BitVec 1 := Scalar.cmpi .slt v754 c0_i32_374
  let c0_i32_375 : BitVec 32 := 0#32
  let v757 : BitVec 1 := Scalar.cmpi .slt v753 c0_i32_375
  let v758 : BitVec 1 := Scalar.xori v756 v757
  let c0_i32_373 : BitVec 32 := 0#32
  let v755 : BitVec 1 := Scalar.cmpi .ne v754 c0_i32_373
  let v759 : BitVec 1 := Scalar.andi v758 v755
  let v760 : BitVec 32 := Scalar.addi v754 v753
  let v761 : BitVec 32 := Scalar.select v759 v760 v754
  let v802 : BitVec 32 := Scalar.addi v801 v761
  let c8_i32_397 : BitVec 32 := 8#32
  let v803 : BitVec 32 := Scalar.muli v802 c8_i32_397
  let c2_i32_395 : BitVec 32 := 2#32
  let c0_i32_377 : BitVec 32 := 0#32
  let v763 : BitVec 1 := Scalar.cmpi .sgt v680 c0_i32_377
  let v764 : BitVec 32 := Scalar.extui v763
  let c0_i32_378 : BitVec 32 := 0#32
  let v765 : BitVec 1 := Scalar.cmpi .slt v680 c0_i32_378
  let v766 : BitVec 32 := Scalar.extui v765
  let v767 : BitVec 32 := Scalar.subi v764 v766
  let c2_i32_376 : BitVec 32 := 2#32
  let c0_i32_379 : BitVec 32 := 0#32
  let v768 : BitVec 1 := Scalar.cmpi .sgt c2_i32_376 c0_i32_379
  let v769 : BitVec 32 := Scalar.extui v768
  let c0_i32_380 : BitVec 32 := 0#32
  let v770 : BitVec 1 := Scalar.cmpi .slt c2_i32_376 c0_i32_380
  let v771 : BitVec 32 := Scalar.extui v770
  let v772 : BitVec 32 := Scalar.subi v769 v771
  let v773 : BitVec 1 := Scalar.cmpi .ne v767 v772
  let v774 : BitVec 32 := Scalar.remsi v680 c2_i32_376
  let c0_i32_381 : BitVec 32 := 0#32
  let v775 : BitVec 1 := Scalar.cmpi .ne v774 c0_i32_381
  let v776 : BitVec 1 := Scalar.andi v773 v775
  let v762 : BitVec 32 := Scalar.divsi v680 c2_i32_376
  let c1_i32_382 : BitVec 32 := 1#32
  let v777 : BitVec 32 := Scalar.subi v762 c1_i32_382
  let v778 : BitVec 32 := Scalar.select v776 v777 v762
  let c2_i32_383 : BitVec 32 := 2#32
  let c0_i32_384 : BitVec 32 := 0#32
  let v779 : BitVec 1 := Scalar.cmpi .eq c2_i32_383 c0_i32_384
  let c1_i32_385 : BitVec 32 := 1#32
  let v780 : BitVec 32 := Scalar.select v779 c1_i32_385 c2_i32_383
  let v781 : BitVec 32 := Scalar.remsi v778 v780
  let c0_i32_387 : BitVec 32 := 0#32
  let v783 : BitVec 1 := Scalar.cmpi .slt v781 c0_i32_387
  let c0_i32_388 : BitVec 32 := 0#32
  let v784 : BitVec 1 := Scalar.cmpi .slt v780 c0_i32_388
  let v785 : BitVec 1 := Scalar.xori v783 v784
  let c0_i32_386 : BitVec 32 := 0#32
  let v782 : BitVec 1 := Scalar.cmpi .ne v781 c0_i32_386
  let v786 : BitVec 1 := Scalar.andi v785 v782
  let v787 : BitVec 32 := Scalar.addi v781 v780
  let v788 : BitVec 32 := Scalar.select v786 v787 v781
  let v799 : BitVec 32 := Scalar.muli c2_i32_395 v788
  let c0_i32_351 : BitVec 32 := 0#32
  let v709 : BitVec 1 := Scalar.cmpi .sgt v680 c0_i32_351
  let v710 : BitVec 32 := Scalar.extui v709
  let c0_i32_352 : BitVec 32 := 0#32
  let v711 : BitVec 1 := Scalar.cmpi .slt v680 c0_i32_352
  let v712 : BitVec 32 := Scalar.extui v711
  let v713 : BitVec 32 := Scalar.subi v710 v712
  let c8_i32_350 : BitVec 32 := 8#32
  let c0_i32_353 : BitVec 32 := 0#32
  let v714 : BitVec 1 := Scalar.cmpi .sgt c8_i32_350 c0_i32_353
  let v715 : BitVec 32 := Scalar.extui v714
  let c0_i32_354 : BitVec 32 := 0#32
  let v716 : BitVec 1 := Scalar.cmpi .slt c8_i32_350 c0_i32_354
  let v717 : BitVec 32 := Scalar.extui v716
  let v718 : BitVec 32 := Scalar.subi v715 v717
  let v719 : BitVec 1 := Scalar.cmpi .ne v713 v718
  let v720 : BitVec 32 := Scalar.remsi v680 c8_i32_350
  let c0_i32_355 : BitVec 32 := 0#32
  let v721 : BitVec 1 := Scalar.cmpi .ne v720 c0_i32_355
  let v722 : BitVec 1 := Scalar.andi v719 v721
  let v708 : BitVec 32 := Scalar.divsi v680 c8_i32_350
  let c1_i32_356 : BitVec 32 := 1#32
  let v723 : BitVec 32 := Scalar.subi v708 c1_i32_356
  let v724 : BitVec 32 := Scalar.select v722 v723 v708
  let c2_i32_357 : BitVec 32 := 2#32
  let c0_i32_358 : BitVec 32 := 0#32
  let v725 : BitVec 1 := Scalar.cmpi .eq c2_i32_357 c0_i32_358
  let c1_i32_359 : BitVec 32 := 1#32
  let v726 : BitVec 32 := Scalar.select v725 c1_i32_359 c2_i32_357
  let v727 : BitVec 32 := Scalar.remsi v724 v726
  let c0_i32_361 : BitVec 32 := 0#32
  let v729 : BitVec 1 := Scalar.cmpi .slt v727 c0_i32_361
  let c0_i32_362 : BitVec 32 := 0#32
  let v730 : BitVec 1 := Scalar.cmpi .slt v726 c0_i32_362
  let v731 : BitVec 1 := Scalar.xori v729 v730
  let c0_i32_360 : BitVec 32 := 0#32
  let v728 : BitVec 1 := Scalar.cmpi .ne v727 c0_i32_360
  let v732 : BitVec 1 := Scalar.andi v731 v728
  let v733 : BitVec 32 := Scalar.addi v727 v726
  let v734 : BitVec 32 := Scalar.select v732 v733 v727
  let v800 : BitVec 32 := Scalar.addi v799 v734
  let c2_i32_398 : BitVec 32 := 2#32
  let v804 : BitVec 32 := Scalar.muli v800 c2_i32_398
  let v805 : BitVec 32 := Scalar.addi v803 v804
  let c2_i32_399 : BitVec 32 := 2#32
  let c0_i32_400 : BitVec 32 := 0#32
  let v806 : BitVec 1 := Scalar.cmpi .eq c2_i32_399 c0_i32_400
  let c1_i32_401 : BitVec 32 := 1#32
  let v807 : BitVec 32 := Scalar.select v806 c1_i32_401 c2_i32_399
  let v808 : BitVec 32 := Scalar.remsi v800 v807
  let c0_i32_403 : BitVec 32 := 0#32
  let v810 : BitVec 1 := Scalar.cmpi .slt v808 c0_i32_403
  let c0_i32_404 : BitVec 32 := 0#32
  let v811 : BitVec 1 := Scalar.cmpi .slt v807 c0_i32_404
  let v812 : BitVec 1 := Scalar.xori v810 v811
  let c0_i32_402 : BitVec 32 := 0#32
  let v809 : BitVec 1 := Scalar.cmpi .ne v808 c0_i32_402
  let v813 : BitVec 1 := Scalar.andi v812 v809
  let v814 : BitVec 32 := Scalar.addi v808 v807
  let v815 : BitVec 32 := Scalar.select v813 v814 v808
  let c0_i32_405 : BitVec 32 := 0#32
  let v816 : BitVec 1 := Scalar.cmpi .eq v815 c0_i32_405
  let c0_i32_338 : BitVec 32 := 0#32
  let v682 : BitVec 1 := Scalar.cmpi .sgt v680 c0_i32_338
  let v683 : BitVec 32 := Scalar.extui v682
  let c0_i32_339 : BitVec 32 := 0#32
  let v684 : BitVec 1 := Scalar.cmpi .slt v680 c0_i32_339
  let v685 : BitVec 32 := Scalar.extui v684
  let v686 : BitVec 32 := Scalar.subi v683 v685
  let c16_i32_337 : BitVec 32 := 16#32
  let c0_i32_340 : BitVec 32 := 0#32
  let v687 : BitVec 1 := Scalar.cmpi .sgt c16_i32_337 c0_i32_340
  let v688 : BitVec 32 := Scalar.extui v687
  let c0_i32_341 : BitVec 32 := 0#32
  let v689 : BitVec 1 := Scalar.cmpi .slt c16_i32_337 c0_i32_341
  let v690 : BitVec 32 := Scalar.extui v689
  let v691 : BitVec 32 := Scalar.subi v688 v690
  let v692 : BitVec 1 := Scalar.cmpi .ne v686 v691
  let v693 : BitVec 32 := Scalar.remsi v680 c16_i32_337
  let c0_i32_342 : BitVec 32 := 0#32
  let v694 : BitVec 1 := Scalar.cmpi .ne v693 c0_i32_342
  let v695 : BitVec 1 := Scalar.andi v692 v694
  let v681 : BitVec 32 := Scalar.divsi v680 c16_i32_337
  let c1_i32_343 : BitVec 32 := 1#32
  let v696 : BitVec 32 := Scalar.subi v681 c1_i32_343
  let v697 : BitVec 32 := Scalar.select v695 v696 v681
  let c2_i32_344 : BitVec 32 := 2#32
  let c0_i32_345 : BitVec 32 := 0#32
  let v698 : BitVec 1 := Scalar.cmpi .eq c2_i32_344 c0_i32_345
  let c1_i32_346 : BitVec 32 := 1#32
  let v699 : BitVec 32 := Scalar.select v698 c1_i32_346 c2_i32_344
  let v700 : BitVec 32 := Scalar.remsi v697 v699
  let c0_i32_348 : BitVec 32 := 0#32
  let v702 : BitVec 1 := Scalar.cmpi .slt v700 c0_i32_348
  let c0_i32_349 : BitVec 32 := 0#32
  let v703 : BitVec 1 := Scalar.cmpi .slt v699 c0_i32_349
  let v704 : BitVec 1 := Scalar.xori v702 v703
  let c0_i32_347 : BitVec 32 := 0#32
  let v701 : BitVec 1 := Scalar.cmpi .ne v700 c0_i32_347
  let v705 : BitVec 1 := Scalar.andi v704 v701
  let v706 : BitVec 32 := Scalar.addi v700 v699
  let v707 : BitVec 32 := Scalar.select v705 v706 v700
  let c1_i32_406 : BitVec 32 := 1#32
  let v817 : BitVec 32 := Scalar.subi c1_i32_406 v707
  let v818 : BitVec 32 := Scalar.select v816 v707 v817
  let v819 : BitVec 32 := Scalar.addi v805 v818
  let c1_i32_663 : BitVec 32 := 1#32
  let v1262 : BitVec 32 := Scalar.muli v819 c1_i32_663
  let v1263 : BitVec 32 := Scalar.addi c0_i32_664 v1262
  v1263.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c16_i32_59 : BitVec 32 := 16#32
  let v132 : BitVec 32 := Scalar.muli v79 c16_i32_59
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c8_i32_60 : BitVec 32 := 8#32
  let v133 : BitVec 32 := Scalar.muli v106 c8_i32_60
  let v134 : BitVec 32 := Scalar.addi v132 v133
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c4_i32_61 : BitVec 32 := 4#32
  let v135 : BitVec 32 := Scalar.muli v69 c4_i32_61
  let v136 : BitVec 32 := Scalar.addi v134 v135
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let c2_i32_62 : BitVec 32 := 2#32
  let v137 : BitVec 32 := Scalar.muli v123 c2_i32_62
  let v138 : BitVec 32 := Scalar.addi v136 v137
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let v139 : BitVec 32 := Scalar.addi v138 v96
  let c0_i32_636 : BitVec 32 := 0#32
  let v1211 : BitVec 1 := Scalar.cmpi .sgt v139 c0_i32_636
  let v1212 : BitVec 32 := Scalar.extui v1211
  let c0_i32_637 : BitVec 32 := 0#32
  let v1213 : BitVec 1 := Scalar.cmpi .slt v139 c0_i32_637
  let v1214 : BitVec 32 := Scalar.extui v1213
  let v1215 : BitVec 32 := Scalar.subi v1212 v1214
  let c16_i32_635 : BitVec 32 := 16#32
  let c0_i32_638 : BitVec 32 := 0#32
  let v1216 : BitVec 1 := Scalar.cmpi .sgt c16_i32_635 c0_i32_638
  let v1217 : BitVec 32 := Scalar.extui v1216
  let c0_i32_639 : BitVec 32 := 0#32
  let v1218 : BitVec 1 := Scalar.cmpi .slt c16_i32_635 c0_i32_639
  let v1219 : BitVec 32 := Scalar.extui v1218
  let v1220 : BitVec 32 := Scalar.subi v1217 v1219
  let v1221 : BitVec 1 := Scalar.cmpi .ne v1215 v1220
  let v1222 : BitVec 32 := Scalar.remsi v139 c16_i32_635
  let c0_i32_640 : BitVec 32 := 0#32
  let v1223 : BitVec 1 := Scalar.cmpi .ne v1222 c0_i32_640
  let v1224 : BitVec 1 := Scalar.andi v1221 v1223
  let v1210 : BitVec 32 := Scalar.divsi v139 c16_i32_635
  let c1_i32_641 : BitVec 32 := 1#32
  let v1225 : BitVec 32 := Scalar.subi v1210 c1_i32_641
  let v1226 : BitVec 32 := Scalar.select v1224 v1225 v1210
  let c16_i32_642 : BitVec 32 := 16#32
  let v1227 : BitVec 32 := Scalar.muli v1226 c16_i32_642
  let c1_i32_656 : BitVec 32 := 1#32
  let c0_i32_644 : BitVec 32 := 0#32
  let v1229 : BitVec 1 := Scalar.cmpi .sgt v139 c0_i32_644
  let v1230 : BitVec 32 := Scalar.extui v1229
  let c0_i32_645 : BitVec 32 := 0#32
  let v1231 : BitVec 1 := Scalar.cmpi .slt v139 c0_i32_645
  let v1232 : BitVec 32 := Scalar.extui v1231
  let v1233 : BitVec 32 := Scalar.subi v1230 v1232
  let c8_i32_643 : BitVec 32 := 8#32
  let c0_i32_646 : BitVec 32 := 0#32
  let v1234 : BitVec 1 := Scalar.cmpi .sgt c8_i32_643 c0_i32_646
  let v1235 : BitVec 32 := Scalar.extui v1234
  let c0_i32_647 : BitVec 32 := 0#32
  let v1236 : BitVec 1 := Scalar.cmpi .slt c8_i32_643 c0_i32_647
  let v1237 : BitVec 32 := Scalar.extui v1236
  let v1238 : BitVec 32 := Scalar.subi v1235 v1237
  let v1239 : BitVec 1 := Scalar.cmpi .ne v1233 v1238
  let v1240 : BitVec 32 := Scalar.remsi v139 c8_i32_643
  let c0_i32_648 : BitVec 32 := 0#32
  let v1241 : BitVec 1 := Scalar.cmpi .ne v1240 c0_i32_648
  let v1242 : BitVec 1 := Scalar.andi v1239 v1241
  let v1228 : BitVec 32 := Scalar.divsi v139 c8_i32_643
  let c1_i32_649 : BitVec 32 := 1#32
  let v1243 : BitVec 32 := Scalar.subi v1228 c1_i32_649
  let v1244 : BitVec 32 := Scalar.select v1242 v1243 v1228
  let c2_i32_650 : BitVec 32 := 2#32
  let c0_i32_651 : BitVec 32 := 0#32
  let v1245 : BitVec 1 := Scalar.cmpi .eq c2_i32_650 c0_i32_651
  let c1_i32_652 : BitVec 32 := 1#32
  let v1246 : BitVec 32 := Scalar.select v1245 c1_i32_652 c2_i32_650
  let v1247 : BitVec 32 := Scalar.remsi v1244 v1246
  let c0_i32_654 : BitVec 32 := 0#32
  let v1249 : BitVec 1 := Scalar.cmpi .slt v1247 c0_i32_654
  let c0_i32_655 : BitVec 32 := 0#32
  let v1250 : BitVec 1 := Scalar.cmpi .slt v1246 c0_i32_655
  let v1251 : BitVec 1 := Scalar.xori v1249 v1250
  let c0_i32_653 : BitVec 32 := 0#32
  let v1248 : BitVec 1 := Scalar.cmpi .ne v1247 c0_i32_653
  let v1252 : BitVec 1 := Scalar.andi v1251 v1248
  let v1253 : BitVec 32 := Scalar.addi v1247 v1246
  let v1254 : BitVec 32 := Scalar.select v1252 v1253 v1247
  let v1255 : BitVec 32 := Scalar.subi c1_i32_656 v1254
  let c8_i32_657 : BitVec 32 := 8#32
  let v1256 : BitVec 32 := Scalar.muli v1255 c8_i32_657
  let v1257 : BitVec 32 := Scalar.addi v1227 v1256
  let c16_i32_658 : BitVec 32 := 16#32
  let v1258 : BitVec 32 := Scalar.muli v1257 c16_i32_658
  let c256_i32_674 : BitVec 32 := 256#32
  ![v1258.toNat, 256]
def k0_dev9 (d0 : Dev nD) : Nat :=
  let c0_i32_671 : BitVec 32 := 0#32
  let c2_i32_310 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_249 : BitVec 32 := 1#32
  let c2_i32_248 : BitVec 32 := 2#32
  let c0_i32_236 : BitVec 32 := 0#32
  let v481 : BitVec 1 := Scalar.cmpi .sgt v131 c0_i32_236
  let v482 : BitVec 32 := Scalar.extui v481
  let c0_i32_237 : BitVec 32 := 0#32
  let v483 : BitVec 1 := Scalar.cmpi .slt v131 c0_i32_237
  let v484 : BitVec 32 := Scalar.extui v483
  let v485 : BitVec 32 := Scalar.subi v482 v484
  let c4_i32_235 : BitVec 32 := 4#32
  let c0_i32_238 : BitVec 32 := 0#32
  let v486 : BitVec 1 := Scalar.cmpi .sgt c4_i32_235 c0_i32_238
  let v487 : BitVec 32 := Scalar.extui v486
  let c0_i32_239 : BitVec 32 := 0#32
  let v488 : BitVec 1 := Scalar.cmpi .slt c4_i32_235 c0_i32_239
  let v489 : BitVec 32 := Scalar.extui v488
  let v490 : BitVec 32 := Scalar.subi v487 v489
  let v491 : BitVec 1 := Scalar.cmpi .ne v485 v490
  let v492 : BitVec 32 := Scalar.remsi v131 c4_i32_235
  let c0_i32_240 : BitVec 32 := 0#32
  let v493 : BitVec 1 := Scalar.cmpi .ne v492 c0_i32_240
  let v494 : BitVec 1 := Scalar.andi v491 v493
  let v480 : BitVec 32 := Scalar.divsi v131 c4_i32_235
  let c1_i32_241 : BitVec 32 := 1#32
  let v495 : BitVec 32 := Scalar.subi v480 c1_i32_241
  let v496 : BitVec 32 := Scalar.select v494 v495 v480
  let c2_i32_242 : BitVec 32 := 2#32
  let c0_i32_243 : BitVec 32 := 0#32
  let v497 : BitVec 1 := Scalar.cmpi .eq c2_i32_242 c0_i32_243
  let c1_i32_244 : BitVec 32 := 1#32
  let v498 : BitVec 32 := Scalar.select v497 c1_i32_244 c2_i32_242
  let v499 : BitVec 32 := Scalar.remsi v496 v498
  let c0_i32_246 : BitVec 32 := 0#32
  let v501 : BitVec 1 := Scalar.cmpi .slt v499 c0_i32_246
  let c0_i32_247 : BitVec 32 := 0#32
  let v502 : BitVec 1 := Scalar.cmpi .slt v498 c0_i32_247
  let v503 : BitVec 1 := Scalar.xori v501 v502
  let c0_i32_245 : BitVec 32 := 0#32
  let v500 : BitVec 1 := Scalar.cmpi .ne v499 c0_i32_245
  let v504 : BitVec 1 := Scalar.andi v503 v500
  let v505 : BitVec 32 := Scalar.addi v499 v498
  let v506 : BitVec 32 := Scalar.select v504 v505 v499
  let v507 : BitVec 32 := Scalar.muli c2_i32_248 v506
  let v508 : BitVec 32 := Scalar.subi c1_i32_249 v507
  let c4_i32_250 : BitVec 32 := 4#32
  let v509 : BitVec 32 := Scalar.muli v508 c4_i32_250
  let v510 : BitVec 32 := Scalar.addi v131 v509
  let c2_i32_303 : BitVec 32 := 2#32
  let c0_i32_304 : BitVec 32 := 0#32
  let v619 : BitVec 1 := Scalar.cmpi .eq c2_i32_303 c0_i32_304
  let c1_i32_305 : BitVec 32 := 1#32
  let v620 : BitVec 32 := Scalar.select v619 c1_i32_305 c2_i32_303
  let v621 : BitVec 32 := Scalar.remsi v510 v620
  let c0_i32_307 : BitVec 32 := 0#32
  let v623 : BitVec 1 := Scalar.cmpi .slt v621 c0_i32_307
  let c0_i32_308 : BitVec 32 := 0#32
  let v624 : BitVec 1 := Scalar.cmpi .slt v620 c0_i32_308
  let v625 : BitVec 1 := Scalar.xori v623 v624
  let c0_i32_306 : BitVec 32 := 0#32
  let v622 : BitVec 1 := Scalar.cmpi .ne v621 c0_i32_306
  let v626 : BitVec 1 := Scalar.andi v625 v622
  let v627 : BitVec 32 := Scalar.addi v621 v620
  let v628 : BitVec 32 := Scalar.select v626 v627 v621
  let v631 : BitVec 32 := Scalar.muli c2_i32_310 v628
  let c0_i32_278 : BitVec 32 := 0#32
  let v566 : BitVec 1 := Scalar.cmpi .sgt v510 c0_i32_278
  let v567 : BitVec 32 := Scalar.extui v566
  let c0_i32_279 : BitVec 32 := 0#32
  let v568 : BitVec 1 := Scalar.cmpi .slt v510 c0_i32_279
  let v569 : BitVec 32 := Scalar.extui v568
  let v570 : BitVec 32 := Scalar.subi v567 v569
  let c4_i32_277 : BitVec 32 := 4#32
  let c0_i32_280 : BitVec 32 := 0#32
  let v571 : BitVec 1 := Scalar.cmpi .sgt c4_i32_277 c0_i32_280
  let v572 : BitVec 32 := Scalar.extui v571
  let c0_i32_281 : BitVec 32 := 0#32
  let v573 : BitVec 1 := Scalar.cmpi .slt c4_i32_277 c0_i32_281
  let v574 : BitVec 32 := Scalar.extui v573
  let v575 : BitVec 32 := Scalar.subi v572 v574
  let v576 : BitVec 1 := Scalar.cmpi .ne v570 v575
  let v577 : BitVec 32 := Scalar.remsi v510 c4_i32_277
  let c0_i32_282 : BitVec 32 := 0#32
  let v578 : BitVec 1 := Scalar.cmpi .ne v577 c0_i32_282
  let v579 : BitVec 1 := Scalar.andi v576 v578
  let v565 : BitVec 32 := Scalar.divsi v510 c4_i32_277
  let c1_i32_283 : BitVec 32 := 1#32
  let v580 : BitVec 32 := Scalar.subi v565 c1_i32_283
  let v581 : BitVec 32 := Scalar.select v579 v580 v565
  let c2_i32_284 : BitVec 32 := 2#32
  let c0_i32_285 : BitVec 32 := 0#32
  let v582 : BitVec 1 := Scalar.cmpi .eq c2_i32_284 c0_i32_285
  let c1_i32_286 : BitVec 32 := 1#32
  let v583 : BitVec 32 := Scalar.select v582 c1_i32_286 c2_i32_284
  let v584 : BitVec 32 := Scalar.remsi v581 v583
  let c0_i32_288 : BitVec 32 := 0#32
  let v586 : BitVec 1 := Scalar.cmpi .slt v584 c0_i32_288
  let c0_i32_289 : BitVec 32 := 0#32
  let v587 : BitVec 1 := Scalar.cmpi .slt v583 c0_i32_289
  let v588 : BitVec 1 := Scalar.xori v586 v587
  let c0_i32_287 : BitVec 32 := 0#32
  let v585 : BitVec 1 := Scalar.cmpi .ne v584 c0_i32_287
  let v589 : BitVec 1 := Scalar.andi v588 v585
  let v590 : BitVec 32 := Scalar.addi v584 v583
  let v591 : BitVec 32 := Scalar.select v589 v590 v584
  let v632 : BitVec 32 := Scalar.addi v631 v591
  let c8_i32_311 : BitVec 32 := 8#32
  let v633 : BitVec 32 := Scalar.muli v632 c8_i32_311
  let c2_i32_309 : BitVec 32 := 2#32
  let c0_i32_291 : BitVec 32 := 0#32
  let v593 : BitVec 1 := Scalar.cmpi .sgt v510 c0_i32_291
  let v594 : BitVec 32 := Scalar.extui v593
  let c0_i32_292 : BitVec 32 := 0#32
  let v595 : BitVec 1 := Scalar.cmpi .slt v510 c0_i32_292
  let v596 : BitVec 32 := Scalar.extui v595
  let v597 : BitVec 32 := Scalar.subi v594 v596
  let c2_i32_290 : BitVec 32 := 2#32
  let c0_i32_293 : BitVec 32 := 0#32
  let v598 : BitVec 1 := Scalar.cmpi .sgt c2_i32_290 c0_i32_293
  let v599 : BitVec 32 := Scalar.extui v598
  let c0_i32_294 : BitVec 32 := 0#32
  let v600 : BitVec 1 := Scalar.cmpi .slt c2_i32_290 c0_i32_294
  let v601 : BitVec 32 := Scalar.extui v600
  let v602 : BitVec 32 := Scalar.subi v599 v601
  let v603 : BitVec 1 := Scalar.cmpi .ne v597 v602
  let v604 : BitVec 32 := Scalar.remsi v510 c2_i32_290
  let c0_i32_295 : BitVec 32 := 0#32
  let v605 : BitVec 1 := Scalar.cmpi .ne v604 c0_i32_295
  let v606 : BitVec 1 := Scalar.andi v603 v605
  let v592 : BitVec 32 := Scalar.divsi v510 c2_i32_290
  let c1_i32_296 : BitVec 32 := 1#32
  let v607 : BitVec 32 := Scalar.subi v592 c1_i32_296
  let v608 : BitVec 32 := Scalar.select v606 v607 v592
  let c2_i32_297 : BitVec 32 := 2#32
  let c0_i32_298 : BitVec 32 := 0#32
  let v609 : BitVec 1 := Scalar.cmpi .eq c2_i32_297 c0_i32_298
  let c1_i32_299 : BitVec 32 := 1#32
  let v610 : BitVec 32 := Scalar.select v609 c1_i32_299 c2_i32_297
  let v611 : BitVec 32 := Scalar.remsi v608 v610
  let c0_i32_301 : BitVec 32 := 0#32
  let v613 : BitVec 1 := Scalar.cmpi .slt v611 c0_i32_301
  let c0_i32_302 : BitVec 32 := 0#32
  let v614 : BitVec 1 := Scalar.cmpi .slt v610 c0_i32_302
  let v615 : BitVec 1 := Scalar.xori v613 v614
  let c0_i32_300 : BitVec 32 := 0#32
  let v612 : BitVec 1 := Scalar.cmpi .ne v611 c0_i32_300
  let v616 : BitVec 1 := Scalar.andi v615 v612
  let v617 : BitVec 32 := Scalar.addi v611 v610
  let v618 : BitVec 32 := Scalar.select v616 v617 v611
  let v629 : BitVec 32 := Scalar.muli c2_i32_309 v618
  let c0_i32_265 : BitVec 32 := 0#32
  let v539 : BitVec 1 := Scalar.cmpi .sgt v510 c0_i32_265
  let v540 : BitVec 32 := Scalar.extui v539
  let c0_i32_266 : BitVec 32 := 0#32
  let v541 : BitVec 1 := Scalar.cmpi .slt v510 c0_i32_266
  let v542 : BitVec 32 := Scalar.extui v541
  let v543 : BitVec 32 := Scalar.subi v540 v542
  let c8_i32_264 : BitVec 32 := 8#32
  let c0_i32_267 : BitVec 32 := 0#32
  let v544 : BitVec 1 := Scalar.cmpi .sgt c8_i32_264 c0_i32_267
  let v545 : BitVec 32 := Scalar.extui v544
  let c0_i32_268 : BitVec 32 := 0#32
  let v546 : BitVec 1 := Scalar.cmpi .slt c8_i32_264 c0_i32_268
  let v547 : BitVec 32 := Scalar.extui v546
  let v548 : BitVec 32 := Scalar.subi v545 v547
  let v549 : BitVec 1 := Scalar.cmpi .ne v543 v548
  let v550 : BitVec 32 := Scalar.remsi v510 c8_i32_264
  let c0_i32_269 : BitVec 32 := 0#32
  let v551 : BitVec 1 := Scalar.cmpi .ne v550 c0_i32_269
  let v552 : BitVec 1 := Scalar.andi v549 v551
  let v538 : BitVec 32 := Scalar.divsi v510 c8_i32_264
  let c1_i32_270 : BitVec 32 := 1#32
  let v553 : BitVec 32 := Scalar.subi v538 c1_i32_270
  let v554 : BitVec 32 := Scalar.select v552 v553 v538
  let c2_i32_271 : BitVec 32 := 2#32
  let c0_i32_272 : BitVec 32 := 0#32
  let v555 : BitVec 1 := Scalar.cmpi .eq c2_i32_271 c0_i32_272
  let c1_i32_273 : BitVec 32 := 1#32
  let v556 : BitVec 32 := Scalar.select v555 c1_i32_273 c2_i32_271
  let v557 : BitVec 32 := Scalar.remsi v554 v556
  let c0_i32_275 : BitVec 32 := 0#32
  let v559 : BitVec 1 := Scalar.cmpi .slt v557 c0_i32_275
  let c0_i32_276 : BitVec 32 := 0#32
  let v560 : BitVec 1 := Scalar.cmpi .slt v556 c0_i32_276
  let v561 : BitVec 1 := Scalar.xori v559 v560
  let c0_i32_274 : BitVec 32 := 0#32
  let v558 : BitVec 1 := Scalar.cmpi .ne v557 c0_i32_274
  let v562 : BitVec 1 := Scalar.andi v561 v558
  let v563 : BitVec 32 := Scalar.addi v557 v556
  let v564 : BitVec 32 := Scalar.select v562 v563 v557
  let v630 : BitVec 32 := Scalar.addi v629 v564
  let c2_i32_312 : BitVec 32 := 2#32
  let v634 : BitVec 32 := Scalar.muli v630 c2_i32_312
  let v635 : BitVec 32 := Scalar.addi v633 v634
  let c2_i32_313 : BitVec 32 := 2#32
  let c0_i32_314 : BitVec 32 := 0#32
  let v636 : BitVec 1 := Scalar.cmpi .eq c2_i32_313 c0_i32_314
  let c1_i32_315 : BitVec 32 := 1#32
  let v637 : BitVec 32 := Scalar.select v636 c1_i32_315 c2_i32_313
  let v638 : BitVec 32 := Scalar.remsi v630 v637
  let c0_i32_317 : BitVec 32 := 0#32
  let v640 : BitVec 1 := Scalar.cmpi .slt v638 c0_i32_317
  let c0_i32_318 : BitVec 32 := 0#32
  let v641 : BitVec 1 := Scalar.cmpi .slt v637 c0_i32_318
  let v642 : BitVec 1 := Scalar.xori v640 v641
  let c0_i32_316 : BitVec 32 := 0#32
  let v639 : BitVec 1 := Scalar.cmpi .ne v638 c0_i32_316
  let v643 : BitVec 1 := Scalar.andi v642 v639
  let v644 : BitVec 32 := Scalar.addi v638 v637
  let v645 : BitVec 32 := Scalar.select v643 v644 v638
  let c0_i32_319 : BitVec 32 := 0#32
  let v646 : BitVec 1 := Scalar.cmpi .eq v645 c0_i32_319
  let c0_i32_252 : BitVec 32 := 0#32
  let v512 : BitVec 1 := Scalar.cmpi .sgt v510 c0_i32_252
  let v513 : BitVec 32 := Scalar.extui v512
  let c0_i32_253 : BitVec 32 := 0#32
  let v514 : BitVec 1 := Scalar.cmpi .slt v510 c0_i32_253
  let v515 : BitVec 32 := Scalar.extui v514
  let v516 : BitVec 32 := Scalar.subi v513 v515
  let c16_i32_251 : BitVec 32 := 16#32
  let c0_i32_254 : BitVec 32 := 0#32
  let v517 : BitVec 1 := Scalar.cmpi .sgt c16_i32_251 c0_i32_254
  let v518 : BitVec 32 := Scalar.extui v517
  let c0_i32_255 : BitVec 32 := 0#32
  let v519 : BitVec 1 := Scalar.cmpi .slt c16_i32_251 c0_i32_255
  let v520 : BitVec 32 := Scalar.extui v519
  let v521 : BitVec 32 := Scalar.subi v518 v520
  let v522 : BitVec 1 := Scalar.cmpi .ne v516 v521
  let v523 : BitVec 32 := Scalar.remsi v510 c16_i32_251
  let c0_i32_256 : BitVec 32 := 0#32
  let v524 : BitVec 1 := Scalar.cmpi .ne v523 c0_i32_256
  let v525 : BitVec 1 := Scalar.andi v522 v524
  let v511 : BitVec 32 := Scalar.divsi v510 c16_i32_251
  let c1_i32_257 : BitVec 32 := 1#32
  let v526 : BitVec 32 := Scalar.subi v511 c1_i32_257
  let v527 : BitVec 32 := Scalar.select v525 v526 v511
  let c2_i32_258 : BitVec 32 := 2#32
  let c0_i32_259 : BitVec 32 := 0#32
  let v528 : BitVec 1 := Scalar.cmpi .eq c2_i32_258 c0_i32_259
  let c1_i32_260 : BitVec 32 := 1#32
  let v529 : BitVec 32 := Scalar.select v528 c1_i32_260 c2_i32_258
  let v530 : BitVec 32 := Scalar.remsi v527 v529
  let c0_i32_262 : BitVec 32 := 0#32
  let v532 : BitVec 1 := Scalar.cmpi .slt v530 c0_i32_262
  let c0_i32_263 : BitVec 32 := 0#32
  let v533 : BitVec 1 := Scalar.cmpi .slt v529 c0_i32_263
  let v534 : BitVec 1 := Scalar.xori v532 v533
  let c0_i32_261 : BitVec 32 := 0#32
  let v531 : BitVec 1 := Scalar.cmpi .ne v530 c0_i32_261
  let v535 : BitVec 1 := Scalar.andi v534 v531
  let v536 : BitVec 32 := Scalar.addi v530 v529
  let v537 : BitVec 32 := Scalar.select v535 v536 v530
  let c1_i32_320 : BitVec 32 := 1#32
  let v647 : BitVec 32 := Scalar.subi c1_i32_320 v537
  let v648 : BitVec 32 := Scalar.select v646 v537 v647
  let v649 : BitVec 32 := Scalar.addi v635 v648
  let c1_i32_670 : BitVec 32 := 1#32
  let v1270 : BitVec 32 := Scalar.muli v649 c1_i32_670
  let v1271 : BitVec 32 := Scalar.addi c0_i32_671 v1270
  v1271.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c0_i32_610 : BitVec 32 := 0#32
  let v1159 : BitVec 1 := Scalar.cmpi .sgt v131 c0_i32_610
  let v1160 : BitVec 32 := Scalar.extui v1159
  let c0_i32_611 : BitVec 32 := 0#32
  let v1161 : BitVec 1 := Scalar.cmpi .slt v131 c0_i32_611
  let v1162 : BitVec 32 := Scalar.extui v1161
  let v1163 : BitVec 32 := Scalar.subi v1160 v1162
  let c16_i32_609 : BitVec 32 := 16#32
  let c0_i32_612 : BitVec 32 := 0#32
  let v1164 : BitVec 1 := Scalar.cmpi .sgt c16_i32_609 c0_i32_612
  let v1165 : BitVec 32 := Scalar.extui v1164
  let c0_i32_613 : BitVec 32 := 0#32
  let v1166 : BitVec 1 := Scalar.cmpi .slt c16_i32_609 c0_i32_613
  let v1167 : BitVec 32 := Scalar.extui v1166
  let v1168 : BitVec 32 := Scalar.subi v1165 v1167
  let v1169 : BitVec 1 := Scalar.cmpi .ne v1163 v1168
  let v1170 : BitVec 32 := Scalar.remsi v131 c16_i32_609
  let c0_i32_614 : BitVec 32 := 0#32
  let v1171 : BitVec 1 := Scalar.cmpi .ne v1170 c0_i32_614
  let v1172 : BitVec 1 := Scalar.andi v1169 v1171
  let v1158 : BitVec 32 := Scalar.divsi v131 c16_i32_609
  let c1_i32_615 : BitVec 32 := 1#32
  let v1173 : BitVec 32 := Scalar.subi v1158 c1_i32_615
  let v1174 : BitVec 32 := Scalar.select v1172 v1173 v1158
  let c16_i32_616 : BitVec 32 := 16#32
  let v1175 : BitVec 32 := Scalar.muli v1174 c16_i32_616
  let c0_i32_618 : BitVec 32 := 0#32
  let v1177 : BitVec 1 := Scalar.cmpi .sgt v131 c0_i32_618
  let v1178 : BitVec 32 := Scalar.extui v1177
  let c0_i32_619 : BitVec 32 := 0#32
  let v1179 : BitVec 1 := Scalar.cmpi .slt v131 c0_i32_619
  let v1180 : BitVec 32 := Scalar.extui v1179
  let v1181 : BitVec 32 := Scalar.subi v1178 v1180
  let c8_i32_617 : BitVec 32 := 8#32
  let c0_i32_620 : BitVec 32 := 0#32
  let v1182 : BitVec 1 := Scalar.cmpi .sgt c8_i32_617 c0_i32_620
  let v1183 : BitVec 32 := Scalar.extui v1182
  let c0_i32_621 : BitVec 32 := 0#32
  let v1184 : BitVec 1 := Scalar.cmpi .slt c8_i32_617 c0_i32_621
  let v1185 : BitVec 32 := Scalar.extui v1184
  let v1186 : BitVec 32 := Scalar.subi v1183 v1185
  let v1187 : BitVec 1 := Scalar.cmpi .ne v1181 v1186
  let v1188 : BitVec 32 := Scalar.remsi v131 c8_i32_617
  let c0_i32_622 : BitVec 32 := 0#32
  let v1189 : BitVec 1 := Scalar.cmpi .ne v1188 c0_i32_622
  let v1190 : BitVec 1 := Scalar.andi v1187 v1189
  let v1176 : BitVec 32 := Scalar.divsi v131 c8_i32_617
  let c1_i32_623 : BitVec 32 := 1#32
  let v1191 : BitVec 32 := Scalar.subi v1176 c1_i32_623
  let v1192 : BitVec 32 := Scalar.select v1190 v1191 v1176
  let c2_i32_624 : BitVec 32 := 2#32
  let c0_i32_625 : BitVec 32 := 0#32
  let v1193 : BitVec 1 := Scalar.cmpi .eq c2_i32_624 c0_i32_625
  let c1_i32_626 : BitVec 32 := 1#32
  let v1194 : BitVec 32 := Scalar.select v1193 c1_i32_626 c2_i32_624
  let v1195 : BitVec 32 := Scalar.remsi v1192 v1194
  let c0_i32_628 : BitVec 32 := 0#32
  let v1197 : BitVec 1 := Scalar.cmpi .slt v1195 c0_i32_628
  let c0_i32_629 : BitVec 32 := 0#32
  let v1198 : BitVec 1 := Scalar.cmpi .slt v1194 c0_i32_629
  let v1199 : BitVec 1 := Scalar.xori v1197 v1198
  let c0_i32_627 : BitVec 32 := 0#32
  let v1196 : BitVec 1 := Scalar.cmpi .ne v1195 c0_i32_627
  let v1200 : BitVec 1 := Scalar.andi v1199 v1196
  let v1201 : BitVec 32 := Scalar.addi v1195 v1194
  let v1202 : BitVec 32 := Scalar.select v1200 v1201 v1195
  let c8_i32_633 : BitVec 32 := 8#32
  let v1207 : BitVec 32 := Scalar.muli v1202 c8_i32_633
  let v1208 : BitVec 32 := Scalar.addi v1175 v1207
  let c16_i32_634 : BitVec 32 := 16#32
  let v1209 : BitVec 32 := Scalar.muli v1208 c16_i32_634
  let v1288 : Index := Scalar.indexCast v1209
  let c0_688 : Index := 0#32
  ![v1288.toNat, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c16_i32_59 : BitVec 32 := 16#32
  let v132 : BitVec 32 := Scalar.muli v79 c16_i32_59
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c8_i32_60 : BitVec 32 := 8#32
  let v133 : BitVec 32 := Scalar.muli v106 c8_i32_60
  let v134 : BitVec 32 := Scalar.addi v132 v133
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c4_i32_61 : BitVec 32 := 4#32
  let v135 : BitVec 32 := Scalar.muli v69 c4_i32_61
  let v136 : BitVec 32 := Scalar.addi v134 v135
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let c2_i32_62 : BitVec 32 := 2#32
  let v137 : BitVec 32 := Scalar.muli v123 c2_i32_62
  let v138 : BitVec 32 := Scalar.addi v136 v137
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let v139 : BitVec 32 := Scalar.addi v138 v96
  let c0_i32_636 : BitVec 32 := 0#32
  let v1211 : BitVec 1 := Scalar.cmpi .sgt v139 c0_i32_636
  let v1212 : BitVec 32 := Scalar.extui v1211
  let c0_i32_637 : BitVec 32 := 0#32
  let v1213 : BitVec 1 := Scalar.cmpi .slt v139 c0_i32_637
  let v1214 : BitVec 32 := Scalar.extui v1213
  let v1215 : BitVec 32 := Scalar.subi v1212 v1214
  let c16_i32_635 : BitVec 32 := 16#32
  let c0_i32_638 : BitVec 32 := 0#32
  let v1216 : BitVec 1 := Scalar.cmpi .sgt c16_i32_635 c0_i32_638
  let v1217 : BitVec 32 := Scalar.extui v1216
  let c0_i32_639 : BitVec 32 := 0#32
  let v1218 : BitVec 1 := Scalar.cmpi .slt c16_i32_635 c0_i32_639
  let v1219 : BitVec 32 := Scalar.extui v1218
  let v1220 : BitVec 32 := Scalar.subi v1217 v1219
  let v1221 : BitVec 1 := Scalar.cmpi .ne v1215 v1220
  let v1222 : BitVec 32 := Scalar.remsi v139 c16_i32_635
  let c0_i32_640 : BitVec 32 := 0#32
  let v1223 : BitVec 1 := Scalar.cmpi .ne v1222 c0_i32_640
  let v1224 : BitVec 1 := Scalar.andi v1221 v1223
  let v1210 : BitVec 32 := Scalar.divsi v139 c16_i32_635
  let c1_i32_641 : BitVec 32 := 1#32
  let v1225 : BitVec 32 := Scalar.subi v1210 c1_i32_641
  let v1226 : BitVec 32 := Scalar.select v1224 v1225 v1210
  let c16_i32_642 : BitVec 32 := 16#32
  let v1227 : BitVec 32 := Scalar.muli v1226 c16_i32_642
  let c0_i32_644 : BitVec 32 := 0#32
  let v1229 : BitVec 1 := Scalar.cmpi .sgt v139 c0_i32_644
  let v1230 : BitVec 32 := Scalar.extui v1229
  let c0_i32_645 : BitVec 32 := 0#32
  let v1231 : BitVec 1 := Scalar.cmpi .slt v139 c0_i32_645
  let v1232 : BitVec 32 := Scalar.extui v1231
  let v1233 : BitVec 32 := Scalar.subi v1230 v1232
  let c8_i32_643 : BitVec 32 := 8#32
  let c0_i32_646 : BitVec 32 := 0#32
  let v1234 : BitVec 1 := Scalar.cmpi .sgt c8_i32_643 c0_i32_646
  let v1235 : BitVec 32 := Scalar.extui v1234
  let c0_i32_647 : BitVec 32 := 0#32
  let v1236 : BitVec 1 := Scalar.cmpi .slt c8_i32_643 c0_i32_647
  let v1237 : BitVec 32 := Scalar.extui v1236
  let v1238 : BitVec 32 := Scalar.subi v1235 v1237
  let v1239 : BitVec 1 := Scalar.cmpi .ne v1233 v1238
  let v1240 : BitVec 32 := Scalar.remsi v139 c8_i32_643
  let c0_i32_648 : BitVec 32 := 0#32
  let v1241 : BitVec 1 := Scalar.cmpi .ne v1240 c0_i32_648
  let v1242 : BitVec 1 := Scalar.andi v1239 v1241
  let v1228 : BitVec 32 := Scalar.divsi v139 c8_i32_643
  let c1_i32_649 : BitVec 32 := 1#32
  let v1243 : BitVec 32 := Scalar.subi v1228 c1_i32_649
  let v1244 : BitVec 32 := Scalar.select v1242 v1243 v1228
  let c2_i32_650 : BitVec 32 := 2#32
  let c0_i32_651 : BitVec 32 := 0#32
  let v1245 : BitVec 1 := Scalar.cmpi .eq c2_i32_650 c0_i32_651
  let c1_i32_652 : BitVec 32 := 1#32
  let v1246 : BitVec 32 := Scalar.select v1245 c1_i32_652 c2_i32_650
  let v1247 : BitVec 32 := Scalar.remsi v1244 v1246
  let c0_i32_654 : BitVec 32 := 0#32
  let v1249 : BitVec 1 := Scalar.cmpi .slt v1247 c0_i32_654
  let c0_i32_655 : BitVec 32 := 0#32
  let v1250 : BitVec 1 := Scalar.cmpi .slt v1246 c0_i32_655
  let v1251 : BitVec 1 := Scalar.xori v1249 v1250
  let c0_i32_653 : BitVec 32 := 0#32
  let v1248 : BitVec 1 := Scalar.cmpi .ne v1247 c0_i32_653
  let v1252 : BitVec 1 := Scalar.andi v1251 v1248
  let v1253 : BitVec 32 := Scalar.addi v1247 v1246
  let v1254 : BitVec 32 := Scalar.select v1252 v1253 v1247
  let c8_i32_659 : BitVec 32 := 8#32
  let v1259 : BitVec 32 := Scalar.muli v1254 c8_i32_659
  let v1260 : BitVec 32 := Scalar.addi v1227 v1259
  let c16_i32_660 : BitVec 32 := 16#32
  let v1261 : BitVec 32 := Scalar.muli v1260 c16_i32_660
  let v1305 : Index := Scalar.indexCast v1261
  let c256_705 : Index := 256#32
  ![v1305.toNat, 256]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c0_i32_710 : BitVec 32 := 0#32
  let v1313 : BitVec 1 := Scalar.cmpi .sgt v131 c0_i32_710
  let v1314 : BitVec 32 := Scalar.extui v1313
  let c0_i32_711 : BitVec 32 := 0#32
  let v1315 : BitVec 1 := Scalar.cmpi .slt v131 c0_i32_711
  let v1316 : BitVec 32 := Scalar.extui v1315
  let v1317 : BitVec 32 := Scalar.subi v1314 v1316
  let c8_i32_709 : BitVec 32 := 8#32
  let c0_i32_712 : BitVec 32 := 0#32
  let v1318 : BitVec 1 := Scalar.cmpi .sgt c8_i32_709 c0_i32_712
  let v1319 : BitVec 32 := Scalar.extui v1318
  let c0_i32_713 : BitVec 32 := 0#32
  let v1320 : BitVec 1 := Scalar.cmpi .slt c8_i32_709 c0_i32_713
  let v1321 : BitVec 32 := Scalar.extui v1320
  let v1322 : BitVec 32 := Scalar.subi v1319 v1321
  let v1323 : BitVec 1 := Scalar.cmpi .ne v1317 v1322
  let v1324 : BitVec 32 := Scalar.remsi v131 c8_i32_709
  let c0_i32_714 : BitVec 32 := 0#32
  let v1325 : BitVec 1 := Scalar.cmpi .ne v1324 c0_i32_714
  let v1326 : BitVec 1 := Scalar.andi v1323 v1325
  let v1312 : BitVec 32 := Scalar.divsi v131 c8_i32_709
  let c1_i32_715 : BitVec 32 := 1#32
  let v1327 : BitVec 32 := Scalar.subi v1312 c1_i32_715
  let v1328 : BitVec 32 := Scalar.select v1326 v1327 v1312
  let c8_i32_716 : BitVec 32 := 8#32
  let v1329 : BitVec 32 := Scalar.muli v1328 c8_i32_716
  let c1_i32_730 : BitVec 32 := 1#32
  let c0_i32_718 : BitVec 32 := 0#32
  let v1331 : BitVec 1 := Scalar.cmpi .sgt v131 c0_i32_718
  let v1332 : BitVec 32 := Scalar.extui v1331
  let c0_i32_719 : BitVec 32 := 0#32
  let v1333 : BitVec 1 := Scalar.cmpi .slt v131 c0_i32_719
  let v1334 : BitVec 32 := Scalar.extui v1333
  let v1335 : BitVec 32 := Scalar.subi v1332 v1334
  let c4_i32_717 : BitVec 32 := 4#32
  let c0_i32_720 : BitVec 32 := 0#32
  let v1336 : BitVec 1 := Scalar.cmpi .sgt c4_i32_717 c0_i32_720
  let v1337 : BitVec 32 := Scalar.extui v1336
  let c0_i32_721 : BitVec 32 := 0#32
  let v1338 : BitVec 1 := Scalar.cmpi .slt c4_i32_717 c0_i32_721
  let v1339 : BitVec 32 := Scalar.extui v1338
  let v1340 : BitVec 32 := Scalar.subi v1337 v1339
  let v1341 : BitVec 1 := Scalar.cmpi .ne v1335 v1340
  let v1342 : BitVec 32 := Scalar.remsi v131 c4_i32_717
  let c0_i32_722 : BitVec 32 := 0#32
  let v1343 : BitVec 1 := Scalar.cmpi .ne v1342 c0_i32_722
  let v1344 : BitVec 1 := Scalar.andi v1341 v1343
  let v1330 : BitVec 32 := Scalar.divsi v131 c4_i32_717
  let c1_i32_723 : BitVec 32 := 1#32
  let v1345 : BitVec 32 := Scalar.subi v1330 c1_i32_723
  let v1346 : BitVec 32 := Scalar.select v1344 v1345 v1330
  let c2_i32_724 : BitVec 32 := 2#32
  let c0_i32_725 : BitVec 32 := 0#32
  let v1347 : BitVec 1 := Scalar.cmpi .eq c2_i32_724 c0_i32_725
  let c1_i32_726 : BitVec 32 := 1#32
  let v1348 : BitVec 32 := Scalar.select v1347 c1_i32_726 c2_i32_724
  let v1349 : BitVec 32 := Scalar.remsi v1346 v1348
  let c0_i32_728 : BitVec 32 := 0#32
  let v1351 : BitVec 1 := Scalar.cmpi .slt v1349 c0_i32_728
  let c0_i32_729 : BitVec 32 := 0#32
  let v1352 : BitVec 1 := Scalar.cmpi .slt v1348 c0_i32_729
  let v1353 : BitVec 1 := Scalar.xori v1351 v1352
  let c0_i32_727 : BitVec 32 := 0#32
  let v1350 : BitVec 1 := Scalar.cmpi .ne v1349 c0_i32_727
  let v1354 : BitVec 1 := Scalar.andi v1353 v1350
  let v1355 : BitVec 32 := Scalar.addi v1349 v1348
  let v1356 : BitVec 32 := Scalar.select v1354 v1355 v1349
  let v1357 : BitVec 32 := Scalar.subi c1_i32_730 v1356
  let c4_i32_731 : BitVec 32 := 4#32
  let v1358 : BitVec 32 := Scalar.muli v1357 c4_i32_731
  let v1359 : BitVec 32 := Scalar.addi v1329 v1358
  let c16_i32_732 : BitVec 32 := 16#32
  let v1360 : BitVec 32 := Scalar.muli v1359 c16_i32_732
  let c0_i32_766 : BitVec 32 := 0#32
  ![v1360.toNat, 0]
def k0_dev10 (d0 : Dev nD) : Nat :=
  let c0_i32_764 : BitVec 32 := 0#32
  let c2_i32_310 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_249 : BitVec 32 := 1#32
  let c2_i32_248 : BitVec 32 := 2#32
  let c0_i32_236 : BitVec 32 := 0#32
  let v481 : BitVec 1 := Scalar.cmpi .sgt v131 c0_i32_236
  let v482 : BitVec 32 := Scalar.extui v481
  let c0_i32_237 : BitVec 32 := 0#32
  let v483 : BitVec 1 := Scalar.cmpi .slt v131 c0_i32_237
  let v484 : BitVec 32 := Scalar.extui v483
  let v485 : BitVec 32 := Scalar.subi v482 v484
  let c4_i32_235 : BitVec 32 := 4#32
  let c0_i32_238 : BitVec 32 := 0#32
  let v486 : BitVec 1 := Scalar.cmpi .sgt c4_i32_235 c0_i32_238
  let v487 : BitVec 32 := Scalar.extui v486
  let c0_i32_239 : BitVec 32 := 0#32
  let v488 : BitVec 1 := Scalar.cmpi .slt c4_i32_235 c0_i32_239
  let v489 : BitVec 32 := Scalar.extui v488
  let v490 : BitVec 32 := Scalar.subi v487 v489
  let v491 : BitVec 1 := Scalar.cmpi .ne v485 v490
  let v492 : BitVec 32 := Scalar.remsi v131 c4_i32_235
  let c0_i32_240 : BitVec 32 := 0#32
  let v493 : BitVec 1 := Scalar.cmpi .ne v492 c0_i32_240
  let v494 : BitVec 1 := Scalar.andi v491 v493
  let v480 : BitVec 32 := Scalar.divsi v131 c4_i32_235
  let c1_i32_241 : BitVec 32 := 1#32
  let v495 : BitVec 32 := Scalar.subi v480 c1_i32_241
  let v496 : BitVec 32 := Scalar.select v494 v495 v480
  let c2_i32_242 : BitVec 32 := 2#32
  let c0_i32_243 : BitVec 32 := 0#32
  let v497 : BitVec 1 := Scalar.cmpi .eq c2_i32_242 c0_i32_243
  let c1_i32_244 : BitVec 32 := 1#32
  let v498 : BitVec 32 := Scalar.select v497 c1_i32_244 c2_i32_242
  let v499 : BitVec 32 := Scalar.remsi v496 v498
  let c0_i32_246 : BitVec 32 := 0#32
  let v501 : BitVec 1 := Scalar.cmpi .slt v499 c0_i32_246
  let c0_i32_247 : BitVec 32 := 0#32
  let v502 : BitVec 1 := Scalar.cmpi .slt v498 c0_i32_247
  let v503 : BitVec 1 := Scalar.xori v501 v502
  let c0_i32_245 : BitVec 32 := 0#32
  let v500 : BitVec 1 := Scalar.cmpi .ne v499 c0_i32_245
  let v504 : BitVec 1 := Scalar.andi v503 v500
  let v505 : BitVec 32 := Scalar.addi v499 v498
  let v506 : BitVec 32 := Scalar.select v504 v505 v499
  let v507 : BitVec 32 := Scalar.muli c2_i32_248 v506
  let v508 : BitVec 32 := Scalar.subi c1_i32_249 v507
  let c4_i32_250 : BitVec 32 := 4#32
  let v509 : BitVec 32 := Scalar.muli v508 c4_i32_250
  let v510 : BitVec 32 := Scalar.addi v131 v509
  let c2_i32_303 : BitVec 32 := 2#32
  let c0_i32_304 : BitVec 32 := 0#32
  let v619 : BitVec 1 := Scalar.cmpi .eq c2_i32_303 c0_i32_304
  let c1_i32_305 : BitVec 32 := 1#32
  let v620 : BitVec 32 := Scalar.select v619 c1_i32_305 c2_i32_303
  let v621 : BitVec 32 := Scalar.remsi v510 v620
  let c0_i32_307 : BitVec 32 := 0#32
  let v623 : BitVec 1 := Scalar.cmpi .slt v621 c0_i32_307
  let c0_i32_308 : BitVec 32 := 0#32
  let v624 : BitVec 1 := Scalar.cmpi .slt v620 c0_i32_308
  let v625 : BitVec 1 := Scalar.xori v623 v624
  let c0_i32_306 : BitVec 32 := 0#32
  let v622 : BitVec 1 := Scalar.cmpi .ne v621 c0_i32_306
  let v626 : BitVec 1 := Scalar.andi v625 v622
  let v627 : BitVec 32 := Scalar.addi v621 v620
  let v628 : BitVec 32 := Scalar.select v626 v627 v621
  let v631 : BitVec 32 := Scalar.muli c2_i32_310 v628
  let c0_i32_278 : BitVec 32 := 0#32
  let v566 : BitVec 1 := Scalar.cmpi .sgt v510 c0_i32_278
  let v567 : BitVec 32 := Scalar.extui v566
  let c0_i32_279 : BitVec 32 := 0#32
  let v568 : BitVec 1 := Scalar.cmpi .slt v510 c0_i32_279
  let v569 : BitVec 32 := Scalar.extui v568
  let v570 : BitVec 32 := Scalar.subi v567 v569
  let c4_i32_277 : BitVec 32 := 4#32
  let c0_i32_280 : BitVec 32 := 0#32
  let v571 : BitVec 1 := Scalar.cmpi .sgt c4_i32_277 c0_i32_280
  let v572 : BitVec 32 := Scalar.extui v571
  let c0_i32_281 : BitVec 32 := 0#32
  let v573 : BitVec 1 := Scalar.cmpi .slt c4_i32_277 c0_i32_281
  let v574 : BitVec 32 := Scalar.extui v573
  let v575 : BitVec 32 := Scalar.subi v572 v574
  let v576 : BitVec 1 := Scalar.cmpi .ne v570 v575
  let v577 : BitVec 32 := Scalar.remsi v510 c4_i32_277
  let c0_i32_282 : BitVec 32 := 0#32
  let v578 : BitVec 1 := Scalar.cmpi .ne v577 c0_i32_282
  let v579 : BitVec 1 := Scalar.andi v576 v578
  let v565 : BitVec 32 := Scalar.divsi v510 c4_i32_277
  let c1_i32_283 : BitVec 32 := 1#32
  let v580 : BitVec 32 := Scalar.subi v565 c1_i32_283
  let v581 : BitVec 32 := Scalar.select v579 v580 v565
  let c2_i32_284 : BitVec 32 := 2#32
  let c0_i32_285 : BitVec 32 := 0#32
  let v582 : BitVec 1 := Scalar.cmpi .eq c2_i32_284 c0_i32_285
  let c1_i32_286 : BitVec 32 := 1#32
  let v583 : BitVec 32 := Scalar.select v582 c1_i32_286 c2_i32_284
  let v584 : BitVec 32 := Scalar.remsi v581 v583
  let c0_i32_288 : BitVec 32 := 0#32
  let v586 : BitVec 1 := Scalar.cmpi .slt v584 c0_i32_288
  let c0_i32_289 : BitVec 32 := 0#32
  let v587 : BitVec 1 := Scalar.cmpi .slt v583 c0_i32_289
  let v588 : BitVec 1 := Scalar.xori v586 v587
  let c0_i32_287 : BitVec 32 := 0#32
  let v585 : BitVec 1 := Scalar.cmpi .ne v584 c0_i32_287
  let v589 : BitVec 1 := Scalar.andi v588 v585
  let v590 : BitVec 32 := Scalar.addi v584 v583
  let v591 : BitVec 32 := Scalar.select v589 v590 v584
  let v632 : BitVec 32 := Scalar.addi v631 v591
  let c8_i32_311 : BitVec 32 := 8#32
  let v633 : BitVec 32 := Scalar.muli v632 c8_i32_311
  let c2_i32_309 : BitVec 32 := 2#32
  let c0_i32_291 : BitVec 32 := 0#32
  let v593 : BitVec 1 := Scalar.cmpi .sgt v510 c0_i32_291
  let v594 : BitVec 32 := Scalar.extui v593
  let c0_i32_292 : BitVec 32 := 0#32
  let v595 : BitVec 1 := Scalar.cmpi .slt v510 c0_i32_292
  let v596 : BitVec 32 := Scalar.extui v595
  let v597 : BitVec 32 := Scalar.subi v594 v596
  let c2_i32_290 : BitVec 32 := 2#32
  let c0_i32_293 : BitVec 32 := 0#32
  let v598 : BitVec 1 := Scalar.cmpi .sgt c2_i32_290 c0_i32_293
  let v599 : BitVec 32 := Scalar.extui v598
  let c0_i32_294 : BitVec 32 := 0#32
  let v600 : BitVec 1 := Scalar.cmpi .slt c2_i32_290 c0_i32_294
  let v601 : BitVec 32 := Scalar.extui v600
  let v602 : BitVec 32 := Scalar.subi v599 v601
  let v603 : BitVec 1 := Scalar.cmpi .ne v597 v602
  let v604 : BitVec 32 := Scalar.remsi v510 c2_i32_290
  let c0_i32_295 : BitVec 32 := 0#32
  let v605 : BitVec 1 := Scalar.cmpi .ne v604 c0_i32_295
  let v606 : BitVec 1 := Scalar.andi v603 v605
  let v592 : BitVec 32 := Scalar.divsi v510 c2_i32_290
  let c1_i32_296 : BitVec 32 := 1#32
  let v607 : BitVec 32 := Scalar.subi v592 c1_i32_296
  let v608 : BitVec 32 := Scalar.select v606 v607 v592
  let c2_i32_297 : BitVec 32 := 2#32
  let c0_i32_298 : BitVec 32 := 0#32
  let v609 : BitVec 1 := Scalar.cmpi .eq c2_i32_297 c0_i32_298
  let c1_i32_299 : BitVec 32 := 1#32
  let v610 : BitVec 32 := Scalar.select v609 c1_i32_299 c2_i32_297
  let v611 : BitVec 32 := Scalar.remsi v608 v610
  let c0_i32_301 : BitVec 32 := 0#32
  let v613 : BitVec 1 := Scalar.cmpi .slt v611 c0_i32_301
  let c0_i32_302 : BitVec 32 := 0#32
  let v614 : BitVec 1 := Scalar.cmpi .slt v610 c0_i32_302
  let v615 : BitVec 1 := Scalar.xori v613 v614
  let c0_i32_300 : BitVec 32 := 0#32
  let v612 : BitVec 1 := Scalar.cmpi .ne v611 c0_i32_300
  let v616 : BitVec 1 := Scalar.andi v615 v612
  let v617 : BitVec 32 := Scalar.addi v611 v610
  let v618 : BitVec 32 := Scalar.select v616 v617 v611
  let v629 : BitVec 32 := Scalar.muli c2_i32_309 v618
  let c0_i32_265 : BitVec 32 := 0#32
  let v539 : BitVec 1 := Scalar.cmpi .sgt v510 c0_i32_265
  let v540 : BitVec 32 := Scalar.extui v539
  let c0_i32_266 : BitVec 32 := 0#32
  let v541 : BitVec 1 := Scalar.cmpi .slt v510 c0_i32_266
  let v542 : BitVec 32 := Scalar.extui v541
  let v543 : BitVec 32 := Scalar.subi v540 v542
  let c8_i32_264 : BitVec 32 := 8#32
  let c0_i32_267 : BitVec 32 := 0#32
  let v544 : BitVec 1 := Scalar.cmpi .sgt c8_i32_264 c0_i32_267
  let v545 : BitVec 32 := Scalar.extui v544
  let c0_i32_268 : BitVec 32 := 0#32
  let v546 : BitVec 1 := Scalar.cmpi .slt c8_i32_264 c0_i32_268
  let v547 : BitVec 32 := Scalar.extui v546
  let v548 : BitVec 32 := Scalar.subi v545 v547
  let v549 : BitVec 1 := Scalar.cmpi .ne v543 v548
  let v550 : BitVec 32 := Scalar.remsi v510 c8_i32_264
  let c0_i32_269 : BitVec 32 := 0#32
  let v551 : BitVec 1 := Scalar.cmpi .ne v550 c0_i32_269
  let v552 : BitVec 1 := Scalar.andi v549 v551
  let v538 : BitVec 32 := Scalar.divsi v510 c8_i32_264
  let c1_i32_270 : BitVec 32 := 1#32
  let v553 : BitVec 32 := Scalar.subi v538 c1_i32_270
  let v554 : BitVec 32 := Scalar.select v552 v553 v538
  let c2_i32_271 : BitVec 32 := 2#32
  let c0_i32_272 : BitVec 32 := 0#32
  let v555 : BitVec 1 := Scalar.cmpi .eq c2_i32_271 c0_i32_272
  let c1_i32_273 : BitVec 32 := 1#32
  let v556 : BitVec 32 := Scalar.select v555 c1_i32_273 c2_i32_271
  let v557 : BitVec 32 := Scalar.remsi v554 v556
  let c0_i32_275 : BitVec 32 := 0#32
  let v559 : BitVec 1 := Scalar.cmpi .slt v557 c0_i32_275
  let c0_i32_276 : BitVec 32 := 0#32
  let v560 : BitVec 1 := Scalar.cmpi .slt v556 c0_i32_276
  let v561 : BitVec 1 := Scalar.xori v559 v560
  let c0_i32_274 : BitVec 32 := 0#32
  let v558 : BitVec 1 := Scalar.cmpi .ne v557 c0_i32_274
  let v562 : BitVec 1 := Scalar.andi v561 v558
  let v563 : BitVec 32 := Scalar.addi v557 v556
  let v564 : BitVec 32 := Scalar.select v562 v563 v557
  let v630 : BitVec 32 := Scalar.addi v629 v564
  let c2_i32_312 : BitVec 32 := 2#32
  let v634 : BitVec 32 := Scalar.muli v630 c2_i32_312
  let v635 : BitVec 32 := Scalar.addi v633 v634
  let c2_i32_313 : BitVec 32 := 2#32
  let c0_i32_314 : BitVec 32 := 0#32
  let v636 : BitVec 1 := Scalar.cmpi .eq c2_i32_313 c0_i32_314
  let c1_i32_315 : BitVec 32 := 1#32
  let v637 : BitVec 32 := Scalar.select v636 c1_i32_315 c2_i32_313
  let v638 : BitVec 32 := Scalar.remsi v630 v637
  let c0_i32_317 : BitVec 32 := 0#32
  let v640 : BitVec 1 := Scalar.cmpi .slt v638 c0_i32_317
  let c0_i32_318 : BitVec 32 := 0#32
  let v641 : BitVec 1 := Scalar.cmpi .slt v637 c0_i32_318
  let v642 : BitVec 1 := Scalar.xori v640 v641
  let c0_i32_316 : BitVec 32 := 0#32
  let v639 : BitVec 1 := Scalar.cmpi .ne v638 c0_i32_316
  let v643 : BitVec 1 := Scalar.andi v642 v639
  let v644 : BitVec 32 := Scalar.addi v638 v637
  let v645 : BitVec 32 := Scalar.select v643 v644 v638
  let c0_i32_319 : BitVec 32 := 0#32
  let v646 : BitVec 1 := Scalar.cmpi .eq v645 c0_i32_319
  let c0_i32_252 : BitVec 32 := 0#32
  let v512 : BitVec 1 := Scalar.cmpi .sgt v510 c0_i32_252
  let v513 : BitVec 32 := Scalar.extui v512
  let c0_i32_253 : BitVec 32 := 0#32
  let v514 : BitVec 1 := Scalar.cmpi .slt v510 c0_i32_253
  let v515 : BitVec 32 := Scalar.extui v514
  let v516 : BitVec 32 := Scalar.subi v513 v515
  let c16_i32_251 : BitVec 32 := 16#32
  let c0_i32_254 : BitVec 32 := 0#32
  let v517 : BitVec 1 := Scalar.cmpi .sgt c16_i32_251 c0_i32_254
  let v518 : BitVec 32 := Scalar.extui v517
  let c0_i32_255 : BitVec 32 := 0#32
  let v519 : BitVec 1 := Scalar.cmpi .slt c16_i32_251 c0_i32_255
  let v520 : BitVec 32 := Scalar.extui v519
  let v521 : BitVec 32 := Scalar.subi v518 v520
  let v522 : BitVec 1 := Scalar.cmpi .ne v516 v521
  let v523 : BitVec 32 := Scalar.remsi v510 c16_i32_251
  let c0_i32_256 : BitVec 32 := 0#32
  let v524 : BitVec 1 := Scalar.cmpi .ne v523 c0_i32_256
  let v525 : BitVec 1 := Scalar.andi v522 v524
  let v511 : BitVec 32 := Scalar.divsi v510 c16_i32_251
  let c1_i32_257 : BitVec 32 := 1#32
  let v526 : BitVec 32 := Scalar.subi v511 c1_i32_257
  let v527 : BitVec 32 := Scalar.select v525 v526 v511
  let c2_i32_258 : BitVec 32 := 2#32
  let c0_i32_259 : BitVec 32 := 0#32
  let v528 : BitVec 1 := Scalar.cmpi .eq c2_i32_258 c0_i32_259
  let c1_i32_260 : BitVec 32 := 1#32
  let v529 : BitVec 32 := Scalar.select v528 c1_i32_260 c2_i32_258
  let v530 : BitVec 32 := Scalar.remsi v527 v529
  let c0_i32_262 : BitVec 32 := 0#32
  let v532 : BitVec 1 := Scalar.cmpi .slt v530 c0_i32_262
  let c0_i32_263 : BitVec 32 := 0#32
  let v533 : BitVec 1 := Scalar.cmpi .slt v529 c0_i32_263
  let v534 : BitVec 1 := Scalar.xori v532 v533
  let c0_i32_261 : BitVec 32 := 0#32
  let v531 : BitVec 1 := Scalar.cmpi .ne v530 c0_i32_261
  let v535 : BitVec 1 := Scalar.andi v534 v531
  let v536 : BitVec 32 := Scalar.addi v530 v529
  let v537 : BitVec 32 := Scalar.select v535 v536 v530
  let c1_i32_320 : BitVec 32 := 1#32
  let v647 : BitVec 32 := Scalar.subi c1_i32_320 v537
  let v648 : BitVec 32 := Scalar.select v646 v537 v647
  let v649 : BitVec 32 := Scalar.addi v635 v648
  let c1_i32_763 : BitVec 32 := 1#32
  let v1416 : BitVec 32 := Scalar.muli v649 c1_i32_763
  let v1417 : BitVec 32 := Scalar.addi c0_i32_764 v1416
  v1417.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c16_i32_59 : BitVec 32 := 16#32
  let v132 : BitVec 32 := Scalar.muli v79 c16_i32_59
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c8_i32_60 : BitVec 32 := 8#32
  let v133 : BitVec 32 := Scalar.muli v106 c8_i32_60
  let v134 : BitVec 32 := Scalar.addi v132 v133
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c4_i32_61 : BitVec 32 := 4#32
  let v135 : BitVec 32 := Scalar.muli v69 c4_i32_61
  let v136 : BitVec 32 := Scalar.addi v134 v135
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let c2_i32_62 : BitVec 32 := 2#32
  let v137 : BitVec 32 := Scalar.muli v123 c2_i32_62
  let v138 : BitVec 32 := Scalar.addi v136 v137
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let v139 : BitVec 32 := Scalar.addi v138 v96
  let c0_i32_736 : BitVec 32 := 0#32
  let v1365 : BitVec 1 := Scalar.cmpi .sgt v139 c0_i32_736
  let v1366 : BitVec 32 := Scalar.extui v1365
  let c0_i32_737 : BitVec 32 := 0#32
  let v1367 : BitVec 1 := Scalar.cmpi .slt v139 c0_i32_737
  let v1368 : BitVec 32 := Scalar.extui v1367
  let v1369 : BitVec 32 := Scalar.subi v1366 v1368
  let c8_i32_735 : BitVec 32 := 8#32
  let c0_i32_738 : BitVec 32 := 0#32
  let v1370 : BitVec 1 := Scalar.cmpi .sgt c8_i32_735 c0_i32_738
  let v1371 : BitVec 32 := Scalar.extui v1370
  let c0_i32_739 : BitVec 32 := 0#32
  let v1372 : BitVec 1 := Scalar.cmpi .slt c8_i32_735 c0_i32_739
  let v1373 : BitVec 32 := Scalar.extui v1372
  let v1374 : BitVec 32 := Scalar.subi v1371 v1373
  let v1375 : BitVec 1 := Scalar.cmpi .ne v1369 v1374
  let v1376 : BitVec 32 := Scalar.remsi v139 c8_i32_735
  let c0_i32_740 : BitVec 32 := 0#32
  let v1377 : BitVec 1 := Scalar.cmpi .ne v1376 c0_i32_740
  let v1378 : BitVec 1 := Scalar.andi v1375 v1377
  let v1364 : BitVec 32 := Scalar.divsi v139 c8_i32_735
  let c1_i32_741 : BitVec 32 := 1#32
  let v1379 : BitVec 32 := Scalar.subi v1364 c1_i32_741
  let v1380 : BitVec 32 := Scalar.select v1378 v1379 v1364
  let c8_i32_742 : BitVec 32 := 8#32
  let v1381 : BitVec 32 := Scalar.muli v1380 c8_i32_742
  let c1_i32_756 : BitVec 32 := 1#32
  let c0_i32_744 : BitVec 32 := 0#32
  let v1383 : BitVec 1 := Scalar.cmpi .sgt v139 c0_i32_744
  let v1384 : BitVec 32 := Scalar.extui v1383
  let c0_i32_745 : BitVec 32 := 0#32
  let v1385 : BitVec 1 := Scalar.cmpi .slt v139 c0_i32_745
  let v1386 : BitVec 32 := Scalar.extui v1385
  let v1387 : BitVec 32 := Scalar.subi v1384 v1386
  let c4_i32_743 : BitVec 32 := 4#32
  let c0_i32_746 : BitVec 32 := 0#32
  let v1388 : BitVec 1 := Scalar.cmpi .sgt c4_i32_743 c0_i32_746
  let v1389 : BitVec 32 := Scalar.extui v1388
  let c0_i32_747 : BitVec 32 := 0#32
  let v1390 : BitVec 1 := Scalar.cmpi .slt c4_i32_743 c0_i32_747
  let v1391 : BitVec 32 := Scalar.extui v1390
  let v1392 : BitVec 32 := Scalar.subi v1389 v1391
  let v1393 : BitVec 1 := Scalar.cmpi .ne v1387 v1392
  let v1394 : BitVec 32 := Scalar.remsi v139 c4_i32_743
  let c0_i32_748 : BitVec 32 := 0#32
  let v1395 : BitVec 1 := Scalar.cmpi .ne v1394 c0_i32_748
  let v1396 : BitVec 1 := Scalar.andi v1393 v1395
  let v1382 : BitVec 32 := Scalar.divsi v139 c4_i32_743
  let c1_i32_749 : BitVec 32 := 1#32
  let v1397 : BitVec 32 := Scalar.subi v1382 c1_i32_749
  let v1398 : BitVec 32 := Scalar.select v1396 v1397 v1382
  let c2_i32_750 : BitVec 32 := 2#32
  let c0_i32_751 : BitVec 32 := 0#32
  let v1399 : BitVec 1 := Scalar.cmpi .eq c2_i32_750 c0_i32_751
  let c1_i32_752 : BitVec 32 := 1#32
  let v1400 : BitVec 32 := Scalar.select v1399 c1_i32_752 c2_i32_750
  let v1401 : BitVec 32 := Scalar.remsi v1398 v1400
  let c0_i32_754 : BitVec 32 := 0#32
  let v1403 : BitVec 1 := Scalar.cmpi .slt v1401 c0_i32_754
  let c0_i32_755 : BitVec 32 := 0#32
  let v1404 : BitVec 1 := Scalar.cmpi .slt v1400 c0_i32_755
  let v1405 : BitVec 1 := Scalar.xori v1403 v1404
  let c0_i32_753 : BitVec 32 := 0#32
  let v1402 : BitVec 1 := Scalar.cmpi .ne v1401 c0_i32_753
  let v1406 : BitVec 1 := Scalar.andi v1405 v1402
  let v1407 : BitVec 32 := Scalar.addi v1401 v1400
  let v1408 : BitVec 32 := Scalar.select v1406 v1407 v1401
  let v1409 : BitVec 32 := Scalar.subi c1_i32_756 v1408
  let c4_i32_757 : BitVec 32 := 4#32
  let v1410 : BitVec 32 := Scalar.muli v1409 c4_i32_757
  let v1411 : BitVec 32 := Scalar.addi v1381 v1410
  let c16_i32_758 : BitVec 32 := 16#32
  let v1412 : BitVec 32 := Scalar.muli v1411 c16_i32_758
  let c256_i32_773 : BitVec 32 := 256#32
  ![v1412.toNat, 256]
def k0_dev11 (d0 : Dev nD) : Nat :=
  let c0_i32_770 : BitVec 32 := 0#32
  let c2_i32_482 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_421 : BitVec 32 := 1#32
  let c2_i32_420 : BitVec 32 := 2#32
  let c0_i32_408 : BitVec 32 := 0#32
  let v821 : BitVec 1 := Scalar.cmpi .sgt v131 c0_i32_408
  let v822 : BitVec 32 := Scalar.extui v821
  let c0_i32_409 : BitVec 32 := 0#32
  let v823 : BitVec 1 := Scalar.cmpi .slt v131 c0_i32_409
  let v824 : BitVec 32 := Scalar.extui v823
  let v825 : BitVec 32 := Scalar.subi v822 v824
  let c16_i32_407 : BitVec 32 := 16#32
  let c0_i32_410 : BitVec 32 := 0#32
  let v826 : BitVec 1 := Scalar.cmpi .sgt c16_i32_407 c0_i32_410
  let v827 : BitVec 32 := Scalar.extui v826
  let c0_i32_411 : BitVec 32 := 0#32
  let v828 : BitVec 1 := Scalar.cmpi .slt c16_i32_407 c0_i32_411
  let v829 : BitVec 32 := Scalar.extui v828
  let v830 : BitVec 32 := Scalar.subi v827 v829
  let v831 : BitVec 1 := Scalar.cmpi .ne v825 v830
  let v832 : BitVec 32 := Scalar.remsi v131 c16_i32_407
  let c0_i32_412 : BitVec 32 := 0#32
  let v833 : BitVec 1 := Scalar.cmpi .ne v832 c0_i32_412
  let v834 : BitVec 1 := Scalar.andi v831 v833
  let v820 : BitVec 32 := Scalar.divsi v131 c16_i32_407
  let c1_i32_413 : BitVec 32 := 1#32
  let v835 : BitVec 32 := Scalar.subi v820 c1_i32_413
  let v836 : BitVec 32 := Scalar.select v834 v835 v820
  let c2_i32_414 : BitVec 32 := 2#32
  let c0_i32_415 : BitVec 32 := 0#32
  let v837 : BitVec 1 := Scalar.cmpi .eq c2_i32_414 c0_i32_415
  let c1_i32_416 : BitVec 32 := 1#32
  let v838 : BitVec 32 := Scalar.select v837 c1_i32_416 c2_i32_414
  let v839 : BitVec 32 := Scalar.remsi v836 v838
  let c0_i32_418 : BitVec 32 := 0#32
  let v841 : BitVec 1 := Scalar.cmpi .slt v839 c0_i32_418
  let c0_i32_419 : BitVec 32 := 0#32
  let v842 : BitVec 1 := Scalar.cmpi .slt v838 c0_i32_419
  let v843 : BitVec 1 := Scalar.xori v841 v842
  let c0_i32_417 : BitVec 32 := 0#32
  let v840 : BitVec 1 := Scalar.cmpi .ne v839 c0_i32_417
  let v844 : BitVec 1 := Scalar.andi v843 v840
  let v845 : BitVec 32 := Scalar.addi v839 v838
  let v846 : BitVec 32 := Scalar.select v844 v845 v839
  let v847 : BitVec 32 := Scalar.muli c2_i32_420 v846
  let v848 : BitVec 32 := Scalar.subi c1_i32_421 v847
  let c16_i32_422 : BitVec 32 := 16#32
  let v849 : BitVec 32 := Scalar.muli v848 c16_i32_422
  let v850 : BitVec 32 := Scalar.addi v131 v849
  let c2_i32_475 : BitVec 32 := 2#32
  let c0_i32_476 : BitVec 32 := 0#32
  let v959 : BitVec 1 := Scalar.cmpi .eq c2_i32_475 c0_i32_476
  let c1_i32_477 : BitVec 32 := 1#32
  let v960 : BitVec 32 := Scalar.select v959 c1_i32_477 c2_i32_475
  let v961 : BitVec 32 := Scalar.remsi v850 v960
  let c0_i32_479 : BitVec 32 := 0#32
  let v963 : BitVec 1 := Scalar.cmpi .slt v961 c0_i32_479
  let c0_i32_480 : BitVec 32 := 0#32
  let v964 : BitVec 1 := Scalar.cmpi .slt v960 c0_i32_480
  let v965 : BitVec 1 := Scalar.xori v963 v964
  let c0_i32_478 : BitVec 32 := 0#32
  let v962 : BitVec 1 := Scalar.cmpi .ne v961 c0_i32_478
  let v966 : BitVec 1 := Scalar.andi v965 v962
  let v967 : BitVec 32 := Scalar.addi v961 v960
  let v968 : BitVec 32 := Scalar.select v966 v967 v961
  let v971 : BitVec 32 := Scalar.muli c2_i32_482 v968
  let c0_i32_450 : BitVec 32 := 0#32
  let v906 : BitVec 1 := Scalar.cmpi .sgt v850 c0_i32_450
  let v907 : BitVec 32 := Scalar.extui v906
  let c0_i32_451 : BitVec 32 := 0#32
  let v908 : BitVec 1 := Scalar.cmpi .slt v850 c0_i32_451
  let v909 : BitVec 32 := Scalar.extui v908
  let v910 : BitVec 32 := Scalar.subi v907 v909
  let c4_i32_449 : BitVec 32 := 4#32
  let c0_i32_452 : BitVec 32 := 0#32
  let v911 : BitVec 1 := Scalar.cmpi .sgt c4_i32_449 c0_i32_452
  let v912 : BitVec 32 := Scalar.extui v911
  let c0_i32_453 : BitVec 32 := 0#32
  let v913 : BitVec 1 := Scalar.cmpi .slt c4_i32_449 c0_i32_453
  let v914 : BitVec 32 := Scalar.extui v913
  let v915 : BitVec 32 := Scalar.subi v912 v914
  let v916 : BitVec 1 := Scalar.cmpi .ne v910 v915
  let v917 : BitVec 32 := Scalar.remsi v850 c4_i32_449
  let c0_i32_454 : BitVec 32 := 0#32
  let v918 : BitVec 1 := Scalar.cmpi .ne v917 c0_i32_454
  let v919 : BitVec 1 := Scalar.andi v916 v918
  let v905 : BitVec 32 := Scalar.divsi v850 c4_i32_449
  let c1_i32_455 : BitVec 32 := 1#32
  let v920 : BitVec 32 := Scalar.subi v905 c1_i32_455
  let v921 : BitVec 32 := Scalar.select v919 v920 v905
  let c2_i32_456 : BitVec 32 := 2#32
  let c0_i32_457 : BitVec 32 := 0#32
  let v922 : BitVec 1 := Scalar.cmpi .eq c2_i32_456 c0_i32_457
  let c1_i32_458 : BitVec 32 := 1#32
  let v923 : BitVec 32 := Scalar.select v922 c1_i32_458 c2_i32_456
  let v924 : BitVec 32 := Scalar.remsi v921 v923
  let c0_i32_460 : BitVec 32 := 0#32
  let v926 : BitVec 1 := Scalar.cmpi .slt v924 c0_i32_460
  let c0_i32_461 : BitVec 32 := 0#32
  let v927 : BitVec 1 := Scalar.cmpi .slt v923 c0_i32_461
  let v928 : BitVec 1 := Scalar.xori v926 v927
  let c0_i32_459 : BitVec 32 := 0#32
  let v925 : BitVec 1 := Scalar.cmpi .ne v924 c0_i32_459
  let v929 : BitVec 1 := Scalar.andi v928 v925
  let v930 : BitVec 32 := Scalar.addi v924 v923
  let v931 : BitVec 32 := Scalar.select v929 v930 v924
  let v972 : BitVec 32 := Scalar.addi v971 v931
  let c8_i32_483 : BitVec 32 := 8#32
  let v973 : BitVec 32 := Scalar.muli v972 c8_i32_483
  let c2_i32_481 : BitVec 32 := 2#32
  let c0_i32_463 : BitVec 32 := 0#32
  let v933 : BitVec 1 := Scalar.cmpi .sgt v850 c0_i32_463
  let v934 : BitVec 32 := Scalar.extui v933
  let c0_i32_464 : BitVec 32 := 0#32
  let v935 : BitVec 1 := Scalar.cmpi .slt v850 c0_i32_464
  let v936 : BitVec 32 := Scalar.extui v935
  let v937 : BitVec 32 := Scalar.subi v934 v936
  let c2_i32_462 : BitVec 32 := 2#32
  let c0_i32_465 : BitVec 32 := 0#32
  let v938 : BitVec 1 := Scalar.cmpi .sgt c2_i32_462 c0_i32_465
  let v939 : BitVec 32 := Scalar.extui v938
  let c0_i32_466 : BitVec 32 := 0#32
  let v940 : BitVec 1 := Scalar.cmpi .slt c2_i32_462 c0_i32_466
  let v941 : BitVec 32 := Scalar.extui v940
  let v942 : BitVec 32 := Scalar.subi v939 v941
  let v943 : BitVec 1 := Scalar.cmpi .ne v937 v942
  let v944 : BitVec 32 := Scalar.remsi v850 c2_i32_462
  let c0_i32_467 : BitVec 32 := 0#32
  let v945 : BitVec 1 := Scalar.cmpi .ne v944 c0_i32_467
  let v946 : BitVec 1 := Scalar.andi v943 v945
  let v932 : BitVec 32 := Scalar.divsi v850 c2_i32_462
  let c1_i32_468 : BitVec 32 := 1#32
  let v947 : BitVec 32 := Scalar.subi v932 c1_i32_468
  let v948 : BitVec 32 := Scalar.select v946 v947 v932
  let c2_i32_469 : BitVec 32 := 2#32
  let c0_i32_470 : BitVec 32 := 0#32
  let v949 : BitVec 1 := Scalar.cmpi .eq c2_i32_469 c0_i32_470
  let c1_i32_471 : BitVec 32 := 1#32
  let v950 : BitVec 32 := Scalar.select v949 c1_i32_471 c2_i32_469
  let v951 : BitVec 32 := Scalar.remsi v948 v950
  let c0_i32_473 : BitVec 32 := 0#32
  let v953 : BitVec 1 := Scalar.cmpi .slt v951 c0_i32_473
  let c0_i32_474 : BitVec 32 := 0#32
  let v954 : BitVec 1 := Scalar.cmpi .slt v950 c0_i32_474
  let v955 : BitVec 1 := Scalar.xori v953 v954
  let c0_i32_472 : BitVec 32 := 0#32
  let v952 : BitVec 1 := Scalar.cmpi .ne v951 c0_i32_472
  let v956 : BitVec 1 := Scalar.andi v955 v952
  let v957 : BitVec 32 := Scalar.addi v951 v950
  let v958 : BitVec 32 := Scalar.select v956 v957 v951
  let v969 : BitVec 32 := Scalar.muli c2_i32_481 v958
  let c0_i32_437 : BitVec 32 := 0#32
  let v879 : BitVec 1 := Scalar.cmpi .sgt v850 c0_i32_437
  let v880 : BitVec 32 := Scalar.extui v879
  let c0_i32_438 : BitVec 32 := 0#32
  let v881 : BitVec 1 := Scalar.cmpi .slt v850 c0_i32_438
  let v882 : BitVec 32 := Scalar.extui v881
  let v883 : BitVec 32 := Scalar.subi v880 v882
  let c8_i32_436 : BitVec 32 := 8#32
  let c0_i32_439 : BitVec 32 := 0#32
  let v884 : BitVec 1 := Scalar.cmpi .sgt c8_i32_436 c0_i32_439
  let v885 : BitVec 32 := Scalar.extui v884
  let c0_i32_440 : BitVec 32 := 0#32
  let v886 : BitVec 1 := Scalar.cmpi .slt c8_i32_436 c0_i32_440
  let v887 : BitVec 32 := Scalar.extui v886
  let v888 : BitVec 32 := Scalar.subi v885 v887
  let v889 : BitVec 1 := Scalar.cmpi .ne v883 v888
  let v890 : BitVec 32 := Scalar.remsi v850 c8_i32_436
  let c0_i32_441 : BitVec 32 := 0#32
  let v891 : BitVec 1 := Scalar.cmpi .ne v890 c0_i32_441
  let v892 : BitVec 1 := Scalar.andi v889 v891
  let v878 : BitVec 32 := Scalar.divsi v850 c8_i32_436
  let c1_i32_442 : BitVec 32 := 1#32
  let v893 : BitVec 32 := Scalar.subi v878 c1_i32_442
  let v894 : BitVec 32 := Scalar.select v892 v893 v878
  let c2_i32_443 : BitVec 32 := 2#32
  let c0_i32_444 : BitVec 32 := 0#32
  let v895 : BitVec 1 := Scalar.cmpi .eq c2_i32_443 c0_i32_444
  let c1_i32_445 : BitVec 32 := 1#32
  let v896 : BitVec 32 := Scalar.select v895 c1_i32_445 c2_i32_443
  let v897 : BitVec 32 := Scalar.remsi v894 v896
  let c0_i32_447 : BitVec 32 := 0#32
  let v899 : BitVec 1 := Scalar.cmpi .slt v897 c0_i32_447
  let c0_i32_448 : BitVec 32 := 0#32
  let v900 : BitVec 1 := Scalar.cmpi .slt v896 c0_i32_448
  let v901 : BitVec 1 := Scalar.xori v899 v900
  let c0_i32_446 : BitVec 32 := 0#32
  let v898 : BitVec 1 := Scalar.cmpi .ne v897 c0_i32_446
  let v902 : BitVec 1 := Scalar.andi v901 v898
  let v903 : BitVec 32 := Scalar.addi v897 v896
  let v904 : BitVec 32 := Scalar.select v902 v903 v897
  let v970 : BitVec 32 := Scalar.addi v969 v904
  let c2_i32_484 : BitVec 32 := 2#32
  let v974 : BitVec 32 := Scalar.muli v970 c2_i32_484
  let v975 : BitVec 32 := Scalar.addi v973 v974
  let c2_i32_485 : BitVec 32 := 2#32
  let c0_i32_486 : BitVec 32 := 0#32
  let v976 : BitVec 1 := Scalar.cmpi .eq c2_i32_485 c0_i32_486
  let c1_i32_487 : BitVec 32 := 1#32
  let v977 : BitVec 32 := Scalar.select v976 c1_i32_487 c2_i32_485
  let v978 : BitVec 32 := Scalar.remsi v970 v977
  let c0_i32_489 : BitVec 32 := 0#32
  let v980 : BitVec 1 := Scalar.cmpi .slt v978 c0_i32_489
  let c0_i32_490 : BitVec 32 := 0#32
  let v981 : BitVec 1 := Scalar.cmpi .slt v977 c0_i32_490
  let v982 : BitVec 1 := Scalar.xori v980 v981
  let c0_i32_488 : BitVec 32 := 0#32
  let v979 : BitVec 1 := Scalar.cmpi .ne v978 c0_i32_488
  let v983 : BitVec 1 := Scalar.andi v982 v979
  let v984 : BitVec 32 := Scalar.addi v978 v977
  let v985 : BitVec 32 := Scalar.select v983 v984 v978
  let c0_i32_491 : BitVec 32 := 0#32
  let v986 : BitVec 1 := Scalar.cmpi .eq v985 c0_i32_491
  let c0_i32_424 : BitVec 32 := 0#32
  let v852 : BitVec 1 := Scalar.cmpi .sgt v850 c0_i32_424
  let v853 : BitVec 32 := Scalar.extui v852
  let c0_i32_425 : BitVec 32 := 0#32
  let v854 : BitVec 1 := Scalar.cmpi .slt v850 c0_i32_425
  let v855 : BitVec 32 := Scalar.extui v854
  let v856 : BitVec 32 := Scalar.subi v853 v855
  let c16_i32_423 : BitVec 32 := 16#32
  let c0_i32_426 : BitVec 32 := 0#32
  let v857 : BitVec 1 := Scalar.cmpi .sgt c16_i32_423 c0_i32_426
  let v858 : BitVec 32 := Scalar.extui v857
  let c0_i32_427 : BitVec 32 := 0#32
  let v859 : BitVec 1 := Scalar.cmpi .slt c16_i32_423 c0_i32_427
  let v860 : BitVec 32 := Scalar.extui v859
  let v861 : BitVec 32 := Scalar.subi v858 v860
  let v862 : BitVec 1 := Scalar.cmpi .ne v856 v861
  let v863 : BitVec 32 := Scalar.remsi v850 c16_i32_423
  let c0_i32_428 : BitVec 32 := 0#32
  let v864 : BitVec 1 := Scalar.cmpi .ne v863 c0_i32_428
  let v865 : BitVec 1 := Scalar.andi v862 v864
  let v851 : BitVec 32 := Scalar.divsi v850 c16_i32_423
  let c1_i32_429 : BitVec 32 := 1#32
  let v866 : BitVec 32 := Scalar.subi v851 c1_i32_429
  let v867 : BitVec 32 := Scalar.select v865 v866 v851
  let c2_i32_430 : BitVec 32 := 2#32
  let c0_i32_431 : BitVec 32 := 0#32
  let v868 : BitVec 1 := Scalar.cmpi .eq c2_i32_430 c0_i32_431
  let c1_i32_432 : BitVec 32 := 1#32
  let v869 : BitVec 32 := Scalar.select v868 c1_i32_432 c2_i32_430
  let v870 : BitVec 32 := Scalar.remsi v867 v869
  let c0_i32_434 : BitVec 32 := 0#32
  let v872 : BitVec 1 := Scalar.cmpi .slt v870 c0_i32_434
  let c0_i32_435 : BitVec 32 := 0#32
  let v873 : BitVec 1 := Scalar.cmpi .slt v869 c0_i32_435
  let v874 : BitVec 1 := Scalar.xori v872 v873
  let c0_i32_433 : BitVec 32 := 0#32
  let v871 : BitVec 1 := Scalar.cmpi .ne v870 c0_i32_433
  let v875 : BitVec 1 := Scalar.andi v874 v871
  let v876 : BitVec 32 := Scalar.addi v870 v869
  let v877 : BitVec 32 := Scalar.select v875 v876 v870
  let c1_i32_492 : BitVec 32 := 1#32
  let v987 : BitVec 32 := Scalar.subi c1_i32_492 v877
  let v988 : BitVec 32 := Scalar.select v986 v877 v987
  let v989 : BitVec 32 := Scalar.addi v975 v988
  let c1_i32_769 : BitVec 32 := 1#32
  let v1424 : BitVec 32 := Scalar.muli v989 c1_i32_769
  let v1425 : BitVec 32 := Scalar.addi c0_i32_770 v1424
  v1425.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c0_i32_710 : BitVec 32 := 0#32
  let v1313 : BitVec 1 := Scalar.cmpi .sgt v131 c0_i32_710
  let v1314 : BitVec 32 := Scalar.extui v1313
  let c0_i32_711 : BitVec 32 := 0#32
  let v1315 : BitVec 1 := Scalar.cmpi .slt v131 c0_i32_711
  let v1316 : BitVec 32 := Scalar.extui v1315
  let v1317 : BitVec 32 := Scalar.subi v1314 v1316
  let c8_i32_709 : BitVec 32 := 8#32
  let c0_i32_712 : BitVec 32 := 0#32
  let v1318 : BitVec 1 := Scalar.cmpi .sgt c8_i32_709 c0_i32_712
  let v1319 : BitVec 32 := Scalar.extui v1318
  let c0_i32_713 : BitVec 32 := 0#32
  let v1320 : BitVec 1 := Scalar.cmpi .slt c8_i32_709 c0_i32_713
  let v1321 : BitVec 32 := Scalar.extui v1320
  let v1322 : BitVec 32 := Scalar.subi v1319 v1321
  let v1323 : BitVec 1 := Scalar.cmpi .ne v1317 v1322
  let v1324 : BitVec 32 := Scalar.remsi v131 c8_i32_709
  let c0_i32_714 : BitVec 32 := 0#32
  let v1325 : BitVec 1 := Scalar.cmpi .ne v1324 c0_i32_714
  let v1326 : BitVec 1 := Scalar.andi v1323 v1325
  let v1312 : BitVec 32 := Scalar.divsi v131 c8_i32_709
  let c1_i32_715 : BitVec 32 := 1#32
  let v1327 : BitVec 32 := Scalar.subi v1312 c1_i32_715
  let v1328 : BitVec 32 := Scalar.select v1326 v1327 v1312
  let c8_i32_716 : BitVec 32 := 8#32
  let v1329 : BitVec 32 := Scalar.muli v1328 c8_i32_716
  let c0_i32_718 : BitVec 32 := 0#32
  let v1331 : BitVec 1 := Scalar.cmpi .sgt v131 c0_i32_718
  let v1332 : BitVec 32 := Scalar.extui v1331
  let c0_i32_719 : BitVec 32 := 0#32
  let v1333 : BitVec 1 := Scalar.cmpi .slt v131 c0_i32_719
  let v1334 : BitVec 32 := Scalar.extui v1333
  let v1335 : BitVec 32 := Scalar.subi v1332 v1334
  let c4_i32_717 : BitVec 32 := 4#32
  let c0_i32_720 : BitVec 32 := 0#32
  let v1336 : BitVec 1 := Scalar.cmpi .sgt c4_i32_717 c0_i32_720
  let v1337 : BitVec 32 := Scalar.extui v1336
  let c0_i32_721 : BitVec 32 := 0#32
  let v1338 : BitVec 1 := Scalar.cmpi .slt c4_i32_717 c0_i32_721
  let v1339 : BitVec 32 := Scalar.extui v1338
  let v1340 : BitVec 32 := Scalar.subi v1337 v1339
  let v1341 : BitVec 1 := Scalar.cmpi .ne v1335 v1340
  let v1342 : BitVec 32 := Scalar.remsi v131 c4_i32_717
  let c0_i32_722 : BitVec 32 := 0#32
  let v1343 : BitVec 1 := Scalar.cmpi .ne v1342 c0_i32_722
  let v1344 : BitVec 1 := Scalar.andi v1341 v1343
  let v1330 : BitVec 32 := Scalar.divsi v131 c4_i32_717
  let c1_i32_723 : BitVec 32 := 1#32
  let v1345 : BitVec 32 := Scalar.subi v1330 c1_i32_723
  let v1346 : BitVec 32 := Scalar.select v1344 v1345 v1330
  let c2_i32_724 : BitVec 32 := 2#32
  let c0_i32_725 : BitVec 32 := 0#32
  let v1347 : BitVec 1 := Scalar.cmpi .eq c2_i32_724 c0_i32_725
  let c1_i32_726 : BitVec 32 := 1#32
  let v1348 : BitVec 32 := Scalar.select v1347 c1_i32_726 c2_i32_724
  let v1349 : BitVec 32 := Scalar.remsi v1346 v1348
  let c0_i32_728 : BitVec 32 := 0#32
  let v1351 : BitVec 1 := Scalar.cmpi .slt v1349 c0_i32_728
  let c0_i32_729 : BitVec 32 := 0#32
  let v1352 : BitVec 1 := Scalar.cmpi .slt v1348 c0_i32_729
  let v1353 : BitVec 1 := Scalar.xori v1351 v1352
  let c0_i32_727 : BitVec 32 := 0#32
  let v1350 : BitVec 1 := Scalar.cmpi .ne v1349 c0_i32_727
  let v1354 : BitVec 1 := Scalar.andi v1353 v1350
  let v1355 : BitVec 32 := Scalar.addi v1349 v1348
  let v1356 : BitVec 32 := Scalar.select v1354 v1355 v1349
  let c4_i32_733 : BitVec 32 := 4#32
  let v1361 : BitVec 32 := Scalar.muli v1356 c4_i32_733
  let v1362 : BitVec 32 := Scalar.addi v1329 v1361
  let c16_i32_734 : BitVec 32 := 16#32
  let v1363 : BitVec 32 := Scalar.muli v1362 c16_i32_734
  let v1442 : Index := Scalar.indexCast v1363
  let c0_787 : Index := 0#32
  ![v1442.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c16_i32_59 : BitVec 32 := 16#32
  let v132 : BitVec 32 := Scalar.muli v79 c16_i32_59
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c8_i32_60 : BitVec 32 := 8#32
  let v133 : BitVec 32 := Scalar.muli v106 c8_i32_60
  let v134 : BitVec 32 := Scalar.addi v132 v133
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c4_i32_61 : BitVec 32 := 4#32
  let v135 : BitVec 32 := Scalar.muli v69 c4_i32_61
  let v136 : BitVec 32 := Scalar.addi v134 v135
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let c2_i32_62 : BitVec 32 := 2#32
  let v137 : BitVec 32 := Scalar.muli v123 c2_i32_62
  let v138 : BitVec 32 := Scalar.addi v136 v137
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let v139 : BitVec 32 := Scalar.addi v138 v96
  let c0_i32_736 : BitVec 32 := 0#32
  let v1365 : BitVec 1 := Scalar.cmpi .sgt v139 c0_i32_736
  let v1366 : BitVec 32 := Scalar.extui v1365
  let c0_i32_737 : BitVec 32 := 0#32
  let v1367 : BitVec 1 := Scalar.cmpi .slt v139 c0_i32_737
  let v1368 : BitVec 32 := Scalar.extui v1367
  let v1369 : BitVec 32 := Scalar.subi v1366 v1368
  let c8_i32_735 : BitVec 32 := 8#32
  let c0_i32_738 : BitVec 32 := 0#32
  let v1370 : BitVec 1 := Scalar.cmpi .sgt c8_i32_735 c0_i32_738
  let v1371 : BitVec 32 := Scalar.extui v1370
  let c0_i32_739 : BitVec 32 := 0#32
  let v1372 : BitVec 1 := Scalar.cmpi .slt c8_i32_735 c0_i32_739
  let v1373 : BitVec 32 := Scalar.extui v1372
  let v1374 : BitVec 32 := Scalar.subi v1371 v1373
  let v1375 : BitVec 1 := Scalar.cmpi .ne v1369 v1374
  let v1376 : BitVec 32 := Scalar.remsi v139 c8_i32_735
  let c0_i32_740 : BitVec 32 := 0#32
  let v1377 : BitVec 1 := Scalar.cmpi .ne v1376 c0_i32_740
  let v1378 : BitVec 1 := Scalar.andi v1375 v1377
  let v1364 : BitVec 32 := Scalar.divsi v139 c8_i32_735
  let c1_i32_741 : BitVec 32 := 1#32
  let v1379 : BitVec 32 := Scalar.subi v1364 c1_i32_741
  let v1380 : BitVec 32 := Scalar.select v1378 v1379 v1364
  let c8_i32_742 : BitVec 32 := 8#32
  let v1381 : BitVec 32 := Scalar.muli v1380 c8_i32_742
  let c0_i32_744 : BitVec 32 := 0#32
  let v1383 : BitVec 1 := Scalar.cmpi .sgt v139 c0_i32_744
  let v1384 : BitVec 32 := Scalar.extui v1383
  let c0_i32_745 : BitVec 32 := 0#32
  let v1385 : BitVec 1 := Scalar.cmpi .slt v139 c0_i32_745
  let v1386 : BitVec 32 := Scalar.extui v1385
  let v1387 : BitVec 32 := Scalar.subi v1384 v1386
  let c4_i32_743 : BitVec 32 := 4#32
  let c0_i32_746 : BitVec 32 := 0#32
  let v1388 : BitVec 1 := Scalar.cmpi .sgt c4_i32_743 c0_i32_746
  let v1389 : BitVec 32 := Scalar.extui v1388
  let c0_i32_747 : BitVec 32 := 0#32
  let v1390 : BitVec 1 := Scalar.cmpi .slt c4_i32_743 c0_i32_747
  let v1391 : BitVec 32 := Scalar.extui v1390
  let v1392 : BitVec 32 := Scalar.subi v1389 v1391
  let v1393 : BitVec 1 := Scalar.cmpi .ne v1387 v1392
  let v1394 : BitVec 32 := Scalar.remsi v139 c4_i32_743
  let c0_i32_748 : BitVec 32 := 0#32
  let v1395 : BitVec 1 := Scalar.cmpi .ne v1394 c0_i32_748
  let v1396 : BitVec 1 := Scalar.andi v1393 v1395
  let v1382 : BitVec 32 := Scalar.divsi v139 c4_i32_743
  let c1_i32_749 : BitVec 32 := 1#32
  let v1397 : BitVec 32 := Scalar.subi v1382 c1_i32_749
  let v1398 : BitVec 32 := Scalar.select v1396 v1397 v1382
  let c2_i32_750 : BitVec 32 := 2#32
  let c0_i32_751 : BitVec 32 := 0#32
  let v1399 : BitVec 1 := Scalar.cmpi .eq c2_i32_750 c0_i32_751
  let c1_i32_752 : BitVec 32 := 1#32
  let v1400 : BitVec 32 := Scalar.select v1399 c1_i32_752 c2_i32_750
  let v1401 : BitVec 32 := Scalar.remsi v1398 v1400
  let c0_i32_754 : BitVec 32 := 0#32
  let v1403 : BitVec 1 := Scalar.cmpi .slt v1401 c0_i32_754
  let c0_i32_755 : BitVec 32 := 0#32
  let v1404 : BitVec 1 := Scalar.cmpi .slt v1400 c0_i32_755
  let v1405 : BitVec 1 := Scalar.xori v1403 v1404
  let c0_i32_753 : BitVec 32 := 0#32
  let v1402 : BitVec 1 := Scalar.cmpi .ne v1401 c0_i32_753
  let v1406 : BitVec 1 := Scalar.andi v1405 v1402
  let v1407 : BitVec 32 := Scalar.addi v1401 v1400
  let v1408 : BitVec 32 := Scalar.select v1406 v1407 v1401
  let c4_i32_759 : BitVec 32 := 4#32
  let v1413 : BitVec 32 := Scalar.muli v1408 c4_i32_759
  let v1414 : BitVec 32 := Scalar.addi v1381 v1413
  let c16_i32_760 : BitVec 32 := 16#32
  let v1415 : BitVec 32 := Scalar.muli v1414 c16_i32_760
  let v1459 : Index := Scalar.indexCast v1415
  let c256_803 : Index := 256#32
  ![v1459.toNat, 256]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c0_i32_808 : BitVec 32 := 0#32
  let v1467 : BitVec 1 := Scalar.cmpi .sgt v131 c0_i32_808
  let v1468 : BitVec 32 := Scalar.extui v1467
  let c0_i32_809 : BitVec 32 := 0#32
  let v1469 : BitVec 1 := Scalar.cmpi .slt v131 c0_i32_809
  let v1470 : BitVec 32 := Scalar.extui v1469
  let v1471 : BitVec 32 := Scalar.subi v1468 v1470
  let c4_i32_807 : BitVec 32 := 4#32
  let c0_i32_810 : BitVec 32 := 0#32
  let v1472 : BitVec 1 := Scalar.cmpi .sgt c4_i32_807 c0_i32_810
  let v1473 : BitVec 32 := Scalar.extui v1472
  let c0_i32_811 : BitVec 32 := 0#32
  let v1474 : BitVec 1 := Scalar.cmpi .slt c4_i32_807 c0_i32_811
  let v1475 : BitVec 32 := Scalar.extui v1474
  let v1476 : BitVec 32 := Scalar.subi v1473 v1475
  let v1477 : BitVec 1 := Scalar.cmpi .ne v1471 v1476
  let v1478 : BitVec 32 := Scalar.remsi v131 c4_i32_807
  let c0_i32_812 : BitVec 32 := 0#32
  let v1479 : BitVec 1 := Scalar.cmpi .ne v1478 c0_i32_812
  let v1480 : BitVec 1 := Scalar.andi v1477 v1479
  let v1466 : BitVec 32 := Scalar.divsi v131 c4_i32_807
  let c1_i32_813 : BitVec 32 := 1#32
  let v1481 : BitVec 32 := Scalar.subi v1466 c1_i32_813
  let v1482 : BitVec 32 := Scalar.select v1480 v1481 v1466
  let c4_i32_814 : BitVec 32 := 4#32
  let v1483 : BitVec 32 := Scalar.muli v1482 c4_i32_814
  let c16_i32_815 : BitVec 32 := 16#32
  let v1484 : BitVec 32 := Scalar.muli v1483 c16_i32_815
  let c0_i32_831 : BitVec 32 := 0#32
  ![v1484.toNat, 0]
def k0_dev12 (d0 : Dev nD) : Nat :=
  let c0_i32_829 : BitVec 32 := 0#32
  let c2_i32_224 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_163 : BitVec 32 := 1#32
  let c2_i32_162 : BitVec 32 := 2#32
  let c0_i32_150 : BitVec 32 := 0#32
  let v311 : BitVec 1 := Scalar.cmpi .sgt v131 c0_i32_150
  let v312 : BitVec 32 := Scalar.extui v311
  let c0_i32_151 : BitVec 32 := 0#32
  let v313 : BitVec 1 := Scalar.cmpi .slt v131 c0_i32_151
  let v314 : BitVec 32 := Scalar.extui v313
  let v315 : BitVec 32 := Scalar.subi v312 v314
  let c2_i32_149 : BitVec 32 := 2#32
  let c0_i32_152 : BitVec 32 := 0#32
  let v316 : BitVec 1 := Scalar.cmpi .sgt c2_i32_149 c0_i32_152
  let v317 : BitVec 32 := Scalar.extui v316
  let c0_i32_153 : BitVec 32 := 0#32
  let v318 : BitVec 1 := Scalar.cmpi .slt c2_i32_149 c0_i32_153
  let v319 : BitVec 32 := Scalar.extui v318
  let v320 : BitVec 32 := Scalar.subi v317 v319
  let v321 : BitVec 1 := Scalar.cmpi .ne v315 v320
  let v322 : BitVec 32 := Scalar.remsi v131 c2_i32_149
  let c0_i32_154 : BitVec 32 := 0#32
  let v323 : BitVec 1 := Scalar.cmpi .ne v322 c0_i32_154
  let v324 : BitVec 1 := Scalar.andi v321 v323
  let v310 : BitVec 32 := Scalar.divsi v131 c2_i32_149
  let c1_i32_155 : BitVec 32 := 1#32
  let v325 : BitVec 32 := Scalar.subi v310 c1_i32_155
  let v326 : BitVec 32 := Scalar.select v324 v325 v310
  let c2_i32_156 : BitVec 32 := 2#32
  let c0_i32_157 : BitVec 32 := 0#32
  let v327 : BitVec 1 := Scalar.cmpi .eq c2_i32_156 c0_i32_157
  let c1_i32_158 : BitVec 32 := 1#32
  let v328 : BitVec 32 := Scalar.select v327 c1_i32_158 c2_i32_156
  let v329 : BitVec 32 := Scalar.remsi v326 v328
  let c0_i32_160 : BitVec 32 := 0#32
  let v331 : BitVec 1 := Scalar.cmpi .slt v329 c0_i32_160
  let c0_i32_161 : BitVec 32 := 0#32
  let v332 : BitVec 1 := Scalar.cmpi .slt v328 c0_i32_161
  let v333 : BitVec 1 := Scalar.xori v331 v332
  let c0_i32_159 : BitVec 32 := 0#32
  let v330 : BitVec 1 := Scalar.cmpi .ne v329 c0_i32_159
  let v334 : BitVec 1 := Scalar.andi v333 v330
  let v335 : BitVec 32 := Scalar.addi v329 v328
  let v336 : BitVec 32 := Scalar.select v334 v335 v329
  let v337 : BitVec 32 := Scalar.muli c2_i32_162 v336
  let v338 : BitVec 32 := Scalar.subi c1_i32_163 v337
  let c2_i32_164 : BitVec 32 := 2#32
  let v339 : BitVec 32 := Scalar.muli v338 c2_i32_164
  let v340 : BitVec 32 := Scalar.addi v131 v339
  let c2_i32_217 : BitVec 32 := 2#32
  let c0_i32_218 : BitVec 32 := 0#32
  let v449 : BitVec 1 := Scalar.cmpi .eq c2_i32_217 c0_i32_218
  let c1_i32_219 : BitVec 32 := 1#32
  let v450 : BitVec 32 := Scalar.select v449 c1_i32_219 c2_i32_217
  let v451 : BitVec 32 := Scalar.remsi v340 v450
  let c0_i32_221 : BitVec 32 := 0#32
  let v453 : BitVec 1 := Scalar.cmpi .slt v451 c0_i32_221
  let c0_i32_222 : BitVec 32 := 0#32
  let v454 : BitVec 1 := Scalar.cmpi .slt v450 c0_i32_222
  let v455 : BitVec 1 := Scalar.xori v453 v454
  let c0_i32_220 : BitVec 32 := 0#32
  let v452 : BitVec 1 := Scalar.cmpi .ne v451 c0_i32_220
  let v456 : BitVec 1 := Scalar.andi v455 v452
  let v457 : BitVec 32 := Scalar.addi v451 v450
  let v458 : BitVec 32 := Scalar.select v456 v457 v451
  let v461 : BitVec 32 := Scalar.muli c2_i32_224 v458
  let c0_i32_192 : BitVec 32 := 0#32
  let v396 : BitVec 1 := Scalar.cmpi .sgt v340 c0_i32_192
  let v397 : BitVec 32 := Scalar.extui v396
  let c0_i32_193 : BitVec 32 := 0#32
  let v398 : BitVec 1 := Scalar.cmpi .slt v340 c0_i32_193
  let v399 : BitVec 32 := Scalar.extui v398
  let v400 : BitVec 32 := Scalar.subi v397 v399
  let c4_i32_191 : BitVec 32 := 4#32
  let c0_i32_194 : BitVec 32 := 0#32
  let v401 : BitVec 1 := Scalar.cmpi .sgt c4_i32_191 c0_i32_194
  let v402 : BitVec 32 := Scalar.extui v401
  let c0_i32_195 : BitVec 32 := 0#32
  let v403 : BitVec 1 := Scalar.cmpi .slt c4_i32_191 c0_i32_195
  let v404 : BitVec 32 := Scalar.extui v403
  let v405 : BitVec 32 := Scalar.subi v402 v404
  let v406 : BitVec 1 := Scalar.cmpi .ne v400 v405
  let v407 : BitVec 32 := Scalar.remsi v340 c4_i32_191
  let c0_i32_196 : BitVec 32 := 0#32
  let v408 : BitVec 1 := Scalar.cmpi .ne v407 c0_i32_196
  let v409 : BitVec 1 := Scalar.andi v406 v408
  let v395 : BitVec 32 := Scalar.divsi v340 c4_i32_191
  let c1_i32_197 : BitVec 32 := 1#32
  let v410 : BitVec 32 := Scalar.subi v395 c1_i32_197
  let v411 : BitVec 32 := Scalar.select v409 v410 v395
  let c2_i32_198 : BitVec 32 := 2#32
  let c0_i32_199 : BitVec 32 := 0#32
  let v412 : BitVec 1 := Scalar.cmpi .eq c2_i32_198 c0_i32_199
  let c1_i32_200 : BitVec 32 := 1#32
  let v413 : BitVec 32 := Scalar.select v412 c1_i32_200 c2_i32_198
  let v414 : BitVec 32 := Scalar.remsi v411 v413
  let c0_i32_202 : BitVec 32 := 0#32
  let v416 : BitVec 1 := Scalar.cmpi .slt v414 c0_i32_202
  let c0_i32_203 : BitVec 32 := 0#32
  let v417 : BitVec 1 := Scalar.cmpi .slt v413 c0_i32_203
  let v418 : BitVec 1 := Scalar.xori v416 v417
  let c0_i32_201 : BitVec 32 := 0#32
  let v415 : BitVec 1 := Scalar.cmpi .ne v414 c0_i32_201
  let v419 : BitVec 1 := Scalar.andi v418 v415
  let v420 : BitVec 32 := Scalar.addi v414 v413
  let v421 : BitVec 32 := Scalar.select v419 v420 v414
  let v462 : BitVec 32 := Scalar.addi v461 v421
  let c8_i32_225 : BitVec 32 := 8#32
  let v463 : BitVec 32 := Scalar.muli v462 c8_i32_225
  let c2_i32_223 : BitVec 32 := 2#32
  let c0_i32_205 : BitVec 32 := 0#32
  let v423 : BitVec 1 := Scalar.cmpi .sgt v340 c0_i32_205
  let v424 : BitVec 32 := Scalar.extui v423
  let c0_i32_206 : BitVec 32 := 0#32
  let v425 : BitVec 1 := Scalar.cmpi .slt v340 c0_i32_206
  let v426 : BitVec 32 := Scalar.extui v425
  let v427 : BitVec 32 := Scalar.subi v424 v426
  let c2_i32_204 : BitVec 32 := 2#32
  let c0_i32_207 : BitVec 32 := 0#32
  let v428 : BitVec 1 := Scalar.cmpi .sgt c2_i32_204 c0_i32_207
  let v429 : BitVec 32 := Scalar.extui v428
  let c0_i32_208 : BitVec 32 := 0#32
  let v430 : BitVec 1 := Scalar.cmpi .slt c2_i32_204 c0_i32_208
  let v431 : BitVec 32 := Scalar.extui v430
  let v432 : BitVec 32 := Scalar.subi v429 v431
  let v433 : BitVec 1 := Scalar.cmpi .ne v427 v432
  let v434 : BitVec 32 := Scalar.remsi v340 c2_i32_204
  let c0_i32_209 : BitVec 32 := 0#32
  let v435 : BitVec 1 := Scalar.cmpi .ne v434 c0_i32_209
  let v436 : BitVec 1 := Scalar.andi v433 v435
  let v422 : BitVec 32 := Scalar.divsi v340 c2_i32_204
  let c1_i32_210 : BitVec 32 := 1#32
  let v437 : BitVec 32 := Scalar.subi v422 c1_i32_210
  let v438 : BitVec 32 := Scalar.select v436 v437 v422
  let c2_i32_211 : BitVec 32 := 2#32
  let c0_i32_212 : BitVec 32 := 0#32
  let v439 : BitVec 1 := Scalar.cmpi .eq c2_i32_211 c0_i32_212
  let c1_i32_213 : BitVec 32 := 1#32
  let v440 : BitVec 32 := Scalar.select v439 c1_i32_213 c2_i32_211
  let v441 : BitVec 32 := Scalar.remsi v438 v440
  let c0_i32_215 : BitVec 32 := 0#32
  let v443 : BitVec 1 := Scalar.cmpi .slt v441 c0_i32_215
  let c0_i32_216 : BitVec 32 := 0#32
  let v444 : BitVec 1 := Scalar.cmpi .slt v440 c0_i32_216
  let v445 : BitVec 1 := Scalar.xori v443 v444
  let c0_i32_214 : BitVec 32 := 0#32
  let v442 : BitVec 1 := Scalar.cmpi .ne v441 c0_i32_214
  let v446 : BitVec 1 := Scalar.andi v445 v442
  let v447 : BitVec 32 := Scalar.addi v441 v440
  let v448 : BitVec 32 := Scalar.select v446 v447 v441
  let v459 : BitVec 32 := Scalar.muli c2_i32_223 v448
  let c0_i32_179 : BitVec 32 := 0#32
  let v369 : BitVec 1 := Scalar.cmpi .sgt v340 c0_i32_179
  let v370 : BitVec 32 := Scalar.extui v369
  let c0_i32_180 : BitVec 32 := 0#32
  let v371 : BitVec 1 := Scalar.cmpi .slt v340 c0_i32_180
  let v372 : BitVec 32 := Scalar.extui v371
  let v373 : BitVec 32 := Scalar.subi v370 v372
  let c8_i32_178 : BitVec 32 := 8#32
  let c0_i32_181 : BitVec 32 := 0#32
  let v374 : BitVec 1 := Scalar.cmpi .sgt c8_i32_178 c0_i32_181
  let v375 : BitVec 32 := Scalar.extui v374
  let c0_i32_182 : BitVec 32 := 0#32
  let v376 : BitVec 1 := Scalar.cmpi .slt c8_i32_178 c0_i32_182
  let v377 : BitVec 32 := Scalar.extui v376
  let v378 : BitVec 32 := Scalar.subi v375 v377
  let v379 : BitVec 1 := Scalar.cmpi .ne v373 v378
  let v380 : BitVec 32 := Scalar.remsi v340 c8_i32_178
  let c0_i32_183 : BitVec 32 := 0#32
  let v381 : BitVec 1 := Scalar.cmpi .ne v380 c0_i32_183
  let v382 : BitVec 1 := Scalar.andi v379 v381
  let v368 : BitVec 32 := Scalar.divsi v340 c8_i32_178
  let c1_i32_184 : BitVec 32 := 1#32
  let v383 : BitVec 32 := Scalar.subi v368 c1_i32_184
  let v384 : BitVec 32 := Scalar.select v382 v383 v368
  let c2_i32_185 : BitVec 32 := 2#32
  let c0_i32_186 : BitVec 32 := 0#32
  let v385 : BitVec 1 := Scalar.cmpi .eq c2_i32_185 c0_i32_186
  let c1_i32_187 : BitVec 32 := 1#32
  let v386 : BitVec 32 := Scalar.select v385 c1_i32_187 c2_i32_185
  let v387 : BitVec 32 := Scalar.remsi v384 v386
  let c0_i32_189 : BitVec 32 := 0#32
  let v389 : BitVec 1 := Scalar.cmpi .slt v387 c0_i32_189
  let c0_i32_190 : BitVec 32 := 0#32
  let v390 : BitVec 1 := Scalar.cmpi .slt v386 c0_i32_190
  let v391 : BitVec 1 := Scalar.xori v389 v390
  let c0_i32_188 : BitVec 32 := 0#32
  let v388 : BitVec 1 := Scalar.cmpi .ne v387 c0_i32_188
  let v392 : BitVec 1 := Scalar.andi v391 v388
  let v393 : BitVec 32 := Scalar.addi v387 v386
  let v394 : BitVec 32 := Scalar.select v392 v393 v387
  let v460 : BitVec 32 := Scalar.addi v459 v394
  let c2_i32_226 : BitVec 32 := 2#32
  let v464 : BitVec 32 := Scalar.muli v460 c2_i32_226
  let v465 : BitVec 32 := Scalar.addi v463 v464
  let c2_i32_227 : BitVec 32 := 2#32
  let c0_i32_228 : BitVec 32 := 0#32
  let v466 : BitVec 1 := Scalar.cmpi .eq c2_i32_227 c0_i32_228
  let c1_i32_229 : BitVec 32 := 1#32
  let v467 : BitVec 32 := Scalar.select v466 c1_i32_229 c2_i32_227
  let v468 : BitVec 32 := Scalar.remsi v460 v467
  let c0_i32_231 : BitVec 32 := 0#32
  let v470 : BitVec 1 := Scalar.cmpi .slt v468 c0_i32_231
  let c0_i32_232 : BitVec 32 := 0#32
  let v471 : BitVec 1 := Scalar.cmpi .slt v467 c0_i32_232
  let v472 : BitVec 1 := Scalar.xori v470 v471
  let c0_i32_230 : BitVec 32 := 0#32
  let v469 : BitVec 1 := Scalar.cmpi .ne v468 c0_i32_230
  let v473 : BitVec 1 := Scalar.andi v472 v469
  let v474 : BitVec 32 := Scalar.addi v468 v467
  let v475 : BitVec 32 := Scalar.select v473 v474 v468
  let c0_i32_233 : BitVec 32 := 0#32
  let v476 : BitVec 1 := Scalar.cmpi .eq v475 c0_i32_233
  let c0_i32_166 : BitVec 32 := 0#32
  let v342 : BitVec 1 := Scalar.cmpi .sgt v340 c0_i32_166
  let v343 : BitVec 32 := Scalar.extui v342
  let c0_i32_167 : BitVec 32 := 0#32
  let v344 : BitVec 1 := Scalar.cmpi .slt v340 c0_i32_167
  let v345 : BitVec 32 := Scalar.extui v344
  let v346 : BitVec 32 := Scalar.subi v343 v345
  let c16_i32_165 : BitVec 32 := 16#32
  let c0_i32_168 : BitVec 32 := 0#32
  let v347 : BitVec 1 := Scalar.cmpi .sgt c16_i32_165 c0_i32_168
  let v348 : BitVec 32 := Scalar.extui v347
  let c0_i32_169 : BitVec 32 := 0#32
  let v349 : BitVec 1 := Scalar.cmpi .slt c16_i32_165 c0_i32_169
  let v350 : BitVec 32 := Scalar.extui v349
  let v351 : BitVec 32 := Scalar.subi v348 v350
  let v352 : BitVec 1 := Scalar.cmpi .ne v346 v351
  let v353 : BitVec 32 := Scalar.remsi v340 c16_i32_165
  let c0_i32_170 : BitVec 32 := 0#32
  let v354 : BitVec 1 := Scalar.cmpi .ne v353 c0_i32_170
  let v355 : BitVec 1 := Scalar.andi v352 v354
  let v341 : BitVec 32 := Scalar.divsi v340 c16_i32_165
  let c1_i32_171 : BitVec 32 := 1#32
  let v356 : BitVec 32 := Scalar.subi v341 c1_i32_171
  let v357 : BitVec 32 := Scalar.select v355 v356 v341
  let c2_i32_172 : BitVec 32 := 2#32
  let c0_i32_173 : BitVec 32 := 0#32
  let v358 : BitVec 1 := Scalar.cmpi .eq c2_i32_172 c0_i32_173
  let c1_i32_174 : BitVec 32 := 1#32
  let v359 : BitVec 32 := Scalar.select v358 c1_i32_174 c2_i32_172
  let v360 : BitVec 32 := Scalar.remsi v357 v359
  let c0_i32_176 : BitVec 32 := 0#32
  let v362 : BitVec 1 := Scalar.cmpi .slt v360 c0_i32_176
  let c0_i32_177 : BitVec 32 := 0#32
  let v363 : BitVec 1 := Scalar.cmpi .slt v359 c0_i32_177
  let v364 : BitVec 1 := Scalar.xori v362 v363
  let c0_i32_175 : BitVec 32 := 0#32
  let v361 : BitVec 1 := Scalar.cmpi .ne v360 c0_i32_175
  let v365 : BitVec 1 := Scalar.andi v364 v361
  let v366 : BitVec 32 := Scalar.addi v360 v359
  let v367 : BitVec 32 := Scalar.select v365 v366 v360
  let c1_i32_234 : BitVec 32 := 1#32
  let v477 : BitVec 32 := Scalar.subi c1_i32_234 v367
  let v478 : BitVec 32 := Scalar.select v476 v367 v477
  let v479 : BitVec 32 := Scalar.addi v465 v478
  let c1_i32_828 : BitVec 32 := 1#32
  let v1506 : BitVec 32 := Scalar.muli v479 c1_i32_828
  let v1507 : BitVec 32 := Scalar.addi c0_i32_829 v1506
  v1507.toNat
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c16_i32_59 : BitVec 32 := 16#32
  let v132 : BitVec 32 := Scalar.muli v79 c16_i32_59
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c8_i32_60 : BitVec 32 := 8#32
  let v133 : BitVec 32 := Scalar.muli v106 c8_i32_60
  let v134 : BitVec 32 := Scalar.addi v132 v133
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c4_i32_61 : BitVec 32 := 4#32
  let v135 : BitVec 32 := Scalar.muli v69 c4_i32_61
  let v136 : BitVec 32 := Scalar.addi v134 v135
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let c2_i32_62 : BitVec 32 := 2#32
  let v137 : BitVec 32 := Scalar.muli v123 c2_i32_62
  let v138 : BitVec 32 := Scalar.addi v136 v137
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let v139 : BitVec 32 := Scalar.addi v138 v96
  let c0_i32_818 : BitVec 32 := 0#32
  let v1487 : BitVec 1 := Scalar.cmpi .sgt v139 c0_i32_818
  let v1488 : BitVec 32 := Scalar.extui v1487
  let c0_i32_819 : BitVec 32 := 0#32
  let v1489 : BitVec 1 := Scalar.cmpi .slt v139 c0_i32_819
  let v1490 : BitVec 32 := Scalar.extui v1489
  let v1491 : BitVec 32 := Scalar.subi v1488 v1490
  let c4_i32_817 : BitVec 32 := 4#32
  let c0_i32_820 : BitVec 32 := 0#32
  let v1492 : BitVec 1 := Scalar.cmpi .sgt c4_i32_817 c0_i32_820
  let v1493 : BitVec 32 := Scalar.extui v1492
  let c0_i32_821 : BitVec 32 := 0#32
  let v1494 : BitVec 1 := Scalar.cmpi .slt c4_i32_817 c0_i32_821
  let v1495 : BitVec 32 := Scalar.extui v1494
  let v1496 : BitVec 32 := Scalar.subi v1493 v1495
  let v1497 : BitVec 1 := Scalar.cmpi .ne v1491 v1496
  let v1498 : BitVec 32 := Scalar.remsi v139 c4_i32_817
  let c0_i32_822 : BitVec 32 := 0#32
  let v1499 : BitVec 1 := Scalar.cmpi .ne v1498 c0_i32_822
  let v1500 : BitVec 1 := Scalar.andi v1497 v1499
  let v1486 : BitVec 32 := Scalar.divsi v139 c4_i32_817
  let c1_i32_823 : BitVec 32 := 1#32
  let v1501 : BitVec 32 := Scalar.subi v1486 c1_i32_823
  let v1502 : BitVec 32 := Scalar.select v1500 v1501 v1486
  let c4_i32_824 : BitVec 32 := 4#32
  let v1503 : BitVec 32 := Scalar.muli v1502 c4_i32_824
  let c16_i32_825 : BitVec 32 := 16#32
  let v1504 : BitVec 32 := Scalar.muli v1503 c16_i32_825
  let c256_i32_838 : BitVec 32 := 256#32
  ![v1504.toNat, 256]
def k0_dev13 (d0 : Dev nD) : Nat :=
  let c0_i32_835 : BitVec 32 := 0#32
  let c2_i32_138 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_77 : BitVec 32 := 1#32
  let c2_i32_76 : BitVec 32 := 2#32
  let c0_i32_64 : BitVec 32 := 0#32
  let v141 : BitVec 1 := Scalar.cmpi .sgt v131 c0_i32_64
  let v142 : BitVec 32 := Scalar.extui v141
  let c0_i32_65 : BitVec 32 := 0#32
  let v143 : BitVec 1 := Scalar.cmpi .slt v131 c0_i32_65
  let v144 : BitVec 32 := Scalar.extui v143
  let v145 : BitVec 32 := Scalar.subi v142 v144
  let c1_i32_63 : BitVec 32 := 1#32
  let c0_i32_66 : BitVec 32 := 0#32
  let v146 : BitVec 1 := Scalar.cmpi .sgt c1_i32_63 c0_i32_66
  let v147 : BitVec 32 := Scalar.extui v146
  let c0_i32_67 : BitVec 32 := 0#32
  let v148 : BitVec 1 := Scalar.cmpi .slt c1_i32_63 c0_i32_67
  let v149 : BitVec 32 := Scalar.extui v148
  let v150 : BitVec 32 := Scalar.subi v147 v149
  let v151 : BitVec 1 := Scalar.cmpi .ne v145 v150
  let v152 : BitVec 32 := Scalar.remsi v131 c1_i32_63
  let c0_i32_68 : BitVec 32 := 0#32
  let v153 : BitVec 1 := Scalar.cmpi .ne v152 c0_i32_68
  let v154 : BitVec 1 := Scalar.andi v151 v153
  let v140 : BitVec 32 := Scalar.divsi v131 c1_i32_63
  let c1_i32_69 : BitVec 32 := 1#32
  let v155 : BitVec 32 := Scalar.subi v140 c1_i32_69
  let v156 : BitVec 32 := Scalar.select v154 v155 v140
  let c2_i32_70 : BitVec 32 := 2#32
  let c0_i32_71 : BitVec 32 := 0#32
  let v157 : BitVec 1 := Scalar.cmpi .eq c2_i32_70 c0_i32_71
  let c1_i32_72 : BitVec 32 := 1#32
  let v158 : BitVec 32 := Scalar.select v157 c1_i32_72 c2_i32_70
  let v159 : BitVec 32 := Scalar.remsi v156 v158
  let c0_i32_74 : BitVec 32 := 0#32
  let v161 : BitVec 1 := Scalar.cmpi .slt v159 c0_i32_74
  let c0_i32_75 : BitVec 32 := 0#32
  let v162 : BitVec 1 := Scalar.cmpi .slt v158 c0_i32_75
  let v163 : BitVec 1 := Scalar.xori v161 v162
  let c0_i32_73 : BitVec 32 := 0#32
  let v160 : BitVec 1 := Scalar.cmpi .ne v159 c0_i32_73
  let v164 : BitVec 1 := Scalar.andi v163 v160
  let v165 : BitVec 32 := Scalar.addi v159 v158
  let v166 : BitVec 32 := Scalar.select v164 v165 v159
  let v167 : BitVec 32 := Scalar.muli c2_i32_76 v166
  let v168 : BitVec 32 := Scalar.subi c1_i32_77 v167
  let c1_i32_78 : BitVec 32 := 1#32
  let v169 : BitVec 32 := Scalar.muli v168 c1_i32_78
  let v170 : BitVec 32 := Scalar.addi v131 v169
  let c2_i32_131 : BitVec 32 := 2#32
  let c0_i32_132 : BitVec 32 := 0#32
  let v279 : BitVec 1 := Scalar.cmpi .eq c2_i32_131 c0_i32_132
  let c1_i32_133 : BitVec 32 := 1#32
  let v280 : BitVec 32 := Scalar.select v279 c1_i32_133 c2_i32_131
  let v281 : BitVec 32 := Scalar.remsi v170 v280
  let c0_i32_135 : BitVec 32 := 0#32
  let v283 : BitVec 1 := Scalar.cmpi .slt v281 c0_i32_135
  let c0_i32_136 : BitVec 32 := 0#32
  let v284 : BitVec 1 := Scalar.cmpi .slt v280 c0_i32_136
  let v285 : BitVec 1 := Scalar.xori v283 v284
  let c0_i32_134 : BitVec 32 := 0#32
  let v282 : BitVec 1 := Scalar.cmpi .ne v281 c0_i32_134
  let v286 : BitVec 1 := Scalar.andi v285 v282
  let v287 : BitVec 32 := Scalar.addi v281 v280
  let v288 : BitVec 32 := Scalar.select v286 v287 v281
  let v291 : BitVec 32 := Scalar.muli c2_i32_138 v288
  let c0_i32_106 : BitVec 32 := 0#32
  let v226 : BitVec 1 := Scalar.cmpi .sgt v170 c0_i32_106
  let v227 : BitVec 32 := Scalar.extui v226
  let c0_i32_107 : BitVec 32 := 0#32
  let v228 : BitVec 1 := Scalar.cmpi .slt v170 c0_i32_107
  let v229 : BitVec 32 := Scalar.extui v228
  let v230 : BitVec 32 := Scalar.subi v227 v229
  let c4_i32_105 : BitVec 32 := 4#32
  let c0_i32_108 : BitVec 32 := 0#32
  let v231 : BitVec 1 := Scalar.cmpi .sgt c4_i32_105 c0_i32_108
  let v232 : BitVec 32 := Scalar.extui v231
  let c0_i32_109 : BitVec 32 := 0#32
  let v233 : BitVec 1 := Scalar.cmpi .slt c4_i32_105 c0_i32_109
  let v234 : BitVec 32 := Scalar.extui v233
  let v235 : BitVec 32 := Scalar.subi v232 v234
  let v236 : BitVec 1 := Scalar.cmpi .ne v230 v235
  let v237 : BitVec 32 := Scalar.remsi v170 c4_i32_105
  let c0_i32_110 : BitVec 32 := 0#32
  let v238 : BitVec 1 := Scalar.cmpi .ne v237 c0_i32_110
  let v239 : BitVec 1 := Scalar.andi v236 v238
  let v225 : BitVec 32 := Scalar.divsi v170 c4_i32_105
  let c1_i32_111 : BitVec 32 := 1#32
  let v240 : BitVec 32 := Scalar.subi v225 c1_i32_111
  let v241 : BitVec 32 := Scalar.select v239 v240 v225
  let c2_i32_112 : BitVec 32 := 2#32
  let c0_i32_113 : BitVec 32 := 0#32
  let v242 : BitVec 1 := Scalar.cmpi .eq c2_i32_112 c0_i32_113
  let c1_i32_114 : BitVec 32 := 1#32
  let v243 : BitVec 32 := Scalar.select v242 c1_i32_114 c2_i32_112
  let v244 : BitVec 32 := Scalar.remsi v241 v243
  let c0_i32_116 : BitVec 32 := 0#32
  let v246 : BitVec 1 := Scalar.cmpi .slt v244 c0_i32_116
  let c0_i32_117 : BitVec 32 := 0#32
  let v247 : BitVec 1 := Scalar.cmpi .slt v243 c0_i32_117
  let v248 : BitVec 1 := Scalar.xori v246 v247
  let c0_i32_115 : BitVec 32 := 0#32
  let v245 : BitVec 1 := Scalar.cmpi .ne v244 c0_i32_115
  let v249 : BitVec 1 := Scalar.andi v248 v245
  let v250 : BitVec 32 := Scalar.addi v244 v243
  let v251 : BitVec 32 := Scalar.select v249 v250 v244
  let v292 : BitVec 32 := Scalar.addi v291 v251
  let c8_i32_139 : BitVec 32 := 8#32
  let v293 : BitVec 32 := Scalar.muli v292 c8_i32_139
  let c2_i32_137 : BitVec 32 := 2#32
  let c0_i32_119 : BitVec 32 := 0#32
  let v253 : BitVec 1 := Scalar.cmpi .sgt v170 c0_i32_119
  let v254 : BitVec 32 := Scalar.extui v253
  let c0_i32_120 : BitVec 32 := 0#32
  let v255 : BitVec 1 := Scalar.cmpi .slt v170 c0_i32_120
  let v256 : BitVec 32 := Scalar.extui v255
  let v257 : BitVec 32 := Scalar.subi v254 v256
  let c2_i32_118 : BitVec 32 := 2#32
  let c0_i32_121 : BitVec 32 := 0#32
  let v258 : BitVec 1 := Scalar.cmpi .sgt c2_i32_118 c0_i32_121
  let v259 : BitVec 32 := Scalar.extui v258
  let c0_i32_122 : BitVec 32 := 0#32
  let v260 : BitVec 1 := Scalar.cmpi .slt c2_i32_118 c0_i32_122
  let v261 : BitVec 32 := Scalar.extui v260
  let v262 : BitVec 32 := Scalar.subi v259 v261
  let v263 : BitVec 1 := Scalar.cmpi .ne v257 v262
  let v264 : BitVec 32 := Scalar.remsi v170 c2_i32_118
  let c0_i32_123 : BitVec 32 := 0#32
  let v265 : BitVec 1 := Scalar.cmpi .ne v264 c0_i32_123
  let v266 : BitVec 1 := Scalar.andi v263 v265
  let v252 : BitVec 32 := Scalar.divsi v170 c2_i32_118
  let c1_i32_124 : BitVec 32 := 1#32
  let v267 : BitVec 32 := Scalar.subi v252 c1_i32_124
  let v268 : BitVec 32 := Scalar.select v266 v267 v252
  let c2_i32_125 : BitVec 32 := 2#32
  let c0_i32_126 : BitVec 32 := 0#32
  let v269 : BitVec 1 := Scalar.cmpi .eq c2_i32_125 c0_i32_126
  let c1_i32_127 : BitVec 32 := 1#32
  let v270 : BitVec 32 := Scalar.select v269 c1_i32_127 c2_i32_125
  let v271 : BitVec 32 := Scalar.remsi v268 v270
  let c0_i32_129 : BitVec 32 := 0#32
  let v273 : BitVec 1 := Scalar.cmpi .slt v271 c0_i32_129
  let c0_i32_130 : BitVec 32 := 0#32
  let v274 : BitVec 1 := Scalar.cmpi .slt v270 c0_i32_130
  let v275 : BitVec 1 := Scalar.xori v273 v274
  let c0_i32_128 : BitVec 32 := 0#32
  let v272 : BitVec 1 := Scalar.cmpi .ne v271 c0_i32_128
  let v276 : BitVec 1 := Scalar.andi v275 v272
  let v277 : BitVec 32 := Scalar.addi v271 v270
  let v278 : BitVec 32 := Scalar.select v276 v277 v271
  let v289 : BitVec 32 := Scalar.muli c2_i32_137 v278
  let c0_i32_93 : BitVec 32 := 0#32
  let v199 : BitVec 1 := Scalar.cmpi .sgt v170 c0_i32_93
  let v200 : BitVec 32 := Scalar.extui v199
  let c0_i32_94 : BitVec 32 := 0#32
  let v201 : BitVec 1 := Scalar.cmpi .slt v170 c0_i32_94
  let v202 : BitVec 32 := Scalar.extui v201
  let v203 : BitVec 32 := Scalar.subi v200 v202
  let c8_i32_92 : BitVec 32 := 8#32
  let c0_i32_95 : BitVec 32 := 0#32
  let v204 : BitVec 1 := Scalar.cmpi .sgt c8_i32_92 c0_i32_95
  let v205 : BitVec 32 := Scalar.extui v204
  let c0_i32_96 : BitVec 32 := 0#32
  let v206 : BitVec 1 := Scalar.cmpi .slt c8_i32_92 c0_i32_96
  let v207 : BitVec 32 := Scalar.extui v206
  let v208 : BitVec 32 := Scalar.subi v205 v207
  let v209 : BitVec 1 := Scalar.cmpi .ne v203 v208
  let v210 : BitVec 32 := Scalar.remsi v170 c8_i32_92
  let c0_i32_97 : BitVec 32 := 0#32
  let v211 : BitVec 1 := Scalar.cmpi .ne v210 c0_i32_97
  let v212 : BitVec 1 := Scalar.andi v209 v211
  let v198 : BitVec 32 := Scalar.divsi v170 c8_i32_92
  let c1_i32_98 : BitVec 32 := 1#32
  let v213 : BitVec 32 := Scalar.subi v198 c1_i32_98
  let v214 : BitVec 32 := Scalar.select v212 v213 v198
  let c2_i32_99 : BitVec 32 := 2#32
  let c0_i32_100 : BitVec 32 := 0#32
  let v215 : BitVec 1 := Scalar.cmpi .eq c2_i32_99 c0_i32_100
  let c1_i32_101 : BitVec 32 := 1#32
  let v216 : BitVec 32 := Scalar.select v215 c1_i32_101 c2_i32_99
  let v217 : BitVec 32 := Scalar.remsi v214 v216
  let c0_i32_103 : BitVec 32 := 0#32
  let v219 : BitVec 1 := Scalar.cmpi .slt v217 c0_i32_103
  let c0_i32_104 : BitVec 32 := 0#32
  let v220 : BitVec 1 := Scalar.cmpi .slt v216 c0_i32_104
  let v221 : BitVec 1 := Scalar.xori v219 v220
  let c0_i32_102 : BitVec 32 := 0#32
  let v218 : BitVec 1 := Scalar.cmpi .ne v217 c0_i32_102
  let v222 : BitVec 1 := Scalar.andi v221 v218
  let v223 : BitVec 32 := Scalar.addi v217 v216
  let v224 : BitVec 32 := Scalar.select v222 v223 v217
  let v290 : BitVec 32 := Scalar.addi v289 v224
  let c2_i32_140 : BitVec 32 := 2#32
  let v294 : BitVec 32 := Scalar.muli v290 c2_i32_140
  let v295 : BitVec 32 := Scalar.addi v293 v294
  let c2_i32_141 : BitVec 32 := 2#32
  let c0_i32_142 : BitVec 32 := 0#32
  let v296 : BitVec 1 := Scalar.cmpi .eq c2_i32_141 c0_i32_142
  let c1_i32_143 : BitVec 32 := 1#32
  let v297 : BitVec 32 := Scalar.select v296 c1_i32_143 c2_i32_141
  let v298 : BitVec 32 := Scalar.remsi v290 v297
  let c0_i32_145 : BitVec 32 := 0#32
  let v300 : BitVec 1 := Scalar.cmpi .slt v298 c0_i32_145
  let c0_i32_146 : BitVec 32 := 0#32
  let v301 : BitVec 1 := Scalar.cmpi .slt v297 c0_i32_146
  let v302 : BitVec 1 := Scalar.xori v300 v301
  let c0_i32_144 : BitVec 32 := 0#32
  let v299 : BitVec 1 := Scalar.cmpi .ne v298 c0_i32_144
  let v303 : BitVec 1 := Scalar.andi v302 v299
  let v304 : BitVec 32 := Scalar.addi v298 v297
  let v305 : BitVec 32 := Scalar.select v303 v304 v298
  let c0_i32_147 : BitVec 32 := 0#32
  let v306 : BitVec 1 := Scalar.cmpi .eq v305 c0_i32_147
  let c0_i32_80 : BitVec 32 := 0#32
  let v172 : BitVec 1 := Scalar.cmpi .sgt v170 c0_i32_80
  let v173 : BitVec 32 := Scalar.extui v172
  let c0_i32_81 : BitVec 32 := 0#32
  let v174 : BitVec 1 := Scalar.cmpi .slt v170 c0_i32_81
  let v175 : BitVec 32 := Scalar.extui v174
  let v176 : BitVec 32 := Scalar.subi v173 v175
  let c16_i32_79 : BitVec 32 := 16#32
  let c0_i32_82 : BitVec 32 := 0#32
  let v177 : BitVec 1 := Scalar.cmpi .sgt c16_i32_79 c0_i32_82
  let v178 : BitVec 32 := Scalar.extui v177
  let c0_i32_83 : BitVec 32 := 0#32
  let v179 : BitVec 1 := Scalar.cmpi .slt c16_i32_79 c0_i32_83
  let v180 : BitVec 32 := Scalar.extui v179
  let v181 : BitVec 32 := Scalar.subi v178 v180
  let v182 : BitVec 1 := Scalar.cmpi .ne v176 v181
  let v183 : BitVec 32 := Scalar.remsi v170 c16_i32_79
  let c0_i32_84 : BitVec 32 := 0#32
  let v184 : BitVec 1 := Scalar.cmpi .ne v183 c0_i32_84
  let v185 : BitVec 1 := Scalar.andi v182 v184
  let v171 : BitVec 32 := Scalar.divsi v170 c16_i32_79
  let c1_i32_85 : BitVec 32 := 1#32
  let v186 : BitVec 32 := Scalar.subi v171 c1_i32_85
  let v187 : BitVec 32 := Scalar.select v185 v186 v171
  let c2_i32_86 : BitVec 32 := 2#32
  let c0_i32_87 : BitVec 32 := 0#32
  let v188 : BitVec 1 := Scalar.cmpi .eq c2_i32_86 c0_i32_87
  let c1_i32_88 : BitVec 32 := 1#32
  let v189 : BitVec 32 := Scalar.select v188 c1_i32_88 c2_i32_86
  let v190 : BitVec 32 := Scalar.remsi v187 v189
  let c0_i32_90 : BitVec 32 := 0#32
  let v192 : BitVec 1 := Scalar.cmpi .slt v190 c0_i32_90
  let c0_i32_91 : BitVec 32 := 0#32
  let v193 : BitVec 1 := Scalar.cmpi .slt v189 c0_i32_91
  let v194 : BitVec 1 := Scalar.xori v192 v193
  let c0_i32_89 : BitVec 32 := 0#32
  let v191 : BitVec 1 := Scalar.cmpi .ne v190 c0_i32_89
  let v195 : BitVec 1 := Scalar.andi v194 v191
  let v196 : BitVec 32 := Scalar.addi v190 v189
  let v197 : BitVec 32 := Scalar.select v195 v196 v190
  let c1_i32_148 : BitVec 32 := 1#32
  let v307 : BitVec 32 := Scalar.subi c1_i32_148 v197
  let v308 : BitVec 32 := Scalar.select v306 v197 v307
  let v309 : BitVec 32 := Scalar.addi v295 v308
  let c1_i32_834 : BitVec 32 := 1#32
  let v1514 : BitVec 32 := Scalar.muli v309 c1_i32_834
  let v1515 : BitVec 32 := Scalar.addi c0_i32_835 v1514
  v1515.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c0_i32_808 : BitVec 32 := 0#32
  let v1467 : BitVec 1 := Scalar.cmpi .sgt v131 c0_i32_808
  let v1468 : BitVec 32 := Scalar.extui v1467
  let c0_i32_809 : BitVec 32 := 0#32
  let v1469 : BitVec 1 := Scalar.cmpi .slt v131 c0_i32_809
  let v1470 : BitVec 32 := Scalar.extui v1469
  let v1471 : BitVec 32 := Scalar.subi v1468 v1470
  let c4_i32_807 : BitVec 32 := 4#32
  let c0_i32_810 : BitVec 32 := 0#32
  let v1472 : BitVec 1 := Scalar.cmpi .sgt c4_i32_807 c0_i32_810
  let v1473 : BitVec 32 := Scalar.extui v1472
  let c0_i32_811 : BitVec 32 := 0#32
  let v1474 : BitVec 1 := Scalar.cmpi .slt c4_i32_807 c0_i32_811
  let v1475 : BitVec 32 := Scalar.extui v1474
  let v1476 : BitVec 32 := Scalar.subi v1473 v1475
  let v1477 : BitVec 1 := Scalar.cmpi .ne v1471 v1476
  let v1478 : BitVec 32 := Scalar.remsi v131 c4_i32_807
  let c0_i32_812 : BitVec 32 := 0#32
  let v1479 : BitVec 1 := Scalar.cmpi .ne v1478 c0_i32_812
  let v1480 : BitVec 1 := Scalar.andi v1477 v1479
  let v1466 : BitVec 32 := Scalar.divsi v131 c4_i32_807
  let c1_i32_813 : BitVec 32 := 1#32
  let v1481 : BitVec 32 := Scalar.subi v1466 c1_i32_813
  let v1482 : BitVec 32 := Scalar.select v1480 v1481 v1466
  let c4_i32_814 : BitVec 32 := 4#32
  let v1483 : BitVec 32 := Scalar.muli v1482 c4_i32_814
  let c16_i32_816 : BitVec 32 := 16#32
  let v1485 : BitVec 32 := Scalar.muli v1483 c16_i32_816
  let v1532 : Index := Scalar.indexCast v1485
  let c0_852 : Index := 0#32
  ![v1532.toNat, 0]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c16_i32_59 : BitVec 32 := 16#32
  let v132 : BitVec 32 := Scalar.muli v79 c16_i32_59
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c8_i32_60 : BitVec 32 := 8#32
  let v133 : BitVec 32 := Scalar.muli v106 c8_i32_60
  let v134 : BitVec 32 := Scalar.addi v132 v133
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c4_i32_61 : BitVec 32 := 4#32
  let v135 : BitVec 32 := Scalar.muli v69 c4_i32_61
  let v136 : BitVec 32 := Scalar.addi v134 v135
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let c2_i32_62 : BitVec 32 := 2#32
  let v137 : BitVec 32 := Scalar.muli v123 c2_i32_62
  let v138 : BitVec 32 := Scalar.addi v136 v137
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let v139 : BitVec 32 := Scalar.addi v138 v96
  let c0_i32_818 : BitVec 32 := 0#32
  let v1487 : BitVec 1 := Scalar.cmpi .sgt v139 c0_i32_818
  let v1488 : BitVec 32 := Scalar.extui v1487
  let c0_i32_819 : BitVec 32 := 0#32
  let v1489 : BitVec 1 := Scalar.cmpi .slt v139 c0_i32_819
  let v1490 : BitVec 32 := Scalar.extui v1489
  let v1491 : BitVec 32 := Scalar.subi v1488 v1490
  let c4_i32_817 : BitVec 32 := 4#32
  let c0_i32_820 : BitVec 32 := 0#32
  let v1492 : BitVec 1 := Scalar.cmpi .sgt c4_i32_817 c0_i32_820
  let v1493 : BitVec 32 := Scalar.extui v1492
  let c0_i32_821 : BitVec 32 := 0#32
  let v1494 : BitVec 1 := Scalar.cmpi .slt c4_i32_817 c0_i32_821
  let v1495 : BitVec 32 := Scalar.extui v1494
  let v1496 : BitVec 32 := Scalar.subi v1493 v1495
  let v1497 : BitVec 1 := Scalar.cmpi .ne v1491 v1496
  let v1498 : BitVec 32 := Scalar.remsi v139 c4_i32_817
  let c0_i32_822 : BitVec 32 := 0#32
  let v1499 : BitVec 1 := Scalar.cmpi .ne v1498 c0_i32_822
  let v1500 : BitVec 1 := Scalar.andi v1497 v1499
  let v1486 : BitVec 32 := Scalar.divsi v139 c4_i32_817
  let c1_i32_823 : BitVec 32 := 1#32
  let v1501 : BitVec 32 := Scalar.subi v1486 c1_i32_823
  let v1502 : BitVec 32 := Scalar.select v1500 v1501 v1486
  let c4_i32_824 : BitVec 32 := 4#32
  let v1503 : BitVec 32 := Scalar.muli v1502 c4_i32_824
  let c16_i32_826 : BitVec 32 := 16#32
  let v1505 : BitVec 32 := Scalar.muli v1503 c16_i32_826
  let v1549 : Index := Scalar.indexCast v1505
  let c256_868 : Index := 256#32
  ![v1549.toNat, 256]
def k0_dev14 (d0 : Dev nD) : Nat :=
  let c0_i32_895 : BitVec 32 := 0#32
  let c2_i32_138 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_77 : BitVec 32 := 1#32
  let c2_i32_76 : BitVec 32 := 2#32
  let c0_i32_64 : BitVec 32 := 0#32
  let v141 : BitVec 1 := Scalar.cmpi .sgt v131 c0_i32_64
  let v142 : BitVec 32 := Scalar.extui v141
  let c0_i32_65 : BitVec 32 := 0#32
  let v143 : BitVec 1 := Scalar.cmpi .slt v131 c0_i32_65
  let v144 : BitVec 32 := Scalar.extui v143
  let v145 : BitVec 32 := Scalar.subi v142 v144
  let c1_i32_63 : BitVec 32 := 1#32
  let c0_i32_66 : BitVec 32 := 0#32
  let v146 : BitVec 1 := Scalar.cmpi .sgt c1_i32_63 c0_i32_66
  let v147 : BitVec 32 := Scalar.extui v146
  let c0_i32_67 : BitVec 32 := 0#32
  let v148 : BitVec 1 := Scalar.cmpi .slt c1_i32_63 c0_i32_67
  let v149 : BitVec 32 := Scalar.extui v148
  let v150 : BitVec 32 := Scalar.subi v147 v149
  let v151 : BitVec 1 := Scalar.cmpi .ne v145 v150
  let v152 : BitVec 32 := Scalar.remsi v131 c1_i32_63
  let c0_i32_68 : BitVec 32 := 0#32
  let v153 : BitVec 1 := Scalar.cmpi .ne v152 c0_i32_68
  let v154 : BitVec 1 := Scalar.andi v151 v153
  let v140 : BitVec 32 := Scalar.divsi v131 c1_i32_63
  let c1_i32_69 : BitVec 32 := 1#32
  let v155 : BitVec 32 := Scalar.subi v140 c1_i32_69
  let v156 : BitVec 32 := Scalar.select v154 v155 v140
  let c2_i32_70 : BitVec 32 := 2#32
  let c0_i32_71 : BitVec 32 := 0#32
  let v157 : BitVec 1 := Scalar.cmpi .eq c2_i32_70 c0_i32_71
  let c1_i32_72 : BitVec 32 := 1#32
  let v158 : BitVec 32 := Scalar.select v157 c1_i32_72 c2_i32_70
  let v159 : BitVec 32 := Scalar.remsi v156 v158
  let c0_i32_74 : BitVec 32 := 0#32
  let v161 : BitVec 1 := Scalar.cmpi .slt v159 c0_i32_74
  let c0_i32_75 : BitVec 32 := 0#32
  let v162 : BitVec 1 := Scalar.cmpi .slt v158 c0_i32_75
  let v163 : BitVec 1 := Scalar.xori v161 v162
  let c0_i32_73 : BitVec 32 := 0#32
  let v160 : BitVec 1 := Scalar.cmpi .ne v159 c0_i32_73
  let v164 : BitVec 1 := Scalar.andi v163 v160
  let v165 : BitVec 32 := Scalar.addi v159 v158
  let v166 : BitVec 32 := Scalar.select v164 v165 v159
  let v167 : BitVec 32 := Scalar.muli c2_i32_76 v166
  let v168 : BitVec 32 := Scalar.subi c1_i32_77 v167
  let c1_i32_78 : BitVec 32 := 1#32
  let v169 : BitVec 32 := Scalar.muli v168 c1_i32_78
  let v170 : BitVec 32 := Scalar.addi v131 v169
  let c2_i32_131 : BitVec 32 := 2#32
  let c0_i32_132 : BitVec 32 := 0#32
  let v279 : BitVec 1 := Scalar.cmpi .eq c2_i32_131 c0_i32_132
  let c1_i32_133 : BitVec 32 := 1#32
  let v280 : BitVec 32 := Scalar.select v279 c1_i32_133 c2_i32_131
  let v281 : BitVec 32 := Scalar.remsi v170 v280
  let c0_i32_135 : BitVec 32 := 0#32
  let v283 : BitVec 1 := Scalar.cmpi .slt v281 c0_i32_135
  let c0_i32_136 : BitVec 32 := 0#32
  let v284 : BitVec 1 := Scalar.cmpi .slt v280 c0_i32_136
  let v285 : BitVec 1 := Scalar.xori v283 v284
  let c0_i32_134 : BitVec 32 := 0#32
  let v282 : BitVec 1 := Scalar.cmpi .ne v281 c0_i32_134
  let v286 : BitVec 1 := Scalar.andi v285 v282
  let v287 : BitVec 32 := Scalar.addi v281 v280
  let v288 : BitVec 32 := Scalar.select v286 v287 v281
  let v291 : BitVec 32 := Scalar.muli c2_i32_138 v288
  let c0_i32_106 : BitVec 32 := 0#32
  let v226 : BitVec 1 := Scalar.cmpi .sgt v170 c0_i32_106
  let v227 : BitVec 32 := Scalar.extui v226
  let c0_i32_107 : BitVec 32 := 0#32
  let v228 : BitVec 1 := Scalar.cmpi .slt v170 c0_i32_107
  let v229 : BitVec 32 := Scalar.extui v228
  let v230 : BitVec 32 := Scalar.subi v227 v229
  let c4_i32_105 : BitVec 32 := 4#32
  let c0_i32_108 : BitVec 32 := 0#32
  let v231 : BitVec 1 := Scalar.cmpi .sgt c4_i32_105 c0_i32_108
  let v232 : BitVec 32 := Scalar.extui v231
  let c0_i32_109 : BitVec 32 := 0#32
  let v233 : BitVec 1 := Scalar.cmpi .slt c4_i32_105 c0_i32_109
  let v234 : BitVec 32 := Scalar.extui v233
  let v235 : BitVec 32 := Scalar.subi v232 v234
  let v236 : BitVec 1 := Scalar.cmpi .ne v230 v235
  let v237 : BitVec 32 := Scalar.remsi v170 c4_i32_105
  let c0_i32_110 : BitVec 32 := 0#32
  let v238 : BitVec 1 := Scalar.cmpi .ne v237 c0_i32_110
  let v239 : BitVec 1 := Scalar.andi v236 v238
  let v225 : BitVec 32 := Scalar.divsi v170 c4_i32_105
  let c1_i32_111 : BitVec 32 := 1#32
  let v240 : BitVec 32 := Scalar.subi v225 c1_i32_111
  let v241 : BitVec 32 := Scalar.select v239 v240 v225
  let c2_i32_112 : BitVec 32 := 2#32
  let c0_i32_113 : BitVec 32 := 0#32
  let v242 : BitVec 1 := Scalar.cmpi .eq c2_i32_112 c0_i32_113
  let c1_i32_114 : BitVec 32 := 1#32
  let v243 : BitVec 32 := Scalar.select v242 c1_i32_114 c2_i32_112
  let v244 : BitVec 32 := Scalar.remsi v241 v243
  let c0_i32_116 : BitVec 32 := 0#32
  let v246 : BitVec 1 := Scalar.cmpi .slt v244 c0_i32_116
  let c0_i32_117 : BitVec 32 := 0#32
  let v247 : BitVec 1 := Scalar.cmpi .slt v243 c0_i32_117
  let v248 : BitVec 1 := Scalar.xori v246 v247
  let c0_i32_115 : BitVec 32 := 0#32
  let v245 : BitVec 1 := Scalar.cmpi .ne v244 c0_i32_115
  let v249 : BitVec 1 := Scalar.andi v248 v245
  let v250 : BitVec 32 := Scalar.addi v244 v243
  let v251 : BitVec 32 := Scalar.select v249 v250 v244
  let v292 : BitVec 32 := Scalar.addi v291 v251
  let c8_i32_139 : BitVec 32 := 8#32
  let v293 : BitVec 32 := Scalar.muli v292 c8_i32_139
  let c2_i32_137 : BitVec 32 := 2#32
  let c0_i32_119 : BitVec 32 := 0#32
  let v253 : BitVec 1 := Scalar.cmpi .sgt v170 c0_i32_119
  let v254 : BitVec 32 := Scalar.extui v253
  let c0_i32_120 : BitVec 32 := 0#32
  let v255 : BitVec 1 := Scalar.cmpi .slt v170 c0_i32_120
  let v256 : BitVec 32 := Scalar.extui v255
  let v257 : BitVec 32 := Scalar.subi v254 v256
  let c2_i32_118 : BitVec 32 := 2#32
  let c0_i32_121 : BitVec 32 := 0#32
  let v258 : BitVec 1 := Scalar.cmpi .sgt c2_i32_118 c0_i32_121
  let v259 : BitVec 32 := Scalar.extui v258
  let c0_i32_122 : BitVec 32 := 0#32
  let v260 : BitVec 1 := Scalar.cmpi .slt c2_i32_118 c0_i32_122
  let v261 : BitVec 32 := Scalar.extui v260
  let v262 : BitVec 32 := Scalar.subi v259 v261
  let v263 : BitVec 1 := Scalar.cmpi .ne v257 v262
  let v264 : BitVec 32 := Scalar.remsi v170 c2_i32_118
  let c0_i32_123 : BitVec 32 := 0#32
  let v265 : BitVec 1 := Scalar.cmpi .ne v264 c0_i32_123
  let v266 : BitVec 1 := Scalar.andi v263 v265
  let v252 : BitVec 32 := Scalar.divsi v170 c2_i32_118
  let c1_i32_124 : BitVec 32 := 1#32
  let v267 : BitVec 32 := Scalar.subi v252 c1_i32_124
  let v268 : BitVec 32 := Scalar.select v266 v267 v252
  let c2_i32_125 : BitVec 32 := 2#32
  let c0_i32_126 : BitVec 32 := 0#32
  let v269 : BitVec 1 := Scalar.cmpi .eq c2_i32_125 c0_i32_126
  let c1_i32_127 : BitVec 32 := 1#32
  let v270 : BitVec 32 := Scalar.select v269 c1_i32_127 c2_i32_125
  let v271 : BitVec 32 := Scalar.remsi v268 v270
  let c0_i32_129 : BitVec 32 := 0#32
  let v273 : BitVec 1 := Scalar.cmpi .slt v271 c0_i32_129
  let c0_i32_130 : BitVec 32 := 0#32
  let v274 : BitVec 1 := Scalar.cmpi .slt v270 c0_i32_130
  let v275 : BitVec 1 := Scalar.xori v273 v274
  let c0_i32_128 : BitVec 32 := 0#32
  let v272 : BitVec 1 := Scalar.cmpi .ne v271 c0_i32_128
  let v276 : BitVec 1 := Scalar.andi v275 v272
  let v277 : BitVec 32 := Scalar.addi v271 v270
  let v278 : BitVec 32 := Scalar.select v276 v277 v271
  let v289 : BitVec 32 := Scalar.muli c2_i32_137 v278
  let c0_i32_93 : BitVec 32 := 0#32
  let v199 : BitVec 1 := Scalar.cmpi .sgt v170 c0_i32_93
  let v200 : BitVec 32 := Scalar.extui v199
  let c0_i32_94 : BitVec 32 := 0#32
  let v201 : BitVec 1 := Scalar.cmpi .slt v170 c0_i32_94
  let v202 : BitVec 32 := Scalar.extui v201
  let v203 : BitVec 32 := Scalar.subi v200 v202
  let c8_i32_92 : BitVec 32 := 8#32
  let c0_i32_95 : BitVec 32 := 0#32
  let v204 : BitVec 1 := Scalar.cmpi .sgt c8_i32_92 c0_i32_95
  let v205 : BitVec 32 := Scalar.extui v204
  let c0_i32_96 : BitVec 32 := 0#32
  let v206 : BitVec 1 := Scalar.cmpi .slt c8_i32_92 c0_i32_96
  let v207 : BitVec 32 := Scalar.extui v206
  let v208 : BitVec 32 := Scalar.subi v205 v207
  let v209 : BitVec 1 := Scalar.cmpi .ne v203 v208
  let v210 : BitVec 32 := Scalar.remsi v170 c8_i32_92
  let c0_i32_97 : BitVec 32 := 0#32
  let v211 : BitVec 1 := Scalar.cmpi .ne v210 c0_i32_97
  let v212 : BitVec 1 := Scalar.andi v209 v211
  let v198 : BitVec 32 := Scalar.divsi v170 c8_i32_92
  let c1_i32_98 : BitVec 32 := 1#32
  let v213 : BitVec 32 := Scalar.subi v198 c1_i32_98
  let v214 : BitVec 32 := Scalar.select v212 v213 v198
  let c2_i32_99 : BitVec 32 := 2#32
  let c0_i32_100 : BitVec 32 := 0#32
  let v215 : BitVec 1 := Scalar.cmpi .eq c2_i32_99 c0_i32_100
  let c1_i32_101 : BitVec 32 := 1#32
  let v216 : BitVec 32 := Scalar.select v215 c1_i32_101 c2_i32_99
  let v217 : BitVec 32 := Scalar.remsi v214 v216
  let c0_i32_103 : BitVec 32 := 0#32
  let v219 : BitVec 1 := Scalar.cmpi .slt v217 c0_i32_103
  let c0_i32_104 : BitVec 32 := 0#32
  let v220 : BitVec 1 := Scalar.cmpi .slt v216 c0_i32_104
  let v221 : BitVec 1 := Scalar.xori v219 v220
  let c0_i32_102 : BitVec 32 := 0#32
  let v218 : BitVec 1 := Scalar.cmpi .ne v217 c0_i32_102
  let v222 : BitVec 1 := Scalar.andi v221 v218
  let v223 : BitVec 32 := Scalar.addi v217 v216
  let v224 : BitVec 32 := Scalar.select v222 v223 v217
  let v290 : BitVec 32 := Scalar.addi v289 v224
  let c2_i32_140 : BitVec 32 := 2#32
  let v294 : BitVec 32 := Scalar.muli v290 c2_i32_140
  let v295 : BitVec 32 := Scalar.addi v293 v294
  let c2_i32_141 : BitVec 32 := 2#32
  let c0_i32_142 : BitVec 32 := 0#32
  let v296 : BitVec 1 := Scalar.cmpi .eq c2_i32_141 c0_i32_142
  let c1_i32_143 : BitVec 32 := 1#32
  let v297 : BitVec 32 := Scalar.select v296 c1_i32_143 c2_i32_141
  let v298 : BitVec 32 := Scalar.remsi v290 v297
  let c0_i32_145 : BitVec 32 := 0#32
  let v300 : BitVec 1 := Scalar.cmpi .slt v298 c0_i32_145
  let c0_i32_146 : BitVec 32 := 0#32
  let v301 : BitVec 1 := Scalar.cmpi .slt v297 c0_i32_146
  let v302 : BitVec 1 := Scalar.xori v300 v301
  let c0_i32_144 : BitVec 32 := 0#32
  let v299 : BitVec 1 := Scalar.cmpi .ne v298 c0_i32_144
  let v303 : BitVec 1 := Scalar.andi v302 v299
  let v304 : BitVec 32 := Scalar.addi v298 v297
  let v305 : BitVec 32 := Scalar.select v303 v304 v298
  let c0_i32_147 : BitVec 32 := 0#32
  let v306 : BitVec 1 := Scalar.cmpi .eq v305 c0_i32_147
  let c0_i32_80 : BitVec 32 := 0#32
  let v172 : BitVec 1 := Scalar.cmpi .sgt v170 c0_i32_80
  let v173 : BitVec 32 := Scalar.extui v172
  let c0_i32_81 : BitVec 32 := 0#32
  let v174 : BitVec 1 := Scalar.cmpi .slt v170 c0_i32_81
  let v175 : BitVec 32 := Scalar.extui v174
  let v176 : BitVec 32 := Scalar.subi v173 v175
  let c16_i32_79 : BitVec 32 := 16#32
  let c0_i32_82 : BitVec 32 := 0#32
  let v177 : BitVec 1 := Scalar.cmpi .sgt c16_i32_79 c0_i32_82
  let v178 : BitVec 32 := Scalar.extui v177
  let c0_i32_83 : BitVec 32 := 0#32
  let v179 : BitVec 1 := Scalar.cmpi .slt c16_i32_79 c0_i32_83
  let v180 : BitVec 32 := Scalar.extui v179
  let v181 : BitVec 32 := Scalar.subi v178 v180
  let v182 : BitVec 1 := Scalar.cmpi .ne v176 v181
  let v183 : BitVec 32 := Scalar.remsi v170 c16_i32_79
  let c0_i32_84 : BitVec 32 := 0#32
  let v184 : BitVec 1 := Scalar.cmpi .ne v183 c0_i32_84
  let v185 : BitVec 1 := Scalar.andi v182 v184
  let v171 : BitVec 32 := Scalar.divsi v170 c16_i32_79
  let c1_i32_85 : BitVec 32 := 1#32
  let v186 : BitVec 32 := Scalar.subi v171 c1_i32_85
  let v187 : BitVec 32 := Scalar.select v185 v186 v171
  let c2_i32_86 : BitVec 32 := 2#32
  let c0_i32_87 : BitVec 32 := 0#32
  let v188 : BitVec 1 := Scalar.cmpi .eq c2_i32_86 c0_i32_87
  let c1_i32_88 : BitVec 32 := 1#32
  let v189 : BitVec 32 := Scalar.select v188 c1_i32_88 c2_i32_86
  let v190 : BitVec 32 := Scalar.remsi v187 v189
  let c0_i32_90 : BitVec 32 := 0#32
  let v192 : BitVec 1 := Scalar.cmpi .slt v190 c0_i32_90
  let c0_i32_91 : BitVec 32 := 0#32
  let v193 : BitVec 1 := Scalar.cmpi .slt v189 c0_i32_91
  let v194 : BitVec 1 := Scalar.xori v192 v193
  let c0_i32_89 : BitVec 32 := 0#32
  let v191 : BitVec 1 := Scalar.cmpi .ne v190 c0_i32_89
  let v195 : BitVec 1 := Scalar.andi v194 v191
  let v196 : BitVec 32 := Scalar.addi v190 v189
  let v197 : BitVec 32 := Scalar.select v195 v196 v190
  let c1_i32_148 : BitVec 32 := 1#32
  let v307 : BitVec 32 := Scalar.subi c1_i32_148 v197
  let v308 : BitVec 32 := Scalar.select v306 v197 v307
  let v309 : BitVec 32 := Scalar.addi v295 v308
  let c1_i32_894 : BitVec 32 := 1#32
  let v1596 : BitVec 32 := Scalar.muli v309 c1_i32_894
  let v1597 : BitVec 32 := Scalar.addi c0_i32_895 v1596
  v1597.toNat
def k0_dev15 (d0 : Dev nD) : Nat :=
  let c0_i32_901 : BitVec 32 := 0#32
  let c2_i32_224 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_163 : BitVec 32 := 1#32
  let c2_i32_162 : BitVec 32 := 2#32
  let c0_i32_150 : BitVec 32 := 0#32
  let v311 : BitVec 1 := Scalar.cmpi .sgt v131 c0_i32_150
  let v312 : BitVec 32 := Scalar.extui v311
  let c0_i32_151 : BitVec 32 := 0#32
  let v313 : BitVec 1 := Scalar.cmpi .slt v131 c0_i32_151
  let v314 : BitVec 32 := Scalar.extui v313
  let v315 : BitVec 32 := Scalar.subi v312 v314
  let c2_i32_149 : BitVec 32 := 2#32
  let c0_i32_152 : BitVec 32 := 0#32
  let v316 : BitVec 1 := Scalar.cmpi .sgt c2_i32_149 c0_i32_152
  let v317 : BitVec 32 := Scalar.extui v316
  let c0_i32_153 : BitVec 32 := 0#32
  let v318 : BitVec 1 := Scalar.cmpi .slt c2_i32_149 c0_i32_153
  let v319 : BitVec 32 := Scalar.extui v318
  let v320 : BitVec 32 := Scalar.subi v317 v319
  let v321 : BitVec 1 := Scalar.cmpi .ne v315 v320
  let v322 : BitVec 32 := Scalar.remsi v131 c2_i32_149
  let c0_i32_154 : BitVec 32 := 0#32
  let v323 : BitVec 1 := Scalar.cmpi .ne v322 c0_i32_154
  let v324 : BitVec 1 := Scalar.andi v321 v323
  let v310 : BitVec 32 := Scalar.divsi v131 c2_i32_149
  let c1_i32_155 : BitVec 32 := 1#32
  let v325 : BitVec 32 := Scalar.subi v310 c1_i32_155
  let v326 : BitVec 32 := Scalar.select v324 v325 v310
  let c2_i32_156 : BitVec 32 := 2#32
  let c0_i32_157 : BitVec 32 := 0#32
  let v327 : BitVec 1 := Scalar.cmpi .eq c2_i32_156 c0_i32_157
  let c1_i32_158 : BitVec 32 := 1#32
  let v328 : BitVec 32 := Scalar.select v327 c1_i32_158 c2_i32_156
  let v329 : BitVec 32 := Scalar.remsi v326 v328
  let c0_i32_160 : BitVec 32 := 0#32
  let v331 : BitVec 1 := Scalar.cmpi .slt v329 c0_i32_160
  let c0_i32_161 : BitVec 32 := 0#32
  let v332 : BitVec 1 := Scalar.cmpi .slt v328 c0_i32_161
  let v333 : BitVec 1 := Scalar.xori v331 v332
  let c0_i32_159 : BitVec 32 := 0#32
  let v330 : BitVec 1 := Scalar.cmpi .ne v329 c0_i32_159
  let v334 : BitVec 1 := Scalar.andi v333 v330
  let v335 : BitVec 32 := Scalar.addi v329 v328
  let v336 : BitVec 32 := Scalar.select v334 v335 v329
  let v337 : BitVec 32 := Scalar.muli c2_i32_162 v336
  let v338 : BitVec 32 := Scalar.subi c1_i32_163 v337
  let c2_i32_164 : BitVec 32 := 2#32
  let v339 : BitVec 32 := Scalar.muli v338 c2_i32_164
  let v340 : BitVec 32 := Scalar.addi v131 v339
  let c2_i32_217 : BitVec 32 := 2#32
  let c0_i32_218 : BitVec 32 := 0#32
  let v449 : BitVec 1 := Scalar.cmpi .eq c2_i32_217 c0_i32_218
  let c1_i32_219 : BitVec 32 := 1#32
  let v450 : BitVec 32 := Scalar.select v449 c1_i32_219 c2_i32_217
  let v451 : BitVec 32 := Scalar.remsi v340 v450
  let c0_i32_221 : BitVec 32 := 0#32
  let v453 : BitVec 1 := Scalar.cmpi .slt v451 c0_i32_221
  let c0_i32_222 : BitVec 32 := 0#32
  let v454 : BitVec 1 := Scalar.cmpi .slt v450 c0_i32_222
  let v455 : BitVec 1 := Scalar.xori v453 v454
  let c0_i32_220 : BitVec 32 := 0#32
  let v452 : BitVec 1 := Scalar.cmpi .ne v451 c0_i32_220
  let v456 : BitVec 1 := Scalar.andi v455 v452
  let v457 : BitVec 32 := Scalar.addi v451 v450
  let v458 : BitVec 32 := Scalar.select v456 v457 v451
  let v461 : BitVec 32 := Scalar.muli c2_i32_224 v458
  let c0_i32_192 : BitVec 32 := 0#32
  let v396 : BitVec 1 := Scalar.cmpi .sgt v340 c0_i32_192
  let v397 : BitVec 32 := Scalar.extui v396
  let c0_i32_193 : BitVec 32 := 0#32
  let v398 : BitVec 1 := Scalar.cmpi .slt v340 c0_i32_193
  let v399 : BitVec 32 := Scalar.extui v398
  let v400 : BitVec 32 := Scalar.subi v397 v399
  let c4_i32_191 : BitVec 32 := 4#32
  let c0_i32_194 : BitVec 32 := 0#32
  let v401 : BitVec 1 := Scalar.cmpi .sgt c4_i32_191 c0_i32_194
  let v402 : BitVec 32 := Scalar.extui v401
  let c0_i32_195 : BitVec 32 := 0#32
  let v403 : BitVec 1 := Scalar.cmpi .slt c4_i32_191 c0_i32_195
  let v404 : BitVec 32 := Scalar.extui v403
  let v405 : BitVec 32 := Scalar.subi v402 v404
  let v406 : BitVec 1 := Scalar.cmpi .ne v400 v405
  let v407 : BitVec 32 := Scalar.remsi v340 c4_i32_191
  let c0_i32_196 : BitVec 32 := 0#32
  let v408 : BitVec 1 := Scalar.cmpi .ne v407 c0_i32_196
  let v409 : BitVec 1 := Scalar.andi v406 v408
  let v395 : BitVec 32 := Scalar.divsi v340 c4_i32_191
  let c1_i32_197 : BitVec 32 := 1#32
  let v410 : BitVec 32 := Scalar.subi v395 c1_i32_197
  let v411 : BitVec 32 := Scalar.select v409 v410 v395
  let c2_i32_198 : BitVec 32 := 2#32
  let c0_i32_199 : BitVec 32 := 0#32
  let v412 : BitVec 1 := Scalar.cmpi .eq c2_i32_198 c0_i32_199
  let c1_i32_200 : BitVec 32 := 1#32
  let v413 : BitVec 32 := Scalar.select v412 c1_i32_200 c2_i32_198
  let v414 : BitVec 32 := Scalar.remsi v411 v413
  let c0_i32_202 : BitVec 32 := 0#32
  let v416 : BitVec 1 := Scalar.cmpi .slt v414 c0_i32_202
  let c0_i32_203 : BitVec 32 := 0#32
  let v417 : BitVec 1 := Scalar.cmpi .slt v413 c0_i32_203
  let v418 : BitVec 1 := Scalar.xori v416 v417
  let c0_i32_201 : BitVec 32 := 0#32
  let v415 : BitVec 1 := Scalar.cmpi .ne v414 c0_i32_201
  let v419 : BitVec 1 := Scalar.andi v418 v415
  let v420 : BitVec 32 := Scalar.addi v414 v413
  let v421 : BitVec 32 := Scalar.select v419 v420 v414
  let v462 : BitVec 32 := Scalar.addi v461 v421
  let c8_i32_225 : BitVec 32 := 8#32
  let v463 : BitVec 32 := Scalar.muli v462 c8_i32_225
  let c2_i32_223 : BitVec 32 := 2#32
  let c0_i32_205 : BitVec 32 := 0#32
  let v423 : BitVec 1 := Scalar.cmpi .sgt v340 c0_i32_205
  let v424 : BitVec 32 := Scalar.extui v423
  let c0_i32_206 : BitVec 32 := 0#32
  let v425 : BitVec 1 := Scalar.cmpi .slt v340 c0_i32_206
  let v426 : BitVec 32 := Scalar.extui v425
  let v427 : BitVec 32 := Scalar.subi v424 v426
  let c2_i32_204 : BitVec 32 := 2#32
  let c0_i32_207 : BitVec 32 := 0#32
  let v428 : BitVec 1 := Scalar.cmpi .sgt c2_i32_204 c0_i32_207
  let v429 : BitVec 32 := Scalar.extui v428
  let c0_i32_208 : BitVec 32 := 0#32
  let v430 : BitVec 1 := Scalar.cmpi .slt c2_i32_204 c0_i32_208
  let v431 : BitVec 32 := Scalar.extui v430
  let v432 : BitVec 32 := Scalar.subi v429 v431
  let v433 : BitVec 1 := Scalar.cmpi .ne v427 v432
  let v434 : BitVec 32 := Scalar.remsi v340 c2_i32_204
  let c0_i32_209 : BitVec 32 := 0#32
  let v435 : BitVec 1 := Scalar.cmpi .ne v434 c0_i32_209
  let v436 : BitVec 1 := Scalar.andi v433 v435
  let v422 : BitVec 32 := Scalar.divsi v340 c2_i32_204
  let c1_i32_210 : BitVec 32 := 1#32
  let v437 : BitVec 32 := Scalar.subi v422 c1_i32_210
  let v438 : BitVec 32 := Scalar.select v436 v437 v422
  let c2_i32_211 : BitVec 32 := 2#32
  let c0_i32_212 : BitVec 32 := 0#32
  let v439 : BitVec 1 := Scalar.cmpi .eq c2_i32_211 c0_i32_212
  let c1_i32_213 : BitVec 32 := 1#32
  let v440 : BitVec 32 := Scalar.select v439 c1_i32_213 c2_i32_211
  let v441 : BitVec 32 := Scalar.remsi v438 v440
  let c0_i32_215 : BitVec 32 := 0#32
  let v443 : BitVec 1 := Scalar.cmpi .slt v441 c0_i32_215
  let c0_i32_216 : BitVec 32 := 0#32
  let v444 : BitVec 1 := Scalar.cmpi .slt v440 c0_i32_216
  let v445 : BitVec 1 := Scalar.xori v443 v444
  let c0_i32_214 : BitVec 32 := 0#32
  let v442 : BitVec 1 := Scalar.cmpi .ne v441 c0_i32_214
  let v446 : BitVec 1 := Scalar.andi v445 v442
  let v447 : BitVec 32 := Scalar.addi v441 v440
  let v448 : BitVec 32 := Scalar.select v446 v447 v441
  let v459 : BitVec 32 := Scalar.muli c2_i32_223 v448
  let c0_i32_179 : BitVec 32 := 0#32
  let v369 : BitVec 1 := Scalar.cmpi .sgt v340 c0_i32_179
  let v370 : BitVec 32 := Scalar.extui v369
  let c0_i32_180 : BitVec 32 := 0#32
  let v371 : BitVec 1 := Scalar.cmpi .slt v340 c0_i32_180
  let v372 : BitVec 32 := Scalar.extui v371
  let v373 : BitVec 32 := Scalar.subi v370 v372
  let c8_i32_178 : BitVec 32 := 8#32
  let c0_i32_181 : BitVec 32 := 0#32
  let v374 : BitVec 1 := Scalar.cmpi .sgt c8_i32_178 c0_i32_181
  let v375 : BitVec 32 := Scalar.extui v374
  let c0_i32_182 : BitVec 32 := 0#32
  let v376 : BitVec 1 := Scalar.cmpi .slt c8_i32_178 c0_i32_182
  let v377 : BitVec 32 := Scalar.extui v376
  let v378 : BitVec 32 := Scalar.subi v375 v377
  let v379 : BitVec 1 := Scalar.cmpi .ne v373 v378
  let v380 : BitVec 32 := Scalar.remsi v340 c8_i32_178
  let c0_i32_183 : BitVec 32 := 0#32
  let v381 : BitVec 1 := Scalar.cmpi .ne v380 c0_i32_183
  let v382 : BitVec 1 := Scalar.andi v379 v381
  let v368 : BitVec 32 := Scalar.divsi v340 c8_i32_178
  let c1_i32_184 : BitVec 32 := 1#32
  let v383 : BitVec 32 := Scalar.subi v368 c1_i32_184
  let v384 : BitVec 32 := Scalar.select v382 v383 v368
  let c2_i32_185 : BitVec 32 := 2#32
  let c0_i32_186 : BitVec 32 := 0#32
  let v385 : BitVec 1 := Scalar.cmpi .eq c2_i32_185 c0_i32_186
  let c1_i32_187 : BitVec 32 := 1#32
  let v386 : BitVec 32 := Scalar.select v385 c1_i32_187 c2_i32_185
  let v387 : BitVec 32 := Scalar.remsi v384 v386
  let c0_i32_189 : BitVec 32 := 0#32
  let v389 : BitVec 1 := Scalar.cmpi .slt v387 c0_i32_189
  let c0_i32_190 : BitVec 32 := 0#32
  let v390 : BitVec 1 := Scalar.cmpi .slt v386 c0_i32_190
  let v391 : BitVec 1 := Scalar.xori v389 v390
  let c0_i32_188 : BitVec 32 := 0#32
  let v388 : BitVec 1 := Scalar.cmpi .ne v387 c0_i32_188
  let v392 : BitVec 1 := Scalar.andi v391 v388
  let v393 : BitVec 32 := Scalar.addi v387 v386
  let v394 : BitVec 32 := Scalar.select v392 v393 v387
  let v460 : BitVec 32 := Scalar.addi v459 v394
  let c2_i32_226 : BitVec 32 := 2#32
  let v464 : BitVec 32 := Scalar.muli v460 c2_i32_226
  let v465 : BitVec 32 := Scalar.addi v463 v464
  let c2_i32_227 : BitVec 32 := 2#32
  let c0_i32_228 : BitVec 32 := 0#32
  let v466 : BitVec 1 := Scalar.cmpi .eq c2_i32_227 c0_i32_228
  let c1_i32_229 : BitVec 32 := 1#32
  let v467 : BitVec 32 := Scalar.select v466 c1_i32_229 c2_i32_227
  let v468 : BitVec 32 := Scalar.remsi v460 v467
  let c0_i32_231 : BitVec 32 := 0#32
  let v470 : BitVec 1 := Scalar.cmpi .slt v468 c0_i32_231
  let c0_i32_232 : BitVec 32 := 0#32
  let v471 : BitVec 1 := Scalar.cmpi .slt v467 c0_i32_232
  let v472 : BitVec 1 := Scalar.xori v470 v471
  let c0_i32_230 : BitVec 32 := 0#32
  let v469 : BitVec 1 := Scalar.cmpi .ne v468 c0_i32_230
  let v473 : BitVec 1 := Scalar.andi v472 v469
  let v474 : BitVec 32 := Scalar.addi v468 v467
  let v475 : BitVec 32 := Scalar.select v473 v474 v468
  let c0_i32_233 : BitVec 32 := 0#32
  let v476 : BitVec 1 := Scalar.cmpi .eq v475 c0_i32_233
  let c0_i32_166 : BitVec 32 := 0#32
  let v342 : BitVec 1 := Scalar.cmpi .sgt v340 c0_i32_166
  let v343 : BitVec 32 := Scalar.extui v342
  let c0_i32_167 : BitVec 32 := 0#32
  let v344 : BitVec 1 := Scalar.cmpi .slt v340 c0_i32_167
  let v345 : BitVec 32 := Scalar.extui v344
  let v346 : BitVec 32 := Scalar.subi v343 v345
  let c16_i32_165 : BitVec 32 := 16#32
  let c0_i32_168 : BitVec 32 := 0#32
  let v347 : BitVec 1 := Scalar.cmpi .sgt c16_i32_165 c0_i32_168
  let v348 : BitVec 32 := Scalar.extui v347
  let c0_i32_169 : BitVec 32 := 0#32
  let v349 : BitVec 1 := Scalar.cmpi .slt c16_i32_165 c0_i32_169
  let v350 : BitVec 32 := Scalar.extui v349
  let v351 : BitVec 32 := Scalar.subi v348 v350
  let v352 : BitVec 1 := Scalar.cmpi .ne v346 v351
  let v353 : BitVec 32 := Scalar.remsi v340 c16_i32_165
  let c0_i32_170 : BitVec 32 := 0#32
  let v354 : BitVec 1 := Scalar.cmpi .ne v353 c0_i32_170
  let v355 : BitVec 1 := Scalar.andi v352 v354
  let v341 : BitVec 32 := Scalar.divsi v340 c16_i32_165
  let c1_i32_171 : BitVec 32 := 1#32
  let v356 : BitVec 32 := Scalar.subi v341 c1_i32_171
  let v357 : BitVec 32 := Scalar.select v355 v356 v341
  let c2_i32_172 : BitVec 32 := 2#32
  let c0_i32_173 : BitVec 32 := 0#32
  let v358 : BitVec 1 := Scalar.cmpi .eq c2_i32_172 c0_i32_173
  let c1_i32_174 : BitVec 32 := 1#32
  let v359 : BitVec 32 := Scalar.select v358 c1_i32_174 c2_i32_172
  let v360 : BitVec 32 := Scalar.remsi v357 v359
  let c0_i32_176 : BitVec 32 := 0#32
  let v362 : BitVec 1 := Scalar.cmpi .slt v360 c0_i32_176
  let c0_i32_177 : BitVec 32 := 0#32
  let v363 : BitVec 1 := Scalar.cmpi .slt v359 c0_i32_177
  let v364 : BitVec 1 := Scalar.xori v362 v363
  let c0_i32_175 : BitVec 32 := 0#32
  let v361 : BitVec 1 := Scalar.cmpi .ne v360 c0_i32_175
  let v365 : BitVec 1 := Scalar.andi v364 v361
  let v366 : BitVec 32 := Scalar.addi v360 v359
  let v367 : BitVec 32 := Scalar.select v365 v366 v360
  let c1_i32_234 : BitVec 32 := 1#32
  let v477 : BitVec 32 := Scalar.subi c1_i32_234 v367
  let v478 : BitVec 32 := Scalar.select v476 v367 v477
  let v479 : BitVec 32 := Scalar.addi v465 v478
  let c1_i32_900 : BitVec 32 := 1#32
  let v1604 : BitVec 32 := Scalar.muli v479 c1_i32_900
  let v1605 : BitVec 32 := Scalar.addi c0_i32_901 v1604
  v1605.toNat
def k0_dev16 (d0 : Dev nD) : Nat :=
  let c0_i32_959 : BitVec 32 := 0#32
  let c2_i32_310 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_249 : BitVec 32 := 1#32
  let c2_i32_248 : BitVec 32 := 2#32
  let c0_i32_236 : BitVec 32 := 0#32
  let v481 : BitVec 1 := Scalar.cmpi .sgt v131 c0_i32_236
  let v482 : BitVec 32 := Scalar.extui v481
  let c0_i32_237 : BitVec 32 := 0#32
  let v483 : BitVec 1 := Scalar.cmpi .slt v131 c0_i32_237
  let v484 : BitVec 32 := Scalar.extui v483
  let v485 : BitVec 32 := Scalar.subi v482 v484
  let c4_i32_235 : BitVec 32 := 4#32
  let c0_i32_238 : BitVec 32 := 0#32
  let v486 : BitVec 1 := Scalar.cmpi .sgt c4_i32_235 c0_i32_238
  let v487 : BitVec 32 := Scalar.extui v486
  let c0_i32_239 : BitVec 32 := 0#32
  let v488 : BitVec 1 := Scalar.cmpi .slt c4_i32_235 c0_i32_239
  let v489 : BitVec 32 := Scalar.extui v488
  let v490 : BitVec 32 := Scalar.subi v487 v489
  let v491 : BitVec 1 := Scalar.cmpi .ne v485 v490
  let v492 : BitVec 32 := Scalar.remsi v131 c4_i32_235
  let c0_i32_240 : BitVec 32 := 0#32
  let v493 : BitVec 1 := Scalar.cmpi .ne v492 c0_i32_240
  let v494 : BitVec 1 := Scalar.andi v491 v493
  let v480 : BitVec 32 := Scalar.divsi v131 c4_i32_235
  let c1_i32_241 : BitVec 32 := 1#32
  let v495 : BitVec 32 := Scalar.subi v480 c1_i32_241
  let v496 : BitVec 32 := Scalar.select v494 v495 v480
  let c2_i32_242 : BitVec 32 := 2#32
  let c0_i32_243 : BitVec 32 := 0#32
  let v497 : BitVec 1 := Scalar.cmpi .eq c2_i32_242 c0_i32_243
  let c1_i32_244 : BitVec 32 := 1#32
  let v498 : BitVec 32 := Scalar.select v497 c1_i32_244 c2_i32_242
  let v499 : BitVec 32 := Scalar.remsi v496 v498
  let c0_i32_246 : BitVec 32 := 0#32
  let v501 : BitVec 1 := Scalar.cmpi .slt v499 c0_i32_246
  let c0_i32_247 : BitVec 32 := 0#32
  let v502 : BitVec 1 := Scalar.cmpi .slt v498 c0_i32_247
  let v503 : BitVec 1 := Scalar.xori v501 v502
  let c0_i32_245 : BitVec 32 := 0#32
  let v500 : BitVec 1 := Scalar.cmpi .ne v499 c0_i32_245
  let v504 : BitVec 1 := Scalar.andi v503 v500
  let v505 : BitVec 32 := Scalar.addi v499 v498
  let v506 : BitVec 32 := Scalar.select v504 v505 v499
  let v507 : BitVec 32 := Scalar.muli c2_i32_248 v506
  let v508 : BitVec 32 := Scalar.subi c1_i32_249 v507
  let c4_i32_250 : BitVec 32 := 4#32
  let v509 : BitVec 32 := Scalar.muli v508 c4_i32_250
  let v510 : BitVec 32 := Scalar.addi v131 v509
  let c2_i32_303 : BitVec 32 := 2#32
  let c0_i32_304 : BitVec 32 := 0#32
  let v619 : BitVec 1 := Scalar.cmpi .eq c2_i32_303 c0_i32_304
  let c1_i32_305 : BitVec 32 := 1#32
  let v620 : BitVec 32 := Scalar.select v619 c1_i32_305 c2_i32_303
  let v621 : BitVec 32 := Scalar.remsi v510 v620
  let c0_i32_307 : BitVec 32 := 0#32
  let v623 : BitVec 1 := Scalar.cmpi .slt v621 c0_i32_307
  let c0_i32_308 : BitVec 32 := 0#32
  let v624 : BitVec 1 := Scalar.cmpi .slt v620 c0_i32_308
  let v625 : BitVec 1 := Scalar.xori v623 v624
  let c0_i32_306 : BitVec 32 := 0#32
  let v622 : BitVec 1 := Scalar.cmpi .ne v621 c0_i32_306
  let v626 : BitVec 1 := Scalar.andi v625 v622
  let v627 : BitVec 32 := Scalar.addi v621 v620
  let v628 : BitVec 32 := Scalar.select v626 v627 v621
  let v631 : BitVec 32 := Scalar.muli c2_i32_310 v628
  let c0_i32_278 : BitVec 32 := 0#32
  let v566 : BitVec 1 := Scalar.cmpi .sgt v510 c0_i32_278
  let v567 : BitVec 32 := Scalar.extui v566
  let c0_i32_279 : BitVec 32 := 0#32
  let v568 : BitVec 1 := Scalar.cmpi .slt v510 c0_i32_279
  let v569 : BitVec 32 := Scalar.extui v568
  let v570 : BitVec 32 := Scalar.subi v567 v569
  let c4_i32_277 : BitVec 32 := 4#32
  let c0_i32_280 : BitVec 32 := 0#32
  let v571 : BitVec 1 := Scalar.cmpi .sgt c4_i32_277 c0_i32_280
  let v572 : BitVec 32 := Scalar.extui v571
  let c0_i32_281 : BitVec 32 := 0#32
  let v573 : BitVec 1 := Scalar.cmpi .slt c4_i32_277 c0_i32_281
  let v574 : BitVec 32 := Scalar.extui v573
  let v575 : BitVec 32 := Scalar.subi v572 v574
  let v576 : BitVec 1 := Scalar.cmpi .ne v570 v575
  let v577 : BitVec 32 := Scalar.remsi v510 c4_i32_277
  let c0_i32_282 : BitVec 32 := 0#32
  let v578 : BitVec 1 := Scalar.cmpi .ne v577 c0_i32_282
  let v579 : BitVec 1 := Scalar.andi v576 v578
  let v565 : BitVec 32 := Scalar.divsi v510 c4_i32_277
  let c1_i32_283 : BitVec 32 := 1#32
  let v580 : BitVec 32 := Scalar.subi v565 c1_i32_283
  let v581 : BitVec 32 := Scalar.select v579 v580 v565
  let c2_i32_284 : BitVec 32 := 2#32
  let c0_i32_285 : BitVec 32 := 0#32
  let v582 : BitVec 1 := Scalar.cmpi .eq c2_i32_284 c0_i32_285
  let c1_i32_286 : BitVec 32 := 1#32
  let v583 : BitVec 32 := Scalar.select v582 c1_i32_286 c2_i32_284
  let v584 : BitVec 32 := Scalar.remsi v581 v583
  let c0_i32_288 : BitVec 32 := 0#32
  let v586 : BitVec 1 := Scalar.cmpi .slt v584 c0_i32_288
  let c0_i32_289 : BitVec 32 := 0#32
  let v587 : BitVec 1 := Scalar.cmpi .slt v583 c0_i32_289
  let v588 : BitVec 1 := Scalar.xori v586 v587
  let c0_i32_287 : BitVec 32 := 0#32
  let v585 : BitVec 1 := Scalar.cmpi .ne v584 c0_i32_287
  let v589 : BitVec 1 := Scalar.andi v588 v585
  let v590 : BitVec 32 := Scalar.addi v584 v583
  let v591 : BitVec 32 := Scalar.select v589 v590 v584
  let v632 : BitVec 32 := Scalar.addi v631 v591
  let c8_i32_311 : BitVec 32 := 8#32
  let v633 : BitVec 32 := Scalar.muli v632 c8_i32_311
  let c2_i32_309 : BitVec 32 := 2#32
  let c0_i32_291 : BitVec 32 := 0#32
  let v593 : BitVec 1 := Scalar.cmpi .sgt v510 c0_i32_291
  let v594 : BitVec 32 := Scalar.extui v593
  let c0_i32_292 : BitVec 32 := 0#32
  let v595 : BitVec 1 := Scalar.cmpi .slt v510 c0_i32_292
  let v596 : BitVec 32 := Scalar.extui v595
  let v597 : BitVec 32 := Scalar.subi v594 v596
  let c2_i32_290 : BitVec 32 := 2#32
  let c0_i32_293 : BitVec 32 := 0#32
  let v598 : BitVec 1 := Scalar.cmpi .sgt c2_i32_290 c0_i32_293
  let v599 : BitVec 32 := Scalar.extui v598
  let c0_i32_294 : BitVec 32 := 0#32
  let v600 : BitVec 1 := Scalar.cmpi .slt c2_i32_290 c0_i32_294
  let v601 : BitVec 32 := Scalar.extui v600
  let v602 : BitVec 32 := Scalar.subi v599 v601
  let v603 : BitVec 1 := Scalar.cmpi .ne v597 v602
  let v604 : BitVec 32 := Scalar.remsi v510 c2_i32_290
  let c0_i32_295 : BitVec 32 := 0#32
  let v605 : BitVec 1 := Scalar.cmpi .ne v604 c0_i32_295
  let v606 : BitVec 1 := Scalar.andi v603 v605
  let v592 : BitVec 32 := Scalar.divsi v510 c2_i32_290
  let c1_i32_296 : BitVec 32 := 1#32
  let v607 : BitVec 32 := Scalar.subi v592 c1_i32_296
  let v608 : BitVec 32 := Scalar.select v606 v607 v592
  let c2_i32_297 : BitVec 32 := 2#32
  let c0_i32_298 : BitVec 32 := 0#32
  let v609 : BitVec 1 := Scalar.cmpi .eq c2_i32_297 c0_i32_298
  let c1_i32_299 : BitVec 32 := 1#32
  let v610 : BitVec 32 := Scalar.select v609 c1_i32_299 c2_i32_297
  let v611 : BitVec 32 := Scalar.remsi v608 v610
  let c0_i32_301 : BitVec 32 := 0#32
  let v613 : BitVec 1 := Scalar.cmpi .slt v611 c0_i32_301
  let c0_i32_302 : BitVec 32 := 0#32
  let v614 : BitVec 1 := Scalar.cmpi .slt v610 c0_i32_302
  let v615 : BitVec 1 := Scalar.xori v613 v614
  let c0_i32_300 : BitVec 32 := 0#32
  let v612 : BitVec 1 := Scalar.cmpi .ne v611 c0_i32_300
  let v616 : BitVec 1 := Scalar.andi v615 v612
  let v617 : BitVec 32 := Scalar.addi v611 v610
  let v618 : BitVec 32 := Scalar.select v616 v617 v611
  let v629 : BitVec 32 := Scalar.muli c2_i32_309 v618
  let c0_i32_265 : BitVec 32 := 0#32
  let v539 : BitVec 1 := Scalar.cmpi .sgt v510 c0_i32_265
  let v540 : BitVec 32 := Scalar.extui v539
  let c0_i32_266 : BitVec 32 := 0#32
  let v541 : BitVec 1 := Scalar.cmpi .slt v510 c0_i32_266
  let v542 : BitVec 32 := Scalar.extui v541
  let v543 : BitVec 32 := Scalar.subi v540 v542
  let c8_i32_264 : BitVec 32 := 8#32
  let c0_i32_267 : BitVec 32 := 0#32
  let v544 : BitVec 1 := Scalar.cmpi .sgt c8_i32_264 c0_i32_267
  let v545 : BitVec 32 := Scalar.extui v544
  let c0_i32_268 : BitVec 32 := 0#32
  let v546 : BitVec 1 := Scalar.cmpi .slt c8_i32_264 c0_i32_268
  let v547 : BitVec 32 := Scalar.extui v546
  let v548 : BitVec 32 := Scalar.subi v545 v547
  let v549 : BitVec 1 := Scalar.cmpi .ne v543 v548
  let v550 : BitVec 32 := Scalar.remsi v510 c8_i32_264
  let c0_i32_269 : BitVec 32 := 0#32
  let v551 : BitVec 1 := Scalar.cmpi .ne v550 c0_i32_269
  let v552 : BitVec 1 := Scalar.andi v549 v551
  let v538 : BitVec 32 := Scalar.divsi v510 c8_i32_264
  let c1_i32_270 : BitVec 32 := 1#32
  let v553 : BitVec 32 := Scalar.subi v538 c1_i32_270
  let v554 : BitVec 32 := Scalar.select v552 v553 v538
  let c2_i32_271 : BitVec 32 := 2#32
  let c0_i32_272 : BitVec 32 := 0#32
  let v555 : BitVec 1 := Scalar.cmpi .eq c2_i32_271 c0_i32_272
  let c1_i32_273 : BitVec 32 := 1#32
  let v556 : BitVec 32 := Scalar.select v555 c1_i32_273 c2_i32_271
  let v557 : BitVec 32 := Scalar.remsi v554 v556
  let c0_i32_275 : BitVec 32 := 0#32
  let v559 : BitVec 1 := Scalar.cmpi .slt v557 c0_i32_275
  let c0_i32_276 : BitVec 32 := 0#32
  let v560 : BitVec 1 := Scalar.cmpi .slt v556 c0_i32_276
  let v561 : BitVec 1 := Scalar.xori v559 v560
  let c0_i32_274 : BitVec 32 := 0#32
  let v558 : BitVec 1 := Scalar.cmpi .ne v557 c0_i32_274
  let v562 : BitVec 1 := Scalar.andi v561 v558
  let v563 : BitVec 32 := Scalar.addi v557 v556
  let v564 : BitVec 32 := Scalar.select v562 v563 v557
  let v630 : BitVec 32 := Scalar.addi v629 v564
  let c2_i32_312 : BitVec 32 := 2#32
  let v634 : BitVec 32 := Scalar.muli v630 c2_i32_312
  let v635 : BitVec 32 := Scalar.addi v633 v634
  let c2_i32_313 : BitVec 32 := 2#32
  let c0_i32_314 : BitVec 32 := 0#32
  let v636 : BitVec 1 := Scalar.cmpi .eq c2_i32_313 c0_i32_314
  let c1_i32_315 : BitVec 32 := 1#32
  let v637 : BitVec 32 := Scalar.select v636 c1_i32_315 c2_i32_313
  let v638 : BitVec 32 := Scalar.remsi v630 v637
  let c0_i32_317 : BitVec 32 := 0#32
  let v640 : BitVec 1 := Scalar.cmpi .slt v638 c0_i32_317
  let c0_i32_318 : BitVec 32 := 0#32
  let v641 : BitVec 1 := Scalar.cmpi .slt v637 c0_i32_318
  let v642 : BitVec 1 := Scalar.xori v640 v641
  let c0_i32_316 : BitVec 32 := 0#32
  let v639 : BitVec 1 := Scalar.cmpi .ne v638 c0_i32_316
  let v643 : BitVec 1 := Scalar.andi v642 v639
  let v644 : BitVec 32 := Scalar.addi v638 v637
  let v645 : BitVec 32 := Scalar.select v643 v644 v638
  let c0_i32_319 : BitVec 32 := 0#32
  let v646 : BitVec 1 := Scalar.cmpi .eq v645 c0_i32_319
  let c0_i32_252 : BitVec 32 := 0#32
  let v512 : BitVec 1 := Scalar.cmpi .sgt v510 c0_i32_252
  let v513 : BitVec 32 := Scalar.extui v512
  let c0_i32_253 : BitVec 32 := 0#32
  let v514 : BitVec 1 := Scalar.cmpi .slt v510 c0_i32_253
  let v515 : BitVec 32 := Scalar.extui v514
  let v516 : BitVec 32 := Scalar.subi v513 v515
  let c16_i32_251 : BitVec 32 := 16#32
  let c0_i32_254 : BitVec 32 := 0#32
  let v517 : BitVec 1 := Scalar.cmpi .sgt c16_i32_251 c0_i32_254
  let v518 : BitVec 32 := Scalar.extui v517
  let c0_i32_255 : BitVec 32 := 0#32
  let v519 : BitVec 1 := Scalar.cmpi .slt c16_i32_251 c0_i32_255
  let v520 : BitVec 32 := Scalar.extui v519
  let v521 : BitVec 32 := Scalar.subi v518 v520
  let v522 : BitVec 1 := Scalar.cmpi .ne v516 v521
  let v523 : BitVec 32 := Scalar.remsi v510 c16_i32_251
  let c0_i32_256 : BitVec 32 := 0#32
  let v524 : BitVec 1 := Scalar.cmpi .ne v523 c0_i32_256
  let v525 : BitVec 1 := Scalar.andi v522 v524
  let v511 : BitVec 32 := Scalar.divsi v510 c16_i32_251
  let c1_i32_257 : BitVec 32 := 1#32
  let v526 : BitVec 32 := Scalar.subi v511 c1_i32_257
  let v527 : BitVec 32 := Scalar.select v525 v526 v511
  let c2_i32_258 : BitVec 32 := 2#32
  let c0_i32_259 : BitVec 32 := 0#32
  let v528 : BitVec 1 := Scalar.cmpi .eq c2_i32_258 c0_i32_259
  let c1_i32_260 : BitVec 32 := 1#32
  let v529 : BitVec 32 := Scalar.select v528 c1_i32_260 c2_i32_258
  let v530 : BitVec 32 := Scalar.remsi v527 v529
  let c0_i32_262 : BitVec 32 := 0#32
  let v532 : BitVec 1 := Scalar.cmpi .slt v530 c0_i32_262
  let c0_i32_263 : BitVec 32 := 0#32
  let v533 : BitVec 1 := Scalar.cmpi .slt v529 c0_i32_263
  let v534 : BitVec 1 := Scalar.xori v532 v533
  let c0_i32_261 : BitVec 32 := 0#32
  let v531 : BitVec 1 := Scalar.cmpi .ne v530 c0_i32_261
  let v535 : BitVec 1 := Scalar.andi v534 v531
  let v536 : BitVec 32 := Scalar.addi v530 v529
  let v537 : BitVec 32 := Scalar.select v535 v536 v530
  let c1_i32_320 : BitVec 32 := 1#32
  let v647 : BitVec 32 := Scalar.subi c1_i32_320 v537
  let v648 : BitVec 32 := Scalar.select v646 v537 v647
  let v649 : BitVec 32 := Scalar.addi v635 v648
  let c1_i32_958 : BitVec 32 := 1#32
  let v1684 : BitVec 32 := Scalar.muli v649 c1_i32_958
  let v1685 : BitVec 32 := Scalar.addi c0_i32_959 v1684
  v1685.toNat
def k0_dev17 (d0 : Dev nD) : Nat :=
  let c0_i32_965 : BitVec 32 := 0#32
  let c2_i32_482 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_421 : BitVec 32 := 1#32
  let c2_i32_420 : BitVec 32 := 2#32
  let c0_i32_408 : BitVec 32 := 0#32
  let v821 : BitVec 1 := Scalar.cmpi .sgt v131 c0_i32_408
  let v822 : BitVec 32 := Scalar.extui v821
  let c0_i32_409 : BitVec 32 := 0#32
  let v823 : BitVec 1 := Scalar.cmpi .slt v131 c0_i32_409
  let v824 : BitVec 32 := Scalar.extui v823
  let v825 : BitVec 32 := Scalar.subi v822 v824
  let c16_i32_407 : BitVec 32 := 16#32
  let c0_i32_410 : BitVec 32 := 0#32
  let v826 : BitVec 1 := Scalar.cmpi .sgt c16_i32_407 c0_i32_410
  let v827 : BitVec 32 := Scalar.extui v826
  let c0_i32_411 : BitVec 32 := 0#32
  let v828 : BitVec 1 := Scalar.cmpi .slt c16_i32_407 c0_i32_411
  let v829 : BitVec 32 := Scalar.extui v828
  let v830 : BitVec 32 := Scalar.subi v827 v829
  let v831 : BitVec 1 := Scalar.cmpi .ne v825 v830
  let v832 : BitVec 32 := Scalar.remsi v131 c16_i32_407
  let c0_i32_412 : BitVec 32 := 0#32
  let v833 : BitVec 1 := Scalar.cmpi .ne v832 c0_i32_412
  let v834 : BitVec 1 := Scalar.andi v831 v833
  let v820 : BitVec 32 := Scalar.divsi v131 c16_i32_407
  let c1_i32_413 : BitVec 32 := 1#32
  let v835 : BitVec 32 := Scalar.subi v820 c1_i32_413
  let v836 : BitVec 32 := Scalar.select v834 v835 v820
  let c2_i32_414 : BitVec 32 := 2#32
  let c0_i32_415 : BitVec 32 := 0#32
  let v837 : BitVec 1 := Scalar.cmpi .eq c2_i32_414 c0_i32_415
  let c1_i32_416 : BitVec 32 := 1#32
  let v838 : BitVec 32 := Scalar.select v837 c1_i32_416 c2_i32_414
  let v839 : BitVec 32 := Scalar.remsi v836 v838
  let c0_i32_418 : BitVec 32 := 0#32
  let v841 : BitVec 1 := Scalar.cmpi .slt v839 c0_i32_418
  let c0_i32_419 : BitVec 32 := 0#32
  let v842 : BitVec 1 := Scalar.cmpi .slt v838 c0_i32_419
  let v843 : BitVec 1 := Scalar.xori v841 v842
  let c0_i32_417 : BitVec 32 := 0#32
  let v840 : BitVec 1 := Scalar.cmpi .ne v839 c0_i32_417
  let v844 : BitVec 1 := Scalar.andi v843 v840
  let v845 : BitVec 32 := Scalar.addi v839 v838
  let v846 : BitVec 32 := Scalar.select v844 v845 v839
  let v847 : BitVec 32 := Scalar.muli c2_i32_420 v846
  let v848 : BitVec 32 := Scalar.subi c1_i32_421 v847
  let c16_i32_422 : BitVec 32 := 16#32
  let v849 : BitVec 32 := Scalar.muli v848 c16_i32_422
  let v850 : BitVec 32 := Scalar.addi v131 v849
  let c2_i32_475 : BitVec 32 := 2#32
  let c0_i32_476 : BitVec 32 := 0#32
  let v959 : BitVec 1 := Scalar.cmpi .eq c2_i32_475 c0_i32_476
  let c1_i32_477 : BitVec 32 := 1#32
  let v960 : BitVec 32 := Scalar.select v959 c1_i32_477 c2_i32_475
  let v961 : BitVec 32 := Scalar.remsi v850 v960
  let c0_i32_479 : BitVec 32 := 0#32
  let v963 : BitVec 1 := Scalar.cmpi .slt v961 c0_i32_479
  let c0_i32_480 : BitVec 32 := 0#32
  let v964 : BitVec 1 := Scalar.cmpi .slt v960 c0_i32_480
  let v965 : BitVec 1 := Scalar.xori v963 v964
  let c0_i32_478 : BitVec 32 := 0#32
  let v962 : BitVec 1 := Scalar.cmpi .ne v961 c0_i32_478
  let v966 : BitVec 1 := Scalar.andi v965 v962
  let v967 : BitVec 32 := Scalar.addi v961 v960
  let v968 : BitVec 32 := Scalar.select v966 v967 v961
  let v971 : BitVec 32 := Scalar.muli c2_i32_482 v968
  let c0_i32_450 : BitVec 32 := 0#32
  let v906 : BitVec 1 := Scalar.cmpi .sgt v850 c0_i32_450
  let v907 : BitVec 32 := Scalar.extui v906
  let c0_i32_451 : BitVec 32 := 0#32
  let v908 : BitVec 1 := Scalar.cmpi .slt v850 c0_i32_451
  let v909 : BitVec 32 := Scalar.extui v908
  let v910 : BitVec 32 := Scalar.subi v907 v909
  let c4_i32_449 : BitVec 32 := 4#32
  let c0_i32_452 : BitVec 32 := 0#32
  let v911 : BitVec 1 := Scalar.cmpi .sgt c4_i32_449 c0_i32_452
  let v912 : BitVec 32 := Scalar.extui v911
  let c0_i32_453 : BitVec 32 := 0#32
  let v913 : BitVec 1 := Scalar.cmpi .slt c4_i32_449 c0_i32_453
  let v914 : BitVec 32 := Scalar.extui v913
  let v915 : BitVec 32 := Scalar.subi v912 v914
  let v916 : BitVec 1 := Scalar.cmpi .ne v910 v915
  let v917 : BitVec 32 := Scalar.remsi v850 c4_i32_449
  let c0_i32_454 : BitVec 32 := 0#32
  let v918 : BitVec 1 := Scalar.cmpi .ne v917 c0_i32_454
  let v919 : BitVec 1 := Scalar.andi v916 v918
  let v905 : BitVec 32 := Scalar.divsi v850 c4_i32_449
  let c1_i32_455 : BitVec 32 := 1#32
  let v920 : BitVec 32 := Scalar.subi v905 c1_i32_455
  let v921 : BitVec 32 := Scalar.select v919 v920 v905
  let c2_i32_456 : BitVec 32 := 2#32
  let c0_i32_457 : BitVec 32 := 0#32
  let v922 : BitVec 1 := Scalar.cmpi .eq c2_i32_456 c0_i32_457
  let c1_i32_458 : BitVec 32 := 1#32
  let v923 : BitVec 32 := Scalar.select v922 c1_i32_458 c2_i32_456
  let v924 : BitVec 32 := Scalar.remsi v921 v923
  let c0_i32_460 : BitVec 32 := 0#32
  let v926 : BitVec 1 := Scalar.cmpi .slt v924 c0_i32_460
  let c0_i32_461 : BitVec 32 := 0#32
  let v927 : BitVec 1 := Scalar.cmpi .slt v923 c0_i32_461
  let v928 : BitVec 1 := Scalar.xori v926 v927
  let c0_i32_459 : BitVec 32 := 0#32
  let v925 : BitVec 1 := Scalar.cmpi .ne v924 c0_i32_459
  let v929 : BitVec 1 := Scalar.andi v928 v925
  let v930 : BitVec 32 := Scalar.addi v924 v923
  let v931 : BitVec 32 := Scalar.select v929 v930 v924
  let v972 : BitVec 32 := Scalar.addi v971 v931
  let c8_i32_483 : BitVec 32 := 8#32
  let v973 : BitVec 32 := Scalar.muli v972 c8_i32_483
  let c2_i32_481 : BitVec 32 := 2#32
  let c0_i32_463 : BitVec 32 := 0#32
  let v933 : BitVec 1 := Scalar.cmpi .sgt v850 c0_i32_463
  let v934 : BitVec 32 := Scalar.extui v933
  let c0_i32_464 : BitVec 32 := 0#32
  let v935 : BitVec 1 := Scalar.cmpi .slt v850 c0_i32_464
  let v936 : BitVec 32 := Scalar.extui v935
  let v937 : BitVec 32 := Scalar.subi v934 v936
  let c2_i32_462 : BitVec 32 := 2#32
  let c0_i32_465 : BitVec 32 := 0#32
  let v938 : BitVec 1 := Scalar.cmpi .sgt c2_i32_462 c0_i32_465
  let v939 : BitVec 32 := Scalar.extui v938
  let c0_i32_466 : BitVec 32 := 0#32
  let v940 : BitVec 1 := Scalar.cmpi .slt c2_i32_462 c0_i32_466
  let v941 : BitVec 32 := Scalar.extui v940
  let v942 : BitVec 32 := Scalar.subi v939 v941
  let v943 : BitVec 1 := Scalar.cmpi .ne v937 v942
  let v944 : BitVec 32 := Scalar.remsi v850 c2_i32_462
  let c0_i32_467 : BitVec 32 := 0#32
  let v945 : BitVec 1 := Scalar.cmpi .ne v944 c0_i32_467
  let v946 : BitVec 1 := Scalar.andi v943 v945
  let v932 : BitVec 32 := Scalar.divsi v850 c2_i32_462
  let c1_i32_468 : BitVec 32 := 1#32
  let v947 : BitVec 32 := Scalar.subi v932 c1_i32_468
  let v948 : BitVec 32 := Scalar.select v946 v947 v932
  let c2_i32_469 : BitVec 32 := 2#32
  let c0_i32_470 : BitVec 32 := 0#32
  let v949 : BitVec 1 := Scalar.cmpi .eq c2_i32_469 c0_i32_470
  let c1_i32_471 : BitVec 32 := 1#32
  let v950 : BitVec 32 := Scalar.select v949 c1_i32_471 c2_i32_469
  let v951 : BitVec 32 := Scalar.remsi v948 v950
  let c0_i32_473 : BitVec 32 := 0#32
  let v953 : BitVec 1 := Scalar.cmpi .slt v951 c0_i32_473
  let c0_i32_474 : BitVec 32 := 0#32
  let v954 : BitVec 1 := Scalar.cmpi .slt v950 c0_i32_474
  let v955 : BitVec 1 := Scalar.xori v953 v954
  let c0_i32_472 : BitVec 32 := 0#32
  let v952 : BitVec 1 := Scalar.cmpi .ne v951 c0_i32_472
  let v956 : BitVec 1 := Scalar.andi v955 v952
  let v957 : BitVec 32 := Scalar.addi v951 v950
  let v958 : BitVec 32 := Scalar.select v956 v957 v951
  let v969 : BitVec 32 := Scalar.muli c2_i32_481 v958
  let c0_i32_437 : BitVec 32 := 0#32
  let v879 : BitVec 1 := Scalar.cmpi .sgt v850 c0_i32_437
  let v880 : BitVec 32 := Scalar.extui v879
  let c0_i32_438 : BitVec 32 := 0#32
  let v881 : BitVec 1 := Scalar.cmpi .slt v850 c0_i32_438
  let v882 : BitVec 32 := Scalar.extui v881
  let v883 : BitVec 32 := Scalar.subi v880 v882
  let c8_i32_436 : BitVec 32 := 8#32
  let c0_i32_439 : BitVec 32 := 0#32
  let v884 : BitVec 1 := Scalar.cmpi .sgt c8_i32_436 c0_i32_439
  let v885 : BitVec 32 := Scalar.extui v884
  let c0_i32_440 : BitVec 32 := 0#32
  let v886 : BitVec 1 := Scalar.cmpi .slt c8_i32_436 c0_i32_440
  let v887 : BitVec 32 := Scalar.extui v886
  let v888 : BitVec 32 := Scalar.subi v885 v887
  let v889 : BitVec 1 := Scalar.cmpi .ne v883 v888
  let v890 : BitVec 32 := Scalar.remsi v850 c8_i32_436
  let c0_i32_441 : BitVec 32 := 0#32
  let v891 : BitVec 1 := Scalar.cmpi .ne v890 c0_i32_441
  let v892 : BitVec 1 := Scalar.andi v889 v891
  let v878 : BitVec 32 := Scalar.divsi v850 c8_i32_436
  let c1_i32_442 : BitVec 32 := 1#32
  let v893 : BitVec 32 := Scalar.subi v878 c1_i32_442
  let v894 : BitVec 32 := Scalar.select v892 v893 v878
  let c2_i32_443 : BitVec 32 := 2#32
  let c0_i32_444 : BitVec 32 := 0#32
  let v895 : BitVec 1 := Scalar.cmpi .eq c2_i32_443 c0_i32_444
  let c1_i32_445 : BitVec 32 := 1#32
  let v896 : BitVec 32 := Scalar.select v895 c1_i32_445 c2_i32_443
  let v897 : BitVec 32 := Scalar.remsi v894 v896
  let c0_i32_447 : BitVec 32 := 0#32
  let v899 : BitVec 1 := Scalar.cmpi .slt v897 c0_i32_447
  let c0_i32_448 : BitVec 32 := 0#32
  let v900 : BitVec 1 := Scalar.cmpi .slt v896 c0_i32_448
  let v901 : BitVec 1 := Scalar.xori v899 v900
  let c0_i32_446 : BitVec 32 := 0#32
  let v898 : BitVec 1 := Scalar.cmpi .ne v897 c0_i32_446
  let v902 : BitVec 1 := Scalar.andi v901 v898
  let v903 : BitVec 32 := Scalar.addi v897 v896
  let v904 : BitVec 32 := Scalar.select v902 v903 v897
  let v970 : BitVec 32 := Scalar.addi v969 v904
  let c2_i32_484 : BitVec 32 := 2#32
  let v974 : BitVec 32 := Scalar.muli v970 c2_i32_484
  let v975 : BitVec 32 := Scalar.addi v973 v974
  let c2_i32_485 : BitVec 32 := 2#32
  let c0_i32_486 : BitVec 32 := 0#32
  let v976 : BitVec 1 := Scalar.cmpi .eq c2_i32_485 c0_i32_486
  let c1_i32_487 : BitVec 32 := 1#32
  let v977 : BitVec 32 := Scalar.select v976 c1_i32_487 c2_i32_485
  let v978 : BitVec 32 := Scalar.remsi v970 v977
  let c0_i32_489 : BitVec 32 := 0#32
  let v980 : BitVec 1 := Scalar.cmpi .slt v978 c0_i32_489
  let c0_i32_490 : BitVec 32 := 0#32
  let v981 : BitVec 1 := Scalar.cmpi .slt v977 c0_i32_490
  let v982 : BitVec 1 := Scalar.xori v980 v981
  let c0_i32_488 : BitVec 32 := 0#32
  let v979 : BitVec 1 := Scalar.cmpi .ne v978 c0_i32_488
  let v983 : BitVec 1 := Scalar.andi v982 v979
  let v984 : BitVec 32 := Scalar.addi v978 v977
  let v985 : BitVec 32 := Scalar.select v983 v984 v978
  let c0_i32_491 : BitVec 32 := 0#32
  let v986 : BitVec 1 := Scalar.cmpi .eq v985 c0_i32_491
  let c0_i32_424 : BitVec 32 := 0#32
  let v852 : BitVec 1 := Scalar.cmpi .sgt v850 c0_i32_424
  let v853 : BitVec 32 := Scalar.extui v852
  let c0_i32_425 : BitVec 32 := 0#32
  let v854 : BitVec 1 := Scalar.cmpi .slt v850 c0_i32_425
  let v855 : BitVec 32 := Scalar.extui v854
  let v856 : BitVec 32 := Scalar.subi v853 v855
  let c16_i32_423 : BitVec 32 := 16#32
  let c0_i32_426 : BitVec 32 := 0#32
  let v857 : BitVec 1 := Scalar.cmpi .sgt c16_i32_423 c0_i32_426
  let v858 : BitVec 32 := Scalar.extui v857
  let c0_i32_427 : BitVec 32 := 0#32
  let v859 : BitVec 1 := Scalar.cmpi .slt c16_i32_423 c0_i32_427
  let v860 : BitVec 32 := Scalar.extui v859
  let v861 : BitVec 32 := Scalar.subi v858 v860
  let v862 : BitVec 1 := Scalar.cmpi .ne v856 v861
  let v863 : BitVec 32 := Scalar.remsi v850 c16_i32_423
  let c0_i32_428 : BitVec 32 := 0#32
  let v864 : BitVec 1 := Scalar.cmpi .ne v863 c0_i32_428
  let v865 : BitVec 1 := Scalar.andi v862 v864
  let v851 : BitVec 32 := Scalar.divsi v850 c16_i32_423
  let c1_i32_429 : BitVec 32 := 1#32
  let v866 : BitVec 32 := Scalar.subi v851 c1_i32_429
  let v867 : BitVec 32 := Scalar.select v865 v866 v851
  let c2_i32_430 : BitVec 32 := 2#32
  let c0_i32_431 : BitVec 32 := 0#32
  let v868 : BitVec 1 := Scalar.cmpi .eq c2_i32_430 c0_i32_431
  let c1_i32_432 : BitVec 32 := 1#32
  let v869 : BitVec 32 := Scalar.select v868 c1_i32_432 c2_i32_430
  let v870 : BitVec 32 := Scalar.remsi v867 v869
  let c0_i32_434 : BitVec 32 := 0#32
  let v872 : BitVec 1 := Scalar.cmpi .slt v870 c0_i32_434
  let c0_i32_435 : BitVec 32 := 0#32
  let v873 : BitVec 1 := Scalar.cmpi .slt v869 c0_i32_435
  let v874 : BitVec 1 := Scalar.xori v872 v873
  let c0_i32_433 : BitVec 32 := 0#32
  let v871 : BitVec 1 := Scalar.cmpi .ne v870 c0_i32_433
  let v875 : BitVec 1 := Scalar.andi v874 v871
  let v876 : BitVec 32 := Scalar.addi v870 v869
  let v877 : BitVec 32 := Scalar.select v875 v876 v870
  let c1_i32_492 : BitVec 32 := 1#32
  let v987 : BitVec 32 := Scalar.subi c1_i32_492 v877
  let v988 : BitVec 32 := Scalar.select v986 v877 v987
  let v989 : BitVec 32 := Scalar.addi v975 v988
  let c1_i32_964 : BitVec 32 := 1#32
  let v1692 : BitVec 32 := Scalar.muli v989 c1_i32_964
  let v1693 : BitVec 32 := Scalar.addi c0_i32_965 v1692
  v1693.toNat
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c0_i32_991 : BitVec 32 := 0#32
  let v1721 : BitVec 1 := Scalar.cmpi .sgt v131 c0_i32_991
  let v1722 : BitVec 32 := Scalar.extui v1721
  let c0_i32_992 : BitVec 32 := 0#32
  let v1723 : BitVec 1 := Scalar.cmpi .slt v131 c0_i32_992
  let v1724 : BitVec 32 := Scalar.extui v1723
  let v1725 : BitVec 32 := Scalar.subi v1722 v1724
  let c8_i32_990 : BitVec 32 := 8#32
  let c0_i32_993 : BitVec 32 := 0#32
  let v1726 : BitVec 1 := Scalar.cmpi .sgt c8_i32_990 c0_i32_993
  let v1727 : BitVec 32 := Scalar.extui v1726
  let c0_i32_994 : BitVec 32 := 0#32
  let v1728 : BitVec 1 := Scalar.cmpi .slt c8_i32_990 c0_i32_994
  let v1729 : BitVec 32 := Scalar.extui v1728
  let v1730 : BitVec 32 := Scalar.subi v1727 v1729
  let v1731 : BitVec 1 := Scalar.cmpi .ne v1725 v1730
  let v1732 : BitVec 32 := Scalar.remsi v131 c8_i32_990
  let c0_i32_995 : BitVec 32 := 0#32
  let v1733 : BitVec 1 := Scalar.cmpi .ne v1732 c0_i32_995
  let v1734 : BitVec 1 := Scalar.andi v1731 v1733
  let v1720 : BitVec 32 := Scalar.divsi v131 c8_i32_990
  let c1_i32_996 : BitVec 32 := 1#32
  let v1735 : BitVec 32 := Scalar.subi v1720 c1_i32_996
  let v1736 : BitVec 32 := Scalar.select v1734 v1735 v1720
  let c8_i32_997 : BitVec 32 := 8#32
  let v1737 : BitVec 32 := Scalar.muli v1736 c8_i32_997
  let c16_i32_998 : BitVec 32 := 16#32
  let v1738 : BitVec 32 := Scalar.muli v1737 c16_i32_998
  let c0_i32_1011 : BitVec 32 := 0#32
  ![v1738.toNat, 0]
def k0_dev18 (d0 : Dev nD) : Nat :=
  let c0_i32_1010 : BitVec 32 := 0#32
  let c2_i32_396 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_335 : BitVec 32 := 1#32
  let c2_i32_334 : BitVec 32 := 2#32
  let c0_i32_322 : BitVec 32 := 0#32
  let v651 : BitVec 1 := Scalar.cmpi .sgt v131 c0_i32_322
  let v652 : BitVec 32 := Scalar.extui v651
  let c0_i32_323 : BitVec 32 := 0#32
  let v653 : BitVec 1 := Scalar.cmpi .slt v131 c0_i32_323
  let v654 : BitVec 32 := Scalar.extui v653
  let v655 : BitVec 32 := Scalar.subi v652 v654
  let c8_i32_321 : BitVec 32 := 8#32
  let c0_i32_324 : BitVec 32 := 0#32
  let v656 : BitVec 1 := Scalar.cmpi .sgt c8_i32_321 c0_i32_324
  let v657 : BitVec 32 := Scalar.extui v656
  let c0_i32_325 : BitVec 32 := 0#32
  let v658 : BitVec 1 := Scalar.cmpi .slt c8_i32_321 c0_i32_325
  let v659 : BitVec 32 := Scalar.extui v658
  let v660 : BitVec 32 := Scalar.subi v657 v659
  let v661 : BitVec 1 := Scalar.cmpi .ne v655 v660
  let v662 : BitVec 32 := Scalar.remsi v131 c8_i32_321
  let c0_i32_326 : BitVec 32 := 0#32
  let v663 : BitVec 1 := Scalar.cmpi .ne v662 c0_i32_326
  let v664 : BitVec 1 := Scalar.andi v661 v663
  let v650 : BitVec 32 := Scalar.divsi v131 c8_i32_321
  let c1_i32_327 : BitVec 32 := 1#32
  let v665 : BitVec 32 := Scalar.subi v650 c1_i32_327
  let v666 : BitVec 32 := Scalar.select v664 v665 v650
  let c2_i32_328 : BitVec 32 := 2#32
  let c0_i32_329 : BitVec 32 := 0#32
  let v667 : BitVec 1 := Scalar.cmpi .eq c2_i32_328 c0_i32_329
  let c1_i32_330 : BitVec 32 := 1#32
  let v668 : BitVec 32 := Scalar.select v667 c1_i32_330 c2_i32_328
  let v669 : BitVec 32 := Scalar.remsi v666 v668
  let c0_i32_332 : BitVec 32 := 0#32
  let v671 : BitVec 1 := Scalar.cmpi .slt v669 c0_i32_332
  let c0_i32_333 : BitVec 32 := 0#32
  let v672 : BitVec 1 := Scalar.cmpi .slt v668 c0_i32_333
  let v673 : BitVec 1 := Scalar.xori v671 v672
  let c0_i32_331 : BitVec 32 := 0#32
  let v670 : BitVec 1 := Scalar.cmpi .ne v669 c0_i32_331
  let v674 : BitVec 1 := Scalar.andi v673 v670
  let v675 : BitVec 32 := Scalar.addi v669 v668
  let v676 : BitVec 32 := Scalar.select v674 v675 v669
  let v677 : BitVec 32 := Scalar.muli c2_i32_334 v676
  let v678 : BitVec 32 := Scalar.subi c1_i32_335 v677
  let c8_i32_336 : BitVec 32 := 8#32
  let v679 : BitVec 32 := Scalar.muli v678 c8_i32_336
  let v680 : BitVec 32 := Scalar.addi v131 v679
  let c2_i32_389 : BitVec 32 := 2#32
  let c0_i32_390 : BitVec 32 := 0#32
  let v789 : BitVec 1 := Scalar.cmpi .eq c2_i32_389 c0_i32_390
  let c1_i32_391 : BitVec 32 := 1#32
  let v790 : BitVec 32 := Scalar.select v789 c1_i32_391 c2_i32_389
  let v791 : BitVec 32 := Scalar.remsi v680 v790
  let c0_i32_393 : BitVec 32 := 0#32
  let v793 : BitVec 1 := Scalar.cmpi .slt v791 c0_i32_393
  let c0_i32_394 : BitVec 32 := 0#32
  let v794 : BitVec 1 := Scalar.cmpi .slt v790 c0_i32_394
  let v795 : BitVec 1 := Scalar.xori v793 v794
  let c0_i32_392 : BitVec 32 := 0#32
  let v792 : BitVec 1 := Scalar.cmpi .ne v791 c0_i32_392
  let v796 : BitVec 1 := Scalar.andi v795 v792
  let v797 : BitVec 32 := Scalar.addi v791 v790
  let v798 : BitVec 32 := Scalar.select v796 v797 v791
  let v801 : BitVec 32 := Scalar.muli c2_i32_396 v798
  let c0_i32_364 : BitVec 32 := 0#32
  let v736 : BitVec 1 := Scalar.cmpi .sgt v680 c0_i32_364
  let v737 : BitVec 32 := Scalar.extui v736
  let c0_i32_365 : BitVec 32 := 0#32
  let v738 : BitVec 1 := Scalar.cmpi .slt v680 c0_i32_365
  let v739 : BitVec 32 := Scalar.extui v738
  let v740 : BitVec 32 := Scalar.subi v737 v739
  let c4_i32_363 : BitVec 32 := 4#32
  let c0_i32_366 : BitVec 32 := 0#32
  let v741 : BitVec 1 := Scalar.cmpi .sgt c4_i32_363 c0_i32_366
  let v742 : BitVec 32 := Scalar.extui v741
  let c0_i32_367 : BitVec 32 := 0#32
  let v743 : BitVec 1 := Scalar.cmpi .slt c4_i32_363 c0_i32_367
  let v744 : BitVec 32 := Scalar.extui v743
  let v745 : BitVec 32 := Scalar.subi v742 v744
  let v746 : BitVec 1 := Scalar.cmpi .ne v740 v745
  let v747 : BitVec 32 := Scalar.remsi v680 c4_i32_363
  let c0_i32_368 : BitVec 32 := 0#32
  let v748 : BitVec 1 := Scalar.cmpi .ne v747 c0_i32_368
  let v749 : BitVec 1 := Scalar.andi v746 v748
  let v735 : BitVec 32 := Scalar.divsi v680 c4_i32_363
  let c1_i32_369 : BitVec 32 := 1#32
  let v750 : BitVec 32 := Scalar.subi v735 c1_i32_369
  let v751 : BitVec 32 := Scalar.select v749 v750 v735
  let c2_i32_370 : BitVec 32 := 2#32
  let c0_i32_371 : BitVec 32 := 0#32
  let v752 : BitVec 1 := Scalar.cmpi .eq c2_i32_370 c0_i32_371
  let c1_i32_372 : BitVec 32 := 1#32
  let v753 : BitVec 32 := Scalar.select v752 c1_i32_372 c2_i32_370
  let v754 : BitVec 32 := Scalar.remsi v751 v753
  let c0_i32_374 : BitVec 32 := 0#32
  let v756 : BitVec 1 := Scalar.cmpi .slt v754 c0_i32_374
  let c0_i32_375 : BitVec 32 := 0#32
  let v757 : BitVec 1 := Scalar.cmpi .slt v753 c0_i32_375
  let v758 : BitVec 1 := Scalar.xori v756 v757
  let c0_i32_373 : BitVec 32 := 0#32
  let v755 : BitVec 1 := Scalar.cmpi .ne v754 c0_i32_373
  let v759 : BitVec 1 := Scalar.andi v758 v755
  let v760 : BitVec 32 := Scalar.addi v754 v753
  let v761 : BitVec 32 := Scalar.select v759 v760 v754
  let v802 : BitVec 32 := Scalar.addi v801 v761
  let c8_i32_397 : BitVec 32 := 8#32
  let v803 : BitVec 32 := Scalar.muli v802 c8_i32_397
  let c2_i32_395 : BitVec 32 := 2#32
  let c0_i32_377 : BitVec 32 := 0#32
  let v763 : BitVec 1 := Scalar.cmpi .sgt v680 c0_i32_377
  let v764 : BitVec 32 := Scalar.extui v763
  let c0_i32_378 : BitVec 32 := 0#32
  let v765 : BitVec 1 := Scalar.cmpi .slt v680 c0_i32_378
  let v766 : BitVec 32 := Scalar.extui v765
  let v767 : BitVec 32 := Scalar.subi v764 v766
  let c2_i32_376 : BitVec 32 := 2#32
  let c0_i32_379 : BitVec 32 := 0#32
  let v768 : BitVec 1 := Scalar.cmpi .sgt c2_i32_376 c0_i32_379
  let v769 : BitVec 32 := Scalar.extui v768
  let c0_i32_380 : BitVec 32 := 0#32
  let v770 : BitVec 1 := Scalar.cmpi .slt c2_i32_376 c0_i32_380
  let v771 : BitVec 32 := Scalar.extui v770
  let v772 : BitVec 32 := Scalar.subi v769 v771
  let v773 : BitVec 1 := Scalar.cmpi .ne v767 v772
  let v774 : BitVec 32 := Scalar.remsi v680 c2_i32_376
  let c0_i32_381 : BitVec 32 := 0#32
  let v775 : BitVec 1 := Scalar.cmpi .ne v774 c0_i32_381
  let v776 : BitVec 1 := Scalar.andi v773 v775
  let v762 : BitVec 32 := Scalar.divsi v680 c2_i32_376
  let c1_i32_382 : BitVec 32 := 1#32
  let v777 : BitVec 32 := Scalar.subi v762 c1_i32_382
  let v778 : BitVec 32 := Scalar.select v776 v777 v762
  let c2_i32_383 : BitVec 32 := 2#32
  let c0_i32_384 : BitVec 32 := 0#32
  let v779 : BitVec 1 := Scalar.cmpi .eq c2_i32_383 c0_i32_384
  let c1_i32_385 : BitVec 32 := 1#32
  let v780 : BitVec 32 := Scalar.select v779 c1_i32_385 c2_i32_383
  let v781 : BitVec 32 := Scalar.remsi v778 v780
  let c0_i32_387 : BitVec 32 := 0#32
  let v783 : BitVec 1 := Scalar.cmpi .slt v781 c0_i32_387
  let c0_i32_388 : BitVec 32 := 0#32
  let v784 : BitVec 1 := Scalar.cmpi .slt v780 c0_i32_388
  let v785 : BitVec 1 := Scalar.xori v783 v784
  let c0_i32_386 : BitVec 32 := 0#32
  let v782 : BitVec 1 := Scalar.cmpi .ne v781 c0_i32_386
  let v786 : BitVec 1 := Scalar.andi v785 v782
  let v787 : BitVec 32 := Scalar.addi v781 v780
  let v788 : BitVec 32 := Scalar.select v786 v787 v781
  let v799 : BitVec 32 := Scalar.muli c2_i32_395 v788
  let c0_i32_351 : BitVec 32 := 0#32
  let v709 : BitVec 1 := Scalar.cmpi .sgt v680 c0_i32_351
  let v710 : BitVec 32 := Scalar.extui v709
  let c0_i32_352 : BitVec 32 := 0#32
  let v711 : BitVec 1 := Scalar.cmpi .slt v680 c0_i32_352
  let v712 : BitVec 32 := Scalar.extui v711
  let v713 : BitVec 32 := Scalar.subi v710 v712
  let c8_i32_350 : BitVec 32 := 8#32
  let c0_i32_353 : BitVec 32 := 0#32
  let v714 : BitVec 1 := Scalar.cmpi .sgt c8_i32_350 c0_i32_353
  let v715 : BitVec 32 := Scalar.extui v714
  let c0_i32_354 : BitVec 32 := 0#32
  let v716 : BitVec 1 := Scalar.cmpi .slt c8_i32_350 c0_i32_354
  let v717 : BitVec 32 := Scalar.extui v716
  let v718 : BitVec 32 := Scalar.subi v715 v717
  let v719 : BitVec 1 := Scalar.cmpi .ne v713 v718
  let v720 : BitVec 32 := Scalar.remsi v680 c8_i32_350
  let c0_i32_355 : BitVec 32 := 0#32
  let v721 : BitVec 1 := Scalar.cmpi .ne v720 c0_i32_355
  let v722 : BitVec 1 := Scalar.andi v719 v721
  let v708 : BitVec 32 := Scalar.divsi v680 c8_i32_350
  let c1_i32_356 : BitVec 32 := 1#32
  let v723 : BitVec 32 := Scalar.subi v708 c1_i32_356
  let v724 : BitVec 32 := Scalar.select v722 v723 v708
  let c2_i32_357 : BitVec 32 := 2#32
  let c0_i32_358 : BitVec 32 := 0#32
  let v725 : BitVec 1 := Scalar.cmpi .eq c2_i32_357 c0_i32_358
  let c1_i32_359 : BitVec 32 := 1#32
  let v726 : BitVec 32 := Scalar.select v725 c1_i32_359 c2_i32_357
  let v727 : BitVec 32 := Scalar.remsi v724 v726
  let c0_i32_361 : BitVec 32 := 0#32
  let v729 : BitVec 1 := Scalar.cmpi .slt v727 c0_i32_361
  let c0_i32_362 : BitVec 32 := 0#32
  let v730 : BitVec 1 := Scalar.cmpi .slt v726 c0_i32_362
  let v731 : BitVec 1 := Scalar.xori v729 v730
  let c0_i32_360 : BitVec 32 := 0#32
  let v728 : BitVec 1 := Scalar.cmpi .ne v727 c0_i32_360
  let v732 : BitVec 1 := Scalar.andi v731 v728
  let v733 : BitVec 32 := Scalar.addi v727 v726
  let v734 : BitVec 32 := Scalar.select v732 v733 v727
  let v800 : BitVec 32 := Scalar.addi v799 v734
  let c2_i32_398 : BitVec 32 := 2#32
  let v804 : BitVec 32 := Scalar.muli v800 c2_i32_398
  let v805 : BitVec 32 := Scalar.addi v803 v804
  let c2_i32_399 : BitVec 32 := 2#32
  let c0_i32_400 : BitVec 32 := 0#32
  let v806 : BitVec 1 := Scalar.cmpi .eq c2_i32_399 c0_i32_400
  let c1_i32_401 : BitVec 32 := 1#32
  let v807 : BitVec 32 := Scalar.select v806 c1_i32_401 c2_i32_399
  let v808 : BitVec 32 := Scalar.remsi v800 v807
  let c0_i32_403 : BitVec 32 := 0#32
  let v810 : BitVec 1 := Scalar.cmpi .slt v808 c0_i32_403
  let c0_i32_404 : BitVec 32 := 0#32
  let v811 : BitVec 1 := Scalar.cmpi .slt v807 c0_i32_404
  let v812 : BitVec 1 := Scalar.xori v810 v811
  let c0_i32_402 : BitVec 32 := 0#32
  let v809 : BitVec 1 := Scalar.cmpi .ne v808 c0_i32_402
  let v813 : BitVec 1 := Scalar.andi v812 v809
  let v814 : BitVec 32 := Scalar.addi v808 v807
  let v815 : BitVec 32 := Scalar.select v813 v814 v808
  let c0_i32_405 : BitVec 32 := 0#32
  let v816 : BitVec 1 := Scalar.cmpi .eq v815 c0_i32_405
  let c0_i32_338 : BitVec 32 := 0#32
  let v682 : BitVec 1 := Scalar.cmpi .sgt v680 c0_i32_338
  let v683 : BitVec 32 := Scalar.extui v682
  let c0_i32_339 : BitVec 32 := 0#32
  let v684 : BitVec 1 := Scalar.cmpi .slt v680 c0_i32_339
  let v685 : BitVec 32 := Scalar.extui v684
  let v686 : BitVec 32 := Scalar.subi v683 v685
  let c16_i32_337 : BitVec 32 := 16#32
  let c0_i32_340 : BitVec 32 := 0#32
  let v687 : BitVec 1 := Scalar.cmpi .sgt c16_i32_337 c0_i32_340
  let v688 : BitVec 32 := Scalar.extui v687
  let c0_i32_341 : BitVec 32 := 0#32
  let v689 : BitVec 1 := Scalar.cmpi .slt c16_i32_337 c0_i32_341
  let v690 : BitVec 32 := Scalar.extui v689
  let v691 : BitVec 32 := Scalar.subi v688 v690
  let v692 : BitVec 1 := Scalar.cmpi .ne v686 v691
  let v693 : BitVec 32 := Scalar.remsi v680 c16_i32_337
  let c0_i32_342 : BitVec 32 := 0#32
  let v694 : BitVec 1 := Scalar.cmpi .ne v693 c0_i32_342
  let v695 : BitVec 1 := Scalar.andi v692 v694
  let v681 : BitVec 32 := Scalar.divsi v680 c16_i32_337
  let c1_i32_343 : BitVec 32 := 1#32
  let v696 : BitVec 32 := Scalar.subi v681 c1_i32_343
  let v697 : BitVec 32 := Scalar.select v695 v696 v681
  let c2_i32_344 : BitVec 32 := 2#32
  let c0_i32_345 : BitVec 32 := 0#32
  let v698 : BitVec 1 := Scalar.cmpi .eq c2_i32_344 c0_i32_345
  let c1_i32_346 : BitVec 32 := 1#32
  let v699 : BitVec 32 := Scalar.select v698 c1_i32_346 c2_i32_344
  let v700 : BitVec 32 := Scalar.remsi v697 v699
  let c0_i32_348 : BitVec 32 := 0#32
  let v702 : BitVec 1 := Scalar.cmpi .slt v700 c0_i32_348
  let c0_i32_349 : BitVec 32 := 0#32
  let v703 : BitVec 1 := Scalar.cmpi .slt v699 c0_i32_349
  let v704 : BitVec 1 := Scalar.xori v702 v703
  let c0_i32_347 : BitVec 32 := 0#32
  let v701 : BitVec 1 := Scalar.cmpi .ne v700 c0_i32_347
  let v705 : BitVec 1 := Scalar.andi v704 v701
  let v706 : BitVec 32 := Scalar.addi v700 v699
  let v707 : BitVec 32 := Scalar.select v705 v706 v700
  let c1_i32_406 : BitVec 32 := 1#32
  let v817 : BitVec 32 := Scalar.subi c1_i32_406 v707
  let v818 : BitVec 32 := Scalar.select v816 v707 v817
  let v819 : BitVec 32 := Scalar.addi v805 v818
  let c1_i32_1009 : BitVec 32 := 1#32
  let v1758 : BitVec 32 := Scalar.muli v819 c1_i32_1009
  let v1759 : BitVec 32 := Scalar.addi c0_i32_1010 v1758
  v1759.toNat
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c16_i32_59 : BitVec 32 := 16#32
  let v132 : BitVec 32 := Scalar.muli v79 c16_i32_59
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c8_i32_60 : BitVec 32 := 8#32
  let v133 : BitVec 32 := Scalar.muli v106 c8_i32_60
  let v134 : BitVec 32 := Scalar.addi v132 v133
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c4_i32_61 : BitVec 32 := 4#32
  let v135 : BitVec 32 := Scalar.muli v69 c4_i32_61
  let v136 : BitVec 32 := Scalar.addi v134 v135
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let c2_i32_62 : BitVec 32 := 2#32
  let v137 : BitVec 32 := Scalar.muli v123 c2_i32_62
  let v138 : BitVec 32 := Scalar.addi v136 v137
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let v139 : BitVec 32 := Scalar.addi v138 v96
  let c0_i32_1000 : BitVec 32 := 0#32
  let v1740 : BitVec 1 := Scalar.cmpi .sgt v139 c0_i32_1000
  let v1741 : BitVec 32 := Scalar.extui v1740
  let c0_i32_1001 : BitVec 32 := 0#32
  let v1742 : BitVec 1 := Scalar.cmpi .slt v139 c0_i32_1001
  let v1743 : BitVec 32 := Scalar.extui v1742
  let v1744 : BitVec 32 := Scalar.subi v1741 v1743
  let c8_i32_999 : BitVec 32 := 8#32
  let c0_i32_1002 : BitVec 32 := 0#32
  let v1745 : BitVec 1 := Scalar.cmpi .sgt c8_i32_999 c0_i32_1002
  let v1746 : BitVec 32 := Scalar.extui v1745
  let c0_i32_1003 : BitVec 32 := 0#32
  let v1747 : BitVec 1 := Scalar.cmpi .slt c8_i32_999 c0_i32_1003
  let v1748 : BitVec 32 := Scalar.extui v1747
  let v1749 : BitVec 32 := Scalar.subi v1746 v1748
  let v1750 : BitVec 1 := Scalar.cmpi .ne v1744 v1749
  let v1751 : BitVec 32 := Scalar.remsi v139 c8_i32_999
  let c0_i32_1004 : BitVec 32 := 0#32
  let v1752 : BitVec 1 := Scalar.cmpi .ne v1751 c0_i32_1004
  let v1753 : BitVec 1 := Scalar.andi v1750 v1752
  let v1739 : BitVec 32 := Scalar.divsi v139 c8_i32_999
  let c1_i32_1005 : BitVec 32 := 1#32
  let v1754 : BitVec 32 := Scalar.subi v1739 c1_i32_1005
  let v1755 : BitVec 32 := Scalar.select v1753 v1754 v1739
  let c8_i32_1006 : BitVec 32 := 8#32
  let v1756 : BitVec 32 := Scalar.muli v1755 c8_i32_1006
  let c16_i32_1007 : BitVec 32 := 16#32
  let v1757 : BitVec 32 := Scalar.muli v1756 c16_i32_1007
  let c256_i32_1017 : BitVec 32 := 256#32
  ![v1757.toNat, 256]
def k0_dev19 (d0 : Dev nD) : Nat :=
  let c0_i32_1016 : BitVec 32 := 0#32
  let c2_i32_310 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_249 : BitVec 32 := 1#32
  let c2_i32_248 : BitVec 32 := 2#32
  let c0_i32_236 : BitVec 32 := 0#32
  let v481 : BitVec 1 := Scalar.cmpi .sgt v131 c0_i32_236
  let v482 : BitVec 32 := Scalar.extui v481
  let c0_i32_237 : BitVec 32 := 0#32
  let v483 : BitVec 1 := Scalar.cmpi .slt v131 c0_i32_237
  let v484 : BitVec 32 := Scalar.extui v483
  let v485 : BitVec 32 := Scalar.subi v482 v484
  let c4_i32_235 : BitVec 32 := 4#32
  let c0_i32_238 : BitVec 32 := 0#32
  let v486 : BitVec 1 := Scalar.cmpi .sgt c4_i32_235 c0_i32_238
  let v487 : BitVec 32 := Scalar.extui v486
  let c0_i32_239 : BitVec 32 := 0#32
  let v488 : BitVec 1 := Scalar.cmpi .slt c4_i32_235 c0_i32_239
  let v489 : BitVec 32 := Scalar.extui v488
  let v490 : BitVec 32 := Scalar.subi v487 v489
  let v491 : BitVec 1 := Scalar.cmpi .ne v485 v490
  let v492 : BitVec 32 := Scalar.remsi v131 c4_i32_235
  let c0_i32_240 : BitVec 32 := 0#32
  let v493 : BitVec 1 := Scalar.cmpi .ne v492 c0_i32_240
  let v494 : BitVec 1 := Scalar.andi v491 v493
  let v480 : BitVec 32 := Scalar.divsi v131 c4_i32_235
  let c1_i32_241 : BitVec 32 := 1#32
  let v495 : BitVec 32 := Scalar.subi v480 c1_i32_241
  let v496 : BitVec 32 := Scalar.select v494 v495 v480
  let c2_i32_242 : BitVec 32 := 2#32
  let c0_i32_243 : BitVec 32 := 0#32
  let v497 : BitVec 1 := Scalar.cmpi .eq c2_i32_242 c0_i32_243
  let c1_i32_244 : BitVec 32 := 1#32
  let v498 : BitVec 32 := Scalar.select v497 c1_i32_244 c2_i32_242
  let v499 : BitVec 32 := Scalar.remsi v496 v498
  let c0_i32_246 : BitVec 32 := 0#32
  let v501 : BitVec 1 := Scalar.cmpi .slt v499 c0_i32_246
  let c0_i32_247 : BitVec 32 := 0#32
  let v502 : BitVec 1 := Scalar.cmpi .slt v498 c0_i32_247
  let v503 : BitVec 1 := Scalar.xori v501 v502
  let c0_i32_245 : BitVec 32 := 0#32
  let v500 : BitVec 1 := Scalar.cmpi .ne v499 c0_i32_245
  let v504 : BitVec 1 := Scalar.andi v503 v500
  let v505 : BitVec 32 := Scalar.addi v499 v498
  let v506 : BitVec 32 := Scalar.select v504 v505 v499
  let v507 : BitVec 32 := Scalar.muli c2_i32_248 v506
  let v508 : BitVec 32 := Scalar.subi c1_i32_249 v507
  let c4_i32_250 : BitVec 32 := 4#32
  let v509 : BitVec 32 := Scalar.muli v508 c4_i32_250
  let v510 : BitVec 32 := Scalar.addi v131 v509
  let c2_i32_303 : BitVec 32 := 2#32
  let c0_i32_304 : BitVec 32 := 0#32
  let v619 : BitVec 1 := Scalar.cmpi .eq c2_i32_303 c0_i32_304
  let c1_i32_305 : BitVec 32 := 1#32
  let v620 : BitVec 32 := Scalar.select v619 c1_i32_305 c2_i32_303
  let v621 : BitVec 32 := Scalar.remsi v510 v620
  let c0_i32_307 : BitVec 32 := 0#32
  let v623 : BitVec 1 := Scalar.cmpi .slt v621 c0_i32_307
  let c0_i32_308 : BitVec 32 := 0#32
  let v624 : BitVec 1 := Scalar.cmpi .slt v620 c0_i32_308
  let v625 : BitVec 1 := Scalar.xori v623 v624
  let c0_i32_306 : BitVec 32 := 0#32
  let v622 : BitVec 1 := Scalar.cmpi .ne v621 c0_i32_306
  let v626 : BitVec 1 := Scalar.andi v625 v622
  let v627 : BitVec 32 := Scalar.addi v621 v620
  let v628 : BitVec 32 := Scalar.select v626 v627 v621
  let v631 : BitVec 32 := Scalar.muli c2_i32_310 v628
  let c0_i32_278 : BitVec 32 := 0#32
  let v566 : BitVec 1 := Scalar.cmpi .sgt v510 c0_i32_278
  let v567 : BitVec 32 := Scalar.extui v566
  let c0_i32_279 : BitVec 32 := 0#32
  let v568 : BitVec 1 := Scalar.cmpi .slt v510 c0_i32_279
  let v569 : BitVec 32 := Scalar.extui v568
  let v570 : BitVec 32 := Scalar.subi v567 v569
  let c4_i32_277 : BitVec 32 := 4#32
  let c0_i32_280 : BitVec 32 := 0#32
  let v571 : BitVec 1 := Scalar.cmpi .sgt c4_i32_277 c0_i32_280
  let v572 : BitVec 32 := Scalar.extui v571
  let c0_i32_281 : BitVec 32 := 0#32
  let v573 : BitVec 1 := Scalar.cmpi .slt c4_i32_277 c0_i32_281
  let v574 : BitVec 32 := Scalar.extui v573
  let v575 : BitVec 32 := Scalar.subi v572 v574
  let v576 : BitVec 1 := Scalar.cmpi .ne v570 v575
  let v577 : BitVec 32 := Scalar.remsi v510 c4_i32_277
  let c0_i32_282 : BitVec 32 := 0#32
  let v578 : BitVec 1 := Scalar.cmpi .ne v577 c0_i32_282
  let v579 : BitVec 1 := Scalar.andi v576 v578
  let v565 : BitVec 32 := Scalar.divsi v510 c4_i32_277
  let c1_i32_283 : BitVec 32 := 1#32
  let v580 : BitVec 32 := Scalar.subi v565 c1_i32_283
  let v581 : BitVec 32 := Scalar.select v579 v580 v565
  let c2_i32_284 : BitVec 32 := 2#32
  let c0_i32_285 : BitVec 32 := 0#32
  let v582 : BitVec 1 := Scalar.cmpi .eq c2_i32_284 c0_i32_285
  let c1_i32_286 : BitVec 32 := 1#32
  let v583 : BitVec 32 := Scalar.select v582 c1_i32_286 c2_i32_284
  let v584 : BitVec 32 := Scalar.remsi v581 v583
  let c0_i32_288 : BitVec 32 := 0#32
  let v586 : BitVec 1 := Scalar.cmpi .slt v584 c0_i32_288
  let c0_i32_289 : BitVec 32 := 0#32
  let v587 : BitVec 1 := Scalar.cmpi .slt v583 c0_i32_289
  let v588 : BitVec 1 := Scalar.xori v586 v587
  let c0_i32_287 : BitVec 32 := 0#32
  let v585 : BitVec 1 := Scalar.cmpi .ne v584 c0_i32_287
  let v589 : BitVec 1 := Scalar.andi v588 v585
  let v590 : BitVec 32 := Scalar.addi v584 v583
  let v591 : BitVec 32 := Scalar.select v589 v590 v584
  let v632 : BitVec 32 := Scalar.addi v631 v591
  let c8_i32_311 : BitVec 32 := 8#32
  let v633 : BitVec 32 := Scalar.muli v632 c8_i32_311
  let c2_i32_309 : BitVec 32 := 2#32
  let c0_i32_291 : BitVec 32 := 0#32
  let v593 : BitVec 1 := Scalar.cmpi .sgt v510 c0_i32_291
  let v594 : BitVec 32 := Scalar.extui v593
  let c0_i32_292 : BitVec 32 := 0#32
  let v595 : BitVec 1 := Scalar.cmpi .slt v510 c0_i32_292
  let v596 : BitVec 32 := Scalar.extui v595
  let v597 : BitVec 32 := Scalar.subi v594 v596
  let c2_i32_290 : BitVec 32 := 2#32
  let c0_i32_293 : BitVec 32 := 0#32
  let v598 : BitVec 1 := Scalar.cmpi .sgt c2_i32_290 c0_i32_293
  let v599 : BitVec 32 := Scalar.extui v598
  let c0_i32_294 : BitVec 32 := 0#32
  let v600 : BitVec 1 := Scalar.cmpi .slt c2_i32_290 c0_i32_294
  let v601 : BitVec 32 := Scalar.extui v600
  let v602 : BitVec 32 := Scalar.subi v599 v601
  let v603 : BitVec 1 := Scalar.cmpi .ne v597 v602
  let v604 : BitVec 32 := Scalar.remsi v510 c2_i32_290
  let c0_i32_295 : BitVec 32 := 0#32
  let v605 : BitVec 1 := Scalar.cmpi .ne v604 c0_i32_295
  let v606 : BitVec 1 := Scalar.andi v603 v605
  let v592 : BitVec 32 := Scalar.divsi v510 c2_i32_290
  let c1_i32_296 : BitVec 32 := 1#32
  let v607 : BitVec 32 := Scalar.subi v592 c1_i32_296
  let v608 : BitVec 32 := Scalar.select v606 v607 v592
  let c2_i32_297 : BitVec 32 := 2#32
  let c0_i32_298 : BitVec 32 := 0#32
  let v609 : BitVec 1 := Scalar.cmpi .eq c2_i32_297 c0_i32_298
  let c1_i32_299 : BitVec 32 := 1#32
  let v610 : BitVec 32 := Scalar.select v609 c1_i32_299 c2_i32_297
  let v611 : BitVec 32 := Scalar.remsi v608 v610
  let c0_i32_301 : BitVec 32 := 0#32
  let v613 : BitVec 1 := Scalar.cmpi .slt v611 c0_i32_301
  let c0_i32_302 : BitVec 32 := 0#32
  let v614 : BitVec 1 := Scalar.cmpi .slt v610 c0_i32_302
  let v615 : BitVec 1 := Scalar.xori v613 v614
  let c0_i32_300 : BitVec 32 := 0#32
  let v612 : BitVec 1 := Scalar.cmpi .ne v611 c0_i32_300
  let v616 : BitVec 1 := Scalar.andi v615 v612
  let v617 : BitVec 32 := Scalar.addi v611 v610
  let v618 : BitVec 32 := Scalar.select v616 v617 v611
  let v629 : BitVec 32 := Scalar.muli c2_i32_309 v618
  let c0_i32_265 : BitVec 32 := 0#32
  let v539 : BitVec 1 := Scalar.cmpi .sgt v510 c0_i32_265
  let v540 : BitVec 32 := Scalar.extui v539
  let c0_i32_266 : BitVec 32 := 0#32
  let v541 : BitVec 1 := Scalar.cmpi .slt v510 c0_i32_266
  let v542 : BitVec 32 := Scalar.extui v541
  let v543 : BitVec 32 := Scalar.subi v540 v542
  let c8_i32_264 : BitVec 32 := 8#32
  let c0_i32_267 : BitVec 32 := 0#32
  let v544 : BitVec 1 := Scalar.cmpi .sgt c8_i32_264 c0_i32_267
  let v545 : BitVec 32 := Scalar.extui v544
  let c0_i32_268 : BitVec 32 := 0#32
  let v546 : BitVec 1 := Scalar.cmpi .slt c8_i32_264 c0_i32_268
  let v547 : BitVec 32 := Scalar.extui v546
  let v548 : BitVec 32 := Scalar.subi v545 v547
  let v549 : BitVec 1 := Scalar.cmpi .ne v543 v548
  let v550 : BitVec 32 := Scalar.remsi v510 c8_i32_264
  let c0_i32_269 : BitVec 32 := 0#32
  let v551 : BitVec 1 := Scalar.cmpi .ne v550 c0_i32_269
  let v552 : BitVec 1 := Scalar.andi v549 v551
  let v538 : BitVec 32 := Scalar.divsi v510 c8_i32_264
  let c1_i32_270 : BitVec 32 := 1#32
  let v553 : BitVec 32 := Scalar.subi v538 c1_i32_270
  let v554 : BitVec 32 := Scalar.select v552 v553 v538
  let c2_i32_271 : BitVec 32 := 2#32
  let c0_i32_272 : BitVec 32 := 0#32
  let v555 : BitVec 1 := Scalar.cmpi .eq c2_i32_271 c0_i32_272
  let c1_i32_273 : BitVec 32 := 1#32
  let v556 : BitVec 32 := Scalar.select v555 c1_i32_273 c2_i32_271
  let v557 : BitVec 32 := Scalar.remsi v554 v556
  let c0_i32_275 : BitVec 32 := 0#32
  let v559 : BitVec 1 := Scalar.cmpi .slt v557 c0_i32_275
  let c0_i32_276 : BitVec 32 := 0#32
  let v560 : BitVec 1 := Scalar.cmpi .slt v556 c0_i32_276
  let v561 : BitVec 1 := Scalar.xori v559 v560
  let c0_i32_274 : BitVec 32 := 0#32
  let v558 : BitVec 1 := Scalar.cmpi .ne v557 c0_i32_274
  let v562 : BitVec 1 := Scalar.andi v561 v558
  let v563 : BitVec 32 := Scalar.addi v557 v556
  let v564 : BitVec 32 := Scalar.select v562 v563 v557
  let v630 : BitVec 32 := Scalar.addi v629 v564
  let c2_i32_312 : BitVec 32 := 2#32
  let v634 : BitVec 32 := Scalar.muli v630 c2_i32_312
  let v635 : BitVec 32 := Scalar.addi v633 v634
  let c2_i32_313 : BitVec 32 := 2#32
  let c0_i32_314 : BitVec 32 := 0#32
  let v636 : BitVec 1 := Scalar.cmpi .eq c2_i32_313 c0_i32_314
  let c1_i32_315 : BitVec 32 := 1#32
  let v637 : BitVec 32 := Scalar.select v636 c1_i32_315 c2_i32_313
  let v638 : BitVec 32 := Scalar.remsi v630 v637
  let c0_i32_317 : BitVec 32 := 0#32
  let v640 : BitVec 1 := Scalar.cmpi .slt v638 c0_i32_317
  let c0_i32_318 : BitVec 32 := 0#32
  let v641 : BitVec 1 := Scalar.cmpi .slt v637 c0_i32_318
  let v642 : BitVec 1 := Scalar.xori v640 v641
  let c0_i32_316 : BitVec 32 := 0#32
  let v639 : BitVec 1 := Scalar.cmpi .ne v638 c0_i32_316
  let v643 : BitVec 1 := Scalar.andi v642 v639
  let v644 : BitVec 32 := Scalar.addi v638 v637
  let v645 : BitVec 32 := Scalar.select v643 v644 v638
  let c0_i32_319 : BitVec 32 := 0#32
  let v646 : BitVec 1 := Scalar.cmpi .eq v645 c0_i32_319
  let c0_i32_252 : BitVec 32 := 0#32
  let v512 : BitVec 1 := Scalar.cmpi .sgt v510 c0_i32_252
  let v513 : BitVec 32 := Scalar.extui v512
  let c0_i32_253 : BitVec 32 := 0#32
  let v514 : BitVec 1 := Scalar.cmpi .slt v510 c0_i32_253
  let v515 : BitVec 32 := Scalar.extui v514
  let v516 : BitVec 32 := Scalar.subi v513 v515
  let c16_i32_251 : BitVec 32 := 16#32
  let c0_i32_254 : BitVec 32 := 0#32
  let v517 : BitVec 1 := Scalar.cmpi .sgt c16_i32_251 c0_i32_254
  let v518 : BitVec 32 := Scalar.extui v517
  let c0_i32_255 : BitVec 32 := 0#32
  let v519 : BitVec 1 := Scalar.cmpi .slt c16_i32_251 c0_i32_255
  let v520 : BitVec 32 := Scalar.extui v519
  let v521 : BitVec 32 := Scalar.subi v518 v520
  let v522 : BitVec 1 := Scalar.cmpi .ne v516 v521
  let v523 : BitVec 32 := Scalar.remsi v510 c16_i32_251
  let c0_i32_256 : BitVec 32 := 0#32
  let v524 : BitVec 1 := Scalar.cmpi .ne v523 c0_i32_256
  let v525 : BitVec 1 := Scalar.andi v522 v524
  let v511 : BitVec 32 := Scalar.divsi v510 c16_i32_251
  let c1_i32_257 : BitVec 32 := 1#32
  let v526 : BitVec 32 := Scalar.subi v511 c1_i32_257
  let v527 : BitVec 32 := Scalar.select v525 v526 v511
  let c2_i32_258 : BitVec 32 := 2#32
  let c0_i32_259 : BitVec 32 := 0#32
  let v528 : BitVec 1 := Scalar.cmpi .eq c2_i32_258 c0_i32_259
  let c1_i32_260 : BitVec 32 := 1#32
  let v529 : BitVec 32 := Scalar.select v528 c1_i32_260 c2_i32_258
  let v530 : BitVec 32 := Scalar.remsi v527 v529
  let c0_i32_262 : BitVec 32 := 0#32
  let v532 : BitVec 1 := Scalar.cmpi .slt v530 c0_i32_262
  let c0_i32_263 : BitVec 32 := 0#32
  let v533 : BitVec 1 := Scalar.cmpi .slt v529 c0_i32_263
  let v534 : BitVec 1 := Scalar.xori v532 v533
  let c0_i32_261 : BitVec 32 := 0#32
  let v531 : BitVec 1 := Scalar.cmpi .ne v530 c0_i32_261
  let v535 : BitVec 1 := Scalar.andi v534 v531
  let v536 : BitVec 32 := Scalar.addi v530 v529
  let v537 : BitVec 32 := Scalar.select v535 v536 v530
  let c1_i32_320 : BitVec 32 := 1#32
  let v647 : BitVec 32 := Scalar.subi c1_i32_320 v537
  let v648 : BitVec 32 := Scalar.select v646 v537 v647
  let v649 : BitVec 32 := Scalar.addi v635 v648
  let c1_i32_1015 : BitVec 32 := 1#32
  let v1766 : BitVec 32 := Scalar.muli v649 c1_i32_1015
  let v1767 : BitVec 32 := Scalar.addi c0_i32_1016 v1766
  v1767.toNat
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c0_i32_1042 : BitVec 32 := 0#32
  let v1795 : BitVec 1 := Scalar.cmpi .sgt v131 c0_i32_1042
  let v1796 : BitVec 32 := Scalar.extui v1795
  let c0_i32_1043 : BitVec 32 := 0#32
  let v1797 : BitVec 1 := Scalar.cmpi .slt v131 c0_i32_1043
  let v1798 : BitVec 32 := Scalar.extui v1797
  let v1799 : BitVec 32 := Scalar.subi v1796 v1798
  let c16_i32_1041 : BitVec 32 := 16#32
  let c0_i32_1044 : BitVec 32 := 0#32
  let v1800 : BitVec 1 := Scalar.cmpi .sgt c16_i32_1041 c0_i32_1044
  let v1801 : BitVec 32 := Scalar.extui v1800
  let c0_i32_1045 : BitVec 32 := 0#32
  let v1802 : BitVec 1 := Scalar.cmpi .slt c16_i32_1041 c0_i32_1045
  let v1803 : BitVec 32 := Scalar.extui v1802
  let v1804 : BitVec 32 := Scalar.subi v1801 v1803
  let v1805 : BitVec 1 := Scalar.cmpi .ne v1799 v1804
  let v1806 : BitVec 32 := Scalar.remsi v131 c16_i32_1041
  let c0_i32_1046 : BitVec 32 := 0#32
  let v1807 : BitVec 1 := Scalar.cmpi .ne v1806 c0_i32_1046
  let v1808 : BitVec 1 := Scalar.andi v1805 v1807
  let v1794 : BitVec 32 := Scalar.divsi v131 c16_i32_1041
  let c1_i32_1047 : BitVec 32 := 1#32
  let v1809 : BitVec 32 := Scalar.subi v1794 c1_i32_1047
  let v1810 : BitVec 32 := Scalar.select v1808 v1809 v1794
  let c16_i32_1048 : BitVec 32 := 16#32
  let v1811 : BitVec 32 := Scalar.muli v1810 c16_i32_1048
  let c16_i32_1049 : BitVec 32 := 16#32
  let v1812 : BitVec 32 := Scalar.muli v1811 c16_i32_1049
  let c0_i32_1062 : BitVec 32 := 0#32
  ![v1812.toNat, 0]
def k0_dev20 (d0 : Dev nD) : Nat :=
  let c0_i32_1061 : BitVec 32 := 0#32
  let c2_i32_482 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_421 : BitVec 32 := 1#32
  let c2_i32_420 : BitVec 32 := 2#32
  let c0_i32_408 : BitVec 32 := 0#32
  let v821 : BitVec 1 := Scalar.cmpi .sgt v131 c0_i32_408
  let v822 : BitVec 32 := Scalar.extui v821
  let c0_i32_409 : BitVec 32 := 0#32
  let v823 : BitVec 1 := Scalar.cmpi .slt v131 c0_i32_409
  let v824 : BitVec 32 := Scalar.extui v823
  let v825 : BitVec 32 := Scalar.subi v822 v824
  let c16_i32_407 : BitVec 32 := 16#32
  let c0_i32_410 : BitVec 32 := 0#32
  let v826 : BitVec 1 := Scalar.cmpi .sgt c16_i32_407 c0_i32_410
  let v827 : BitVec 32 := Scalar.extui v826
  let c0_i32_411 : BitVec 32 := 0#32
  let v828 : BitVec 1 := Scalar.cmpi .slt c16_i32_407 c0_i32_411
  let v829 : BitVec 32 := Scalar.extui v828
  let v830 : BitVec 32 := Scalar.subi v827 v829
  let v831 : BitVec 1 := Scalar.cmpi .ne v825 v830
  let v832 : BitVec 32 := Scalar.remsi v131 c16_i32_407
  let c0_i32_412 : BitVec 32 := 0#32
  let v833 : BitVec 1 := Scalar.cmpi .ne v832 c0_i32_412
  let v834 : BitVec 1 := Scalar.andi v831 v833
  let v820 : BitVec 32 := Scalar.divsi v131 c16_i32_407
  let c1_i32_413 : BitVec 32 := 1#32
  let v835 : BitVec 32 := Scalar.subi v820 c1_i32_413
  let v836 : BitVec 32 := Scalar.select v834 v835 v820
  let c2_i32_414 : BitVec 32 := 2#32
  let c0_i32_415 : BitVec 32 := 0#32
  let v837 : BitVec 1 := Scalar.cmpi .eq c2_i32_414 c0_i32_415
  let c1_i32_416 : BitVec 32 := 1#32
  let v838 : BitVec 32 := Scalar.select v837 c1_i32_416 c2_i32_414
  let v839 : BitVec 32 := Scalar.remsi v836 v838
  let c0_i32_418 : BitVec 32 := 0#32
  let v841 : BitVec 1 := Scalar.cmpi .slt v839 c0_i32_418
  let c0_i32_419 : BitVec 32 := 0#32
  let v842 : BitVec 1 := Scalar.cmpi .slt v838 c0_i32_419
  let v843 : BitVec 1 := Scalar.xori v841 v842
  let c0_i32_417 : BitVec 32 := 0#32
  let v840 : BitVec 1 := Scalar.cmpi .ne v839 c0_i32_417
  let v844 : BitVec 1 := Scalar.andi v843 v840
  let v845 : BitVec 32 := Scalar.addi v839 v838
  let v846 : BitVec 32 := Scalar.select v844 v845 v839
  let v847 : BitVec 32 := Scalar.muli c2_i32_420 v846
  let v848 : BitVec 32 := Scalar.subi c1_i32_421 v847
  let c16_i32_422 : BitVec 32 := 16#32
  let v849 : BitVec 32 := Scalar.muli v848 c16_i32_422
  let v850 : BitVec 32 := Scalar.addi v131 v849
  let c2_i32_475 : BitVec 32 := 2#32
  let c0_i32_476 : BitVec 32 := 0#32
  let v959 : BitVec 1 := Scalar.cmpi .eq c2_i32_475 c0_i32_476
  let c1_i32_477 : BitVec 32 := 1#32
  let v960 : BitVec 32 := Scalar.select v959 c1_i32_477 c2_i32_475
  let v961 : BitVec 32 := Scalar.remsi v850 v960
  let c0_i32_479 : BitVec 32 := 0#32
  let v963 : BitVec 1 := Scalar.cmpi .slt v961 c0_i32_479
  let c0_i32_480 : BitVec 32 := 0#32
  let v964 : BitVec 1 := Scalar.cmpi .slt v960 c0_i32_480
  let v965 : BitVec 1 := Scalar.xori v963 v964
  let c0_i32_478 : BitVec 32 := 0#32
  let v962 : BitVec 1 := Scalar.cmpi .ne v961 c0_i32_478
  let v966 : BitVec 1 := Scalar.andi v965 v962
  let v967 : BitVec 32 := Scalar.addi v961 v960
  let v968 : BitVec 32 := Scalar.select v966 v967 v961
  let v971 : BitVec 32 := Scalar.muli c2_i32_482 v968
  let c0_i32_450 : BitVec 32 := 0#32
  let v906 : BitVec 1 := Scalar.cmpi .sgt v850 c0_i32_450
  let v907 : BitVec 32 := Scalar.extui v906
  let c0_i32_451 : BitVec 32 := 0#32
  let v908 : BitVec 1 := Scalar.cmpi .slt v850 c0_i32_451
  let v909 : BitVec 32 := Scalar.extui v908
  let v910 : BitVec 32 := Scalar.subi v907 v909
  let c4_i32_449 : BitVec 32 := 4#32
  let c0_i32_452 : BitVec 32 := 0#32
  let v911 : BitVec 1 := Scalar.cmpi .sgt c4_i32_449 c0_i32_452
  let v912 : BitVec 32 := Scalar.extui v911
  let c0_i32_453 : BitVec 32 := 0#32
  let v913 : BitVec 1 := Scalar.cmpi .slt c4_i32_449 c0_i32_453
  let v914 : BitVec 32 := Scalar.extui v913
  let v915 : BitVec 32 := Scalar.subi v912 v914
  let v916 : BitVec 1 := Scalar.cmpi .ne v910 v915
  let v917 : BitVec 32 := Scalar.remsi v850 c4_i32_449
  let c0_i32_454 : BitVec 32 := 0#32
  let v918 : BitVec 1 := Scalar.cmpi .ne v917 c0_i32_454
  let v919 : BitVec 1 := Scalar.andi v916 v918
  let v905 : BitVec 32 := Scalar.divsi v850 c4_i32_449
  let c1_i32_455 : BitVec 32 := 1#32
  let v920 : BitVec 32 := Scalar.subi v905 c1_i32_455
  let v921 : BitVec 32 := Scalar.select v919 v920 v905
  let c2_i32_456 : BitVec 32 := 2#32
  let c0_i32_457 : BitVec 32 := 0#32
  let v922 : BitVec 1 := Scalar.cmpi .eq c2_i32_456 c0_i32_457
  let c1_i32_458 : BitVec 32 := 1#32
  let v923 : BitVec 32 := Scalar.select v922 c1_i32_458 c2_i32_456
  let v924 : BitVec 32 := Scalar.remsi v921 v923
  let c0_i32_460 : BitVec 32 := 0#32
  let v926 : BitVec 1 := Scalar.cmpi .slt v924 c0_i32_460
  let c0_i32_461 : BitVec 32 := 0#32
  let v927 : BitVec 1 := Scalar.cmpi .slt v923 c0_i32_461
  let v928 : BitVec 1 := Scalar.xori v926 v927
  let c0_i32_459 : BitVec 32 := 0#32
  let v925 : BitVec 1 := Scalar.cmpi .ne v924 c0_i32_459
  let v929 : BitVec 1 := Scalar.andi v928 v925
  let v930 : BitVec 32 := Scalar.addi v924 v923
  let v931 : BitVec 32 := Scalar.select v929 v930 v924
  let v972 : BitVec 32 := Scalar.addi v971 v931
  let c8_i32_483 : BitVec 32 := 8#32
  let v973 : BitVec 32 := Scalar.muli v972 c8_i32_483
  let c2_i32_481 : BitVec 32 := 2#32
  let c0_i32_463 : BitVec 32 := 0#32
  let v933 : BitVec 1 := Scalar.cmpi .sgt v850 c0_i32_463
  let v934 : BitVec 32 := Scalar.extui v933
  let c0_i32_464 : BitVec 32 := 0#32
  let v935 : BitVec 1 := Scalar.cmpi .slt v850 c0_i32_464
  let v936 : BitVec 32 := Scalar.extui v935
  let v937 : BitVec 32 := Scalar.subi v934 v936
  let c2_i32_462 : BitVec 32 := 2#32
  let c0_i32_465 : BitVec 32 := 0#32
  let v938 : BitVec 1 := Scalar.cmpi .sgt c2_i32_462 c0_i32_465
  let v939 : BitVec 32 := Scalar.extui v938
  let c0_i32_466 : BitVec 32 := 0#32
  let v940 : BitVec 1 := Scalar.cmpi .slt c2_i32_462 c0_i32_466
  let v941 : BitVec 32 := Scalar.extui v940
  let v942 : BitVec 32 := Scalar.subi v939 v941
  let v943 : BitVec 1 := Scalar.cmpi .ne v937 v942
  let v944 : BitVec 32 := Scalar.remsi v850 c2_i32_462
  let c0_i32_467 : BitVec 32 := 0#32
  let v945 : BitVec 1 := Scalar.cmpi .ne v944 c0_i32_467
  let v946 : BitVec 1 := Scalar.andi v943 v945
  let v932 : BitVec 32 := Scalar.divsi v850 c2_i32_462
  let c1_i32_468 : BitVec 32 := 1#32
  let v947 : BitVec 32 := Scalar.subi v932 c1_i32_468
  let v948 : BitVec 32 := Scalar.select v946 v947 v932
  let c2_i32_469 : BitVec 32 := 2#32
  let c0_i32_470 : BitVec 32 := 0#32
  let v949 : BitVec 1 := Scalar.cmpi .eq c2_i32_469 c0_i32_470
  let c1_i32_471 : BitVec 32 := 1#32
  let v950 : BitVec 32 := Scalar.select v949 c1_i32_471 c2_i32_469
  let v951 : BitVec 32 := Scalar.remsi v948 v950
  let c0_i32_473 : BitVec 32 := 0#32
  let v953 : BitVec 1 := Scalar.cmpi .slt v951 c0_i32_473
  let c0_i32_474 : BitVec 32 := 0#32
  let v954 : BitVec 1 := Scalar.cmpi .slt v950 c0_i32_474
  let v955 : BitVec 1 := Scalar.xori v953 v954
  let c0_i32_472 : BitVec 32 := 0#32
  let v952 : BitVec 1 := Scalar.cmpi .ne v951 c0_i32_472
  let v956 : BitVec 1 := Scalar.andi v955 v952
  let v957 : BitVec 32 := Scalar.addi v951 v950
  let v958 : BitVec 32 := Scalar.select v956 v957 v951
  let v969 : BitVec 32 := Scalar.muli c2_i32_481 v958
  let c0_i32_437 : BitVec 32 := 0#32
  let v879 : BitVec 1 := Scalar.cmpi .sgt v850 c0_i32_437
  let v880 : BitVec 32 := Scalar.extui v879
  let c0_i32_438 : BitVec 32 := 0#32
  let v881 : BitVec 1 := Scalar.cmpi .slt v850 c0_i32_438
  let v882 : BitVec 32 := Scalar.extui v881
  let v883 : BitVec 32 := Scalar.subi v880 v882
  let c8_i32_436 : BitVec 32 := 8#32
  let c0_i32_439 : BitVec 32 := 0#32
  let v884 : BitVec 1 := Scalar.cmpi .sgt c8_i32_436 c0_i32_439
  let v885 : BitVec 32 := Scalar.extui v884
  let c0_i32_440 : BitVec 32 := 0#32
  let v886 : BitVec 1 := Scalar.cmpi .slt c8_i32_436 c0_i32_440
  let v887 : BitVec 32 := Scalar.extui v886
  let v888 : BitVec 32 := Scalar.subi v885 v887
  let v889 : BitVec 1 := Scalar.cmpi .ne v883 v888
  let v890 : BitVec 32 := Scalar.remsi v850 c8_i32_436
  let c0_i32_441 : BitVec 32 := 0#32
  let v891 : BitVec 1 := Scalar.cmpi .ne v890 c0_i32_441
  let v892 : BitVec 1 := Scalar.andi v889 v891
  let v878 : BitVec 32 := Scalar.divsi v850 c8_i32_436
  let c1_i32_442 : BitVec 32 := 1#32
  let v893 : BitVec 32 := Scalar.subi v878 c1_i32_442
  let v894 : BitVec 32 := Scalar.select v892 v893 v878
  let c2_i32_443 : BitVec 32 := 2#32
  let c0_i32_444 : BitVec 32 := 0#32
  let v895 : BitVec 1 := Scalar.cmpi .eq c2_i32_443 c0_i32_444
  let c1_i32_445 : BitVec 32 := 1#32
  let v896 : BitVec 32 := Scalar.select v895 c1_i32_445 c2_i32_443
  let v897 : BitVec 32 := Scalar.remsi v894 v896
  let c0_i32_447 : BitVec 32 := 0#32
  let v899 : BitVec 1 := Scalar.cmpi .slt v897 c0_i32_447
  let c0_i32_448 : BitVec 32 := 0#32
  let v900 : BitVec 1 := Scalar.cmpi .slt v896 c0_i32_448
  let v901 : BitVec 1 := Scalar.xori v899 v900
  let c0_i32_446 : BitVec 32 := 0#32
  let v898 : BitVec 1 := Scalar.cmpi .ne v897 c0_i32_446
  let v902 : BitVec 1 := Scalar.andi v901 v898
  let v903 : BitVec 32 := Scalar.addi v897 v896
  let v904 : BitVec 32 := Scalar.select v902 v903 v897
  let v970 : BitVec 32 := Scalar.addi v969 v904
  let c2_i32_484 : BitVec 32 := 2#32
  let v974 : BitVec 32 := Scalar.muli v970 c2_i32_484
  let v975 : BitVec 32 := Scalar.addi v973 v974
  let c2_i32_485 : BitVec 32 := 2#32
  let c0_i32_486 : BitVec 32 := 0#32
  let v976 : BitVec 1 := Scalar.cmpi .eq c2_i32_485 c0_i32_486
  let c1_i32_487 : BitVec 32 := 1#32
  let v977 : BitVec 32 := Scalar.select v976 c1_i32_487 c2_i32_485
  let v978 : BitVec 32 := Scalar.remsi v970 v977
  let c0_i32_489 : BitVec 32 := 0#32
  let v980 : BitVec 1 := Scalar.cmpi .slt v978 c0_i32_489
  let c0_i32_490 : BitVec 32 := 0#32
  let v981 : BitVec 1 := Scalar.cmpi .slt v977 c0_i32_490
  let v982 : BitVec 1 := Scalar.xori v980 v981
  let c0_i32_488 : BitVec 32 := 0#32
  let v979 : BitVec 1 := Scalar.cmpi .ne v978 c0_i32_488
  let v983 : BitVec 1 := Scalar.andi v982 v979
  let v984 : BitVec 32 := Scalar.addi v978 v977
  let v985 : BitVec 32 := Scalar.select v983 v984 v978
  let c0_i32_491 : BitVec 32 := 0#32
  let v986 : BitVec 1 := Scalar.cmpi .eq v985 c0_i32_491
  let c0_i32_424 : BitVec 32 := 0#32
  let v852 : BitVec 1 := Scalar.cmpi .sgt v850 c0_i32_424
  let v853 : BitVec 32 := Scalar.extui v852
  let c0_i32_425 : BitVec 32 := 0#32
  let v854 : BitVec 1 := Scalar.cmpi .slt v850 c0_i32_425
  let v855 : BitVec 32 := Scalar.extui v854
  let v856 : BitVec 32 := Scalar.subi v853 v855
  let c16_i32_423 : BitVec 32 := 16#32
  let c0_i32_426 : BitVec 32 := 0#32
  let v857 : BitVec 1 := Scalar.cmpi .sgt c16_i32_423 c0_i32_426
  let v858 : BitVec 32 := Scalar.extui v857
  let c0_i32_427 : BitVec 32 := 0#32
  let v859 : BitVec 1 := Scalar.cmpi .slt c16_i32_423 c0_i32_427
  let v860 : BitVec 32 := Scalar.extui v859
  let v861 : BitVec 32 := Scalar.subi v858 v860
  let v862 : BitVec 1 := Scalar.cmpi .ne v856 v861
  let v863 : BitVec 32 := Scalar.remsi v850 c16_i32_423
  let c0_i32_428 : BitVec 32 := 0#32
  let v864 : BitVec 1 := Scalar.cmpi .ne v863 c0_i32_428
  let v865 : BitVec 1 := Scalar.andi v862 v864
  let v851 : BitVec 32 := Scalar.divsi v850 c16_i32_423
  let c1_i32_429 : BitVec 32 := 1#32
  let v866 : BitVec 32 := Scalar.subi v851 c1_i32_429
  let v867 : BitVec 32 := Scalar.select v865 v866 v851
  let c2_i32_430 : BitVec 32 := 2#32
  let c0_i32_431 : BitVec 32 := 0#32
  let v868 : BitVec 1 := Scalar.cmpi .eq c2_i32_430 c0_i32_431
  let c1_i32_432 : BitVec 32 := 1#32
  let v869 : BitVec 32 := Scalar.select v868 c1_i32_432 c2_i32_430
  let v870 : BitVec 32 := Scalar.remsi v867 v869
  let c0_i32_434 : BitVec 32 := 0#32
  let v872 : BitVec 1 := Scalar.cmpi .slt v870 c0_i32_434
  let c0_i32_435 : BitVec 32 := 0#32
  let v873 : BitVec 1 := Scalar.cmpi .slt v869 c0_i32_435
  let v874 : BitVec 1 := Scalar.xori v872 v873
  let c0_i32_433 : BitVec 32 := 0#32
  let v871 : BitVec 1 := Scalar.cmpi .ne v870 c0_i32_433
  let v875 : BitVec 1 := Scalar.andi v874 v871
  let v876 : BitVec 32 := Scalar.addi v870 v869
  let v877 : BitVec 32 := Scalar.select v875 v876 v870
  let c1_i32_492 : BitVec 32 := 1#32
  let v987 : BitVec 32 := Scalar.subi c1_i32_492 v877
  let v988 : BitVec 32 := Scalar.select v986 v877 v987
  let v989 : BitVec 32 := Scalar.addi v975 v988
  let c1_i32_1060 : BitVec 32 := 1#32
  let v1832 : BitVec 32 := Scalar.muli v989 c1_i32_1060
  let v1833 : BitVec 32 := Scalar.addi c0_i32_1061 v1832
  v1833.toNat
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c16_i32_59 : BitVec 32 := 16#32
  let v132 : BitVec 32 := Scalar.muli v79 c16_i32_59
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c8_i32_60 : BitVec 32 := 8#32
  let v133 : BitVec 32 := Scalar.muli v106 c8_i32_60
  let v134 : BitVec 32 := Scalar.addi v132 v133
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c4_i32_61 : BitVec 32 := 4#32
  let v135 : BitVec 32 := Scalar.muli v69 c4_i32_61
  let v136 : BitVec 32 := Scalar.addi v134 v135
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let c2_i32_62 : BitVec 32 := 2#32
  let v137 : BitVec 32 := Scalar.muli v123 c2_i32_62
  let v138 : BitVec 32 := Scalar.addi v136 v137
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let v139 : BitVec 32 := Scalar.addi v138 v96
  let c0_i32_1051 : BitVec 32 := 0#32
  let v1814 : BitVec 1 := Scalar.cmpi .sgt v139 c0_i32_1051
  let v1815 : BitVec 32 := Scalar.extui v1814
  let c0_i32_1052 : BitVec 32 := 0#32
  let v1816 : BitVec 1 := Scalar.cmpi .slt v139 c0_i32_1052
  let v1817 : BitVec 32 := Scalar.extui v1816
  let v1818 : BitVec 32 := Scalar.subi v1815 v1817
  let c16_i32_1050 : BitVec 32 := 16#32
  let c0_i32_1053 : BitVec 32 := 0#32
  let v1819 : BitVec 1 := Scalar.cmpi .sgt c16_i32_1050 c0_i32_1053
  let v1820 : BitVec 32 := Scalar.extui v1819
  let c0_i32_1054 : BitVec 32 := 0#32
  let v1821 : BitVec 1 := Scalar.cmpi .slt c16_i32_1050 c0_i32_1054
  let v1822 : BitVec 32 := Scalar.extui v1821
  let v1823 : BitVec 32 := Scalar.subi v1820 v1822
  let v1824 : BitVec 1 := Scalar.cmpi .ne v1818 v1823
  let v1825 : BitVec 32 := Scalar.remsi v139 c16_i32_1050
  let c0_i32_1055 : BitVec 32 := 0#32
  let v1826 : BitVec 1 := Scalar.cmpi .ne v1825 c0_i32_1055
  let v1827 : BitVec 1 := Scalar.andi v1824 v1826
  let v1813 : BitVec 32 := Scalar.divsi v139 c16_i32_1050
  let c1_i32_1056 : BitVec 32 := 1#32
  let v1828 : BitVec 32 := Scalar.subi v1813 c1_i32_1056
  let v1829 : BitVec 32 := Scalar.select v1827 v1828 v1813
  let c16_i32_1057 : BitVec 32 := 16#32
  let v1830 : BitVec 32 := Scalar.muli v1829 c16_i32_1057
  let c16_i32_1058 : BitVec 32 := 16#32
  let v1831 : BitVec 32 := Scalar.muli v1830 c16_i32_1058
  let c256_i32_1068 : BitVec 32 := 256#32
  ![v1831.toNat, 256]
def k0_dev21 (d0 : Dev nD) : Nat :=
  let c0_i32_1067 : BitVec 32 := 0#32
  let c2_i32_396 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c16_i32 : BitVec 32 := 16#32
  let v124 : BitVec 32 := Scalar.muli v69 c16_i32
  let c2_i32_31 : BitVec 32 := 2#32
  let c0_i32_32 : BitVec 32 := 0#32
  let v70 : BitVec 1 := Scalar.cmpi .eq c2_i32_31 c0_i32_32
  let c1_i32_33 : BitVec 32 := 1#32
  let v71 : BitVec 32 := Scalar.select v70 c1_i32_33 c2_i32_31
  let v72 : BitVec 32 := Scalar.remsi v46 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  let c8_i32_57 : BitVec 32 := 8#32
  let v125 : BitVec 32 := Scalar.muli v79 c8_i32_57
  let v126 : BitVec 32 := Scalar.addi v124 v125
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let c0_i32_45 : BitVec 32 := 0#32
  let v97 : BitVec 1 := Scalar.cmpi .eq c2_i32_44 c0_i32_45
  let c1_i32_46 : BitVec 32 := 1#32
  let v98 : BitVec 32 := Scalar.select v97 c1_i32_46 c2_i32_44
  let v99 : BitVec 32 := Scalar.remsi v19 v98
  let c0_i32_48 : BitVec 32 := 0#32
  let v101 : BitVec 1 := Scalar.cmpi .slt v99 c0_i32_48
  let c0_i32_49 : BitVec 32 := 0#32
  let v102 : BitVec 1 := Scalar.cmpi .slt v98 c0_i32_49
  let v103 : BitVec 1 := Scalar.xori v101 v102
  let c0_i32_47 : BitVec 32 := 0#32
  let v100 : BitVec 1 := Scalar.cmpi .ne v99 c0_i32_47
  let v104 : BitVec 1 := Scalar.andi v103 v100
  let v105 : BitVec 32 := Scalar.addi v99 v98
  let v106 : BitVec 32 := Scalar.select v104 v105 v99
  let c4_i32 : BitVec 32 := 4#32
  let v127 : BitVec 32 := Scalar.muli v106 c4_i32
  let v128 : BitVec 32 := Scalar.addi v126 v127
  let c0_i32_38 : BitVec 32 := 0#32
  let v81 : BitVec 1 := Scalar.cmpi .sgt v46 c0_i32_38
  let v82 : BitVec 32 := Scalar.extui v81
  let c0_i32_39 : BitVec 32 := 0#32
  let v83 : BitVec 1 := Scalar.cmpi .slt v46 c0_i32_39
  let v84 : BitVec 32 := Scalar.extui v83
  let v85 : BitVec 32 := Scalar.subi v82 v84
  let c2_i32_37 : BitVec 32 := 2#32
  let c0_i32_40 : BitVec 32 := 0#32
  let v86 : BitVec 1 := Scalar.cmpi .sgt c2_i32_37 c0_i32_40
  let v87 : BitVec 32 := Scalar.extui v86
  let c0_i32_41 : BitVec 32 := 0#32
  let v88 : BitVec 1 := Scalar.cmpi .slt c2_i32_37 c0_i32_41
  let v89 : BitVec 32 := Scalar.extui v88
  let v90 : BitVec 32 := Scalar.subi v87 v89
  let v91 : BitVec 1 := Scalar.cmpi .ne v85 v90
  let v92 : BitVec 32 := Scalar.remsi v46 c2_i32_37
  let c0_i32_42 : BitVec 32 := 0#32
  let v93 : BitVec 1 := Scalar.cmpi .ne v92 c0_i32_42
  let v94 : BitVec 1 := Scalar.andi v91 v93
  let v80 : BitVec 32 := Scalar.divsi v46 c2_i32_37
  let c1_i32_43 : BitVec 32 := 1#32
  let v95 : BitVec 32 := Scalar.subi v80 c1_i32_43
  let v96 : BitVec 32 := Scalar.select v94 v95 v80
  let c2_i32_58 : BitVec 32 := 2#32
  let v129 : BitVec 32 := Scalar.muli v96 c2_i32_58
  let v130 : BitVec 32 := Scalar.addi v128 v129
  let c0_i32_51 : BitVec 32 := 0#32
  let v108 : BitVec 1 := Scalar.cmpi .sgt v19 c0_i32_51
  let v109 : BitVec 32 := Scalar.extui v108
  let c0_i32_52 : BitVec 32 := 0#32
  let v110 : BitVec 1 := Scalar.cmpi .slt v19 c0_i32_52
  let v111 : BitVec 32 := Scalar.extui v110
  let v112 : BitVec 32 := Scalar.subi v109 v111
  let c2_i32_50 : BitVec 32 := 2#32
  let c0_i32_53 : BitVec 32 := 0#32
  let v113 : BitVec 1 := Scalar.cmpi .sgt c2_i32_50 c0_i32_53
  let v114 : BitVec 32 := Scalar.extui v113
  let c0_i32_54 : BitVec 32 := 0#32
  let v115 : BitVec 1 := Scalar.cmpi .slt c2_i32_50 c0_i32_54
  let v116 : BitVec 32 := Scalar.extui v115
  let v117 : BitVec 32 := Scalar.subi v114 v116
  let v118 : BitVec 1 := Scalar.cmpi .ne v112 v117
  let v119 : BitVec 32 := Scalar.remsi v19 c2_i32_50
  let c0_i32_55 : BitVec 32 := 0#32
  let v120 : BitVec 1 := Scalar.cmpi .ne v119 c0_i32_55
  let v121 : BitVec 1 := Scalar.andi v118 v120
  let v107 : BitVec 32 := Scalar.divsi v19 c2_i32_50
  let c1_i32_56 : BitVec 32 := 1#32
  let v122 : BitVec 32 := Scalar.subi v107 c1_i32_56
  let v123 : BitVec 32 := Scalar.select v121 v122 v107
  let v131 : BitVec 32 := Scalar.addi v130 v123
  let c1_i32_335 : BitVec 32 := 1#32
  let c2_i32_334 : BitVec 32 := 2#32
  let c0_i32_322 : BitVec 32 := 0#32
  let v651 : BitVec 1 := Scalar.cmpi .sgt v131 c0_i32_322
  let v652 : BitVec 32 := Scalar.extui v651
  let c0_i32_323 : BitVec 32 := 0#32
  let v653 : BitVec 1 := Scalar.cmpi .slt v131 c0_i32_323
  let v654 : BitVec 32 := Scalar.extui v653
  let v655 : BitVec 32 := Scalar.subi v652 v654
  let c8_i32_321 : BitVec 32 := 8#32
  let c0_i32_324 : BitVec 32 := 0#32
  let v656 : BitVec 1 := Scalar.cmpi .sgt c8_i32_321 c0_i32_324
  let v657 : BitVec 32 := Scalar.extui v656
  let c0_i32_325 : BitVec 32 := 0#32
  let v658 : BitVec 1 := Scalar.cmpi .slt c8_i32_321 c0_i32_325
  let v659 : BitVec 32 := Scalar.extui v658
  let v660 : BitVec 32 := Scalar.subi v657 v659
  let v661 : BitVec 1 := Scalar.cmpi .ne v655 v660
  let v662 : BitVec 32 := Scalar.remsi v131 c8_i32_321
  let c0_i32_326 : BitVec 32 := 0#32
  let v663 : BitVec 1 := Scalar.cmpi .ne v662 c0_i32_326
  let v664 : BitVec 1 := Scalar.andi v661 v663
  let v650 : BitVec 32 := Scalar.divsi v131 c8_i32_321
  let c1_i32_327 : BitVec 32 := 1#32
  let v665 : BitVec 32 := Scalar.subi v650 c1_i32_327
  let v666 : BitVec 32 := Scalar.select v664 v665 v650
  let c2_i32_328 : BitVec 32 := 2#32
  let c0_i32_329 : BitVec 32 := 0#32
  let v667 : BitVec 1 := Scalar.cmpi .eq c2_i32_328 c0_i32_329
  let c1_i32_330 : BitVec 32 := 1#32
  let v668 : BitVec 32 := Scalar.select v667 c1_i32_330 c2_i32_328
  let v669 : BitVec 32 := Scalar.remsi v666 v668
  let c0_i32_332 : BitVec 32 := 0#32
  let v671 : BitVec 1 := Scalar.cmpi .slt v669 c0_i32_332
  let c0_i32_333 : BitVec 32 := 0#32
  let v672 : BitVec 1 := Scalar.cmpi .slt v668 c0_i32_333
  let v673 : BitVec 1 := Scalar.xori v671 v672
  let c0_i32_331 : BitVec 32 := 0#32
  let v670 : BitVec 1 := Scalar.cmpi .ne v669 c0_i32_331
  let v674 : BitVec 1 := Scalar.andi v673 v670
  let v675 : BitVec 32 := Scalar.addi v669 v668
  let v676 : BitVec 32 := Scalar.select v674 v675 v669
  let v677 : BitVec 32 := Scalar.muli c2_i32_334 v676
  let v678 : BitVec 32 := Scalar.subi c1_i32_335 v677
  let c8_i32_336 : BitVec 32 := 8#32
  let v679 : BitVec 32 := Scalar.muli v678 c8_i32_336
  let v680 : BitVec 32 := Scalar.addi v131 v679
  let c2_i32_389 : BitVec 32 := 2#32
  let c0_i32_390 : BitVec 32 := 0#32
  let v789 : BitVec 1 := Scalar.cmpi .eq c2_i32_389 c0_i32_390
  let c1_i32_391 : BitVec 32 := 1#32
  let v790 : BitVec 32 := Scalar.select v789 c1_i32_391 c2_i32_389
  let v791 : BitVec 32 := Scalar.remsi v680 v790
  let c0_i32_393 : BitVec 32 := 0#32
  let v793 : BitVec 1 := Scalar.cmpi .slt v791 c0_i32_393
  let c0_i32_394 : BitVec 32 := 0#32
  let v794 : BitVec 1 := Scalar.cmpi .slt v790 c0_i32_394
  let v795 : BitVec 1 := Scalar.xori v793 v794
  let c0_i32_392 : BitVec 32 := 0#32
  let v792 : BitVec 1 := Scalar.cmpi .ne v791 c0_i32_392
  let v796 : BitVec 1 := Scalar.andi v795 v792
  let v797 : BitVec 32 := Scalar.addi v791 v790
  let v798 : BitVec 32 := Scalar.select v796 v797 v791
  let v801 : BitVec 32 := Scalar.muli c2_i32_396 v798
  let c0_i32_364 : BitVec 32 := 0#32
  let v736 : BitVec 1 := Scalar.cmpi .sgt v680 c0_i32_364
  let v737 : BitVec 32 := Scalar.extui v736
  let c0_i32_365 : BitVec 32 := 0#32
  let v738 : BitVec 1 := Scalar.cmpi .slt v680 c0_i32_365
  let v739 : BitVec 32 := Scalar.extui v738
  let v740 : BitVec 32 := Scalar.subi v737 v739
  let c4_i32_363 : BitVec 32 := 4#32
  let c0_i32_366 : BitVec 32 := 0#32
  let v741 : BitVec 1 := Scalar.cmpi .sgt c4_i32_363 c0_i32_366
  let v742 : BitVec 32 := Scalar.extui v741
  let c0_i32_367 : BitVec 32 := 0#32
  let v743 : BitVec 1 := Scalar.cmpi .slt c4_i32_363 c0_i32_367
  let v744 : BitVec 32 := Scalar.extui v743
  let v745 : BitVec 32 := Scalar.subi v742 v744
  let v746 : BitVec 1 := Scalar.cmpi .ne v740 v745
  let v747 : BitVec 32 := Scalar.remsi v680 c4_i32_363
  let c0_i32_368 : BitVec 32 := 0#32
  let v748 : BitVec 1 := Scalar.cmpi .ne v747 c0_i32_368
  let v749 : BitVec 1 := Scalar.andi v746 v748
  let v735 : BitVec 32 := Scalar.divsi v680 c4_i32_363
  let c1_i32_369 : BitVec 32 := 1#32
  let v750 : BitVec 32 := Scalar.subi v735 c1_i32_369
  let v751 : BitVec 32 := Scalar.select v749 v750 v735
  let c2_i32_370 : BitVec 32 := 2#32
  let c0_i32_371 : BitVec 32 := 0#32
  let v752 : BitVec 1 := Scalar.cmpi .eq c2_i32_370 c0_i32_371
  let c1_i32_372 : BitVec 32 := 1#32
  let v753 : BitVec 32 := Scalar.select v752 c1_i32_372 c2_i32_370
  let v754 : BitVec 32 := Scalar.remsi v751 v753
  let c0_i32_374 : BitVec 32 := 0#32
  let v756 : BitVec 1 := Scalar.cmpi .slt v754 c0_i32_374
  let c0_i32_375 : BitVec 32 := 0#32
  let v757 : BitVec 1 := Scalar.cmpi .slt v753 c0_i32_375
  let v758 : BitVec 1 := Scalar.xori v756 v757
  let c0_i32_373 : BitVec 32 := 0#32
  let v755 : BitVec 1 := Scalar.cmpi .ne v754 c0_i32_373
  let v759 : BitVec 1 := Scalar.andi v758 v755
  let v760 : BitVec 32 := Scalar.addi v754 v753
  let v761 : BitVec 32 := Scalar.select v759 v760 v754
  let v802 : BitVec 32 := Scalar.addi v801 v761
  let c8_i32_397 : BitVec 32 := 8#32
  let v803 : BitVec 32 := Scalar.muli v802 c8_i32_397
  let c2_i32_395 : BitVec 32 := 2#32
  let c0_i32_377 : BitVec 32 := 0#32
  let v763 : BitVec 1 := Scalar.cmpi .sgt v680 c0_i32_377
  let v764 : BitVec 32 := Scalar.extui v763
  let c0_i32_378 : BitVec 32 := 0#32
  let v765 : BitVec 1 := Scalar.cmpi .slt v680 c0_i32_378
  let v766 : BitVec 32 := Scalar.extui v765
  let v767 : BitVec 32 := Scalar.subi v764 v766
  let c2_i32_376 : BitVec 32 := 2#32
  let c0_i32_379 : BitVec 32 := 0#32
  let v768 : BitVec 1 := Scalar.cmpi .sgt c2_i32_376 c0_i32_379
  let v769 : BitVec 32 := Scalar.extui v768
  let c0_i32_380 : BitVec 32 := 0#32
  let v770 : BitVec 1 := Scalar.cmpi .slt c2_i32_376 c0_i32_380
  let v771 : BitVec 32 := Scalar.extui v770
  let v772 : BitVec 32 := Scalar.subi v769 v771
  let v773 : BitVec 1 := Scalar.cmpi .ne v767 v772
  let v774 : BitVec 32 := Scalar.remsi v680 c2_i32_376
  let c0_i32_381 : BitVec 32 := 0#32
  let v775 : BitVec 1 := Scalar.cmpi .ne v774 c0_i32_381
  let v776 : BitVec 1 := Scalar.andi v773 v775
  let v762 : BitVec 32 := Scalar.divsi v680 c2_i32_376
  let c1_i32_382 : BitVec 32 := 1#32
  let v777 : BitVec 32 := Scalar.subi v762 c1_i32_382
  let v778 : BitVec 32 := Scalar.select v776 v777 v762
  let c2_i32_383 : BitVec 32 := 2#32
  let c0_i32_384 : BitVec 32 := 0#32
  let v779 : BitVec 1 := Scalar.cmpi .eq c2_i32_383 c0_i32_384
  let c1_i32_385 : BitVec 32 := 1#32
  let v780 : BitVec 32 := Scalar.select v779 c1_i32_385 c2_i32_383
  let v781 : BitVec 32 := Scalar.remsi v778 v780
  let c0_i32_387 : BitVec 32 := 0#32
  let v783 : BitVec 1 := Scalar.cmpi .slt v781 c0_i32_387
  let c0_i32_388 : BitVec 32 := 0#32
  let v784 : BitVec 1 := Scalar.cmpi .slt v780 c0_i32_388
  let v785 : BitVec 1 := Scalar.xori v783 v784
  let c0_i32_386 : BitVec 32 := 0#32
  let v782 : BitVec 1 := Scalar.cmpi .ne v781 c0_i32_386
  let v786 : BitVec 1 := Scalar.andi v785 v782
  let v787 : BitVec 32 := Scalar.addi v781 v780
  let v788 : BitVec 32 := Scalar.select v786 v787 v781
  let v799 : BitVec 32 := Scalar.muli c2_i32_395 v788
  let c0_i32_351 : BitVec 32 := 0#32
  let v709 : BitVec 1 := Scalar.cmpi .sgt v680 c0_i32_351
  let v710 : BitVec 32 := Scalar.extui v709
  let c0_i32_352 : BitVec 32 := 0#32
  let v711 : BitVec 1 := Scalar.cmpi .slt v680 c0_i32_352
  let v712 : BitVec 32 := Scalar.extui v711
  let v713 : BitVec 32 := Scalar.subi v710 v712
  let c8_i32_350 : BitVec 32 := 8#32
  let c0_i32_353 : BitVec 32 := 0#32
  let v714 : BitVec 1 := Scalar.cmpi .sgt c8_i32_350 c0_i32_353
  let v715 : BitVec 32 := Scalar.extui v714
  let c0_i32_354 : BitVec 32 := 0#32
  let v716 : BitVec 1 := Scalar.cmpi .slt c8_i32_350 c0_i32_354
  let v717 : BitVec 32 := Scalar.extui v716
  let v718 : BitVec 32 := Scalar.subi v715 v717
  let v719 : BitVec 1 := Scalar.cmpi .ne v713 v718
  let v720 : BitVec 32 := Scalar.remsi v680 c8_i32_350
  let c0_i32_355 : BitVec 32 := 0#32
  let v721 : BitVec 1 := Scalar.cmpi .ne v720 c0_i32_355
  let v722 : BitVec 1 := Scalar.andi v719 v721
  let v708 : BitVec 32 := Scalar.divsi v680 c8_i32_350
  let c1_i32_356 : BitVec 32 := 1#32
  let v723 : BitVec 32 := Scalar.subi v708 c1_i32_356
  let v724 : BitVec 32 := Scalar.select v722 v723 v708
  let c2_i32_357 : BitVec 32 := 2#32
  let c0_i32_358 : BitVec 32 := 0#32
  let v725 : BitVec 1 := Scalar.cmpi .eq c2_i32_357 c0_i32_358
  let c1_i32_359 : BitVec 32 := 1#32
  let v726 : BitVec 32 := Scalar.select v725 c1_i32_359 c2_i32_357
  let v727 : BitVec 32 := Scalar.remsi v724 v726
  let c0_i32_361 : BitVec 32 := 0#32
  let v729 : BitVec 1 := Scalar.cmpi .slt v727 c0_i32_361
  let c0_i32_362 : BitVec 32 := 0#32
  let v730 : BitVec 1 := Scalar.cmpi .slt v726 c0_i32_362
  let v731 : BitVec 1 := Scalar.xori v729 v730
  let c0_i32_360 : BitVec 32 := 0#32
  let v728 : BitVec 1 := Scalar.cmpi .ne v727 c0_i32_360
  let v732 : BitVec 1 := Scalar.andi v731 v728
  let v733 : BitVec 32 := Scalar.addi v727 v726
  let v734 : BitVec 32 := Scalar.select v732 v733 v727
  let v800 : BitVec 32 := Scalar.addi v799 v734
  let c2_i32_398 : BitVec 32 := 2#32
  let v804 : BitVec 32 := Scalar.muli v800 c2_i32_398
  let v805 : BitVec 32 := Scalar.addi v803 v804
  let c2_i32_399 : BitVec 32 := 2#32
  let c0_i32_400 : BitVec 32 := 0#32
  let v806 : BitVec 1 := Scalar.cmpi .eq c2_i32_399 c0_i32_400
  let c1_i32_401 : BitVec 32 := 1#32
  let v807 : BitVec 32 := Scalar.select v806 c1_i32_401 c2_i32_399
  let v808 : BitVec 32 := Scalar.remsi v800 v807
  let c0_i32_403 : BitVec 32 := 0#32
  let v810 : BitVec 1 := Scalar.cmpi .slt v808 c0_i32_403
  let c0_i32_404 : BitVec 32 := 0#32
  let v811 : BitVec 1 := Scalar.cmpi .slt v807 c0_i32_404
  let v812 : BitVec 1 := Scalar.xori v810 v811
  let c0_i32_402 : BitVec 32 := 0#32
  let v809 : BitVec 1 := Scalar.cmpi .ne v808 c0_i32_402
  let v813 : BitVec 1 := Scalar.andi v812 v809
  let v814 : BitVec 32 := Scalar.addi v808 v807
  let v815 : BitVec 32 := Scalar.select v813 v814 v808
  let c0_i32_405 : BitVec 32 := 0#32
  let v816 : BitVec 1 := Scalar.cmpi .eq v815 c0_i32_405
  let c0_i32_338 : BitVec 32 := 0#32
  let v682 : BitVec 1 := Scalar.cmpi .sgt v680 c0_i32_338
  let v683 : BitVec 32 := Scalar.extui v682
  let c0_i32_339 : BitVec 32 := 0#32
  let v684 : BitVec 1 := Scalar.cmpi .slt v680 c0_i32_339
  let v685 : BitVec 32 := Scalar.extui v684
  let v686 : BitVec 32 := Scalar.subi v683 v685
  let c16_i32_337 : BitVec 32 := 16#32
  let c0_i32_340 : BitVec 32 := 0#32
  let v687 : BitVec 1 := Scalar.cmpi .sgt c16_i32_337 c0_i32_340
  let v688 : BitVec 32 := Scalar.extui v687
  let c0_i32_341 : BitVec 32 := 0#32
  let v689 : BitVec 1 := Scalar.cmpi .slt c16_i32_337 c0_i32_341
  let v690 : BitVec 32 := Scalar.extui v689
  let v691 : BitVec 32 := Scalar.subi v688 v690
  let v692 : BitVec 1 := Scalar.cmpi .ne v686 v691
  let v693 : BitVec 32 := Scalar.remsi v680 c16_i32_337
  let c0_i32_342 : BitVec 32 := 0#32
  let v694 : BitVec 1 := Scalar.cmpi .ne v693 c0_i32_342
  let v695 : BitVec 1 := Scalar.andi v692 v694
  let v681 : BitVec 32 := Scalar.divsi v680 c16_i32_337
  let c1_i32_343 : BitVec 32 := 1#32
  let v696 : BitVec 32 := Scalar.subi v681 c1_i32_343
  let v697 : BitVec 32 := Scalar.select v695 v696 v681
  let c2_i32_344 : BitVec 32 := 2#32
  let c0_i32_345 : BitVec 32 := 0#32
  let v698 : BitVec 1 := Scalar.cmpi .eq c2_i32_344 c0_i32_345
  let c1_i32_346 : BitVec 32 := 1#32
  let v699 : BitVec 32 := Scalar.select v698 c1_i32_346 c2_i32_344
  let v700 : BitVec 32 := Scalar.remsi v697 v699
  let c0_i32_348 : BitVec 32 := 0#32
  let v702 : BitVec 1 := Scalar.cmpi .slt v700 c0_i32_348
  let c0_i32_349 : BitVec 32 := 0#32
  let v703 : BitVec 1 := Scalar.cmpi .slt v699 c0_i32_349
  let v704 : BitVec 1 := Scalar.xori v702 v703
  let c0_i32_347 : BitVec 32 := 0#32
  let v701 : BitVec 1 := Scalar.cmpi .ne v700 c0_i32_347
  let v705 : BitVec 1 := Scalar.andi v704 v701
  let v706 : BitVec 32 := Scalar.addi v700 v699
  let v707 : BitVec 32 := Scalar.select v705 v706 v700
  let c1_i32_406 : BitVec 32 := 1#32
  let v817 : BitVec 32 := Scalar.subi c1_i32_406 v707
  let v818 : BitVec 32 := Scalar.select v816 v707 v817
  let v819 : BitVec 32 := Scalar.addi v805 v818
  let c1_i32_1066 : BitVec 32 := 1#32
  let v1840 : BitVec 32 := Scalar.muli v819 c1_i32_1066
  let v1841 : BitVec 32 := Scalar.addi c0_i32_1067 v1840
  v1841.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S256x256 : Shape := ⟨2, ![256, 256]⟩
abbrev S1x1x256x256 : Shape := ⟨4, ![1, 1, 256, 256]⟩
abbrev S256 : Shape := ⟨1, ![256]⟩
abbrev S1x1x256x1 : Shape := ⟨4, ![1, 1, 256, 1]⟩
abbrev S2x256x8192 : Shape := ⟨3, ![2, 256, 8192]⟩
abbrev S2x128x256x256 : Shape := ⟨4, ![2, 128, 256, 256]⟩
abbrev S_ : Shape := ⟨0, ![]⟩
abbrev S2x128x256 : Shape := ⟨3, ![2, 128, 256]⟩
abbrev S2x128x256x1 : Shape := ⟨4, ![2, 128, 256, 1]⟩
abbrev S2x128x64x256 : Shape := ⟨4, ![2, 128, 64, 256]⟩

abbrev nBuf : Space → Nat
  | .hbm => 47
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x128x64, .f32⟩
  | .hbm, ⟨3, _⟩ => ⟨S2x256x128x64, .f32⟩
  | .hbm, ⟨4, _⟩ => ⟨S8192x512, .f32⟩
  | .hbm, ⟨5, _⟩ => ⟨S256x256, .i1⟩
  | .hbm, ⟨6, _⟩ => ⟨S1x1x256x256, .i1⟩
  | .hbm, ⟨7, _⟩ => ⟨S256, .i1⟩
  | .hbm, ⟨8, _⟩ => ⟨S1x1x256x1, .i1⟩
  | .hbm, ⟨9, _⟩ => ⟨S256, .i1⟩
  | .hbm, ⟨10, _⟩ => ⟨S1x1x256x1, .i1⟩
  | .hbm, ⟨11, _⟩ => ⟨S2x256x8192, .f32⟩
  | .hbm, ⟨12, _⟩ => ⟨S2x256x128x64, .f32⟩
  | .hbm, ⟨13, _⟩ => ⟨S2x128x256x256, .f32⟩
  | .hbm, ⟨14, _⟩ => ⟨S_, .f32⟩
  | .hbm, ⟨15, _⟩ => ⟨S2x128x256x256, .f32⟩
  | .hbm, ⟨16, _⟩ => ⟨S2x128x256x256, .f32⟩
  | .hbm, ⟨17, _⟩ => ⟨S_, .f32⟩
  | .hbm, ⟨18, _⟩ => ⟨S_, .f32⟩
  | .hbm, ⟨19, _⟩ => ⟨S2x128x256x256, .i1⟩
  | .hbm, ⟨20, _⟩ => ⟨S2x128x256x256, .f32⟩
  | .hbm, ⟨21, _⟩ => ⟨S2x128x256x256, .f32⟩
  | .hbm, ⟨22, _⟩ => ⟨S_, .f32⟩
  | .hbm, ⟨23, _⟩ => ⟨S2x128x256, .f32⟩
  | .hbm, ⟨24, _⟩ => ⟨S2x128x256x1, .f32⟩
  | .hbm, ⟨25, _⟩ => ⟨S2x128x256x256, .f32⟩
  | .hbm, ⟨26, _⟩ => ⟨S2x128x256x256, .f32⟩
  | .hbm, ⟨27, _⟩ => ⟨S2x128x256x256, .f32⟩
  | .hbm, ⟨28, _⟩ => ⟨S_, .f32⟩
  | .hbm, ⟨29, _⟩ => ⟨S2x128x256, .f32⟩
  | .hbm, ⟨30, _⟩ => ⟨S2x128x256x1, .f32⟩
  | .hbm, ⟨31, _⟩ => ⟨S_, .f32⟩
  | .hbm, ⟨32, _⟩ => ⟨S_, .f32⟩
  | .hbm, ⟨33, _⟩ => ⟨S2x128x256x1, .i1⟩
  | .hbm, ⟨34, _⟩ => ⟨S2x128x256x1, .f32⟩
  | .hbm, ⟨35, _⟩ => ⟨S2x128x256x1, .f32⟩
  | .hbm, ⟨36, _⟩ => ⟨S2x128x256x256, .f32⟩
  | .hbm, ⟨37, _⟩ => ⟨S2x128x256x256, .f32⟩
  | .hbm, ⟨38, _⟩ => ⟨S_, .f32⟩
  | .hbm, ⟨39, _⟩ => ⟨S_, .f32⟩
  | .hbm, ⟨40, _⟩ => ⟨S2x128x256x256, .i1⟩
  | .hbm, ⟨41, _⟩ => ⟨S2x128x256x256, .f32⟩
  | .hbm, ⟨42, _⟩ => ⟨S2x128x256x256, .f32⟩
  | .hbm, ⟨43, _⟩ => ⟨S2x128x64x256, .f32⟩
  | .hbm, ⟨44, _⟩ => ⟨S2x256x128x64, .f32⟩
  | .hbm, ⟨45, _⟩ => ⟨S2x256x8192, .f32⟩
  | .hbm, ⟨46, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== Proof.Program.lean ====
module

/-
  The kernel's body written flat: the barrier, the copy of the operand into the result buffer, five stages that send a
  block and add the one received, three stages that send a block and keep the one received. A stage runs two chains,
  one on each half of the columns.
-/
public import proofs.«01_k».proof.Proof.Gen.KernelIdeal.Skeleton
public import proofs.«01_k».proof.Proof.Gen.KernelIdeal.Points

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- The shape of a block of `n` rows of one chain. -/
abbrev Tn (n : ℕ) : Shape := ⟨2, ![n, 256]⟩

/-- The operand's staging buffer, the result's, and the receive buffer. -/
abbrev pM : Memref sig .tc .vmem S512x512 .bf16 := Memref.whole cc0_stg0_0
abbrev oM : Memref sig .tc .vmem S512x512 .bf16 := Memref.whole cc0_stg1_0
abbrev rM : Memref sig .tc .vmem S576x512 .bf16 := Memref.whole cc0_scratch0

/-- A block of `n` rows and 256 columns lies inside the result buffer; inside the receive buffer. -/
abbrev InO (n : ℕ) (off : Fin 2 → ℕ) : Prop := ∀ a, off a + (Tn n).size a ≤ S512x512.size a
abbrev InR (n : ℕ) (off : Fin 2 → ℕ) : Prop := ∀ a, off a + (Tn n).size a ≤ S576x512.size a

abbrev oRect (n : ℕ) (off : Fin 2 → ℕ) (h : InO n off) : Rect S512x512 := Rect.unit (s := S512x512) off (Tn n).size h
abbrev rRect (n : ℕ) (off : Fin 2 → ℕ) (h : InR n off) : Rect S576x512 := Rect.unit (s := S576x512) off (Tn n).size h

/-- The blocks as views. -/
abbrev oS (n : ℕ) (off : Fin 2 → ℕ) (h : InO n off) : Memref sig .tc .vmem (Tn n) .bf16 := oM.slice (oRect n off h) (fun _ => rfl)
abbrev rS (n : ℕ) (off : Fin 2 → ℕ) (h : InR n off) : Memref sig .tc .vmem (Tn n) .bf16 := rM.slice (rRect n off h) (fun _ => rfl)

/-- One semaphore of an array of eight. -/
abbrev slot (a : DmaSems sig S8) (k : ℕ) (h : ∀ i, (![k] : Fin 1 → ℕ) i + S1.size i ≤ S8.size i) : DmaSem sig :=
  ((a.slice (Rect.unit (s := S8) ![k] S1.size h)).squeeze S_ squeezes_S1_S_).sem

/-- What one chain's part of an adding stage is given: where the block it sends starts (`so`), where it lands in the
    peer's receive buffer (`ro`), where the block it adds to starts (`ko`), the peer and the two semaphores. -/
structure AddLeg (n : ℕ) where
  so : Fin 2 → ℕ
  ro : Fin 2 → ℕ
  ko : Fin 2 → ℕ
  hso : InO n so
  hro : InR n ro
  hko : InO n ko
  wso : (oRect n so hso).WholeWords (EltTy.packing .bf16)
  wro : (rRect n ro hro).WholeWords (EltTy.packing .bf16)
  pko : (oRect n ko hko).PackedRows (EltTy.packing .bf16)
  dev : Dev nD
  ss : DmaSem sig
  rs : DmaSem sig

/-- What one chain's part of a gathering stage is given: where the block it sends starts, in its own buffer and in the
    peer's, the peer and the two semaphores. -/
structure KeepLeg (n : ℕ) where
  so : Fin 2 → ℕ
  hso : InO n so
  wso : (oRect n so hso).WholeWords (EltTy.packing .bf16)
  dev : Dev nD
  ss : DmaSem sig
  rs : DmaSem sig

abbrev PR (F : FTy → Type) := Prog (TpuEff nD τ sig (Elt F) Λ₀ .tc) PUnit

variable {n : ℕ}

theorem whole_o : oM.IsWhole := Memref.isWhole_whole _
theorem whole_r : rM.IsWhole := Memref.isWhole_whole _

/-- A leg's copy is enqueued; -/
def AddLeg.send (a : AddLeg n) (k : PR F) : PR F :=
  .op (.enqueueDma (oS n a.so a.hso) (.remote (Dev.tc a.dev) (rS n a.ro a.hro) (.dma a.ss)) (.dma a.rs)
    (whole_o.wordExact_slice rfl _ a.wso) (whole_r.wordExact_slice rfl _ a.wro) ⟨⟨rfl, Or.inl rfl⟩, trivial⟩) fun _ => k

/-- its departure and then the arrival of the peer's are awaited; -/
def AddLeg.wait (a : AddLeg n) (k : PR F) : PR F :=
  .op (.waitDma2 a.ss (rS n a.ro a.hro) (oS n a.so a.hso) (whole_r.wordExact_slice rfl _ a.wro) (whole_o.wordExact_slice rfl _ a.wso)) fun _ =>
  .op (.waitDma2 a.rs (oS n a.so a.hso) (rS n a.ro a.hro) (whole_o.wordExact_slice rfl _ a.wso) (whole_r.wordExact_slice rfl _ a.wro)) fun _ => k

/-- and what arrived is added. -/
def AddLeg.add (a : AddLeg n) (hn : 0 < (Tn n).numel) (hc : (Tn n).ShapeCasts (Tn n)) (k : PR F) : PR F :=
  .op (.load oM (oRect n a.ko a.hko).toLoadRect (View.loadsAt_vmem hn)) fun (v : Vec F (Tn n) .bf16) =>
  .op (.load rM (rRect n a.ro a.hro).toLoadRect (View.loadsAt_vmem hn)) fun (w : Vec F (Tn n) .bf16) =>
  .op (.load oM (oRect n a.ko a.hko).toLoadRect (View.loadsAt_vmem hn)) fun _ =>
  .op (.store oM (oRect n a.ko a.hko) (addf (shapeCast (Tn n) v hc) w : FVec F (Tn n) .bf16) Finset.univ
    (View.stores_vmem hn (whole_o.storeExact_slice rfl _ a.pko) (fun _ => rfl)) (.inl rfl)) fun _ => k

def KeepLeg.send (a : KeepLeg n) (k : PR F) : PR F :=
  .op (.enqueueDma (oS n a.so a.hso) (.remote (Dev.tc a.dev) (oS n a.so a.hso) (.dma a.ss)) (.dma a.rs)
    (whole_o.wordExact_slice rfl _ a.wso) (whole_o.wordExact_slice rfl _ a.wso) ⟨⟨rfl, Or.inl rfl⟩, trivial⟩) fun _ => k

def KeepLeg.wait (a : KeepLeg n) (k : PR F) : PR F :=
  .op (.waitDma2 a.ss (oS n a.so a.hso) (oS n a.so a.hso) (whole_o.wordExact_slice rfl _ a.wso) (whole_o.wordExact_slice rfl _ a.wso)) fun _ =>
  .op (.waitDma2 a.rs (oS n a.so a.hso) (oS n a.so a.hso) (whole_o.wordExact_slice rfl _ a.wso) (whole_o.wordExact_slice rfl _ a.wso)) fun _ => k

/-- An adding stage, of a leg on each half of the columns. -/
def addStage (a b : AddLeg n) (hn : 0 < (Tn n).numel) (hc : (Tn n).ShapeCasts (Tn n)) (k : PR F) : PR F :=
  a.send <| b.send <| a.wait <| a.add hn hc <| b.wait <| b.add hn hc k

/-- A gathering stage. -/
def keepStage (a b : KeepLeg n) (k : PR F) : PR F := a.send <| b.send <| a.wait <| b.wait k

/-! ## The legs -/

variable (c : Dev nD)

abbrev legA0 : AddLeg 256 where
  so := k0_off1 c; hso := k0_off1_inb c; wso := k0_off1_wordsbf16 c
  ro := ![0, 0]; hro := inb_S576x512_S256x256_0_0; wro := wordsbf16_S576x512_S256x256_0_0
  ko := k0_off3 c; hko := k0_off3_inb c; pko := k0_off3_packedbf16 c
  dev := ⟨k0_dev6 c, k0_dev6_lt c⟩; ss := slot cc0_scratch1 0 inb_S8_S1_0; rs := slot cc0_scratch2 0 inb_S8_S1_0
abbrev legB0 : AddLeg 256 where
  so := k0_off2 c; hso := k0_off2_inb c; wso := k0_off2_wordsbf16 c
  ro := ![0, 256]; hro := inb_S576x512_S256x256_0_256; wro := wordsbf16_S576x512_S256x256_0_256
  ko := k0_off4 c; hko := k0_off4_inb c; pko := k0_off4_packedbf16 c
  dev := ⟨k0_dev7 c, k0_dev7_lt c⟩; ss := slot cc0_scratch3 0 inb_S8_S1_0; rs := slot cc0_scratch4 0 inb_S8_S1_0
abbrev legA1 : AddLeg 128 where
  so := k0_off5 c; hso := k0_off5_inb c; wso := k0_off5_wordsbf16 c
  ro := ![256, 0]; hro := inb_S576x512_S128x256_256_0; wro := wordsbf16_S576x512_S128x256_256_0
  ko := k0_off7 c; hko := k0_off7_inb c; pko := k0_off7_packedbf16 c
  dev := ⟨k0_dev8 c, k0_dev8_lt c⟩; ss := slot cc0_scratch1 1 inb_S8_S1_1; rs := slot cc0_scratch2 1 inb_S8_S1_1
abbrev legB1 : AddLeg 128 where
  so := k0_off6 c; hso := k0_off6_inb c; wso := k0_off6_wordsbf16 c
  ro := ![256, 256]; hro := inb_S576x512_S128x256_256_256; wro := wordsbf16_S576x512_S128x256_256_256
  ko := k0_off8 c; hko := k0_off8_inb c; pko := k0_off8_packedbf16 c
  dev := ⟨k0_dev9 c, k0_dev9_lt c⟩; ss := slot cc0_scratch3 1 inb_S8_S1_1; rs := slot cc0_scratch4 1 inb_S8_S1_1
abbrev legA2 : AddLeg 64 where
  so := k0_off9 c; hso := k0_off9_inb c; wso := k0_off9_wordsbf16 c
  ro := ![384, 0]; hro := inb_S576x512_S64x256_384_0; wro := wordsbf16_S576x512_S64x256_384_0
  ko := k0_off11 c; hko := k0_off11_inb c; pko := k0_off11_packedbf16 c
  dev := ⟨k0_dev10 c, k0_dev10_lt c⟩; ss := slot cc0_scratch1 2 inb_S8_S1_2; rs := slot cc0_scratch2 2 inb_S8_S1_2
abbrev legB2 : AddLeg 64 where
  so := k0_off10 c; hso := k0_off10_inb c; wso := k0_off10_wordsbf16 c
  ro := ![384, 256]; hro := inb_S576x512_S64x256_384_256; wro := wordsbf16_S576x512_S64x256_384_256
  ko := k0_off12 c; hko := k0_off12_inb c; pko := k0_off12_packedbf16 c
  dev := ⟨k0_dev11 c, k0_dev11_lt c⟩; ss := slot cc0_scratch3 2 inb_S8_S1_2; rs := slot cc0_scratch4 2 inb_S8_S1_2
abbrev legA3 : AddLeg 64 where
  so := k0_off13 c; hso := k0_off13_inb c; wso := k0_off13_wordsbf16 c
  ro := ![448, 0]; hro := inb_S576x512_S64x256_448_0; wro := wordsbf16_S576x512_S64x256_448_0
  ko := k0_off15 c; hko := k0_off15_inb c; pko := k0_off15_packedbf16 c
  dev := ⟨k0_dev12 c, k0_dev12_lt c⟩; ss := slot cc0_scratch1 3 inb_S8_S1_3; rs := slot cc0_scratch2 3 inb_S8_S1_3
abbrev legB3 : AddLeg 64 where
  so := k0_off14 c; hso := k0_off14_inb c; wso := k0_off14_wordsbf16 c
  ro := ![448, 256]; hro := inb_S576x512_S64x256_448_256; wro := wordsbf16_S576x512_S64x256_448_256
  ko := k0_off16 c; hko := k0_off16_inb c; pko := k0_off16_packedbf16 c
  dev := ⟨k0_dev13 c, k0_dev13_lt c⟩; ss := slot cc0_scratch3 3 inb_S8_S1_3; rs := slot cc0_scratch4 3 inb_S8_S1_3
abbrev legA4 : AddLeg 64 where
  so := k0_off13 c; hso := k0_off13_inb c; wso := k0_off13_wordsbf16 c
  ro := ![512, 0]; hro := inb_S576x512_S64x256_512_0; wro := wordsbf16_S576x512_S64x256_512_0
  ko := k0_off15 c; hko := k0_off15_inb c; pko := k0_off15_packedbf16 c
  dev := ⟨k0_dev14 c, k0_dev14_lt c⟩; ss := slot cc0_scratch1 4 inb_S8_S1_4; rs := slot cc0_scratch2 4 inb_S8_S1_4
abbrev legB4 : AddLeg 64 where
  so := k0_off14 c; hso := k0_off14_inb c; wso := k0_off14_wordsbf16 c
  ro := ![512, 256]; hro := inb_S576x512_S64x256_512_256; wro := wordsbf16_S576x512_S64x256_512_256
  ko := k0_off16 c; hko := k0_off16_inb c; pko := k0_off16_packedbf16 c
  dev := ⟨k0_dev15 c, k0_dev15_lt c⟩; ss := slot cc0_scratch3 4 inb_S8_S1_4; rs := slot cc0_scratch4 4 inb_S8_S1_4
abbrev legA5 : KeepLeg 64 where
  so := k0_off13 c; hso := k0_off13_inb c; wso := k0_off13_wordsbf16 c
  dev := ⟨k0_dev16 c, k0_dev16_lt c⟩; ss := slot cc0_scratch1 5 inb_S8_S1_5; rs := slot cc0_scratch2 5 inb_S8_S1_5
abbrev legB5 : KeepLeg 64 where
  so := k0_off14 c; hso := k0_off14_inb c; wso := k0_off14_wordsbf16 c
  dev := ⟨k0_dev17 c, k0_dev17_lt c⟩; ss := slot cc0_scratch3 5 inb_S8_S1_5; rs := slot cc0_scratch4 5 inb_S8_S1_5
abbrev legA6 : KeepLeg 128 where
  so := k0_off17 c; hso := k0_off17_inb c; wso := k0_off17_wordsbf16 c
  dev := ⟨k0_dev18 c, k0_dev18_lt c⟩; ss := slot cc0_scratch1 6 inb_S8_S1_6; rs := slot cc0_scratch2 6 inb_S8_S1_6
abbrev legB6 : KeepLeg 128 where
  so := k0_off18 c; hso := k0_off18_inb c; wso := k0_off18_wordsbf16 c
  dev := ⟨k0_dev19 c, k0_dev19_lt c⟩; ss := slot cc0_scratch3 6 inb_S8_S1_6; rs := slot cc0_scratch4 6 inb_S8_S1_6
abbrev legA7 : KeepLeg 256 where
  so := k0_off19 c; hso := k0_off19_inb c; wso := k0_off19_wordsbf16 c
  dev := ⟨k0_dev20 c, k0_dev20_lt c⟩; ss := slot cc0_scratch1 7 inb_S8_S1_7; rs := slot cc0_scratch2 7 inb_S8_S1_7
abbrev legB7 : KeepLeg 256 where
  so := k0_off20 c; hso := k0_off20_inb c; wso := k0_off20_wordsbf16 c
  dev := ⟨k0_dev21 c, k0_dev21_lt c⟩; ss := slot cc0_scratch3 7 inb_S8_S1_7; rs := slot cc0_scratch4 7 inb_S8_S1_7

/-! ## The body -/

/-- The barrier semaphore. -/
abbrev barS : Sem sig := (SemArray.scalar (sig.barrier 0 rfl) : Sems sig S_).sem

/-- The five signals and the wait for five. -/
def meet (k : PR F) : PR F :=
  (semSignalWord (⟨k0_dev1 c, k0_dev1_lt c⟩ : Dev nD) barS 1#32).bind fun _ =>
  (semSignalWord (⟨k0_dev2 c, k0_dev2_lt c⟩ : Dev nD) barS 1#32).bind fun _ =>
  (semSignalWord (⟨k0_dev3 c, k0_dev3_lt c⟩ : Dev nD) barS 1#32).bind fun _ =>
  (semSignalWord (⟨k0_dev4 c, k0_dev4_lt c⟩ : Dev nD) barS 1#32).bind fun _ =>
  (semSignalWord (⟨k0_dev5 c, k0_dev5_lt c⟩ : Dev nD) barS 1#32).bind fun _ =>
  (semWaitWord barS 5#32).bind fun _ => k

/-- The whole of a buffer of the operand's shape, as a rectangle. -/
abbrev allRect : Rect S512x512 := Rect.unit (s := S512x512) ![0, 0] S512x512.size inb_S512x512_S512x512_0_0

/-- The operand is copied into the result buffer. -/
def fill (k : PR F) : PR F :=
  .op (.load pM allRect.toLoadRect (View.loadsAt_vmem h_S512x512)) fun (v : Vec F S512x512 .bf16) =>
  .op (.load oM allRect.toLoadRect (View.loadsAt_vmem h_S512x512)) fun _ =>
  .op (.store oM allRect (shapeCast S512x512 v shapeCasts_S512x512_S512x512 : FVec F S512x512 .bf16) Finset.univ
    (View.stores_vmem h_S512x512 (whole_o.storeExact_slice rfl _ packedbf16_S512x512_S512x512_0_0) (fun _ => rfl)) (.inl rfl)) fun _ => k

/-- All eight stages. -/
def stages : PR F :=
  addStage (legA0 c) (legB0 c) h_S256x256 shapeCasts_S256x256_S256x256 <|
  addStage (legA1 c) (legB1 c) h_S128x256 shapeCasts_S128x256_S128x256 <|
  addStage (legA2 c) (legB2 c) h_S64x256 shapeCasts_S64x256_S64x256 <|
  addStage (legA3 c) (legB3 c) h_S64x256 shapeCasts_S64x256_S64x256 <|
  addStage (legA4 c) (legB4 c) h_S64x256 shapeCasts_S64x256_S64x256 <|
  keepStage (legA5 c) (legB5 c) <|
  keepStage (legA6 c) (legB6 c) <|
  keepStage (legA7 c) (legB7 c) <| .ret ⟨⟩

/-- The body. -/
def flat : PR F := .op .deviceId fun c => meet c <| fill <| stages c

set_option maxRecDepth 65536 in
set_option maxHeartbeats 4000000 in
/-- The printed body is the flat one: its words of arithmetic reach memory only through the offsets and devices the
    legs carry. -/
theorem bodyAt_eq (t : Fin cfg0.N) : bodyAt0 (F := F) t = flat := rfl

end Cert.KernelIdeal.Ring

end
-- ==== Proof.Geometry.lean ====
module

/-
  Which device each device talks to at each stage, which rows it sends and which it keeps, and the sets of elements
  these blocks occupy in the two buffers.
-/
public import proofs.«01_k».proof.Proof.Program

@[expose] public section

noncomputable section

namespace Cert.KernelIdeal.Ring

open Idealize.ShloMosaic Idealize.ShloMosaic.TcCoe Idealize.SL.Sem
open Cert.KernelIdeal Cert.KernelIdeal.Gen

/-! ## Devices -/

/-- The coordinates of a device. -/
def px (c : Dev nD) : ℕ := if (c.val % 8 / 2) % 2 = 0 then c.val % 2 else 1 - c.val % 2
def py (c : Dev nD) : ℕ := c.val % 8 / 2
def pz (c : Dev nD) : ℕ := c.val / 8

/-- The number of the chunk a device ends up reducing, on each of the two chains: its coordinates' bits, in two orders. -/
def vOf (X : Fin 2) (c : Dev nD) : ℕ :=
  if X = 0 then px c * 16 + py c % 2 * 8 + pz c % 2 * 4 + py c / 2 * 2 + pz c / 2
  else py c % 2 * 16 + pz c % 2 * 8 + px c * 4 + pz c / 2 * 2 + py c / 2

/-- The device whose number on the first chain is `v`. -/
def ofV (v : ℕ) : Dev nD :=
  ⟨((2 * (v % 2) + v / 4 % 2) * 8 + (2 * (v / 2 % 2) + v / 8 % 2) * 2
    + (if v / 8 % 2 = 0 then v / 16 % 2 else 1 - v / 16 % 2)) % 32, Nat.mod_lt _ (by decide)⟩

/-- The device differing in bit `k`. -/
def peer (k : Fin 5) (c : Dev nD) : Dev nD :=
  ofV (if vOf 0 c / 2 ^ k.val % 2 = 0 then vOf 0 c + 2 ^ k.val else vOf 0 c - 2 ^ k.val)

/-- The bit exchanged along at each stage of each chain. -/
def bit (X : Fin 2) (s : Fin 8) : Fin 5 :=
  if X = 0 then ![4, 3, 2, 1, 0, 2, 3, 4] s else ![3, 2, 4, 0, 1, 4, 2, 3] s

/-- The peer at a stage. -/
def pr (X : Fin 2) (s : Fin 8) (c : Dev nD) : Dev nD := peer (bit X s) c

/-- How many rows a stage moves. -/
abbrev rows : Fin 8 → ℕ := ![256, 128, 64, 64, 64, 64, 128, 256]

/-- Where a stage's block lands in the receive buffer. -/
abbrev rOff : Fin 8 → ℕ := ![0, 256, 384, 448, 512, 0, 0, 0]

/-- The first row of the block a device keeps at a stage, and of the block it sends. -/
def kLo (X : Fin 2) (s : Fin 8) (c : Dev nD) : ℕ := vOf X c * 16 / rows s * rows s
def sLo (X : Fin 2) (s : Fin 8) (c : Dev nD) : ℕ := if s.val ≤ 2 then kLo X s (pr X s c) else kLo X s c

theorem peer_peer (k : Fin 5) (c : Dev nD) : peer k (peer k c) = c := by revert k c; decide +kernel
theorem pr_pr (X : Fin 2) (s : Fin 8) (c : Dev nD) : pr X s (pr X s c) = c := peer_peer _ c

/-- The exchange along one bit, as a permutation of the devices. -/
def peerE (k : Fin 5) : Dev nD ≃ Dev nD := ⟨peer k, peer k, peer_peer k, peer_peer k⟩

/-- The blocks `[a, a+n)` and `[b, b+n)` are the two halves of `[l, l+2n)`. -/
def Halves (l n a b : ℕ) : Prop := (a = l ∧ b = l + n) ∨ (a = l + n ∧ b = l)

instance (l n a b : ℕ) : Decidable (Halves l n a b) := by unfold Halves; infer_instance

/-- Halving: what is kept and what is sent are the halves of what was held. -/
theorem halves0 (X : Fin 2) (c : Dev nD) : Halves 0 256 (kLo X 0 c) (sLo X 0 c) := by revert X c; decide +kernel
theorem halves1 (X : Fin 2) (c : Dev nD) : Halves (kLo X 0 c) 128 (kLo X 1 c) (sLo X 1 c) := by revert X c; decide +kernel
theorem halves2 (X : Fin 2) (c : Dev nD) : Halves (kLo X 1 c) 64 (kLo X 2 c) (sLo X 2 c) := by revert X c; decide +kernel

/-- The peer's kept block. -/
theorem kLo_pr (X : Fin 2) (s : Fin 8) (c : Dev nD) : kLo X s (pr X s c) = if 3 ≤ s.val ∧ s.val ≤ 4 then kLo X s c else
    (if s.val ≤ 2 then sLo X s c else sLo X (7 - s) c) := by revert X s c; decide +kernel
theorem sLo_pr (X : Fin 2) (s : Fin 8) (c : Dev nD) : sLo X s (pr X s c) = if s.val ≤ 4 then kLo X s c else
    sLo X (7 - s) c := by revert X s c; decide +kernel

theorem kLo_lt (X : Fin 2) (s : Fin 8) (c : Dev nD) : kLo X s c + rows s ≤ 512 := by revert X s c; decide +kernel
theorem sLo_lt (X : Fin 2) (s : Fin 8) (c : Dev nD) : sLo X s c + rows s ≤ 512 := by revert X s c; decide +kernel

/-! ## The legs' offsets, devices and semaphores in closed form -/

/-- The semaphores of a chain's stages. -/
def ssem (X : Fin 2) (s : Fin 8) : DmaSem sig := (⟨2 + 16 * X.val + s.val, by omega⟩ : Fin 34)
def rsem (X : Fin 2) (s : Fin 8) : DmaSem sig := (⟨10 + 16 * X.val + s.val, by omega⟩ : Fin 34)

variable {n : ℕ}

/-- An adding leg is chain `X`'s at stage `s` on device `c`. -/
structure AddLeg.Is (a : AddLeg n) (X : Fin 2) (s : Fin 8) (c : Dev nD) : Prop where
  so : a.so = ![sLo X s c, 256 * X.val]
  ro : a.ro = ![rOff s, 256 * X.val]
  ko : a.ko = ![kLo X s c, 256 * X.val]
  dev : a.dev = pr X s c
  ss : a.ss = ssem X s
  rs : a.rs = rsem X s

structure KeepLeg.Is (a : KeepLeg n) (X : Fin 2) (s : Fin 8) (c : Dev nD) : Prop where
  so : a.so = ![sLo X s c, 256 * X.val]
  dev : a.dev = pr X s c
  ss : a.ss = ssem X s
  rs : a.rs = rsem X s

instance (a : AddLeg n) (X : Fin 2) (s : Fin 8) (c : Dev nD) : Decidable (a.Is X s c) :=
  decidable_of_iff (a.so = ![sLo X s c, 256 * X.val] ∧ a.ro = ![rOff s, 256 * X.val] ∧ a.ko = ![kLo X s c, 256 * X.val]
    ∧ a.dev = pr X s c ∧ a.ss = ssem X s ∧ a.rs = rsem X s)
    ⟨fun ⟨h1, h2, h3, h4, h5, h6⟩ => ⟨h1, h2, h3, h4, h5, h6⟩, fun ⟨h1, h2, h3, h4, h5, h6⟩ => ⟨h1, h2, h3, h4, h5, h6⟩⟩

instance (a : KeepLeg n) (X : Fin 2) (s : Fin 8) (c : Dev nD) : Decidable (a.Is X s c) :=
  decidable_of_iff (a.so = ![sLo X s c, 256 * X.val] ∧ a.dev = pr X s c ∧ a.ss = ssem X s ∧ a.rs = rsem X s)
    ⟨fun ⟨h1, h2, h3, h4⟩ => ⟨h1, h2, h3, h4⟩, fun ⟨h1, h2, h3, h4⟩ => ⟨h1, h2, h3, h4⟩⟩

variable (c : Dev nD)

theorem isA0 : (legA0 c).Is 0 0 c := by revert c; decide +kernel
theorem isB0 : (legB0 c).Is 1 0 c := by revert c; decide +kernel
theorem isA1 : (legA1 c).Is 0 1 c := by revert c; decide +kernel
theorem isB1 : (legB1 c).Is 1 1 c := by revert c; decide +kernel
theorem isA2 : (legA2 c).Is 0 2 c := by revert c; decide +kernel
theorem isB2 : (legB2 c).Is 1 2 c := by revert c; decide +kernel
theorem isA3 : (legA3 c).Is 0 3 c := by revert c; decide +kernel
theorem isB3 : (legB3 c).Is 1 3 c := by revert c; decide +kernel
theorem isA4 : (legA4 c).Is 0 4 c := by revert c; decide +kernel
theorem isB4 : (legB4 c).Is 1 4 c := by revert c; decide +kernel
theorem isA5 : (legA5 c).Is 0 5 c := by revert c; decide +kernel
theorem isB5 : (legB5 c).Is 1 5 c := by revert c; decide +kernel
theorem isA6 : (legA6 c).Is 0 6 c := by revert c; decide +kernel
theorem isB6 : (legB6 c).Is 1 6 c := by revert c; decide +kernel
theorem isA7 : (legA7 c).Is 0 7 c := by revert c; decide +kernel
theorem isB7 : (legB7 c).Is 1 7 c := by revert c; decide +kernel

/-- The five devices signalled. -/
theorem dev1_eq : (⟨k0_dev1 c, k0_dev1_lt c⟩ : Dev nD) = peer 0 c := by revert c; decide +kernel
theorem dev2_eq : (⟨k0_dev2 c, k0_dev2_lt c⟩ : Dev nD) = peer 1 c := by revert c; decide +kernel
theorem dev3_eq : (⟨k0_dev3 c, k0_dev3_lt c⟩ : Dev nD) = peer 2 c := by revert c; decide +kernel
theorem dev4_eq : (⟨k0_dev4 c, k0_dev4_lt c⟩ : Dev nD) = peer 3 c := by revert c; decide +kernel
theorem dev5_eq : (⟨k0_dev5 c, k0_dev5_lt c⟩ : Dev nD) = peer 4 c := by revert c; decide +kernel

/-! ## The sets of elements -/

/-- The rows `[lo, lo+n)` of chain `X`'s half of the columns, in the result buffer and in the receive buffer. -/
def oSet (X : Fin 2) (lo n : ℕ) : Finset S512x512.Idx :=
  Finset.univ.filter fun i => lo ≤ (i 0).val ∧ (i 0).val < lo + n ∧ (i 1).val / 256 = X.val
def rSet (X : Fin 2) (lo n : ℕ) : Finset S576x512.Idx :=
  Finset.univ.filter fun i => lo ≤ (i 0).val ∧ (i 0).val < lo + n ∧ (i 1).val / 256 = X.val

theorem mem_oSet {X : Fin 2} {lo n : ℕ} {i : S512x512.Idx} :
    i ∈ oSet X lo n ↔ lo ≤ (i 0).val ∧ (i 0).val < lo + n ∧ (i 1).val / 256 = X.val := by simp [oSet]
theorem mem_rSet {X : Fin 2} {lo n : ℕ} {i : S576x512.Idx} :
    i ∈ rSet X lo n ↔ lo ≤ (i 0).val ∧ (i 0).val < lo + n ∧ (i 1).val / 256 = X.val := by simp [rSet]

theorem oSet_halves {X : Fin 2} {l n a b : ℕ} (h : Halves l n a b) : oSet X l (2 * n) = oSet X a n ∪ oSet X b n := by
  ext i
  rw [Finset.mem_union, mem_oSet, mem_oSet, mem_oSet]
  rcases h with ⟨rfl, rfl⟩ | ⟨rfl, rfl⟩ <;> omega

theorem oSet_disjoint {X : Fin 2} {l n a b : ℕ} (h : Halves l n a b) : Disjoint (oSet X a n) (oSet X b n) := by
  rw [Finset.disjoint_left]
  intro i hi hj
  rw [mem_oSet] at hi hj
  rcases h with ⟨rfl, rfl⟩ | ⟨rfl, rfl⟩ <;> omega

theorem oSet_cols : (Finset.univ : Finset S512x512.Idx) = oSet 0 0 512 ∪ oSet 1 0 512 := by
  ext i
  have h0 : (i 0).val < 512 := (i 0).isLt
  have h1 : (i 1).val < 512 := (i 1).isLt
  simp only [Finset.mem_univ, Finset.mem_union, mem_oSet, true_iff]
  simp only [Fin.val_zero, Fin.val_one]
  omega

theorem oSet_cols_disjoint : Disjoint (oSet 0 0 512) (oSet 1 0 512) := by
  rw [Finset.disjoint_left]
  intro i hi hj
  rw [mem_oSet] at hi hj
  simp only [Fin.val_zero, Fin.val_one] at hi hj
  omega

/-- The chain and stage of an element of the receive buffer. -/
theorem rSet_cover : (Finset.univ : Finset S576x512.Idx)
    = Finset.univ.biUnion fun j : Fin 2 × Fin 5 => rSet j.1 (rOff (Fin.castLE (by decide) j.2)) (rows (Fin.castLE (by decide) j.2)) := by
  ext i
  have h0 : (i 0).val < 576 := (i 0).isLt
  have h1 : (i 1).val < 512 := (i 1).isLt
  simp only [Finset.mem_univ, Finset.mem_biUnion, mem_rSet, true_and, true_iff]
  obtain ⟨X, hX⟩ : ∃ X : Fin 2, (i 1).val / 256 = X.val := ⟨⟨(i 1).val / 256, by omega⟩, rfl⟩
  have key : ∃ s : Fin 5, rOff (Fin.castLE (by decide) s) ≤ (i 0).val
      ∧ (i 0).val < rOff (Fin.castLE (by decide) s) + rows (Fin.castLE (by decide) s) := by
    generalize (i 0).val = r at h0
    clear hX h1
    revert r; decide +kernel
  obtain ⟨s, hs⟩ := key
  exact ⟨(X, s), hs.1, hs.2, hX⟩

theorem rSet_disjoint (j j' : Fin 2 × Fin 5) (h : j ≠ j') :
    Disjoint (rSet j.1 (rOff (Fin.castLE (by decide) j.2)) (rows (Fin.castLE (by decide) j.2)))
      (rSet j'.1 (rOff (Fin.castLE (by decide) j'.2)) (rows (Fin.castLE (by decide) j'.2))) := by
  rw [Finset.disjoint_left]
  intro i hi hj
  rw [mem_rSet] at hi hj
  have key : ∀ s s' : Fin 5, s ≠ s' → rOff (Fin.castLE (by decide) s) + rows (Fin.castLE (by decide) s) ≤ rOff (Fin.castLE (by decide) s')
      ∨ rOff (Fin.castLE (by decide) s') + rows (Fin.castLE (by decide) s') ≤ rOff (Fin.castLE (by decide) s) := by decide
  have hX : j.1 = j'.1 := Fin.ext (hi.2.2.symm.trans hj.2.2)
  have hs : j.2 ≠ j'.2 := fun e => h (Prod.ext hX e)
  have := key _ _ hs
  omega

theorem emb_oS {lo : ℕ} {X : Fin 2} (h : InO n ![lo, 256 * X.val]) (j : (Tn n).Idx) :
    ((((oS n ![lo, 256 * X.val] h).view.emb j : S512x512.Idx) 0).val = lo + (j 0).val)
      ∧ (((oS n ![lo, 256 * X.val] h).view.emb j : S512x512.Idx) 1).val = 256 * X.val + (j 1).val :=
  ⟨by show lo + 1 * (j 0).val = _; omega, by show 256 * X.val + 1 * (j 1).val = _; omega⟩

theorem emb_rS {lo : ℕ} {X : Fin 2} (h : InR n ![lo, 256 * X.val]) (j : (Tn n).Idx) :
    ((((rS n ![lo, 256 * X.val] h).view.emb j : S576x512.Idx) 0).val = lo + (j 0).val)
      ∧ (((rS n ![lo, 256 * X.val] h).view.emb j : S576x512.Idx) 1).val = 256 * X.val + (j 1).val :=
  ⟨by show lo + 1 * (j 0).val = _; omega, by show 256 * X.val + 1 * (j 1).val = _; omega⟩

/-- The index of a block with given coordinates. -/
def tix (a b : ℕ) (ha : a < n) (hb : b < 256) : (Tn n).Idx := fun k => match k with | 0 => ⟨a, ha⟩ | 1 => ⟨b, hb⟩

theorem set_oS {lo : ℕ} {X : Fin 2} (h : InO n ![lo, 256 * X.val]) : (oS n ![lo, 256 * X.val] h).view.set = oSet X lo n := by
  ext i
  rw [mem_oSet]
  constructor
  · intro hi
    obtain ⟨j, -, rfl⟩ := Finset.mem_map.mp hi
    have := emb_oS h j
    have h0 : (j 0).val < n := (j 0).isLt
    have h1 : (j 1).val < 256 := (j 1).isLt
    omega
  · rintro ⟨h0, h1, h2⟩
    refine Finset.mem_map.mpr ⟨tix ((i 0).val - lo) ((i 1).val - 256 * X.val) (by omega) (by omega), Finset.mem_univ _, ?_⟩
    obtain ⟨e0, e1⟩ := emb_oS h (tix ((i 0).val - lo) ((i 1).val - 256 * X.val) (by omega) (by omega))
    funext a
    refine Fin.ext ?_
    match a with
    | 0 => exact e0.trans (by show lo + ((i 0).val - lo) = _; omega)
    | 1 => exact e1.trans (by show 256 * X.val + ((i 1).val - 256 * X.val) = _; omega)

theorem set_rS {lo : ℕ} {X : Fin 2} (h : InR n ![lo, 256 * X.val]) : (rS n ![lo, 256 * X.val] h).view.set = rSet X lo n := by
  ext i
  rw [mem_rSet]
  constructor
  · intro hi
    obtain ⟨j, -, rfl⟩ := Finset.mem_map.mp hi
    have := emb_rS h j
    have h0 : (j 0).val < n := (j 0).isLt
    have h1 : (j 1).val < 256 := (j 1).isLt
    omega
  · rintro ⟨h0, h1, h2⟩
    refine Finset.mem_map.mpr ⟨tix ((i 0).val - lo) ((i 1).val - 256 * X.val) (by omega) (by omega), Finset.mem_univ _, ?_⟩
    obtain ⟨e0, e1⟩ := emb_rS h (tix ((i 0).val - lo) ((i 1).val - 256 * X.val) (by omega) (by omega))
    funext a
    refine Fin.ext ?_
    match a with
    | 0 => exact e0.trans (by show lo + ((i 0).val - lo) = _; omega)
    | 1 => exact e1.trans (by show 256 * X.val + ((i 1).val - 256 * X.val) = _; omega)

end Cert.KernelIdeal.Ring

end
-- ==== Proof.Schedule.lean ====
module

/-
  What the buffers hold at each stage, and the protocol of the semaphores: which transfer or signal pays each of them,
  by how much, and what it hands over.
-/
public import proofs.«01_k».proof.Proof.Geometry
public import proofs.«01_k».proof.Proof.Gen.KernelIdeal.Launch
public import Idealize.ShloMosaic.Lib.Rounds
public import Idealize.ShloMosaic.Lib.Rounds.Family
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Contents -/

/-- The contents of a buffer of the operand's shape; of the receive buffer. -/
abbrev Blk (F : FTy → Type) := S512x512.Idx → Elt F .bf16
abbrev RBlk (F : FTy → Type) := S576x512.Idx → Elt F .bf16

/-- The rows a device holds before stage `s`, on each chain: where they start and how many. -/
def bN : ℕ → ℕ
  | 0 => 512 | 1 => 256 | 2 => 128 | 3 => 64 | 4 => 64 | 5 => 64 | 6 => 128 | 7 => 256 | _ => 512
def bLo (X : Fin 2) (c : Dev nD) : ℕ → ℕ
  | 0 => 0 | 1 => kLo X 0 c | 2 => kLo X 1 c | 3 => kLo X 2 c | 4 => kLo X 3 c | 5 => kLo X 4 c
  | 6 => kLo X 1 c | 7 => kLo X 0 c | _ => 0

/-- The result buffer of each device before stage `s` of a chain, on the rows it then holds: the stages before 5 add the
    peer's, the later ones take the peer's rows. -/
def St (x : Dev nD → Blk F) (X : Fin 2) : ℕ → Dev nD → Blk F
  | 0 => x
  | s + 1 => fun c i =>
    if s < 5 then FloatOps.addf (φ := .bf16) (St x X s c i) (St x X s (pr X (Fin.ofNat 8 s) c) i)
    else if i ∈ oSet X (kLo X (Fin.ofNat 8 s) (pr X (Fin.ofNat 8 s) c)) (rows (Fin.ofNat 8 s)) then
      St x X s (pr X (Fin.ofNat 8 s) c) i
    else St x X s c i

theorem ofNat_val (s : Fin 8) : Fin.ofNat 8 s.val = s := Fin.ext (Nat.mod_eq_of_lt s.isLt)

theorem St_add (x : Dev nD → Blk F) (X : Fin 2) (s : Fin 8) (hs : s.val < 5) (c : Dev nD) (i : S512x512.Idx) :
    St x X (s.val + 1) c i = FloatOps.addf (φ := .bf16) (St x X s.val c i) (St x X s.val (pr X s c) i) := by
  conv_lhs => unfold St
  rw [if_pos hs, ofNat_val]

theorem St_keep (x : Dev nD → Blk F) (X : Fin 2) (s : Fin 8) (hs : ¬ s.val < 5) (c : Dev nD) (i : S512x512.Idx) :
    St x X (s.val + 1) c i = if i ∈ oSet X (kLo X s (pr X s c)) (rows s) then St x X s.val (pr X s c) i else St x X s.val c i := by
  conv_lhs => unfold St
  rw [if_neg hs, ofNat_val]

/-- The element of the result buffer an element of the receive buffer is added to. -/
def toO (X : Fin 2) (s : Fin 8) (d : Dev nD) (i : S576x512.Idx) : S512x512.Idx := fun k => match k with
  | 0 => ⟨((i 0).val - rOff s + kLo X s d) % 512, Nat.mod_lt _ (by decide)⟩
  | 1 => ⟨(i 1).val, (i 1).isLt⟩

/-- What the receive buffer holds once a stage's copy has landed. -/
def landed (x : Dev nD → Blk F) (X : Fin 2) (s : Fin 8) (d : Dev nD) : RBlk F := fun i =>
  St x X s.val (pr X s d) (toO X s d i)

/-! ## Resources -/

/-- The semaphores' ghost state: the pipeline's and the protocol's. -/
abbrev UU : Type := UR sig nD τ × URounds (GSem nD τ sig) (Fin 5)

local notation "𝕄" => MT nD τ sig Unit (Elt F) ℕ UU ℕ

abbrev EP : Emb (UR sig nD τ) (MT nD τ sig Unit (Elt F) ℕ UU ℕ) := embL
abbrev ER : Emb (URounds (GSem nD τ sig) (Fin 5)) (MT nD τ sig Unit (Elt F) ℕ UU ℕ) := embR

abbrev barCell (c : Dev nD) : GSem nD τ sig := ((c : Thread nD τ), .reg barS)
abbrev sendCell (X : Fin 2) (s : Fin 8) (c : Dev nD) : GSem nD τ sig := ((c : Thread nD τ), .dma (ssem X s))
abbrev recvCell (X : Fin 2) (s : Fin 8) (c : Dev nD) : GSem nD τ sig := ((c : Thread nD τ), .dma (rsem X s))

/-- Rows of the result buffer, and of the receive buffer, held whole at given contents. -/
abbrev oPts (c : Dev nD) (X : Fin 2) (lo n : ℕ) (f : Blk F) : sProp 𝕄 :=
  oM.view.loc (c : Thread nD τ) ↦[oSet X lo n]{fullShare} f
abbrev rPts (c : Dev nD) (X : Fin 2) (s : Fin 8) (f : RBlk F) : sProp 𝕄 :=
  rM.view.loc (c : Thread nD τ) ↦[rSet X (rOff s) (rows s)]{fullShare} f

/-- The units a stage's copy credits. -/
def N (s : Fin 8) : ℕ := RefSig.tileCredit (Tn (rows s)) .bf16

theorem N_eq (s : Fin 8) (m : Memref sig .tc .vmem (Tn (rows s)) .bf16) : m.view.dmaCredit = N s := rfl

theorem numel_pos (s : Fin 8) : 0 < (Tn (rows s)).numel := by revert s; decide

theorem N_pos (s : Fin 8) : 0 < N s :=
  lt_of_lt_of_eq (View.dmaCredit_pos (oM.slice (Rect.unit (s := S512x512) ![0, 0] (Tn (rows s)).size
    (by revert s; decide)) (fun _ => rfl)).view (numel_pos s)) rfl

/-- The stage of each chain that runs along a bit on the way down. -/
def st (X : Fin 2) (k : Fin 5) : Fin 8 := if X = 0 then ![4, 3, 2, 1, 0] k else ![3, 4, 1, 0, 2] k

/-- A device's receive cells have all reached their only round. -/
def ready (c : Dev nD) : sProp 𝕄 := bigSep Finset.univ fun j : Fin 2 × Fin 8 => reached ER (recvCell j.1 j.2 c) 0

instance ready_persistent (c : Dev nD) : BI.Persistent (ready (F := F) c) := by unfold ready; infer_instance
instance ready_storable (c : Dev nD) : BI.Storable (upEmb : UEmb _ 𝕄) (ready (F := F) c) := by unfold ready; infer_instance

/-- The parts of a device's receive buffer that its peer along a bit writes. -/
def rAny (c : Dev nD) (k : Fin 5) : sProp 𝕄 := bigSep Finset.univ fun X : Fin 2 => iprop(∃ f, rPts (F := F) c X (st X k) f)

/-- What a signal along a bit hands over. -/
def barPay (c : Dev nD) (k : Fin 5) : sProp 𝕄 := iprop(rAny (F := F) (peer k c) k ∗ ready (peer k c))

variable (x : Dev nD → Blk F)

/-- What the departure of a stage's copy hands back: at the halving stages nothing, the source rows going along; -/
def sendPay (X : Fin 2) (s : Fin 8) (c : Dev nD) : sProp 𝕄 :=
  if s.val ≤ 2 then iprop(emp) else oPts c X (kLo X s c) (rows s) (St x X s.val c)

/-- the peer's rows a halving stage gives up, which stay with the receiver until the stage that writes them back; -/
def kept (X : Fin 2) (s : Fin 8) (c : Dev nD) : sProp 𝕄 :=
  if s.val ≤ 2 then iprop(∃ f, oPts (F := F) (pr X s c) X (kLo X s c) (rows s) f) else iprop(emp)

/-- and what the arrival of the peer's copy hands over. -/
def recvPay (X : Fin 2) (s : Fin 8) (c : Dev nD) : sProp 𝕄 :=
  if s.val ≤ 4 then iprop(rPts c X s (landed x X s c) ∗ kept (F := F) X s c)
  else oPts c X (kLo X s (pr X s c)) (rows s) (St x X s.val (pr X s c))

instance sendPay_storable (X : Fin 2) (s : Fin 8) (c : Dev nD) : BI.Storable (upEmb : UEmb _ 𝕄) (sendPay x X s c) := by
  unfold sendPay; (repeat' split) <;> infer_instance
instance kept_storable (X : Fin 2) (s : Fin 8) (c : Dev nD) : BI.Storable (upEmb : UEmb _ 𝕄) (kept (F := F) X s c) := by
  unfold kept; (repeat' split) <;> infer_instance
instance recvPay_storable (X : Fin 2) (s : Fin 8) (c : Dev nD) : BI.Storable (upEmb : UEmb _ 𝕄) (recvPay x X s c) := by
  unfold recvPay; (repeat' split) <;> infer_instance
instance barPay_storable (c : Dev nD) (k : Fin 5) : BI.Storable (upEmb : UEmb _ 𝕄) (barPay (F := F) c k) := by
  unfold barPay rAny; infer_instance

/-- The payload of the `k`-th transfer semaphore. -/
def dmaPay (c : Dev nD) (k : Fin 34) : sProp 𝕄 :=
  if k.val < 2 then iprop(emp)
  else if (k.val - 2) / 8 % 2 = 0 then sendPay x (Fin.ofNat 2 ((k.val - 2) / 16)) (Fin.ofNat 8 (k.val - 2)) c
  else recvPay x (Fin.ofNat 2 ((k.val - 2) / 16)) (Fin.ofNat 8 (k.val - 2)) c

instance dmaPay_storable (c : Dev nD) (k : Fin 34) : BI.Storable (upEmb : UEmb _ 𝕄) (dmaPay x c k) := by
  unfold dmaPay; (repeat' split) <;> infer_instance

/-- One round: five signals on the barrier, one transfer on each of the transfer semaphores. -/
def Rd : Rounds.Schedule (GSem nD τ sig) (Fin 5) 𝕄 where
  duties g r := if r = 0 ∧ g.1.2 = .tc then (match g.2 with | .reg _ => Finset.univ | .dma k => if 2 ≤ k.val then {0} else ∅) else ∅
  unitless _ := False
  amount g _ _ := match g.2 with | .reg _ => 1 | .dma k => N (Fin.ofNat 8 (k.val - 2))
  payload g _ d := match g.2 with | .reg _ => barPay g.1.1 d | .dma k => dmaPay x g.1.1 k
  amount_pos g _ _ _ := by
    split
    · exact Nat.one_pos
    · exact N_pos _

instance Rd_payload_storable (g : GSem nD τ sig) (r : ℕ) (d : Fin 5) : BI.Storable (upEmb : UEmb _ 𝕄) ((Rd x).payload g r d) := by
  show BI.Storable upEmb (match g.2 with | .reg _ => barPay g.1.1 d | .dma k => dmaPay x g.1.1 k)
  split <;> infer_instance

section Sched

variable (X : Fin 2) (s : Fin 8) (c : Dev nD)

theorem duties_bar : (Rd x).duties (barCell c) 0 = Finset.univ := by dsimp only [Rd]; exact if_pos ⟨rfl, rfl⟩
theorem duties_send : (Rd x).duties (sendCell X s c) 0 = {0} := by
  dsimp only [Rd]; rw [if_pos ⟨rfl, rfl⟩, if_pos]; show 2 ≤ 2 + 16 * X.val + s.val; omega
theorem duties_recv : (Rd x).duties (recvCell X s c) 0 = {0} := by
  dsimp only [Rd]; rw [if_pos ⟨rfl, rfl⟩, if_pos]; show 2 ≤ 10 + 16 * X.val + s.val; omega
theorem duties_later (g : GSem nD τ sig) : ∀ r, 1 ≤ r → (Rd x).duties g r = ∅ :=
  fun r hr => by dsimp only [Rd]; rw [if_neg (fun h => by omega)]

theorem amount_bar (d : Fin 5) : (Rd x).amount (barCell c) 0 d = 1 := rfl
theorem ofNat_send : (Fin.ofNat 8 ((ssem X s : Fin 34).val - 2)) = s :=
  Fin.ext (by show (2 + 16 * X.val + s.val - 2) % 8 = s.val; omega)
theorem ofNat_recv : (Fin.ofNat 8 ((rsem X s : Fin 34).val - 2)) = s :=
  Fin.ext (by show (10 + 16 * X.val + s.val - 2) % 8 = s.val; omega)
theorem amount_send (d : Fin 5) : (Rd x).amount (sendCell X s c) 0 d = N s := by
  show N (Fin.ofNat 8 ((ssem X s : Fin 34).val - 2)) = N s; rw [ofNat_send]
theorem amount_recv (d : Fin 5) : (Rd x).amount (recvCell X s c) 0 d = N s := by
  show N (Fin.ofNat 8 ((rsem X s : Fin 34).val - 2)) = N s; rw [ofNat_recv]

theorem expect_bar : (Rd x).expect (barCell c) 0 = 5 := by
  unfold Schedule.expect Schedule.amountOf; rw [duties_bar]; rfl
theorem expect_send : (Rd x).expect (sendCell X s c) 0 = N s := by
  unfold Schedule.expect Schedule.amountOf; rw [duties_send, Finset.sum_singleton, amount_send]
theorem expect_recv : (Rd x).expect (recvCell X s c) 0 = N s := by
  unfold Schedule.expect Schedule.amountOf; rw [duties_recv, Finset.sum_singleton, amount_recv]

theorem payload_bar (d : Fin 5) : (Rd x).payload (barCell c) 0 d = barPay c d := rfl
theorem payload_send (d : Fin 5) : (Rd x).payload (sendCell X s c) 0 d = sendPay x X s c := by
  show dmaPay x c (ssem X s) = _
  unfold dmaPay
  have h : (ssem X s : Fin 34).val = 2 + 16 * X.val + s.val := rfl
  rw [if_neg (by omega), if_pos (by omega), ofNat_send,
    show Fin.ofNat 2 (((ssem X s : Fin 34).val - 2) / 16) = X from Fin.ext (by show _ % 2 = _; omega)]
theorem payload_recv (d : Fin 5) : (Rd x).payload (recvCell X s c) 0 d = recvPay x X s c := by
  show dmaPay x c (rsem X s) = _
  unfold dmaPay
  have h : (rsem X s : Fin 34).val = 10 + 16 * X.val + s.val := rfl
  rw [if_neg (by omega), if_neg (by omega), ofNat_recv,
    show Fin.ofNat 2 (((rsem X s : Fin 34).val - 2) / 16) = X from Fin.ext (by show _ % 2 = _; omega)]

theorem rest_bar : bigSep ((Rd x).duties (barCell c) 0 \ ∅) (fun d => (Rd x).payload (barCell c) 0 d)
    = bigSep Finset.univ fun k : Fin 5 => barPay c k := by rw [Finset.sdiff_empty, duties_bar]; rfl
theorem rest_send : bigSep ((Rd x).duties (sendCell X s c) 0 \ ∅) (fun d => (Rd x).payload (sendCell X s c) 0 d) = sendPay x X s c := by
  rw [Finset.sdiff_empty, duties_send, bigSep_singleton, payload_send]
theorem rest_recv : bigSep ((Rd x).duties (recvCell X s c) 0 \ ∅) (fun d => (Rd x).payload (recvCell X s c) 0 d) = recvPay x X s c := by
  rw [Finset.sdiff_empty, duties_recv, bigSep_singleton, payload_recv]

end Sched

/-! ## What each device owes; the levels -/

/-- The credits of the listed stages' copies, owed to the peers; the last of them outermost first. -/
def oweL (c : Dev nD) : List (Fin 2 × Fin 8) → CellTallies nD τ sig Unit
  | [] => 0
  | j :: l => oweL c l + tallyAt (recvCell j.1 j.2 (pr j.1 j.2 c)) () (N j.2)

/-- The stages in the order their copies are issued. -/
abbrev legs : List (Fin 2 × Fin 8) :=
  [(0, 0), (1, 0), (0, 1), (1, 1), (0, 2), (1, 2), (0, 3), (1, 3), (0, 4), (1, 4), (0, 5), (1, 5), (0, 6), (1, 6), (0, 7), (1, 7)]

def oweB (c : Dev nD) : List (Fin 5) → CellTallies nD τ sig Unit
  | [] => oweL c legs
  | k :: l => oweB c l + tallyAt (barCell (peer k c)) () 1

def O₀ (c : Dev nD) : CellTallies nD τ sig Unit := oweB c [0, 1, 2, 3, 4]

def L (g : GSem nD τ sig) : Finset Unit := if g.1.2 = .tc then {()} else ∅

/-- The barrier below the receive cells, these in the order of the stages, all others at the bottom. -/
def lvS : SemLoc sig → ℕ
  | .reg _ => 1
  | .dma k => if k.val < 2 ∨ (k.val - 2) / 8 % 2 = 0 then 0 else 2 + 2 * ((k.val - 2) % 8) + (k.val - 2) / 16
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_send (X : Fin 2) (s : Fin 8) : lvS (.dma (ssem X s)) = 0 :=
  if_pos (Or.inr (by show (2 + 16 * X.val + s.val - 2) / 8 % 2 = 0; omega))
theorem lvS_recv (X : Fin 2) (s : Fin 8) : lvS (.dma (rsem X s)) = 2 + 2 * s.val + X.val := by
  have h : (rsem X s : Fin 34).val = 10 + 16 * X.val + s.val := rfl
  refine (if_neg (by omega)).trans ?_
  omega

theorem oweL_pos {c : Dev nD} {l : List (Fin 2 × Fin 8)} {g : GSem nD τ sig} {u : Unit} (h : 0 < oweL c l g u) :
    ∃ j ∈ l, g = recvCell j.1 j.2 (pr j.1 j.2 c) := by
  induction l with
  | nil => exact absurd h (Nat.lt_irrefl 0)
  | cons j l ih =>
    unfold oweL at h
    rw [Pi.add_apply, Finsupp.add_apply] at h
    rcases Nat.add_pos_iff_pos_or_pos.mp h with h | h
    · obtain ⟨j', hj, e⟩ := ih h
      exact ⟨j', List.mem_cons_of_mem _ hj, e⟩
    · rw [tallyAt_apply] at h
      split at h
      · next hg => exact ⟨j, List.mem_cons_self, hg.1⟩
      · exact absurd h (Nat.lt_irrefl 0)

theorem oweB_pos {c : Dev nD} {l : List (Fin 5)} {g : GSem nD τ sig} {u : Unit} (h : 0 < oweB c l g u) :
    (∃ j ∈ legs, g = recvCell j.1 j.2 (pr j.1 j.2 c)) ∨ ∃ k, g = barCell (peer k c) := by
  induction l with
  | nil => exact .inl (oweL_pos h)
  | cons j l ih =>
    unfold oweB at h
    rw [Pi.add_apply, Finsupp.add_apply] at h
    rcases Nat.add_pos_iff_pos_or_pos.mp h with h | h
    · exact ih h
    · rw [tallyAt_apply] at h
      split at h
      · next hg => exact .inr ⟨j, hg.1⟩
      · exact absurd h (Nat.lt_irrefl 0)

/-- A semaphore below every cell still owed may be waited for. -/
theorem mayWait (c : Dev nD) (sm : SemLoc sig) (l : List (Fin 2 × Fin 8)) (h : ∀ j ∈ l, lvS sm < 2 + 2 * j.2.val + j.1.val) :
    (levAts L lv : sProp 𝕄) ⊢ MayWait (c : Thread nD τ) sm () (oweL c l) :=
  MayOwe.of_cut (L := L) (lev := lv) (lvS sm)
    (fun p hp => by rw [Finset.mem_singleton.mp hp, L_tc]; exact Finset.mem_singleton_self _)
    (fun g u hg => by
      obtain ⟨j, -, rfl⟩ := oweL_pos hg
      rw [L_tc]; exact Finset.mem_singleton_self _)
    (fun p hp => by rw [Finset.mem_singleton.mp hp]; exact le_refl _)
    (fun g u hg => by
      obtain ⟨j, hj, rfl⟩ := oweL_pos hg
      show lvS sm < lvS (.dma (rsem j.1 j.2))
      rw [lvS_recv]; exact h j hj)

end Cert.KernelIdeal.Ring

end
-- ==== Proof.Legs.lean ====
module

/-
  The steps of one chain's part of a stage: the copy to the peer, the two waits, the addition.
-/
public import proofs.«01_k».proof.Proof.Schedule
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- A device's program runs to `Q`. -/
abbrev WP (c : Dev nD) (p : PR F) (Q : PUnit → sProp 𝕄) : sProp 𝕄 := wp frame (wpE (defs₀ (F := F)) 𝒱₀ c none) Set.univ p Q

/-! ## The cells -/

/-- The kernel's own transfer semaphores: sending or receiving, chain, stage. -/
abbrev osem : Fin 2 × Fin 2 × Fin 8 → SemLoc sig := fun j => .dma (if j.1 = 0 then ssem j.2.1 j.2.2 else rsem j.2.1 j.2.2)

theorem osem_inj : Function.Injective osem := by decide +kernel
theorem osem_ne_bar (j : Fin 2 × Fin 2 × Fin 8) : osem j ≠ .reg barS := fun h => by cases h

def barEmb : Dev nD ↪ GSem nD τ sig := ⟨fun c => barCell c, fun _ _ h => congrArg (fun g : GSem nD τ sig => g.1.1) h⟩
def dmaEmb : Dev nD × Fin 2 × Fin 2 × Fin 8 ↪ GSem nD τ sig :=
  ⟨fun j => ((j.1 : Thread nD τ), osem j.2), fun _ _ h =>
    Prod.ext (congrArg (fun g : GSem nD τ sig => g.1.1) h) (osem_inj (congrArg Prod.snd h))⟩

abbrev barCells : Finset (GSem nD τ sig) := Finset.univ.map barEmb
abbrev dmaCells : Finset (GSem nD τ sig) := Finset.univ.map dmaEmb
abbrev cells : Finset (GSem nD τ sig) := barCells ∪ dmaCells

theorem mem_bar (c : Dev nD) : barCell c ∈ cells := Finset.mem_union_left _ (Finset.mem_map_of_mem barEmb (Finset.mem_univ c))
theorem mem_send (X : Fin 2) (s : Fin 8) (c : Dev nD) : sendCell X s c ∈ cells :=
  Finset.mem_union_right _ (Finset.mem_map_of_mem dmaEmb (Finset.mem_univ (c, (0 : Fin 2), X, s)))
theorem mem_recv (X : Fin 2) (s : Fin 8) (c : Dev nD) : recvCell X s c ∈ cells :=
  Finset.mem_union_right _ (Finset.mem_map_of_mem dmaEmb (Finset.mem_univ (c, (1 : Fin 2), X, s)))

variable (x : Dev nD → Blk F)

/-- Every cell's invariant, under one map of names. -/
def invs (K : GSem nD τ sig → ℕ) : sProp 𝕄 := bigSep cells fun g => cellInv ER (Rd x) (K g) g

instance invs_persistent (K : GSem nD τ sig → ℕ) : BI.Persistent (invs x K) := by unfold invs; infer_instance

theorem inv_at (K : GSem nD τ sig → ℕ) {g : GSem nD τ sig} (hg : g ∈ cells) : invs x K ⊢ cellInv ER (Rd x) (K g) g := by
  unfold invs; exact bigSep_elim hg

theorem ready_at (X : Fin 2) (s : Fin 8) (c : Dev nD) : ready c ⊢ (reached ER (recvCell X s c) 0 : sProp 𝕄) := by
  unfold ready; exact bigSep_elim (Finset.mem_univ (X, s))

/-! ## Blocks held -/

theorem oS_pts (c : Dev nD) (X : Fin 2) (lo n : ℕ) (h : InO n ![lo, 256 * X.val]) (f : Blk F) :
    ((oS n ![lo, 256 * X.val] h).view.loc (c : Thread nD τ) ↦[(oS n ![lo, 256 * X.val] h).view.set]{fullShare} f : sProp 𝕄)
      = oPts c X lo n f := by rw [set_oS]

theorem rS_pts (c : Dev nD) (X : Fin 2) (s : Fin 8) (h : InR (rows s) ![rOff s, 256 * X.val]) (f : RBlk F) :
    ((rS (rows s) ![rOff s, 256 * X.val] h).view.loc (c : Thread nD τ) ↦[(rS (rows s) ![rOff s, 256 * X.val] h).view.set]{fullShare} f : sProp 𝕄)
      = rPts c X s f := by rw [set_rS]

theorem oPts_congr {c : Dev nD} {X : Fin 2} {lo n : ℕ} {f g : Blk F} (h : ∀ i ∈ oSet X lo n, f i = g i) :
    (oPts c X lo n f : sProp 𝕄) = oPts c X lo n g := pointsTo_congr h

theorem rPts_congr {c : Dev nD} {X : Fin 2} {s : Fin 8} {f g : RBlk F} (h : ∀ i ∈ rSet X (rOff s) (rows s), f i = g i) :
    (rPts c X s f : sProp 𝕄) = rPts c X s g := pointsTo_congr h

/-- An element of the receive buffer's block goes to the like element of the kept block. -/
theorem toO_emb (X : Fin 2) (s : Fin 8) (d : Dev nD) (lo : ℕ) (hlo : lo = kLo X s d) (h : InO (rows s) ![lo, 256 * X.val])
    (h' : InR (rows s) ![rOff s, 256 * X.val]) (j : (Tn (rows s)).Idx) :
    toO X s d ((rS (rows s) ![rOff s, 256 * X.val] h').view.emb j) = (oS (rows s) ![lo, 256 * X.val] h).view.emb j := by
  subst hlo
  obtain ⟨e0, e1⟩ := emb_oS h j
  obtain ⟨d0, d1⟩ := emb_rS h' j
  have hl := kLo_lt X s d
  have hj : (j 0).val < rows s := (j 0).isLt
  funext a
  refine Fin.ext ?_
  match a with
  | 0 =>
    refine Eq.trans ?_ e0.symm
    show (_ - rOff s + kLo X s d) % 512 = _
    rw [d0, Nat.mod_eq_of_lt (by omega)]; omega
  | 1 => exact d1.trans e1.symm

/-- What a copy into the receive buffer leaves there. -/
theorem landed_eq (X : Fin 2) (s : Fin 8) (hs : s.val ≤ 4) (c : Dev nD) (h : InO (rows s) ![sLo X s c, 256 * X.val])
    (h' : InR (rows s) ![rOff s, 256 * X.val]) (fd : RBlk F) :
    (rPts (pr X s c) X s ((rS (rows s) ![rOff s, 256 * X.val] h').view.write (Elt F) fd
      ((oS (rows s) ![sLo X s c, 256 * X.val] h).view.read (Elt F) (St x X s.val c)) Finset.univ) : sProp 𝕄)
      = rPts (pr X s c) X s (landed x X s (pr X s c)) := by
  refine rPts_congr fun i hi => ?_
  rw [← set_rS h'] at hi
  obtain ⟨j, -, rfl⟩ := Finset.mem_map.mp hi
  refine ((rS (rows s) ![rOff s, 256 * X.val] h').view.write_emb_of_mem fd _ (Finset.mem_univ j)).trans ?_
  show St x X s.val c ((oS (rows s) ![sLo X s c, 256 * X.val] h).view.emb j) = St x X s.val (pr X s (pr X s c)) _
  rw [pr_pr]
  congr 1
  refine (toO_emb X s (pr X s c) _ ?_ h h' j).symm
  rw [kLo_pr]
  by_cases h2 : s.val ≤ 2
  · rw [if_neg (by omega), if_pos h2]
  · rw [if_pos ⟨by omega, hs⟩]; unfold sLo; rw [if_neg h2]

/-- What a copy between result buffers leaves on the peer. -/
theorem copied_eq (X : Fin 2) (lo n : ℕ) (d : Dev nD) (h : InO n ![lo, 256 * X.val]) (fd fs : Blk F) :
    (oPts d X lo n ((oS n ![lo, 256 * X.val] h).view.write (Elt F) fd
      ((oS n ![lo, 256 * X.val] h).view.read (Elt F) fs) Finset.univ) : sProp 𝕄) = oPts d X lo n fs := by
  refine oPts_congr fun i hi => ?_
  rw [← set_oS h] at hi
  obtain ⟨j, -, rfl⟩ := Finset.mem_map.mp hi
  exact (oS n ![lo, 256 * X.val] h).view.write_emb_of_mem fd _ (Finset.mem_univ j)

/-! ## Sending -/

/-- The tokens of the two cells a stage's copy pays. -/
def toks (X : Fin 2) (s : Fin 8) (c : Dev nD) : sProp 𝕄 :=
  iprop(dutyTok ER (sendCell X s c) 0 0 ∗ dutyTok ER (recvCell X s (pr X s c)) 0 0)

variable {c : Dev nD} {X : Fin 2} {s : Fin 8}

theorem AddLeg.wp_send (a : AddLeg (rows s)) (ha : a.Is X s c) (hs : s.val ≤ 4) (K : GSem nD τ sig → ℕ)
    (l : List (Fin 2 × Fin 8)) (W : Waits sig Unit) (k : PR F) (Q : PUnit → sProp 𝕄) :
    iprop(invs x K ∗ ready (pr X s c) ∗ reached ER (sendCell X s c) 0 ∗ toks X s c
        ∗ oPts c X (sLo X s c) (rows s) (St x X s.val c) ∗ (∃ f, rPts (pr X s c) X s f)
        ∗ owes (c : Thread nD τ) (oweL c ((X, s) :: l)) W)
      ⊢ iprop(((cred (tallyAt (sendCell X s c) () (N s)) ∗ owes (c : Thread nD τ) (oweL c l) W) -∗ WP c k Q)
        -∗ WP c (a.send k) Q) := by
  obtain ⟨so, ro, ko, hso, hro, hko, wso, wro, pko, dev, ss, rs⟩ := a
  obtain ⟨h1, h2, -, h4, h5, h6⟩ := ha
  dsimp only at h1 h2 h4 h5 h6
  subst h1 h2 h4 h5 h6
  unfold toks
  iintro ⟨#HI, #HV, #HS, ⟨Ht, Ht'⟩, Ho, ⟨%fd, Hr⟩, HO⟩ Hk
  unfold AddLeg.send
  by_cases h2 : s.val ≤ 2
  · iapply (Rounds.wp_send_landing_pointsTo 𝒱₀ ER (Rd x) (c : Thread nD τ) none (c' := (pr X s c : Thread nD τ))
        (sS := .dma (ssem X s)) (sem := .dma (rsem X s)) (q := fullShare) (fs := St x X s.val c) (fd := fd)
        (κ₁ := K (sendCell X s c)) (κ₂ := K (recvCell X s (pr X s c))) (r₁ := 0) (r₂ := 0) (d₁ := 0) (d₂ := 0)
        (by rw [duties_send]; exact Finset.mem_singleton_self _) (by rw [duties_recv]; exact Finset.mem_singleton_self _)
        () () (N s) rfl (amount_send x X s c 0) (amount_recv x X s (pr X s c) 0) (oweL c l) rfl (W := W)
        (by rw [payload_send]; unfold sendPay; rw [if_pos h2])
        (by
          rw [payload_recv, rS_pts, oS_pts, landed_eq x X s hs c]
          unfold recvPay kept
          rw [if_pos hs, if_pos h2, pr_pr]
          refine sep_mono_right ?_
          have e : sLo X s c = kLo X s (pr X s c) := by rw [kLo_pr, if_neg (by omega), if_pos h2]
          rw [e]
          iintro H; iexists _; iexact H)) $$ [Ho Hr HO Ht Ht']
    · isplitr; · iapply (inv_at x K (mem_send X s c)); iexact HI
      isplitr; · iapply (inv_at x K (mem_recv X s (pr X s c))); iexact HI
      isplitl [Ho]; · iapply (Entails.of_eq (oS_pts c X _ _ _ _).symm); iexact Ho
      isplitl [Hr]; · iapply (Entails.of_eq (rS_pts _ X s _ _).symm); iexact Hr
      isplitl [HO]; · iexact HO
      isplitl [Ht]; · iexact Ht
      isplitr; · iexact HS
      isplitl [Ht']; · iexact Ht'
      iapply (ready_at X s (pr X s c)); iexact HV
    iexact Hk
  · iapply (Rounds.wp_send_pointsTo 𝒱₀ ER (Rd x) (c : Thread nD τ) none (c' := (pr X s c : Thread nD τ))
        (sS := .dma (ssem X s)) (sem := .dma (rsem X s)) (q := fullShare) (fs := St x X s.val c) (fd := fd)
        (κ₁ := K (sendCell X s c)) (κ₂ := K (recvCell X s (pr X s c))) (r₁ := 0) (r₂ := 0) (d₁ := 0) (d₂ := 0)
        (by rw [duties_send]; exact Finset.mem_singleton_self _) (by rw [duties_recv]; exact Finset.mem_singleton_self _)
        () () (N s) rfl (amount_send x X s c 0) (amount_recv x X s (pr X s c) 0) (oweL c l) rfl (W := W)
        (by
          rw [payload_send, oS_pts]; unfold sendPay; rw [if_neg h2]
          have e : sLo X s c = kLo X s c := by unfold sLo; rw [if_neg h2]
          rw [e])
        (by
          rw [payload_recv, rS_pts, landed_eq x X s hs c]
          unfold recvPay kept
          rw [if_pos hs, if_neg h2]
          exact (sep_emp (PROP := sProp 𝕄)).2)) $$ [Ho Hr HO Ht Ht']
    · isplitr; · iapply (inv_at x K (mem_send X s c)); iexact HI
      isplitr; · iapply (inv_at x K (mem_recv X s (pr X s c))); iexact HI
      isplitl [Ho]; · iapply (Entails.of_eq (oS_pts c X _ _ _ _).symm); iexact Ho
      isplitl [Hr]; · iapply (Entails.of_eq (rS_pts _ X s _ _).symm); iexact Hr
      isplitl [HO]; · iexact HO
      isplitl [Ht]; · iexact Ht
      isplitr; · iexact HS
      isplitl [Ht']; · iexact Ht'
      iapply (ready_at X s (pr X s c)); iexact HV
    iexact Hk

theorem KeepLeg.wp_send (a : KeepLeg (rows s)) (ha : a.Is X s c) (hs : ¬ s.val ≤ 4) (K : GSem nD τ sig → ℕ)
    (l : List (Fin 2 × Fin 8)) (W : Waits sig Unit) (k : PR F) (Q : PUnit → sProp 𝕄) :
    iprop(invs x K ∗ ready (pr X s c) ∗ reached ER (sendCell X s c) 0 ∗ toks X s c
        ∗ oPts c X (sLo X s c) (rows s) (St x X s.val c) ∗ (∃ f, oPts (pr X s c) X (sLo X s c) (rows s) f)
        ∗ owes (c : Thread nD τ) (oweL c ((X, s) :: l)) W)
      ⊢ iprop(((cred (tallyAt (sendCell X s c) () (N s)) ∗ owes (c : Thread nD τ) (oweL c l) W) -∗ WP c k Q)
        -∗ WP c (a.send k) Q) := by
  obtain ⟨so, hso, wso, dev, ss, rs⟩ := a
  obtain ⟨h1, h4, h5, h6⟩ := ha
  dsimp only at h1 h4 h5 h6
  subst h1 h4 h5 h6
  unfold toks
  iintro ⟨#HI, #HV, #HS, ⟨Ht, Ht'⟩, Ho, ⟨%fd, Hr⟩, HO⟩ Hk
  unfold KeepLeg.send
  have e : sLo X s c = kLo X s c := by unfold sLo; rw [if_neg (by omega)]
  iapply (Rounds.wp_send_pointsTo 𝒱₀ ER (Rd x) (c : Thread nD τ) none (c' := (pr X s c : Thread nD τ))
      (sS := .dma (ssem X s)) (sem := .dma (rsem X s)) (q := fullShare) (fs := St x X s.val c) (fd := fd)
      (κ₁ := K (sendCell X s c)) (κ₂ := K (recvCell X s (pr X s c))) (r₁ := 0) (r₂ := 0) (d₁ := 0) (d₂ := 0)
      (by rw [duties_send]; exact Finset.mem_singleton_self _) (by rw [duties_recv]; exact Finset.mem_singleton_self _)
      () () (N s) rfl (amount_send x X s c 0) (amount_recv x X s (pr X s c) 0) (oweL c l) rfl (W := W)
      (by rw [payload_send, oS_pts]; unfold sendPay; rw [if_neg (by omega), e])
      (by rw [payload_recv, oS_pts, copied_eq]; unfold recvPay; rw [if_neg hs, pr_pr, e])) $$ [Ho Hr HO Ht Ht']
  · isplitr; · iapply (inv_at x K (mem_send X s c)); iexact HI
    isplitr; · iapply (inv_at x K (mem_recv X s (pr X s c))); iexact HI
    isplitl [Ho]; · iapply (Entails.of_eq (oS_pts c X _ _ _ _).symm); iexact Ho
    isplitl [Hr]; · iapply (Entails.of_eq (oS_pts _ X _ _ _ _).symm); iexact Hr
    isplitl [HO]; · iexact HO
    isplitl [Ht]; · iexact Ht
    isplitr; · iexact HS
    isplitl [Ht']; · iexact Ht'
    iapply (ready_at X s (pr X s c)); iexact HV
  iexact Hk

/-! ## Waiting -/

/-- A device's positions on a stage's two cells, before and after its waits. -/
def pos (X : Fin 2) (s : Fin 8) (c : Dev nD) (r : ℕ) : sProp 𝕄 :=
  iprop(atPos ER (sendCell X s c) r ∅ 0 ∗ atPos ER (recvCell X s c) r ∅ 0)

/-- The waits for a departure and for an arrival, whatever the buffers they name, as long as these are the stage's size. -/
theorem wp_waits {m₁ m₂ m₃ m₄ : Memref sig .tc .vmem (Tn (rows s)) .bf16} {w₁ w₂ w₃ w₄} (K : GSem nD τ sig → ℕ)
    (l : List (Fin 2 × Fin 8)) (hl : ∀ j ∈ l, 2 * s.val + X.val < 2 * j.2.val + j.1.val) (W : Waits sig Unit) (k : PR F) (Q : PUnit → sProp 𝕄) :
    iprop(invs x K ∗ levAts L lv ∗ pos X s c 0
        ∗ cred (tallyAt (sendCell X s c) () (N s)) ∗ cred (tallyAt (recvCell X s c) () (N s))
        ∗ owes (c : Thread nD τ) (oweL c l) W)
      ⊢ iprop((((∃ W, owes (c : Thread nD τ) (oweL c l) W) ∗ pos X s c 1 ∗ sendPay x X s c ∗ recvPay x X s c) -∗ WP c k Q)
        -∗ WP c (.op (.waitDma2 (ssem X s) m₁ m₂ w₁ w₂) fun _ => .op (.waitDma2 (rsem X s) m₃ m₄ w₃ w₄) fun _ => k) Q) := by
  unfold pos
  iintro ⟨#HI, #Hlev, ⟨HaS, HaR⟩, HcS, HcR, HO⟩ Hk
  iapply (Rounds.wp_wait_rest_token 𝒱₀ ER (Rd x) (c : Thread nD τ) none (sm := .dma (ssem X s)) (κ := K (sendCell X s c))
      (wpE_waitDma2_eq (src := m₁) (dst := m₂) 𝒱₀ (c : Thread nD τ) none Set.univ) (Set.mem_univ _) () (O := oweL c l) (W := W) (R := 0) (m := 0) (T := ∅)
      ((Nat.zero_add _).trans (expect_send x X s c).symm)) $$ [HcS HO HaS]
  · isplitr; · iapply (inv_at x K (mem_send X s c)); iexact HI
    isplitl [HcS]; · iexact HcS
    isplitl [HO]; · iexact HO
    isplitr; · iapply (mayWait c (.dma (ssem X s)) l fun j hj => by rw [lvS_send]; omega); iexact Hlev
    iexact HaS
  iintro ⟨HO, HaS, -, HpS⟩
  iapply (Rounds.wp_wait_rest_token 𝒱₀ ER (Rd x) (c : Thread nD τ) none (sm := .dma (rsem X s)) (κ := K (recvCell X s c))
      (wpE_waitDma2_eq (src := m₃) (dst := m₄) 𝒱₀ (c : Thread nD τ) none Set.univ) (Set.mem_univ _) () (O := oweL c l) (R := 0) (m := 0) (T := ∅)
      ((Nat.zero_add _).trans (expect_recv x X s c).symm)) $$ [HcR HO HaR]
  · isplitr; · iapply (inv_at x K (mem_recv X s c)); iexact HI
    isplitl [HcR]; · iexact HcR
    isplitl [HO]; · iexact HO
    isplitr
    · iapply (mayWait c (.dma (rsem X s)) l fun j hj => by rw [lvS_recv]; have := hl j hj; omega); iexact Hlev
    iexact HaR
  iintro ⟨HO, HaR, -, HpR⟩
  iapply Hk
  isplitl [HO]; · iexists _; iexact HO
  isplitl [HaS HaR]; · isplitl [HaS] <;> iassumption
  isplitl [HpS]; · iapply (Entails.of_eq (rest_send x X s c)) $$ HpS
  iapply (Entails.of_eq (rest_recv x X s c)) $$ HpR

theorem AddLeg.wp_wait (a : AddLeg (rows s)) (ha : a.Is X s c) (K : GSem nD τ sig → ℕ)
    (l : List (Fin 2 × Fin 8)) (hl : ∀ j ∈ l, 2 * s.val + X.val < 2 * j.2.val + j.1.val) (W : Waits sig Unit) (k : PR F) (Q : PUnit → sProp 𝕄) :
    iprop(invs x K ∗ levAts L lv ∗ pos X s c 0
        ∗ cred (tallyAt (sendCell X s c) () (N s)) ∗ cred (tallyAt (recvCell X s c) () (N s))
        ∗ owes (c : Thread nD τ) (oweL c l) W)
      ⊢ iprop((((∃ W, owes (c : Thread nD τ) (oweL c l) W) ∗ pos X s c 1 ∗ sendPay x X s c ∗ recvPay x X s c) -∗ WP c k Q)
        -∗ WP c (a.wait k) Q) := by
  obtain ⟨so, ro, ko, hso, hro, hko, wso, wro, pko, dev, ss, rs⟩ := a
  obtain ⟨-, -, -, -, h5, h6⟩ := ha
  dsimp only at h5 h6
  subst h5 h6
  exact wp_waits x K l hl W k Q

theorem KeepLeg.wp_wait (a : KeepLeg (rows s)) (ha : a.Is X s c) (K : GSem nD τ sig → ℕ)
    (l : List (Fin 2 × Fin 8)) (hl : ∀ j ∈ l, 2 * s.val + X.val < 2 * j.2.val + j.1.val) (W : Waits sig Unit) (k : PR F) (Q : PUnit → sProp 𝕄) :
    iprop(invs x K ∗ levAts L lv ∗ pos X s c 0
        ∗ cred (tallyAt (sendCell X s c) () (N s)) ∗ cred (tallyAt (recvCell X s c) () (N s))
        ∗ owes (c : Thread nD τ) (oweL c l) W)
      ⊢ iprop((((∃ W, owes (c : Thread nD τ) (oweL c l) W) ∗ pos X s c 1 ∗ sendPay x X s c ∗ recvPay x X s c) -∗ WP c k Q)
        -∗ WP c (a.wait k) Q) := by
  obtain ⟨so, hso, wso, dev, ss, rs⟩ := a
  obtain ⟨-, -, h5, h6⟩ := ha
  dsimp only at h5 h6
  subst h5 h6
  exact wp_waits x K l hl W k Q

/-! ## Adding -/

theorem AddLeg.wp_add (a : AddLeg (rows s)) (ha : a.Is X s c) (hs : s.val ≤ 4) (hn : 0 < (Tn (rows s)).numel)
    (hc : (Tn (rows s)).ShapeCasts (Tn (rows s))) (k : PR F) (Q : PUnit → sProp 𝕄) :
    iprop(oPts c X (kLo X s c) (rows s) (St x X s.val c) ∗ rPts c X s (landed x X s c))
      ⊢ iprop(((oPts c X (kLo X s c) (rows s) (St x X (s.val + 1) c) ∗ rPts c X s (landed x X s c)) -∗ WP c k Q)
        -∗ WP c (a.add hn hc k) Q) := by
  obtain ⟨so, ro, ko, hso, hro, hko, wso, wro, pko, dev, ss, rs⟩ := a
  obtain ⟨-, h2, h3, -, -, -⟩ := ha
  dsimp only at h2 h3
  subst h2 h3
  iintro ⟨Ho, Hr⟩ Hk
  unfold AddLeg.add
  ihave Ho := (Entails.of_eq (oS_pts c X _ _ hko _).symm) $$ Ho
  ihave Hr := (Entails.of_eq (rS_pts c X s hro _).symm) $$ Hr
  iapply (wp_load_rect (defs := defs₀ (F := F)) 𝒱₀ (c : Thread nD τ) none Set.univ (m := oM) (r := oRect (rows s) ![kLo X s c, 256 * X.val] hko) (Finset.Subset.refl _)) $$ Ho
  iintro Ho
  iapply (wp_load_rect (defs := defs₀ (F := F)) 𝒱₀ (c : Thread nD τ) none Set.univ (m := rM) (r := rRect (rows s) ![rOff s, 256 * X.val] hro) (Finset.Subset.refl _)) $$ Hr
  iintro Hr
  iapply (wp_load_rect (defs := defs₀ (F := F)) 𝒱₀ (c : Thread nD τ) none Set.univ (m := oM) (r := oRect (rows s) ![kLo X s c, 256 * X.val] hko) (Finset.Subset.refl _)) $$ Ho
  iintro Ho
  iapply (wp_store (defs := defs₀ (F := F)) 𝒱₀ (c : Thread nD τ) none Set.univ (m := oM) (r := oRect (rows s) ![kLo X s c, 256 * X.val] hko)
    (Mk := Finset.univ) (S := (oM.access (oRect (rows s) ![kLo X s c, 256 * X.val] hko)).set) (Finset.Subset.refl _)) $$ Ho
  iintro Ho
  iapply Hk
  isplitl [Ho]
  · iapply (Entails.of_eq ((oS_pts c X _ _ hko _).trans (oPts_congr fun i hi => ?_))) $$ Ho
    rw [← set_oS hko] at hi
    obtain ⟨j, -, rfl⟩ := Finset.mem_map.mp hi
    refine ((oS (rows s) ![kLo X s c, 256 * X.val] hko).view.write_emb_of_mem _ _ (Finset.mem_univ j)).trans ?_
    rw [St_add x X s (by omega), shapeCast_self]
    show FloatOps.addf (φ := .bf16) (St x X s.val c _) (St x X s.val (pr X s c) (toO X s c ((rS (rows s) ![rOff s, 256 * X.val] hro).view.emb j))) = _
    rw [toO_emb X s c _ rfl hko hro]
  · iapply (Entails.of_eq (rS_pts c X s hro _)) $$ Hr

end Cert.KernelIdeal.Ring

end
-- ==== Proof.Stages.lean ====
module

/-
  The stages: a stage's two chains run together, each from the rows it holds before the stage to those it holds after.
-/
public import proofs.«01_k».proof.Proof.Legs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## How the rows held split and join -/

theorem bN_down : ∀ s : Fin 8, s.val ≤ 2 → bN s.val = 2 * rows s := by decide
theorem bN_flat : ∀ s : Fin 8, ¬ s.val ≤ 2 → bN s.val = rows s := by decide
theorem bN_next : ∀ s : Fin 8, s.val ≤ 4 → bN (s.val + 1) = rows s := by decide
theorem bN_up : ∀ s : Fin 8, ¬ s.val ≤ 4 → bN (s.val + 1) = 2 * rows s := by decide
theorem rows_rev : ∀ s : Fin 8, ¬ s.val ≤ 4 → rows (7 - s) = rows s ∧ (7 - s).val ≤ 2 := by decide
theorem bit_rev : ∀ (X : Fin 2) (s : Fin 8), ¬ s.val ≤ 4 → bit X (7 - s) = bit X s := by decide

theorem bLo_down (X : Fin 2) (s : Fin 8) (c : Dev nD) : s.val ≤ 2 → Halves (bLo X c s.val) (rows s) (kLo X s c) (sLo X s c) := by
  revert X s c; decide +kernel
theorem bLo_flat (X : Fin 2) (s : Fin 8) (c : Dev nD) : ¬ s.val ≤ 2 → bLo X c s.val = sLo X s c := by
  revert X s c; decide +kernel
theorem bLo_next (X : Fin 2) (s : Fin 8) (c : Dev nD) : s.val ≤ 4 → bLo X c (s.val + 1) = kLo X s c := by
  revert X s c; decide +kernel
theorem bLo_up (X : Fin 2) (s : Fin 8) (c : Dev nD) : ¬ s.val ≤ 4 →
    Halves (bLo X c (s.val + 1)) (rows s) (kLo X s c) (kLo X s (pr X s c)) := by revert X s c; decide +kernel
theorem kLo_rev (X : Fin 2) (s : Fin 8) (c : Dev nD) : ¬ s.val ≤ 4 → kLo X (7 - s) c = sLo X s c := by
  revert X s c; decide +kernel

variable (x : Dev nD → Blk F) (c : Dev nD) (X : Fin 2) (s : Fin 8)

/-- The rows a chain holds before stage `s`. -/
def chain (r : ℕ) : sProp 𝕄 := oPts c X (bLo X c r) (bN r) (St x X r c)

/-- The rows a halving stage keeps while its copy is under way. -/
def hold : sProp 𝕄 := if s.val ≤ 2 then oPts c X (kLo X s c) (rows s) (St x X s.val c) else iprop(emp)

theorem chain_split : chain x c X s.val ⊢ iprop(oPts c X (sLo X s c) (rows s) (St x X s.val c) ∗ hold x c X s) := by
  unfold chain hold
  by_cases h : s.val ≤ 2
  · rw [if_pos h, bN_down s h]
    have hh := bLo_down X s c h
    unfold oPts
    rw [oSet_halves hh]
    exact (pointsTo_union (oSet_disjoint hh)).1.trans (sep_comm (PROP := sProp 𝕄)).1
  · rw [if_neg h, bN_flat s h, bLo_flat X s c h]
    exact (sep_emp (PROP := sProp 𝕄)).2

theorem hold_back : iprop(hold x c X s ∗ sendPay x X s c) ⊢ oPts c X (kLo X s c) (rows s) (St x X s.val c) := by
  unfold hold sendPay
  by_cases h : s.val ≤ 2
  · rw [if_pos h, if_pos h]; exact (sep_emp (PROP := sProp 𝕄)).1
  · rw [if_neg h, if_neg h]; exact (emp_sep (PROP := sProp 𝕄)).1

theorem recvPay_add (h : s.val ≤ 4) : recvPay x X s c = iprop(rPts c X s (landed x X s c) ∗ kept (F := F) X s c) := if_pos h

theorem chain_next (h : s.val ≤ 4) : (oPts c X (kLo X s c) (rows s) (St x X (s.val + 1) c) : sProp 𝕄) = chain x c X (s.val + 1) := by
  unfold chain; rw [bN_next s h, bLo_next X s c h]

theorem chain_join (h : ¬ s.val ≤ 4) : iprop(sendPay x X s c ∗ recvPay x X s c) ⊢ chain x c X (s.val + 1) := by
  unfold sendPay recvPay chain
  rw [if_neg (by omega), if_neg h, bN_up s h]
  have hh := bLo_up X s c h
  have hd := oSet_disjoint (X := X) hh
  rw [oPts_congr (c := c) (X := X) (lo := kLo X s c) (n := rows s) (g := St x X (s.val + 1) c) fun i hi => by
      rw [St_keep x X s (by omega), if_neg (Finset.disjoint_left.mp hd hi)],
    oPts_congr (c := c) (X := X) (lo := kLo X s (pr X s c)) (n := rows s) (g := St x X (s.val + 1) c) fun i hi => by
      rw [St_keep x X s (by omega), if_pos hi]]
  unfold oPts
  rw [oSet_halves hh]
  exact (pointsTo_union hd).2

theorem kept_rev (h : ¬ s.val ≤ 4) : kept X (7 - s) c ⊢ iprop(∃ f, oPts (F := F) (pr X s c) X (sLo X s c) (rows s) f) := by
  unfold kept
  obtain ⟨h1, h2⟩ := rows_rev s h
  rw [if_pos h2, h1, kLo_rev X s c h, show pr X (7 - s) c = pr X s c by unfold pr; rw [bit_rev X s h]]

/-! ## The stages -/

/-- What a chain brings to a stage beside its rows: the ghost state of the stage's two cells. -/
def leg : sProp 𝕄 :=
  iprop(reached ER (sendCell X s c) 0 ∗ toks X s c ∗ pos X s c 0 ∗ cred (tallyAt (recvCell X s c) () (N s)))

/-- An adding stage, before and after. -/
def addPre : sProp 𝕄 := iprop(leg c X s ∗ chain x c X s.val ∗ ∃ f, rPts (pr X s c) X s f)
def addPost : sProp 𝕄 := iprop(pos X s c 1 ∗ chain x c X (s.val + 1) ∗ kept X s c ∗ ∃ f, rPts c X s f)

/-- A gathering stage. -/
def keepPre : sProp 𝕄 := iprop(leg c X s ∗ chain x c X s.val ∗ kept X (7 - s) c)
def keepPost : sProp 𝕄 := iprop(pos X s c 1 ∗ chain x c X (s.val + 1))

/-- Half of an adding stage's second part: waiting and adding on one chain. -/
theorem wp_waitAdd (a : AddLeg (rows s)) (ha : a.Is X s c) (hs : s.val ≤ 4) (hn : 0 < (Tn (rows s)).numel)
    (hc : (Tn (rows s)).ShapeCasts (Tn (rows s))) (K : GSem nD τ sig → ℕ) (l : List (Fin 2 × Fin 8))
    (hl : ∀ j ∈ l, 2 * s.val + X.val < 2 * j.2.val + j.1.val) (W : Waits sig Unit) (k : PR F) (Q : PUnit → sProp 𝕄) :
    iprop(invs x K ∗ levAts L lv ∗ pos X s c 0 ∗ cred (tallyAt (sendCell X s c) () (N s))
        ∗ cred (tallyAt (recvCell X s c) () (N s)) ∗ hold x c X s ∗ owes (c : Thread nD τ) (oweL c l) W)
      ⊢ iprop(((addPost x c X s ∗ ∃ W, owes (c : Thread nD τ) (oweL c l) W) -∗ WP c k Q)
        -∗ WP c (a.wait <| a.add hn hc k) Q) := by
  iintro ⟨#HI, #Hlev, Hp, HcS, HcR, Hh, HO⟩ Hk
  iapply (a.wp_wait x ha K l hl W) $$ [Hp HcS HcR HO]
  · isplitr; · iexact HI
    isplitr; · iexact Hlev
    isplitl [Hp]; · iexact Hp
    isplitl [HcS]; · iexact HcS
    isplitl [HcR] <;> iassumption
  iintro ⟨HO, Hp, HpS, HpR⟩
  ihave HR := (Entails.of_eq (recvPay_add x c X s hs)) $$ HpR
  icases HR with ⟨Hr, Hkept⟩
  ihave Ho := (hold_back x c X s) $$ [Hh HpS]
  · isplitl [Hh] <;> iassumption
  iapply (a.wp_add x ha hs hn hc) $$ [Ho Hr]
  · isplitl [Ho] <;> iassumption
  iintro ⟨Ho, Hr⟩
  iapply Hk
  isplitr [HO]
  · unfold addPost
    isplitl [Hp]; · iexact Hp
    isplitl [Ho]; · iapply (Entails.of_eq (chain_next x c X s hs)) $$ Ho
    isplitl [Hkept]; · iexact Hkept
    iexists _; iexact Hr
  · iexact HO

theorem wp_addStage (a b : AddLeg (rows s)) (ha : a.Is 0 s c) (hb : b.Is 1 s c) (hs : s.val ≤ 4) (hn : 0 < (Tn (rows s)).numel)
    (hc : (Tn (rows s)).ShapeCasts (Tn (rows s))) (K : GSem nD τ sig → ℕ) (l : List (Fin 2 × Fin 8))
    (hl : ∀ j ∈ l, 2 * s.val + 1 < 2 * j.2.val + j.1.val) (k : PR F) (Q : PUnit → sProp 𝕄) :
    iprop((invs x K ∗ levAts L lv) ∗ (ready (pr 0 s c) ∗ ready (pr 1 s c)) ∗ addPre x c 0 s ∗ addPre x c 1 s
        ∗ ∃ W, owes (c : Thread nD τ) (oweL c ((0, s) :: (1, s) :: l)) W)
      ⊢ iprop(((addPost x c 0 s ∗ addPost x c 1 s ∗ ∃ W, owes (c : Thread nD τ) (oweL c l) W) -∗ WP c k Q)
        -∗ WP c (addStage a b hn hc k) Q) := by
  unfold addPre leg
  iintro ⟨⟨#HI, #Hlev⟩, ⟨#HV0, #HV1⟩, ⟨⟨#HS0, Ht0, Hp0, Hc0⟩, Hch0, Hd0⟩, ⟨⟨#HS1, Ht1, Hp1, Hc1⟩, Hch1, Hd1⟩, ⟨%W, HO⟩⟩ Hk
  ihave H0 := (chain_split x c 0 s) $$ Hch0
  icases H0 with ⟨Ho0, Hh0⟩
  ihave H1 := (chain_split x c 1 s) $$ Hch1
  icases H1 with ⟨Ho1, Hh1⟩
  unfold addStage
  iapply (a.wp_send x ha hs K ((1, s) :: l) W) $$ [Ht0 Ho0 Hd0 HO]
  · isplitr; · iexact HI
    isplitr; · iexact HV0
    isplitr; · iexact HS0
    isplitl [Ht0]; · iexact Ht0
    isplitl [Ho0]; · iexact Ho0
    isplitl [Hd0] <;> iassumption
  iintro ⟨Hs0, HO⟩
  iapply (b.wp_send x hb hs K l W) $$ [Ht1 Ho1 Hd1 HO]
  · isplitr; · iexact HI
    isplitr; · iexact HV1
    isplitr; · iexact HS1
    isplitl [Ht1]; · iexact Ht1
    isplitl [Ho1]; · iexact Ho1
    isplitl [Hd1] <;> iassumption
  iintro ⟨Hs1, HO⟩
  iapply (wp_waitAdd x c 0 s a ha hs hn hc K l (fun j hj => by have := hl j hj; show 2 * s.val + 0 < _; omega) W) $$ [Hp0 Hs0 Hc0 Hh0 HO]
  · isplitr; · iexact HI
    isplitr; · iexact Hlev
    isplitl [Hp0]; · iexact Hp0
    isplitl [Hs0]; · iexact Hs0
    isplitl [Hc0]; · iexact Hc0
    isplitl [Hh0] <;> iassumption
  iintro ⟨HP0, ⟨%W', HO⟩⟩
  iapply (wp_waitAdd x c 1 s b hb hs hn hc K l hl W') $$ [Hp1 Hs1 Hc1 Hh1 HO]
  · isplitr; · iexact HI
    isplitr; · iexact Hlev
    isplitl [Hp1]; · iexact Hp1
    isplitl [Hs1]; · iexact Hs1
    isplitl [Hc1]; · iexact Hc1
    isplitl [Hh1] <;> iassumption
  iintro ⟨HP1, HO⟩
  iapply Hk
  isplitl [HP0]; · iexact HP0
  isplitl [HP1] <;> iassumption

/-- Waiting on one chain of a gathering stage. -/
theorem wp_waitKeep (a : KeepLeg (rows s)) (ha : a.Is X s c) (hs : ¬ s.val ≤ 4) (K : GSem nD τ sig → ℕ) (l : List (Fin 2 × Fin 8))
    (hl : ∀ j ∈ l, 2 * s.val + X.val < 2 * j.2.val + j.1.val) (W : Waits sig Unit) (k : PR F) (Q : PUnit → sProp 𝕄) :
    iprop(invs x K ∗ levAts L lv ∗ pos X s c 0 ∗ cred (tallyAt (sendCell X s c) () (N s))
        ∗ cred (tallyAt (recvCell X s c) () (N s)) ∗ owes (c : Thread nD τ) (oweL c l) W)
      ⊢ iprop(((keepPost x c X s ∗ ∃ W, owes (c : Thread nD τ) (oweL c l) W) -∗ WP c k Q) -∗ WP c (a.wait k) Q) := by
  iintro H Hk
  iapply (a.wp_wait x ha K l hl W) $$ H
  iintro ⟨HO, Hp, HpS, HpR⟩
  iapply Hk
  isplitr [HO]
  · unfold keepPost
    isplitl [Hp]; · iexact Hp
    iapply (chain_join x c X s hs)
    isplitl [HpS] <;> iassumption
  · iexact HO

theorem wp_keepStage (a b : KeepLeg (rows s)) (ha : a.Is 0 s c) (hb : b.Is 1 s c) (hs : ¬ s.val ≤ 4)
    (K : GSem nD τ sig → ℕ) (l : List (Fin 2 × Fin 8))
    (hl : ∀ j ∈ l, 2 * s.val + 1 < 2 * j.2.val + j.1.val) (k : PR F) (Q : PUnit → sProp 𝕄) :
    iprop((invs x K ∗ levAts L lv) ∗ (ready (pr 0 s c) ∗ ready (pr 1 s c)) ∗ keepPre x c 0 s ∗ keepPre x c 1 s
        ∗ ∃ W, owes (c : Thread nD τ) (oweL c ((0, s) :: (1, s) :: l)) W)
      ⊢ iprop(((keepPost x c 0 s ∗ keepPost x c 1 s ∗ ∃ W, owes (c : Thread nD τ) (oweL c l) W) -∗ WP c k Q)
        -∗ WP c (keepStage a b k) Q) := by
  unfold keepPre leg chain
  rw [bN_flat s (by omega), bLo_flat 0 s c (by omega), bLo_flat 1 s c (by omega)]
  iintro ⟨⟨#HI, #Hlev⟩, ⟨#HV0, #HV1⟩, ⟨⟨#HS0, Ht0, Hp0, Hc0⟩, Ho0, Hd0⟩, ⟨⟨#HS1, Ht1, Hp1, Hc1⟩, Ho1, Hd1⟩, ⟨%W, HO⟩⟩ Hk
  unfold keepStage
  iapply (a.wp_send x ha hs K ((1, s) :: l) W) $$ [Ht0 Ho0 Hd0 HO]
  · isplitr; · iexact HI
    isplitr; · iexact HV0
    isplitr; · iexact HS0
    isplitl [Ht0]; · iexact Ht0
    isplitl [Ho0]; · iexact Ho0
    isplitl [Hd0]; · iapply (kept_rev c 0 s hs) $$ Hd0
    iexact HO
  iintro ⟨Hs0, HO⟩
  iapply (b.wp_send x hb hs K l W) $$ [Ht1 Ho1 Hd1 HO]
  · isplitr; · iexact HI
    isplitr; · iexact HV1
    isplitr; · iexact HS1
    isplitl [Ht1]; · iexact Ht1
    isplitl [Ho1]; · iexact Ho1
    isplitl [Hd1]; · iapply (kept_rev c 1 s hs) $$ Hd1
    iexact HO
  iintro ⟨Hs1, HO⟩
  iapply (wp_waitKeep x c 0 s a ha hs K l (fun j hj => by have := hl j hj; show 2 * s.val + 0 < _; omega) W) $$ [Hp0 Hs0 Hc0 HO]
  · isplitr; · iexact HI
    isplitr; · iexact Hlev
    isplitl [Hp0]; · iexact Hp0
    isplitl [Hs0]; · iexact Hs0
    isplitl [Hc0] <;> iassumption
  iintro ⟨HP0, ⟨%W', HO⟩⟩
  iapply (wp_waitKeep x c 1 s b hb hs K l hl W') $$ [Hp1 Hs1 Hc1 HO]
  · isplitr; · iexact HI
    isplitr; · iexact Hlev
    isplitl [Hp1]; · iexact Hp1
    isplitl [Hs1]; · iexact Hs1
    isplitl [Hc1] <;> iassumption
  iintro ⟨HP1, HO⟩
  iapply Hk
  isplitl [HP0]; · iexact HP0
  isplitl [HP1] <;> iassumption

end Cert.KernelIdeal.Ring

end
-- ==== Proof.Body.lean ====
module

/-
  A device's whole program: the meeting at the barrier, the copy of the operand, the eight stages, the cells closed.
-/
public import proofs.«01_k».proof.Proof.Stages
public import proofs.«01_k».proof.Proof.Gen.KernelIdeal.Points

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem bigSep_two (Φ : Fin 2 → sProp 𝕄) : bigSep Finset.univ Φ = iprop(Φ 0 ∗ Φ 1) := BI.bigSep_fin_two Φ

/-- Over chains and stages, stage by stage. -/
theorem bigSep_legs (Φ : Fin 2 × Fin 8 → sProp 𝕄) : bigSep Finset.univ Φ
    = iprop(Φ (0, 0) ∗ Φ (1, 0) ∗ Φ (0, 1) ∗ Φ (1, 1) ∗ Φ (0, 2) ∗ Φ (1, 2) ∗ Φ (0, 3) ∗ Φ (1, 3)
      ∗ Φ (0, 4) ∗ Φ (1, 4) ∗ Φ (0, 5) ∗ Φ (1, 5) ∗ Φ (0, 6) ∗ Φ (1, 6) ∗ Φ (0, 7) ∗ Φ (1, 7)) :=
  bigSep_univ_eq_bigSepL legs (by decide) (by decide) Φ

/-- Over chains and adding stages. -/
theorem bigSep_down (Φ : Fin 2 × Fin 5 → sProp 𝕄) : bigSep Finset.univ Φ
    = iprop(Φ (0, 0) ∗ Φ (1, 0) ∗ Φ (0, 1) ∗ Φ (1, 1) ∗ Φ (0, 2) ∗ Φ (1, 2) ∗ Φ (0, 3) ∗ Φ (1, 3) ∗ Φ (0, 4) ∗ Φ (1, 4)) :=
  bigSep_univ_eq_bigSepL [(0, 0), (1, 0), (0, 1), (1, 1), (0, 2), (1, 2), (0, 3), (1, 3), (0, 4), (1, 4)] (by decide) (by decide) Φ

/-- An adding stage, among all. -/
abbrev early (s : Fin 5) : Fin 8 := Fin.castLE (by decide) s

variable (x : Dev nD → Blk F) (c : Dev nD)

/-! ## The receive buffer in parts -/

/-- The receive buffer whole, at contents not named. -/
def scratch : sProp 𝕄 := iprop(∃ f : RBlk F, rM.view.loc (c : Thread nD τ) ↦{fullShare} f)

/-- The part a stage's copy lands in. -/
def part (X : Fin 2) (s : Fin 8) : sProp 𝕄 := iprop(∃ f, rPts (F := F) c X s f)

theorem scratch_split : scratch (F := F) c ⊢ bigSep Finset.univ fun k : Fin 5 => rAny (F := F) c k := by
  have h : scratch (F := F) c ⊢ bigSep Finset.univ fun j : Fin 2 × Fin 5 => part (F := F) c j.1 (early j.2) := by
    unfold scratch
    iintro ⟨%f, H⟩
    iapply ((Entails.of_eq (by
      rw [rSet_cover]
      exact pointsTo_biUnion Finset.univ _ fun j _ j' _ e => rSet_disjoint j j' e)).trans
      (bigSep_mono fun j _ => (show rPts c j.1 (early j.2) f ⊢ part (F := F) c j.1 (early j.2) from by
        unfold part; iintro H; iexists f; iexact H))) $$ H
  refine h.trans ?_
  rw [bigSep_down, bigSep_fin5]
  unfold rAny part
  simp only [bigSep_two]
  iintro ⟨A0, B0, A1, B1, A2, B2, A3, B3, A4, B4⟩
  isplitl [A4 B3]
  · isplitl [A4]; · iexact A4
    iexact B3
  isplitl [A3 B4]
  · isplitl [A3]; · iexact A3
    iexact B4
  isplitl [A2 B1]
  · isplitl [A2]; · iexact A2
    iexact B1
  isplitl [A1 B0]
  · isplitl [A1]; · iexact A1
    iexact B0
  isplitl [A0]; · iexact A0
  iexact B2

theorem scratch_join : (bigSep Finset.univ fun j : Fin 2 × Fin 5 => part (F := F) c j.1 (early j.2)) ⊢ scratch (F := F) c := by
  haveI : Nonempty (RBlk F) := ⟨fun _ => (Elt.inhabited F .bf16).default⟩
  unfold part scratch
  iintro H
  ihave H := (BI.bigSep_exists_pi Finset.univ (fun (j : Fin 2 × Fin 5) (f : RBlk F) => (rPts c j.1 (early j.2) f : sProp 𝕄))) $$ H
  icases H with ⟨%fs, H⟩
  ihave H := (pointsTo_biUnion_join Finset.univ _ fs (fs (0, 0)) fun j _ j' _ e => rSet_disjoint j j' e) $$ H
  icases H with ⟨%g, -, H⟩
  iexists g
  rw [rSet_cover]
  iexact H

/-! ## The meeting -/

/-- What a device brings to its signal along a bit. -/
def sig1 (k : Fin 5) : sProp 𝕄 :=
  iprop(reached ER (barCell (peer k c)) 0 ∗ dutyTok ER (barCell (peer k c)) 0 k ∗ rAny (F := F) c k)

theorem wp_sig (K : GSem nD τ sig → ℕ) (k : Fin 5) (l : List (Fin 5)) (W : Waits sig Unit) (p : PR F) (Q : PUnit → sProp 𝕄) :
    iprop(invs x K ∗ ready c ∗ sig1 (F := F) c k ∗ owes (c : Thread nD τ) (oweB c (k :: l)) W)
      ⊢ iprop((owes (c : Thread nD τ) (oweB c l) W -∗ WP c p Q)
        -∗ WP c ((semSignalWord (peer k c) barS 1#32).bind fun _ => p) Q) := by
  unfold sig1
  simp only [semSignalWord, Prog.bind_op, Prog.bind_ret]
  iintro ⟨#HI, #HV, ⟨#HR, Ht, Hr⟩, HO⟩ Hk
  iapply (Rounds.wp_signal 𝒱₀ ER (Rd x) (c : Thread nD τ) none (dst := (peer k c : Thread nD τ)) (sem := barS) (r := 0) (d := k)
      (κ := K (barCell (peer k c))) (by rw [duties_bar]; exact Finset.mem_univ _) ((amount_bar x (peer k c) k).trans (by decide)) ()
      (oweB c l) rfl) $$ [HO Ht Hr]
  · isplitr; · iapply (inv_at x K (mem_bar (peer k c))); iexact HI
    isplitl [HO]; · iexact HO
    isplitl [Ht]; · iexact Ht
    isplitl [Hr]
    · rw [payload_bar]; unfold barPay; rw [peer_peer]
      isplitl [Hr]; · iexact Hr
      iexact HV
    · iexact HR
  iexact Hk

theorem wp_meet (K : GSem nD τ sig → ℕ) (W : Waits sig Unit) (p : PR F) (Q : PUnit → sProp 𝕄) :
    iprop((invs x K ∗ levAts L lv ∗ ready c) ∗ (bigSep Finset.univ fun k => sig1 (F := F) c k)
        ∗ cred (tallyAt (barCell c) () 5) ∗ atPos ER (barCell c) 0 ∅ 0 ∗ owes (c : Thread nD τ) (O₀ c) W)
      ⊢ iprop((((bigSep Finset.univ fun k => barPay (F := F) c k) ∗ atPos ER (barCell c) 1 ∅ 0
          ∗ ∃ W, owes (c : Thread nD τ) (oweL c legs) W) -∗ WP c p Q) -∗ WP c (meet c p) Q) := by
  rw [bigSep_fin5 fun k => sig1 (F := F) c k]
  unfold meet O₀
  rw [dev1_eq, dev2_eq, dev3_eq, dev4_eq, dev5_eq]
  iintro ⟨⟨#HI, #Hlev, #HV⟩, ⟨H0, H1, H2, H3, H4⟩, Hc, Ha, HO⟩ Hk
  iapply (wp_sig x c K 0 _ W) $$ [H0 HO]
  · isplitr; · iexact HI
    isplitr; · iexact HV
    isplitl [H0] <;> iassumption
  iintro HO
  iapply (wp_sig x c K 1 _ W) $$ [H1 HO]
  · isplitr; · iexact HI
    isplitr; · iexact HV
    isplitl [H1] <;> iassumption
  iintro HO
  iapply (wp_sig x c K 2 _ W) $$ [H2 HO]
  · isplitr; · iexact HI
    isplitr; · iexact HV
    isplitl [H2] <;> iassumption
  iintro HO
  iapply (wp_sig x c K 3 _ W) $$ [H3 HO]
  · isplitr; · iexact HI
    isplitr; · iexact HV
    isplitl [H3] <;> iassumption
  iintro HO
  iapply (wp_sig x c K 4 _ W) $$ [H4 HO]
  · isplitr; · iexact HI
    isplitr; · iexact HV
    isplitl [H4] <;> iassumption
  iintro HO
  simp only [semWaitWord, Prog.bind_op, Prog.bind_ret]
  iapply (Rounds.wp_wait_rest_token 𝒱₀ ER (Rd x) (c : Thread nD τ) none (κ := K (barCell c))
      (wpE_semWait_eq 𝒱₀ (c : Thread nD τ) none Set.univ) (Set.mem_univ _) () (O := oweL c legs) (W := W) (R := 0) (m := 0) (T := ∅)
      (by rw [expect_bar]; decide)) $$ [Hc HO Ha]
  · isplitr; · iapply (inv_at x K (mem_bar c)); iexact HI
    isplitl [Hc]; · iexact Hc
    isplitl [HO]; · iexact HO
    isplitr; · iapply (mayWait c (.reg barS) legs fun j _ => by show 1 < _; omega); iexact Hlev
    iexact Ha
  iintro ⟨HO, Ha, -, Hp⟩
  iapply Hk
  isplitl [Hp]; · iapply (Entails.of_eq (rest_bar x c)) $$ Hp
  isplitl [Ha]; · iexact Ha
  iexists _; iexact HO

/-! ## The operand's copy -/

/-- The two chains' rows before a stage. -/
def chains (r : ℕ) : sProp 𝕄 := iprop(chain x c 0 r ∗ chain x c 1 r)

/-- The operand staged; the result buffer whole. -/
abbrev pPts (f : Blk F) : sProp 𝕄 := pM.view.loc (c : Thread nD τ) ↦{fullShare} f
abbrev oAll (f : Blk F) : sProp 𝕄 := oM.view.loc (c : Thread nD τ) ↦{fullShare} f

theorem oAll_cols (f : Blk F) : (oAll c f : sProp 𝕄) ⊣⊢ iprop(oPts c 0 0 512 f ∗ oPts c 1 0 512 f) := by
  unfold oAll
  rw [oSet_cols]
  exact pointsTo_union oSet_cols_disjoint

theorem zero2 : (![0, 0] : Fin 2 → ℕ) = fun _ => 0 := funext fun a => by fin_cases a <;> rfl

theorem chains_start : oAll c (x c) ⊢ chains x c 0 := (oAll_cols c (x c)).1

theorem wp_fill (p : PR F) (Q : PUnit → sProp 𝕄) :
    iprop(pPts c (x c) ∗ ∃ f, oAll (F := F) c f) ⊢ iprop(((pPts c (x c) ∗ chains x c 0) -∗ WP c p Q) -∗ WP c (fill p) Q) := by
  unfold fill
  iintro ⟨Hp, ⟨%f, Ho⟩⟩ Hk
  iapply (wp_load 𝒱₀ (c : Thread nD τ) none Set.univ (m := pM) (Finset.subset_univ _)) $$ Hp; iintro Hp
  iapply (wp_load 𝒱₀ (c : Thread nD τ) none Set.univ (m := oM) (Finset.subset_univ _)) $$ Ho; iintro Ho
  iapply (wp_store 𝒱₀ (c : Thread nD τ) none Set.univ (m := oM) (r := allRect) (Mk := Finset.univ) (Finset.subset_univ _)) $$ Ho
  iintro Ho
  iapply Hk
  isplitl [Hp]; · iexact Hp
  iapply ((Entails.of_eq (congrArg (fun f => (oAll c f : sProp 𝕄)) (by
    refine (Memref.write_access_unit_zero_univ (Elt F) cc0_stg1_0 zero2 _ f _).trans ?_
    rw [shapeCast_self]
    exact Memref.readAt_unit_zero (Elt F) cc0_stg0_0 zero2 _ (x c)))).trans (chains_start x c)) $$ Ho

/-- The result: each half of the columns as its chain leaves it. -/
def res : Blk F := fun i => if i ∈ oSet 0 0 512 then St x 0 8 c i else St x 1 8 c i

theorem chains_end : chains x c 8 ⊢ oAll c (res x c) := by
  refine BIBase.Entails.trans (Entails.of_eq ?_) (oAll_cols c (res x c)).2
  unfold chains chain
  rw [show (bN 8 : ℕ) = 512 from rfl, show bLo 0 c 8 = 0 from rfl, show bLo 1 c 8 = 0 from rfl,
    oPts_congr (c := c) (X := 0) (lo := 0) (n := 512) (f := St x 0 8 c) (g := res x c) fun i hi => (if_pos hi).symm,
    oPts_congr (c := c) (X := 1) (lo := 0) (n := 512) (f := St x 1 8 c) (g := res x c) fun i hi =>
      (if_neg (Finset.disjoint_right.mp oSet_cols_disjoint hi)).symm]

/-! ## The stages, both chains as one -/

/-- What every stage reads. -/
def ctx (K : GSem nD τ sig → ℕ) : sProp 𝕄 :=
  iprop((invs x K ∗ levAts L lv) ∗ bigSep Finset.univ fun k : Fin 5 => ready (F := F) (peer k c))

instance ctx_persistent (K : GSem nD τ sig → ℕ) : BI.Persistent (ctx x c K) := by unfold ctx; infer_instance

theorem ready_pr (X : Fin 2) (s : Fin 8) : (bigSep Finset.univ fun k : Fin 5 => ready (F := F) (peer k c)) ⊢ ready (F := F) (pr X s c) :=
  bigSep_elim (Φ := fun k : Fin 5 => ready (F := F) (peer k c)) (Finset.mem_univ (bit X s))

def legs2 (s : Fin 8) : sProp 𝕄 := iprop(leg (F := F) c 0 s ∗ leg c 1 s)
def land2 (s : Fin 8) : sProp 𝕄 := iprop(part (F := F) (pr 0 s c) 0 s ∗ part (pr 1 s c) 1 s)
def part2 (s : Fin 8) : sProp 𝕄 := iprop(part (F := F) c 0 s ∗ part c 1 s)
def kept2 (s : Fin 8) : sProp 𝕄 := iprop(kept (F := F) 0 s c ∗ kept 1 s c)
def pos2 (s : Fin 8) : sProp 𝕄 := iprop(pos (F := F) 0 s c 1 ∗ pos 1 s c 1)

theorem wp_down {s : Fin 8} {a b : AddLeg (rows s)} (ha : a.Is 0 s c) (hb : b.Is 1 s c) (hs : s.val ≤ 4) {hn : 0 < (Tn (rows s)).numel}
    {hc : (Tn (rows s)).ShapeCasts (Tn (rows s))} (K : GSem nD τ sig → ℕ) (l : List (Fin 2 × Fin 8))
    (hl : ∀ j ∈ l, 2 * s.val + 1 < 2 * j.2.val + j.1.val) (k : PR F) (Q : PUnit → sProp 𝕄) :
    iprop(ctx x c K ∗ legs2 c s ∗ land2 c s ∗ chains x c s.val ∗ ∃ W, owes (c : Thread nD τ) (oweL c ((0, s) :: (1, s) :: l)) W)
      ⊢ iprop(((pos2 c s ∗ kept2 c s ∗ part2 c s ∗ chains x c (s.val + 1) ∗ ∃ W, owes (c : Thread nD τ) (oweL c l) W) -∗ WP c k Q)
        -∗ WP c (addStage a b hn hc k) Q) := by
  unfold ctx legs2 land2 chains part
  iintro ⟨⟨#HI, #HV⟩, ⟨L0, L1⟩, ⟨D0, D1⟩, ⟨C0, C1⟩, HO⟩ Hk
  iapply (wp_addStage x c s a b ha hb hs hn hc K l hl) $$ [L0 L1 D0 D1 C0 C1 HO]
  · isplitr; · iexact HI
    isplitr
    · isplitr; · iapply (ready_pr (F := F) c 0 s); iexact HV
      iapply (ready_pr (F := F) c 1 s); iexact HV
    unfold addPre
    isplitl [L0 C0 D0]
    · isplitl [L0]; · iexact L0
      isplitl [C0] <;> iassumption
    isplitl [L1 C1 D1]
    · isplitl [L1]; · iexact L1
      isplitl [C1] <;> iassumption
    iexact HO
  unfold addPost
  iintro ⟨⟨P0, C0, K0, R0⟩, ⟨P1, C1, K1, R1⟩, HO⟩
  iapply Hk
  unfold pos2 kept2 part2 part
  isplitl [P0 P1]; · isplitl [P0] <;> iassumption
  isplitl [K0 K1]; · isplitl [K0] <;> iassumption
  isplitl [R0 R1]; · isplitl [R0] <;> iassumption
  isplitl [C0 C1]; · isplitl [C0] <;> iassumption
  iexact HO

theorem wp_up {s : Fin 8} {a b : KeepLeg (rows s)} (ha : a.Is 0 s c) (hb : b.Is 1 s c) (hs : ¬ s.val ≤ 4)
    (K : GSem nD τ sig → ℕ) (l : List (Fin 2 × Fin 8))
    (hl : ∀ j ∈ l, 2 * s.val + 1 < 2 * j.2.val + j.1.val) (k : PR F) (Q : PUnit → sProp 𝕄) :
    iprop(ctx x c K ∗ legs2 c s ∗ kept2 c (7 - s) ∗ chains x c s.val ∗ ∃ W, owes (c : Thread nD τ) (oweL c ((0, s) :: (1, s) :: l)) W)
      ⊢ iprop(((pos2 c s ∗ chains x c (s.val + 1) ∗ ∃ W, owes (c : Thread nD τ) (oweL c l) W) -∗ WP c k Q)
        -∗ WP c (keepStage a b k) Q) := by
  unfold ctx legs2 kept2 chains
  iintro ⟨⟨#HI, #HV⟩, ⟨L0, L1⟩, ⟨D0, D1⟩, ⟨C0, C1⟩, HO⟩ Hk
  iapply (wp_keepStage x c s a b ha hb hs K l hl) $$ [L0 L1 D0 D1 C0 C1 HO]
  · isplitr; · iexact HI
    isplitr
    · isplitr; · iapply (ready_pr (F := F) c 0 s); iexact HV
      iapply (ready_pr (F := F) c 1 s); iexact HV
    unfold keepPre
    isplitl [L0 C0 D0]
    · isplitl [L0]; · iexact L0
      isplitl [C0] <;> iassumption
    isplitl [L1 C1 D1]
    · isplitl [L1]; · iexact L1
      isplitl [C1] <;> iassumption
    iexact HO
  unfold keepPost
  iintro ⟨⟨P0, C0⟩, ⟨P1, C1⟩, HO⟩
  iapply Hk
  unfold pos2
  isplitl [P0 P1]; · isplitl [P0] <;> iassumption
  isplitl [C0 C1]; · isplitl [C0] <;> iassumption
  iexact HO

/-! ## What the stages are given and what they leave -/

/-- The peers' parts, dealt to the stages that write them. -/
theorem deal : (bigSep Finset.univ fun k : Fin 5 => barPay (F := F) c k)
    ⊢ iprop((bigSep Finset.univ fun k : Fin 5 => ready (F := F) (peer k c))
      ∗ land2 (F := F) c 0 ∗ land2 (F := F) c 1 ∗ land2 (F := F) c 2 ∗ land2 (F := F) c 3 ∗ land2 (F := F) c 4) := by
  unfold barPay rAny land2 part
  simp only [bigSep_fin5, bigSep_two]
  iintro ⟨⟨⟨A4, B3⟩, V0⟩, ⟨⟨A3, B4⟩, V1⟩, ⟨⟨A2, B1⟩, V2⟩, ⟨⟨A1, B0⟩, V3⟩, ⟨⟨A0, B2⟩, V4⟩⟩
  isplitl [V0 V1 V2 V3 V4]
  · isplitl [V0]; · iexact V0
    isplitl [V1]; · iexact V1
    isplitl [V2]; · iexact V2
    isplitl [V3] <;> iassumption
  isplitl [A0 B0]
  · isplitl [A0]; · iexact A0
    iexact B0
  isplitl [A1 B1]
  · isplitl [A1]; · iexact A1
    iexact B1
  isplitl [A2 B2]
  · isplitl [A2]; · iexact A2
    iexact B2
  isplitl [A3 B3]
  · isplitl [A3]; · iexact A3
    iexact B3
  isplitl [A4]; · iexact A4
  iexact B4

theorem parts_join : iprop(part2 (F := F) c 0 ∗ part2 (F := F) c 1 ∗ part2 (F := F) c 2 ∗ part2 (F := F) c 3 ∗ part2 (F := F) c 4) ⊢ scratch (F := F) c := by
  refine BIBase.Entails.trans ?_ (scratch_join c)
  rw [bigSep_down]
  unfold part2
  iintro ⟨⟨A0, B0⟩, ⟨A1, B1⟩, ⟨A2, B2⟩, ⟨A3, B3⟩, A4, B4⟩
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  isplitl [A4]; · iexact A4
  iexact B4

theorem legs_deal : (bigSep Finset.univ fun j : Fin 2 × Fin 8 => leg (F := F) c j.1 j.2)
    ⊢ iprop(legs2 (F := F) c 0 ∗ legs2 (F := F) c 1 ∗ legs2 (F := F) c 2 ∗ legs2 (F := F) c 3
      ∗ legs2 (F := F) c 4 ∗ legs2 (F := F) c 5 ∗ legs2 (F := F) c 6 ∗ legs2 (F := F) c 7) := by
  rw [bigSep_legs]
  unfold legs2
  iintro ⟨A0, B0, A1, B1, A2, B2, A3, B3, A4, B4, A5, B5, A6, B6, A7, B7⟩
  isplitl [A0 B0]; · isplitl [A0] <;> iassumption
  isplitl [A1 B1]; · isplitl [A1] <;> iassumption
  isplitl [A2 B2]; · isplitl [A2] <;> iassumption
  isplitl [A3 B3]; · isplitl [A3] <;> iassumption
  isplitl [A4 B4]; · isplitl [A4] <;> iassumption
  isplitl [A5 B5]; · isplitl [A5] <;> iassumption
  isplitl [A6 B6]; · isplitl [A6] <;> iassumption
  isplitl [A7] <;> iassumption

/-- Two facts of each chain and stage, sending's and receiving's, are one of each transfer semaphore. -/
theorem by_osem (Φ : GSem nD τ sig → sProp 𝕄) :
    (bigSep Finset.univ fun j : Fin 2 × Fin 2 × Fin 8 => Φ ((c : Thread nD τ), osem j))
      = bigSep Finset.univ fun j : Fin 2 × Fin 8 => iprop(Φ (sendCell j.1 j.2 c) ∗ Φ (recvCell j.1 j.2 c)) := by
  rw [bigSep_sep', bigSep_univ_prod, BI.bigSep_fin_two]
  rfl

/-- All the transfer semaphores at their round `r`. -/
def allPos (r : ℕ) : sProp 𝕄 := bigSep Finset.univ fun j : Fin 2 × Fin 2 × Fin 8 => atPos ER ((c : Thread nD τ), osem j) r ∅ 0

theorem pos_join : iprop(pos2 (F := F) c 0 ∗ pos2 (F := F) c 1 ∗ pos2 (F := F) c 2 ∗ pos2 (F := F) c 3
      ∗ pos2 (F := F) c 4 ∗ pos2 (F := F) c 5 ∗ pos2 (F := F) c 6 ∗ pos2 (F := F) c 7) ⊢ allPos (F := F) c 1 := by
  unfold allPos
  rw [by_osem c fun g => (atPos ER g 1 ∅ 0 : sProp 𝕄), bigSep_legs]
  unfold pos2 pos
  iintro ⟨⟨A0, B0⟩, ⟨A1, B1⟩, ⟨A2, B2⟩, ⟨A3, B3⟩, ⟨A4, B4⟩, ⟨A5, B5⟩, ⟨A6, B6⟩, A7, B7⟩
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  isplitl [A4]; · iexact A4
  isplitl [B4]; · iexact B4
  isplitl [A5]; · iexact A5
  isplitl [B5]; · iexact B5
  isplitl [A6]; · iexact A6
  isplitl [B6]; · iexact B6
  isplitl [A7]; · iexact A7
  iexact B7

/-- The transfer semaphores' counters at zero. -/
def zeros : sProp 𝕄 := bigSep Finset.univ fun j : Fin 2 × Fin 2 × Fin 8 => semVal ((c : Thread nD τ), osem j) 0

theorem mem_osem (j : Fin 2 × Fin 2 × Fin 8) : (((c : Thread nD τ), osem j) : GSem nD τ sig) ∈ cells :=
  Finset.mem_union_right _ (Finset.mem_map_of_mem dmaEmb (Finset.mem_univ (c, j)))

theorem close_all (K : GSem nD τ sig → ℕ) : iprop(invs x K ∗ allPos (F := F) c 1) ⊢ (|={Set.univ}=> zeros (F := F) c : sProp 𝕄) := by
  unfold allPos zeros
  exact (bigSep_with_persistent (R := invs x K) (Φ := fun j : Fin 2 × Fin 2 × Fin 8 => atPos ER ((c : Thread nD τ), osem j) 1 ∅ 0)
    (Ψ := fun j => iprop(cellInv ER (Rd x) (K ((c : Thread nD τ), osem j)) ((c : Thread nD τ), osem j) ∗ atPos ER ((c : Thread nD τ), osem j) 1 ∅ 0))
    fun j _ => sep_mono_left (inv_at x K (mem_osem c j))).trans
    (Rounds.cells_close ER (Rd x) Finset.univ (fun j => ((c : Thread nD τ), osem j)) (fun j => K ((c : Thread nD τ), osem j))
      (fun _ _ => Set.mem_univ _) (fun _ _ h => h) (fun _ => 1) (fun j _ => duties_later x _))

/-! ## The whole -/

theorem wp_done (Q : PUnit → sProp 𝕄) : (|={Set.univ}=> Q ⟨⟩ : sProp 𝕄) ⊢ WP c (Prog.ret ⟨⟩) Q := Entails.of_eq (wp_ret ..).symm

/-- What a device's program starts from, names `K` of the invariants given; -/
def pre (K : GSem nD τ sig → ℕ) (W : Waits sig Unit) : sProp 𝕄 :=
  iprop((invs x K ∗ levAts L lv ∗ ready c) ∗ ((bigSep Finset.univ fun k => iprop(reached ER (barCell (peer k c)) 0 ∗ dutyTok ER (barCell (peer k c)) 0 k))
    ∗ cred (tallyAt (barCell c) () 5) ∗ atPos ER (barCell c) 0 ∅ 0 ∗ bigSep Finset.univ fun j : Fin 2 × Fin 8 => leg (F := F) c j.1 j.2)
    ∗ scratch (F := F) c ∗ pPts c (x c) ∗ (∃ f, oAll (F := F) c f) ∗ owes (c : Thread nD τ) (O₀ c) W)
/-- and what it ends with. -/
def post : sProp 𝕄 :=
  iprop((semVal (barCell c) 0 ∗ zeros (F := F) c) ∗ scratch (F := F) c ∗ pPts c (x c) ∗ oAll c (res x c) ∗ ∃ W, owes (c : Thread nD τ) 0 W)

theorem run (K : GSem nD τ sig → ℕ) (W : Waits sig Unit) (Q : PUnit → sProp 𝕄) :
    pre x c K W ⊢ iprop((post x c -∗ Q ⟨⟩) -∗ WP c (flat (F := F)) Q) := by
  unfold pre flat
  simp only [wp_deviceId]
  iintro ⟨⟨#HI, #Hlev, #HV⟩, ⟨Hs, Hcb, Hab, HL⟩, Hr, Hp, Ho, HO⟩ Hk
  ihave Hr := (scratch_split (F := F) c) $$ Hr
  iapply (wp_meet x c K W) $$ [Hs Hr Hcb Hab HO]
  · isplitr
    · isplitr; · iexact HI
      isplitr; · iexact Hlev
      iexact HV
    isplitl [Hs Hr]
    · iapply ((Entails.of_eq (BI.bigSep_sep' _ _ _).symm).trans (bigSep_mono fun k _ => show iprop((reached ER (barCell (peer k c)) 0 ∗ dutyTok ER (barCell (peer k c)) 0 k) ∗ rAny (F := F) c k) ⊢ sig1 (F := F) c k from by
        unfold sig1
        iintro ⟨⟨H1, H2⟩, H3⟩
        isplitl [H1]; · iexact H1
        isplitl [H2] <;> iassumption))
      isplitl [Hs] <;> iassumption
    isplitl [Hcb]; · iexact Hcb
    isplitl [Hab] <;> iassumption
  iintro ⟨Hpay, Hab, HO⟩
  iapply (wp_fill x c) $$ [Hp Ho]
  · isplitl [Hp] <;> iassumption
  iintro ⟨Hp, HC⟩
  ihave Hd := (deal (F := F) c) $$ Hpay
  icases Hd with ⟨#HR, D0, D1, D2, D3, D4⟩
  ihave HL := (legs_deal (F := F) c) $$ HL
  icases HL with ⟨L0, L1, L2, L3, L4, L5, L6, L7⟩
  ihave #Hctx := (show iprop((invs x K ∗ levAts L lv) ∗ bigSep Finset.univ fun k : Fin 5 => ready (F := F) (peer k c)) ⊢ ctx x c K from .rfl) $$ []
  · isplitr
    · isplitr; · iexact HI
      iexact Hlev
    iexact HR
  unfold stages
  iapply (wp_down x c (s := 0) (isA0 c) (isB0 c) (by decide) K (legs.drop 2) (by decide)) $$ [L0 D0 HC HO]
  · isplitr; · iexact Hctx
    isplitl [L0]; · iexact L0
    isplitl [D0]; · iexact D0
    isplitl [HC]; · iexact HC
    iexact HO
  iintro ⟨P0, K0, R0, HC, HO⟩
  iapply (wp_down x c (s := 1) (isA1 c) (isB1 c) (by decide) K (legs.drop 4) (by decide)) $$ [L1 D1 HC HO]
  · isplitr; · iexact Hctx
    isplitl [L1]; · iexact L1
    isplitl [D1]; · iexact D1
    isplitl [HC]; · iexact HC
    iexact HO
  iintro ⟨P1, K1, R1, HC, HO⟩
  iapply (wp_down x c (s := 2) (isA2 c) (isB2 c) (by decide) K (legs.drop 6) (by decide)) $$ [L2 D2 HC HO]
  · isplitr; · iexact Hctx
    isplitl [L2]; · iexact L2
    isplitl [D2]; · iexact D2
    isplitl [HC]; · iexact HC
    iexact HO
  iintro ⟨P2, K2, R2, HC, HO⟩
  iapply (wp_down x c (s := 3) (isA3 c) (isB3 c) (by decide) K (legs.drop 8) (by decide)) $$ [L3 D3 HC HO]
  · isplitr; · iexact Hctx
    isplitl [L3]; · iexact L3
    isplitl [D3]; · iexact D3
    isplitl [HC]; · iexact HC
    iexact HO
  iintro ⟨P3, -, R3, HC, HO⟩
  iapply (wp_down x c (s := 4) (isA4 c) (isB4 c) (by decide) K (legs.drop 10) (by decide)) $$ [L4 D4 HC HO]
  · isplitr; · iexact Hctx
    isplitl [L4]; · iexact L4
    isplitl [D4]; · iexact D4
    isplitl [HC]; · iexact HC
    iexact HO
  iintro ⟨P4, -, R4, HC, HO⟩
  iapply (wp_up x c (s := 5) (isA5 c) (isB5 c) (by decide) K (legs.drop 12) (by decide)) $$ [L5 K2 HC HO]
  · isplitr; · iexact Hctx
    isplitl [L5]; · iexact L5
    isplitl [K2]; · iexact K2
    isplitl [HC]; · iexact HC
    iexact HO
  iintro ⟨P5, HC, HO⟩
  iapply (wp_up x c (s := 6) (isA6 c) (isB6 c) (by decide) K (legs.drop 14) (by decide)) $$ [L6 K1 HC HO]
  · isplitr; · iexact Hctx
    isplitl [L6]; · iexact L6
    isplitl [K1]; · iexact K1
    isplitl [HC]; · iexact HC
    iexact HO
  iintro ⟨P6, HC, HO⟩
  iapply (wp_up x c (s := 7) (isA7 c) (isB7 c) (by decide) K [] (by decide)) $$ [L7 K0 HC HO]
  · isplitr; · iexact Hctx
    isplitl [L7]; · iexact L7
    isplitl [K0]; · iexact K0
    isplitl [HC]; · iexact HC
    iexact HO
  iintro ⟨P7, HC, HO⟩
  iapply (wp_done c Q)
  ihave HP := (pos_join (F := F) c) $$ [P0 P1 P2 P3 P4 P5 P6 P7]
  · isplitl [P0]; · iexact P0
    isplitl [P1]; · iexact P1
    isplitl [P2]; · iexact P2
    isplitl [P3]; · iexact P3
    isplitl [P4]; · iexact P4
    isplitl [P5]; · iexact P5
    isplitl [P6] <;> iassumption
  imod (Rounds.cell_close ER (Rd x) (g := barCell c) (Set.mem_univ (K (barCell c))) (fun h => h) (R := 1) (duties_later x (barCell c))) $$ [Hab] with Hzb
  · isplitr; · iapply (inv_at x K (mem_bar c)); iexact HI
    iexact Hab
  imod (close_all x c K) $$ [HP] with Hz
  · isplitr; · iexact HI
    iexact HP
  imodintro
  iapply Hk
  unfold post
  isplitl [Hzb Hz]; · isplitl [Hzb] <;> iassumption
  isplitl [R0 R1 R2 R3 R4]
  · iapply (parts_join (F := F) c)
    isplitl [R0]; · iexact R0
    isplitl [R1]; · iexact R1
    isplitl [R2]; · iexact R2
    isplitl [R3] <;> iassumption
  isplitl [Hp]; · iexact Hp
  isplitl [HC]; · iapply (show chains x c ((7 : Fin 8).val + 1) ⊢ oAll c (res x c) from chains_end x c) $$ HC
  iexact HO

end Cert.KernelIdeal.Ring

end
-- ==== Proof.Region.lean ====
module

/-
  The kernel region of `@main`: its proof data, its body's obligation, its record.
-/
public import proofs.«01_k».proof.Proof.Body
public import proofs.«01_k».proof.Proof.Gen.KernelIdeal.Regions
public import Idealize.ShloMosaic.Lib.Pipeline.RegionTalk
public import Idealize.ShloMosaic.Lib.Rounds.Family

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- Each device's operand of the kernel: what `@main` has computed by then. -/
def xin (c : Dev nD) : Blk F := V3 m c main_v47

/-- What the region leaves in its result. -/
def outs : Outs (F := F) := fun _ r c => if h : r = main_v48 then h ▸ (res (xin m) c : Buf (Elt F) ((c : Thread nD τ).loc main_v48)) else fun _ => (Elt.inhabited F _).default

theorem outs_eq (c : Dev nD) : outs m 4 main_v48 c = res (xin m) c := dif_pos rfl

/-! ## What enters the region and what leaves it -/

variable (c : Dev nD)

/-- The credit of a device's own barrier and receive cells. -/
def creds : sProp 𝕄 :=
  iprop(cred (tallyAt (barCell c) () 5) ∗ bigSep Finset.univ fun j : Fin 2 × Fin 8 => cred (tallyAt (recvCell j.1 j.2 c) () (N j.2)))

/-- What a device keeps of its own cells from the launch on: the barrier's position, the rights to open the transfer cells,
    the tokens of the duties it pays. -/
def mine : sProp 𝕄 :=
  iprop(atPos ER (barCell c) 0 ∅ 0 ∗ (bigSep Finset.univ fun j : Fin 2 × Fin 2 × Fin 8 => openTok ER ((c : Thread nD τ), osem j))
    ∗ (bigSep Finset.univ fun k : Fin 5 => dutyTok ER (barCell (peer k c)) 0 k) ∗ bigSep Finset.univ fun j : Fin 2 × Fin 8 => toks j.1 j.2 c)

def ghost (K : GSem nD τ sig → ℕ) : sProp 𝕄 :=
  iprop((invs (xin m) K ∗ bigSep Finset.univ fun k : Fin 5 => reached ER (barCell (peer k c)) 0) ∗ mine c)

def Tk : sProp 𝕄 := iprop((∃ K, ghost m c K) ∗ creds c)

/-- The same, the transfer cells opened. -/
def Xk : sProp 𝕄 := iprop(∃ K, (invs (xin m) K ∗ levAts L lv ∗ ready c)
    ∗ ((bigSep Finset.univ fun k => iprop(reached ER (barCell (peer k c)) 0 ∗ dutyTok ER (barCell (peer k c)) 0 k))
    ∗ cred (tallyAt (barCell c) () 5) ∗ atPos ER (barCell c) 0 ∅ 0 ∗ bigSep Finset.univ fun j : Fin 2 × Fin 8 => leg c j.1 j.2))

def Yk : sProp 𝕄 := semVal (barCell c) 0

/-- A chain's part of a stage, from its two cells just opened. -/
theorem leg_opened (X : Fin 2) (s : Fin 8) :
    iprop((iprop(atPos ER (sendCell X s c) 0 ∅ 0 ∗ reached ER (sendCell X s c) 0) ∗ iprop(atPos ER (recvCell X s c) 0 ∅ 0 ∗ reached ER (recvCell X s c) 0))
        ∗ toks X s c ∗ cred (tallyAt (recvCell X s c) () (N s)))
      ⊢ iprop(leg c X s ∗ reached ER (recvCell X s c) 0 : sProp 𝕄) := by
  unfold leg pos
  iintro ⟨⟨⟨Ha, #Hr⟩, Hb, #Hq⟩, Ht, Hc⟩
  isplitl
  · isplitr; · iexact Hr
    isplitl [Ht]; · iexact Ht
    isplitl [Ha Hb]; · isplitl [Ha] <;> iassumption
    iexact Hc
  iexact Hq

theorem ownSems_eq : (Pipeline.ownSems0 osem c : sProp 𝕄) = zeros (F := F) c := by
  unfold Pipeline.ownSems0 zeros; rfl

theorem hopen : iprop(Tk m c ∗ Pipeline.ownSems0 osem c ∗ levAts L lv) ⊢ (|={Set.univ}=> Xk m c : sProp 𝕄) := by
  unfold Tk Xk ghost mine creds
  iintro ⟨⟨⟨%K, ⟨#HI, #HR⟩, Hab, Ho, Hd, Ht⟩, Hcb, Hcr⟩, Hz, #Hlev⟩
  imod (Rounds.cells_open ER (Rd (xin m)) Finset.univ (fun j : Fin 2 × Fin 2 × Fin 8 => ((c : Thread nD τ), osem j)) (fun j => K ((c : Thread nD τ), osem j))
      (fun _ _ => Set.mem_univ _)) $$ [Ho Hz] with Hp
  · isplitl [Ho]
    · iapply (bigSep_with_persistent (R := invs (xin m) K) fun j _ => sep_mono_left (inv_at (xin m) K (mem_osem c j)))
      isplitr; · iexact HI
      iexact Ho
    iapply (show Pipeline.ownSems0 osem c ⊢ (bigSep Finset.univ fun j : Fin 2 × Fin 2 × Fin 8 => semVal ((c : Thread nD τ), osem j) 0 : sProp 𝕄) from by
      unfold Pipeline.ownSems0; exact .rfl) $$ Hz
  ihave Hp := (Entails.of_eq (by_osem c fun g => (iprop(atPos ER g 0 ∅ 0 ∗ reached ER g 0) : sProp 𝕄))) $$ Hp
  ihave Hl := (show iprop((bigSep Finset.univ fun j : Fin 2 × Fin 8 => iprop(iprop(atPos ER (sendCell j.1 j.2 c) 0 ∅ 0 ∗ reached ER (sendCell j.1 j.2 c) 0) ∗ iprop(atPos ER (recvCell j.1 j.2 c) 0 ∅ 0 ∗ reached ER (recvCell j.1 j.2 c) 0)))
        ∗ (bigSep Finset.univ fun j : Fin 2 × Fin 8 => toks j.1 j.2 c) ∗ bigSep Finset.univ fun j : Fin 2 × Fin 8 => cred (tallyAt (recvCell j.1 j.2 c) () (N j.2)))
      ⊢ iprop((bigSep Finset.univ fun j : Fin 2 × Fin 8 => leg (F := F) c j.1 j.2) ∗ ready (F := F) c) from by
    unfold ready
    rw [← bigSep_sep', ← bigSep_sep', ← bigSep_sep']
    exact bigSep_mono fun j _ => leg_opened c j.1 j.2) $$ [Hp Ht Hcr]
  · isplitl [Hp]; · iexact Hp
    isplitl [Ht] <;> iassumption
  icases Hl with ⟨Hl, #HV⟩
  imodintro
  iexists K
  isplitr
  · isplitr; · iexact HI
    isplitr; · iexact Hlev
    iexact HV
  isplitl [Hd]
  · iapply (Entails.of_eq (bigSep_sep' _ _ _).symm)
    isplitr; · iexact HR
    iexact Hd
  isplitl [Hcb]; · iexact Hcb
  isplitl [Hab]; · iexact Hab
  iexact Hl

/-! ## The proof data and the body -/

def Φ₀ : sProp 𝕄 := iprop(Xk m c ∗ scratch (F := F) c ∗ ∃ r, prngReg c r)
def Φ₁ : sProp 𝕄 := iprop((semVal (barCell c) 0 ∗ zeros (F := F) c) ∗ scratch (F := F) c ∗ ∃ r, prngReg c r)

def pdats (_ : Fin 1) (c : Dev nD) : Dat τ (Elt F) Unit ℕ UU ℕ cfg0 c where
  A w := match w with
    | ⟨0, _⟩ => V3 m c main_v47
    | ⟨1, _⟩ => V3 m c main_v48
  after w _ := match w with
    | ⟨0, _⟩ => xin m c
    | ⟨1, _⟩ => res (xin m) c
  Φ t := if t.val = 0 then Φ₀ m c else Φ₁ c
  q _ := fullShare
  owed t := if t.val = 0 then O₀ c else 0

theorem Φ_first : (pdats m 0 c).Φ 0 = Φ₀ m c := by
  show (if (0 : Fin (cfg0.N + 1)).val = 0 then Φ₀ m c else Φ₁ c) = _
  exact if_pos rfl
theorem Φ_last : (pdats m 0 c).Φ (Fin.last cfg0.N) = Φ₁ c := by
  show (if (Fin.last cfg0.N).val = 0 then Φ₀ m c else Φ₁ c) = _
  rw [Fin.val_last, if_neg (by rw [show cfg0.N = 1 from N_0]; decide)]
theorem owed_first : (pdats m 0 c).owed 0 = O₀ c := by
  show (if (0 : Fin (cfg0.N + 1)).val = 0 then O₀ c else 0) = _
  exact if_pos rfl
theorem owed_last : (pdats m 0 c).owed (Fin.last cfg0.N) = 0 := by
  show (if (Fin.last cfg0.N).val = 0 then O₀ c else 0) = _
  rw [Fin.val_last, if_neg (by rw [show cfg0.N = 1 from N_0]; decide)]

theorem owesAt_intro (dat : Dat τ (Elt F) Unit ℕ UU ℕ cfg0 c) (t : Fin (cfg0.N + 1)) (O : CellTallies nD τ sig Unit) (h0 : dat.owed t = O)
    (W : Waits sig Unit) (hr : dat.recorded t = Set.univ) : (owes (c : Thread nD τ) O W : sProp 𝕄) ⊢ dat.owesAt () t := by
  unfold Dat.owesAt Pipeline.owesWithin Dat.bound
  rw [h0, hr]
  iintro HO; iexists W; isplitr; · ipureintro; exact fun _ _ => Or.inl trivial
  iexact HO

theorem owesAt_elim (dat : Dat τ (Elt F) Unit ℕ UU ℕ cfg0 c) (t : Fin (cfg0.N + 1)) (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩; iexists W; iexact HO

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at given contents. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_in (d : (cc0_stg0_0 : Ref sig .tc).ty.Contents (Elt F)) : (pdats m 0 c).before (0 : Fin 2) t0_0 d = xin m c := by
  unfold Dat.before
  rw [if_pos (fetch0_0 t0_0)]
  show (win0_0.blk t0_0).view.read (Elt F) (V3 m c main_v47) = V3 m c main_v47
  exact Memref.read_access_unit_zero (Elt F) main_v47 (by funext a; fin_cases a <;> rfl) _ (V3 m c main_v47)

theorem run_point : iprop((pdats m 0 c).Φ t0_0.castSucc ∗ (pdats m 0 c).owesAt () t0_0.castSucc
      ∗ (∃ d, stg c cc0_stg0_0 ((pdats m 0 c).before (0 : Fin 2) t0_0 d)) ∗ ∃ d, stg c cc0_stg1_0 ((pdats m 0 c).before (1 : Fin 2) t0_0 d))
    ⊢ WP c (bodyAt0 (F := F) t0_0) fun _ => iprop((pdats m 0 c).Φ t0_0.succ ∗ (pdats m 0 c).owesAt () t0_0.succ
      ∗ stg c cc0_stg0_0 (xin m c) ∗ stg c cc0_stg1_0 (res (xin m) c)) := by
  rw [bodyAt_eq t0_0, show (pdats m 0 c).Φ t0_0.castSucc = Φ₀ m c from Φ_first m c, show (pdats m 0 c).Φ t0_0.succ = Φ₁ c from Φ_last m c]
  unfold Φ₀ Φ₁ Xk
  iintro ⟨⟨⟨%K, Hctx, Hg⟩, Hs, Hreg⟩, HO, ⟨%d0, %f0, %e0, Hp⟩, ⟨%d1, %f1, -, Ho⟩⟩
  ihave HO := (owesAt_elim c (pdats m 0 c) t0_0.castSucc (O₀ c) (owed_first m c)) $$ HO
  icases HO with ⟨%W, HO⟩
  iapply (run (xin m) c K W) $$ [Hctx Hg Hs HO Hp Ho]
  · unfold pre
    isplitl [Hctx]; · iexact Hctx
    isplitl [Hg]; · iexact Hg
    isplitl [Hs]; · iexact Hs
    isplitl [Hp]; · iapply (Entails.of_eq (congrArg (fun f => (pPts c f : sProp 𝕄)) (e0.trans (before_in m c d0)))) $$ Hp
    isplitl [Ho]; · iexists f1; iexact Ho
    iexact HO
  unfold post
  iintro ⟨Hz, Hs, Hp, Ho, ⟨%W', HO⟩⟩
  isplitl [Hz Hs Hreg]
  · isplitl [Hz]; · iexact Hz
    isplitl [Hs] <;> iassumption
  isplitl [HO]; · iapply (owesAt_intro c (pdats m 0 c) t0_0.succ 0 (owed_last m c) W' rfl); iexact HO
  isplitl [Hp]; · iexists _; isplitr; · ipureintro; rfl
                  iexact Hp
  iexists _; isplitr; · ipureintro; rfl
  iexact Ho

set_option maxRecDepth 8000 in
theorem body_obligation : BodyObligation (pdats m 0 c) (defs₀ (F := F)) 𝒱₀ () Set.univ := fun t => by
  rw [fin_N0 t, bigSep_W0, bigSep_W0]
  simp only [owns_whole_eq]
  exact run_point m c

/-! ## The record -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers that are neither the kernel's operand nor its result. -/
def others : Finset (DevRef τ sig) := Pipeline.ucRefs τ sig \ Pipeline.arrRefs (τ := τ) (pcfgs (F := F) 0).spec

theorem owed_above (t : Fin (cfg0.N + 1)) (g : GSem nD τ sig) (i : Unit) (h : 0 < (pdats m 0 c).owed t g i) : i ∈ L g ∧ (0 : ℕ) < lv g i := by
  have e : (pdats m 0 c).owed t = if t.val = 0 then O₀ c else 0 := rfl
  rw [e] at h
  split at h
  · rcases oweB_pos h with ⟨j, -, rfl⟩ | ⟨k, rfl⟩
    · exact ⟨by rw [L_tc]; exact Finset.mem_singleton_self _, by show 0 < lvS (.dma (rsem j.1 j.2)); rw [lvS_recv]; omega⟩
    · exact ⟨by rw [L_tc]; exact Finset.mem_singleton_self _, Nat.one_pos⟩
  · exact absurd h (Nat.lt_irrefl 0)

theorem share_eq (w : Fin cfg0.W) : (pdats m 0 c).share w = fullShare := by unfold Dat.share; split <;> rfl

theorem scopedRest_eq : (Pipeline.scopedRest (Ix := Unit) (Name := ℕ) (U := UU) (Lvl := ℕ) (Val := Elt F) spec0 c : sProp 𝕄) = scratch (F := F) c :=
  scopedRest0_eq c

theorem hin : iprop(Pipeline.scopedRest (Pipeline.pin (pcfgs (F := F)) adm 0).spec c ∗ (∃ r, prngReg c r) ∗ StableHlo.held (c.tc : Thread nD τ) ∅ (V3 m c) ∗ Xk m c)
    ⊢ (pdats m 0 c).Φ 0 := by
  rw [Φ_first]
  unfold Φ₀
  iintro ⟨Hs, Hp, -, HX⟩
  isplitl [HX]; · iexact HX
  isplitl [Hs]; · iapply (Entails.of_eq (scopedRest_eq c)) $$ Hs
  iexact Hp

theorem hout : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V4 m (outs m) c) ∗ Pipeline.ownSems0 osem c ∗ Yk (F := F) c) := by
  refine (Entails.of_eq (Φ_last m c)).trans ?_
  unfold Φ₁ Yk
  iintro ⟨⟨Hb, Hz⟩, Hs, Hp⟩
  isplitl [Hs]; · iapply (Entails.of_eq (scopedRest_eq c).symm) $$ Hs
  isplitl [Hp]; · iexact Hp
  isplitr; · unfold StableHlo.held; rw [BI.bigSep_empty]; iempintro
  isplitl [Hz]; · iapply (Entails.of_eq (ownSems_eq c).symm) $$ Hz
  iexact Hb

theorem arr_entry (w : Fin cfg0.W) : (pdats m 0 c).arrAt w 0 = V3 m c (Proc.devRef .tc (Pipeline.arrRef (Pipeline.pin (pcfgs (F := F)) adm 0).spec w)) :=
  match w with
  | ⟨0, _⟩ => rfl
  | ⟨1, _⟩ => rfl

theorem v47_ne : (Proc.devRef .tc main_v47 : DevRef τ sig) ≠ Proc.devRef .tc main_v48 := by decide

theorem arr_in : (pdats m 0 c).arrAt (0 : Fin 2) cfg0.N = V4 m (outs m) c main_v47 :=
  ((pdats m 0 c).arrAt_in (0 : Fin 2) rfl _).trans (show V3 m c main_v47 = V4 m (outs m) c main_v47 from (V4_of m (outs m) c main_v47 (by decide)).symm)

theorem arr_out : (pdats m 0 c).arrAt (1 : Fin 2) cfg0.N = V4 m (outs m) c main_v48 := by
  rw [show V4 m (outs m) c main_v48 = outs m 4 main_v48 c from Function.update_self .., outs_eq]
  refine ((pdats m 0 c).arrAt_succ (1 : Fin 2) t0_0).trans ?_
  rw [if_pos (flush0_1 t0_0)]
  exact Memref.write_access_unit_zero_univ (Elt F) main_v48 (by funext a; fin_cases a <;> rfl) _ _ (res (xin m) c)

theorem arr_exit (w : Fin cfg0.W) : (pdats m 0 c).arrAt w (Pipeline.pin (pcfgs (F := F)) adm 0).N
    = V4 m (outs m) c (Proc.devRef .tc (Pipeline.arrRef (Pipeline.pin (pcfgs (F := F)) adm 0).spec w)) :=
  match w with
  | ⟨0, _⟩ => arr_in m c
  | ⟨1, _⟩ => arr_out m c

theorem arr_v48 : (Proc.devRef .tc main_v48 : DevRef τ sig) ∈ Pipeline.arrRefs (τ := τ) (pcfgs (F := F) 0).spec := by
  unfold Pipeline.arrRefs
  exact Finset.mem_map_of_mem _ (Finset.mem_image.mpr ⟨(1 : Fin 2), Finset.mem_univ _, rfl⟩)

theorem hrest : ∀ b ∈ others (F := F) \ ∅, V4 m (outs m) c b = V3 m c b := fun b hb =>
  Function.update_of_ne (fun e => (Finset.mem_sdiff.mp (Finset.mem_sdiff.mp hb).1).2 (by rw [e]; exact arr_v48)) _ _

theorem stage_low : ∀ (w : Fin cfg0.W) (s : Fin (cfg0.win w).nbuf), lvS (.dma ((cfg0.win w).sem s)) ≤ 0 := by decide +kernel

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ (others (F := F)) (Finset.empty_subset _) kit rfl (fun c => (body_obligation m c).loose)
    (fun _ => 0) O₀ (fun c => (owed_first m c).trans (zero_add _).symm) (owed_last m) (fun _ => rfl) (share_eq m)
    (V3 m) (V4 m (outs m)) (hrest m)
    (Tk m) (Yk (F := F)) (Xk m) (Yk (F := F)) (hopen m) (hin m) (hout m)
    (fun c => by iintro H; imodintro; iexact H)
    (fun _ => 0)
    ⟨fun c w s => by rw [L_tc]; exact Finset.mem_singleton_self _, fun _ w s => stage_low w s, fun c t g i h => owed_above m c t g i h⟩
    (fun _ => iprop(emp)) (arr_entry m) (arr_exit m)

end Cert.KernelIdeal.Ring

end
-- ==== Proof.Launch.lean ====
module

/-
  The launch: the ghost state made and dealt to the devices, and the run of `@main` from it.
-/
public import proofs.«01_k».proof.Proof.Region

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The credit each cell is launched with -/

theorem recvCell_inj {X Y : Fin 2} {s t : Fin 8} {c d : Dev nD} (h : recvCell X s c = recvCell Y t d) : (X, s) = (Y, t) ∧ c = d := by
  have e := dmaEmb.injective (a₁ := (c, (1 : Fin 2), X, s)) (a₂ := (d, (1 : Fin 2), Y, t)) h
  exact ⟨(Prod.ext_iff.mp (Prod.ext_iff.mp e).2).2, (Prod.ext_iff.mp e).1⟩

theorem recv_ne_bar (X : Fin 2) (s : Fin 8) (c d : Dev nD) : barCell d ≠ recvCell X s c := fun h => by
  have h2 := congrArg Prod.snd h
  cases h2

theorem oweL_bar (d : Dev nD) (l : List (Fin 2 × Fin 8)) : oweL d l (barCell c) () = 0 := by
  by_contra h
  obtain ⟨j, -, e⟩ := oweL_pos (Nat.pos_of_ne_zero h)
  exact recv_ne_bar _ _ _ _ e

theorem sum_recv_one (j : Fin 2 × Fin 8) (X : Fin 2) (s : Fin 8) :
    (∑ d : Dev nD, (tallyAt (recvCell j.1 j.2 (pr j.1 j.2 d)) () (N j.2) : CellTallies nD τ sig Unit) (recvCell X s c) ()) = if j = (X, s) then N s else 0 := by
  split
  · next h =>
    subst h
    rw [Finset.sum_congr rfl fun d _ => (tallyAt_apply _ _ _ _ _).trans (if_congr (Q := d = pr X s c)
      ⟨fun h => by rw [(recvCell_inj h.1).2, pr_pr], fun h => by subst h; exact ⟨by rw [pr_pr], rfl⟩⟩ rfl rfl)]
    rw [Finset.sum_ite_eq' Finset.univ (pr X s c) fun _ => N s, if_pos (Finset.mem_univ _)]
  · next h =>
    exact Finset.sum_eq_zero fun d _ => (tallyAt_apply _ _ _ _ _).trans (if_neg fun e => h (recvCell_inj e.1).1.symm)

theorem oweL_nil (d : Dev nD) (g : GSem nD τ sig) : oweL d [] g () = 0 := by unfold oweL; rfl
theorem oweL_cons (d : Dev nD) (j : Fin 2 × Fin 8) (l : List (Fin 2 × Fin 8)) (g : GSem nD τ sig) : oweL d (j :: l) g ()
    = oweL d l g () + (tallyAt (recvCell j.1 j.2 (pr j.1 j.2 d)) () (N j.2) : CellTallies nD τ sig Unit) g () := by
  rw [show oweL d (j :: l) = oweL d l + tallyAt (recvCell j.1 j.2 (pr j.1 j.2 d)) () (N j.2) from rfl, Pi.add_apply, Finsupp.add_apply]

theorem sum_recv (X : Fin 2) (s : Fin 8) (l : List (Fin 2 × Fin 8)) :
    (∑ d : Dev nD, oweL d l (recvCell X s c) ()) = l.count (X, s) * N s := by
  generalize hN : N s = n
  induction l with
  | nil => rw [List.count_nil, Nat.zero_mul]; exact Finset.sum_eq_zero fun d _ => oweL_nil d _
  | cons j l ih =>
    rw [Finset.sum_congr rfl fun d _ => oweL_cons d j l _, Finset.sum_add_distrib, ih, sum_recv_one, List.count_cons, Nat.add_mul, hN]
    by_cases h : j = (X, s)
    · rw [if_pos h, if_pos (beq_iff_eq.mpr h), Nat.one_mul]
    · rw [if_neg h, if_neg (fun e => h (beq_iff_eq.mp e)), Nat.zero_mul]

theorem oweB_recv (d : Dev nD) (X : Fin 2) (s : Fin 8) (l : List (Fin 5)) : oweB d l (recvCell X s c) () = oweL d legs (recvCell X s c) () := by
  induction l with
  | nil => rfl
  | cons k l ih =>
    unfold oweB
    rw [Pi.add_apply, Finsupp.add_apply, ih, tallyAt_ne_cell (fun h => recv_ne_bar _ _ _ _ h.symm), Finsupp.zero_apply, Nat.add_zero]

theorem sum_bar_one (k : Fin 5) : (∑ d : Dev nD, (tallyAt (barCell (peer k d)) () 1 : CellTallies nD τ sig Unit) (barCell c) ()) = 1 := by
  rw [Finset.sum_congr rfl fun d _ => (tallyAt_apply _ _ _ _ _).trans (if_congr (Q := d = peer k c)
    ⟨fun h => by rw [barEmb.injective (a₁ := c) (a₂ := peer k d) h.1, peer_peer], fun h => by subst h; exact ⟨by rw [peer_peer], rfl⟩⟩ rfl rfl)]
  rw [Finset.sum_ite_eq' Finset.univ (peer k c) fun _ => 1, if_pos (Finset.mem_univ _)]

theorem sum_bar (l : List (Fin 5)) : (∑ d : Dev nD, oweB d l (barCell c) ()) = l.length := by
  induction l with
  | nil => exact Finset.sum_eq_zero fun d _ => oweL_bar c d legs
  | cons k l ih =>
    rw [Finset.sum_congr rfl fun d _ => show oweB d (k :: l) (barCell c) ()
        = oweB d l (barCell c) () + (tallyAt (barCell (peer k d)) () 1 : CellTallies nD τ sig Unit) (barCell c) () from rfl,
      Finset.sum_add_distrib, ih, sum_bar_one, List.length_cons]

theorem launch_bar : tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same]
  exact sum_bar c [0, 1, 2, 3, 4]

theorem count_legs (j : Fin 2 × Fin 8) : legs.count j = 1 := by revert j; decide +kernel

theorem launch_recv (X : Fin 2) (s : Fin 8) :
    tallyOn (recvCell X s c) (launchCredit (Pipeline.owing O₀) 0 (recvCell X s c)) = (tallyAt (recvCell X s c) () (N s) : CellTallies nD τ sig Unit) := by
  unfold tallyAt; refine congrArg _ (Finsupp.ext fun u => ?_); cases u
  rw [Pipeline.launchCredit_owing, Finsupp.single_eq_same]
  refine (Finset.sum_congr rfl fun d _ => oweB_recv c d X s [0, 1, 2, 3, 4]).trans ?_
  rw [sum_recv, count_legs, Nat.one_mul]

def recvEmb : Fin 2 × Fin 8 ↪ SemLoc sig :=
  ⟨fun j => .dma (rsem j.1 j.2), fun a b h => (Prod.ext_iff.mp (osem_inj (a₁ := ((1 : Fin 2), a)) (a₂ := ((1 : Fin 2), b)) h)).2⟩

theorem creds_intro : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvEmb) fun sm h => ?_).trans ((Entails.of_eq (bigSep_map recvEmb)).trans
    (bigSep_mono fun j _ => Entails.of_eq (congrArg (fun t => (cred t : sProp 𝕄)) (launch_recv c j.1 j.2))))
  obtain ⟨j, -, rfl⟩ := Finset.mem_map.mp h
  exact Finset.mem_erase.mpr ⟨fun e => (nomatch e), Finset.mem_univ _⟩

/-! ## The ghost state -/

theorem cells_disjoint : Disjoint barCells dmaCells := by
  rw [Finset.disjoint_left]
  intro g h₁ h₂
  obtain ⟨c, -, rfl⟩ := Finset.mem_map.mp h₁
  obtain ⟨j, -, h⟩ := Finset.mem_map.mp h₂
  exact osem_ne_bar j.2 (congrArg Prod.snd h)

/-- The duties of the barrier cells; those of the transfer cells. -/
def barDuty : Dev nD × Fin 5 ↪ GSem nD τ sig × ℕ × Fin 5 :=
  ⟨fun j => (barCell j.1, 0, j.2), fun _ _ h => Prod.ext (barEmb.injective (congrArg (fun t : GSem nD τ sig × ℕ × Fin 5 => t.1) h))
    (congrArg (fun t : GSem nD τ sig × ℕ × Fin 5 => t.2.2) h)⟩
def dmaDuty : Dev nD × Fin 2 × Fin 2 × Fin 8 ↪ GSem nD τ sig × ℕ × Fin 5 :=
  ⟨fun j => (dmaEmb j, 0, 0), fun _ _ h => dmaEmb.injective (congrArg (fun t : GSem nD τ sig × ℕ × Fin 5 => t.1) h)⟩

abbrev duties : Finset (GSem nD τ sig × ℕ × Fin 5) := Finset.univ.map barDuty ∪ Finset.univ.map dmaDuty

theorem duties_disjoint : Disjoint (Finset.univ.map barDuty) (Finset.univ.map dmaDuty) := by
  rw [Finset.disjoint_left]
  intro g h₁ h₂
  obtain ⟨c, -, rfl⟩ := Finset.mem_map.mp h₁
  obtain ⟨j, -, h⟩ := Finset.mem_map.mp h₂
  exact osem_ne_bar j.2 (congrArg (fun t : GSem nD τ sig × ℕ × Fin 5 => t.1.2) h)

/-- Each device's share of the tokens. -/
def myToks : sProp 𝕄 :=
  iprop((bigSep Finset.univ fun k : Fin 5 => dutyTok ER (barCell (peer k c)) 0 k) ∗ bigSep Finset.univ fun j : Fin 2 × Fin 8 => toks j.1 j.2 c)

theorem bar_around : (bigSep Finset.univ fun c : Dev nD => bigSep Finset.univ fun k : Fin 5 => (dutyTok ER (barCell c) 0 k : sProp 𝕄))
    = bigSep Finset.univ fun c : Dev nD => bigSep Finset.univ fun k : Fin 5 => dutyTok ER (barCell (peer k c)) 0 k := by
  rw [BI.bigSep_univ_comm, BI.bigSep_univ_comm (fun (c : Dev nD) (k : Fin 5) => (dutyTok ER (barCell (peer k c)) 0 k : sProp 𝕄))]
  exact bigSep_congr fun k _ => bigSep_univ_equiv (peerE k) (fun c : Dev nD => (dutyTok ER (barCell c) 0 k : sProp 𝕄))

theorem dma_around : (bigSep Finset.univ fun c : Dev nD => bigSep Finset.univ fun j : Fin 2 × Fin 8 =>
      iprop(dutyTok ER (sendCell j.1 j.2 c) 0 0 ∗ dutyTok ER (recvCell j.1 j.2 c) 0 0 : sProp 𝕄))
    = bigSep Finset.univ fun c : Dev nD => bigSep Finset.univ fun j : Fin 2 × Fin 8 => toks (F := F) j.1 j.2 c := by
  rw [BI.bigSep_univ_comm, BI.bigSep_univ_comm (fun (c : Dev nD) (j : Fin 2 × Fin 8) => toks (F := F) j.1 j.2 c)]
  refine bigSep_congr fun j _ => ?_
  unfold toks
  rw [bigSep_sep', bigSep_sep', bigSep_univ_equiv (peerE (bit j.1 j.2)) (fun c : Dev nD => (dutyTok ER (recvCell j.1 j.2 c) 0 0 : sProp 𝕄))]
  rfl

theorem bigSep_union_eq {I : Type} [DecidableEq I] {s t : Finset I} (h : Disjoint s t) (Φ : I → sProp 𝕄) :
    bigSep (s ∪ t) Φ = iprop(bigSep s Φ ∗ bigSep t Φ) := bigSep_union h

theorem toks_deal : bigSep duties (fun t => (dutyTok ER t.1 t.2.1 t.2.2 : sProp 𝕄)) ⊢ bigSep Finset.univ fun c : Dev nD => myToks (F := F) c := by
  refine Entails.of_eq ?_
  unfold myToks
  rw [bigSep_union_eq duties_disjoint, bigSep_map, bigSep_map, bigSep_univ_prod, bigSep_univ_prod, bigSep_sep', ← bar_around, ← dma_around]
  congr 1
  exact bigSep_congr fun c _ => by_osem c fun g => (dutyTok ER g 0 0 : sProp 𝕄)

/-- The launch element. -/
def u₀ : UU :=
  (initOf (Pipeline.cells (Pipeline.pin (pcfgs (F := F)) adm) cellOf_inj) (Pipeline.launchToks (Pipeline.pin (pcfgs (F := F)) adm) cellOf_inj),
    launchOf barCells dmaCells duties)

/-- A resource laid on the first device. -/
def onFirst (X : sProp 𝕄) (c : Dev nD) : sProp 𝕄 := if c = 0 then X else iprop(emp)

theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells dmaCells duties)))

/-- What every device may consult. -/
def records (κ : GSem nD τ sig → ℕ) : sProp 𝕄 := iprop(invs (xin m) κ ∗ bigSep barCells fun g => reached ER g 0)

instance records_persistent (κ : GSem nD τ sig → ℕ) : BI.Persistent (records m κ) := by unfold records; infer_instance

theorem reached_peers : (bigSep barCells fun g => (reached ER g 0 : sProp 𝕄)) ⊢ bigSep Finset.univ fun k : Fin 5 => reached ER (barCell (peer k c)) 0 := by
  refine BI.bigSep_intro_persistent fun k _ => ?_
  exact bigSep_elim (Finset.mem_map_of_mem barEmb (Finset.mem_univ (peer k c)))

/-- What of the ghost state is a device's own. -/
def linear : sProp 𝕄 :=
  iprop(atPos ER (barCell c) 0 ∅ 0 ∗ (bigSep Finset.univ fun j : Fin 2 × Fin 2 × Fin 8 => openTok ER ((c : Thread nD τ), osem j)) ∗ myToks (F := F) c)

theorem ghost_intro (κ : GSem nD τ sig → ℕ) : iprop(records m κ ∗ linear c) ⊢ iprop(∃ K, ghost m c K) := by
  unfold records linear ghost mine myToks
  iintro ⟨⟨#HI, #HR⟩, Ha, Ho, Ht, Hd⟩
  iexists κ
  isplitr
  · isplitr; · iexact HI
    iapply (reached_peers c); iexact HR
  isplitl [Ha]; · iexact Ha
  isplitl [Ho]; · iexact Ho
  isplitl [Ht] <;> iassumption

/-- What rides along `@main`'s host operations, before the kernel and after it. -/
def E : Fin 2 → Dev nD → sProp 𝕄 := fun i c =>
  if i = 0 then iprop(Tk m c ∗ (∃ r, prngReg c r) ∗ ∃ W, owes (c : Thread nD τ) (O₀ c) W)
  else iprop(semVal (barCell c) 0 ∗ ∃ W, owes (c : Thread nD τ) (0 : CellTallies nD τ sig Unit) W)

theorem E_first : E m 0 c = iprop(Tk m c ∗ (∃ r, prngReg c r) ∗ ∃ W, owes (c : Thread nD τ) (O₀ c) W) := rfl
theorem E_last : E m 1 c = iprop(semVal (barCell c) 0 ∗ ∃ W, owes (c : Thread nD τ) (0 : CellTallies nD τ sig Unit) W) := rfl

def held : sProp 𝕄 :=
  iprop(creds c ∗ owes (c : Thread nD τ) (O₀ c) ∅ ∗ ∃ r, prngReg c r)

theorem E_intro (κ : GSem nD τ sig → ℕ) : iprop(records m κ ∗ (linear c ∗ held c)) ⊢ E m 0 c := by
  rw [E_first]
  unfold held Tk
  iintro ⟨#HR, Hl, Hc, HO, Hp⟩
  isplitl [Hl Hc]
  · isplitl [Hl]
    · iapply (ghost_intro m c κ)
      isplitr; · iexact HR
      iexact Hl
    iexact Hc
  isplitl [Hp]; · iexact Hp
  iexists ∅; iexact HO

theorem unscoped_eq : ∀ sm : SemLoc sig, sm.isScoped .tc = false → sm = .reg barS := by decide

theorem unscopedSems_eq : (unscopedSems0 c : sProp 𝕄) = semVal (barCell c) 0 := by
  unfold unscopedSems0
  rw [show (Finset.univ.filter fun sm : SemLoc sig => ¬ sm.isScoped .tc = true) = {SemLoc.reg barS} from by decide, BI.bigSep_singleton]

theorem unpair {Φ Ψ : Dev nD → sProp 𝕄} : (bigSep Finset.univ fun c => iprop(Φ c ∗ Ψ c)) ⊢ iprop(bigSep Finset.univ Φ ∗ bigSep Finset.univ Ψ) :=
  Entails.of_eq (BI.bigSep_sep' _ _ _)
theorem pair {Φ Ψ : Dev nD → sProp 𝕄} : iprop(bigSep Finset.univ Φ ∗ bigSep Finset.univ Ψ) ⊢ (bigSep Finset.univ fun c => iprop(Φ c ∗ Ψ c)) :=
  Entails.of_eq (BI.bigSep_sep' _ _ _).symm

theorem init :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop(held c ∗ (semVal (barCell c) 0 ∗ G c)) : sProp 𝕄) := by
    rw [unscopedSems_eq]
    unfold held
    iintro ⟨Hs, HO, Hc, Hp, HG⟩
    isplitl [HO Hc Hp]
    · isplitl [Hc]; · iapply (creds_intro (F := F) c) $$ Hc
      isplitl [HO]; · iexact HO
      iexists (ρ c); iexact Hp
    isplitl [Hs] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep dmaCells (fun g => (openTok ER g : sProp 𝕄))
      ⊢ bigSep Finset.univ (fun c : Dev nD => bigSep Finset.univ fun j : Fin 2 × Fin 2 × Fin 8 => openTok ER ((c : Thread nD τ), osem j)) :=
    Entails.of_eq (by rw [bigSep_map, bigSep_univ_prod]; rfl)
  iintro ⟨H, -⟩
  ihave H := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(held c ∗ (semVal (barCell c) 0 ∗ G c)) : sProp 𝕄) from bigSep_mono fun c _ => hcore c) $$ H
  ihave H := unpair $$ H; icases H with ⟨HB, H⟩
  ihave H := unpair $$ H; icases H with ⟨Hv, HG⟩
  ihave Hu := (show bigSep Finset.univ (G (F := F)) ⊢ BI.own (ER (launchOf barCells dmaCells duties)) from Entails.of_eq (bigSep_onFirst _)) $$ HG
  imod (Rounds.fund_launch ER (Rd (xin m)) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ held c)) fun c _ => E_intro m c κ)
  isplitr
  · unfold records invs
    isplitr; · iexact Hinv
    iexact Hr
  iapply pair
  isplitr [HB]
  · unfold linear
    iapply pair; isplitl [Hat]; · iapply hat $$ Hat
    iapply pair; isplitl [Hopen]; · iapply ho $$ Hopen
    iapply (toks_deal (F := F)) $$ Htok
  · iexact HB

/-! ## The region entered and left -/

theorem arr_sub : Pipeline.arrRefs (τ := τ) (pcfgs (F := F) 0).spec ⊆ Pipeline.ucRefs τ sig := by
  intro b hb
  unfold Pipeline.arrRefs at hb
  obtain ⟨r, hr, rfl⟩ := Finset.mem_map.mp hb
  obtain ⟨w, -, rfl⟩ := Finset.mem_image.mp hr
  match w with
  | ⟨0, _⟩ => exact Finset.mem_filter.mpr ⟨StableHlo.devRef_mem_tcRefs main_v47, show ¬ (Proc.devRef .tc main_v47 : DevRef τ sig).isScoped = true by decide⟩
  | ⟨1, _⟩ => exact Finset.mem_filter.mpr ⟨StableHlo.devRef_mem_tcRefs main_v48, show ¬ (Proc.devRef .tc main_v48 : DevRef τ sig).isScoped = true by decide⟩

theorem reg_pre : iprop(StableHlo.held (c : Thread nD τ) (Pipeline.ucRefs τ sig) (V3 m c) ∗ E m 0 c) ⊢ (reg m).pre c := by
  show _ ⊢ iprop(StableHlo.held (c.tc : Thread nD τ) (Pipeline.arrRefs (τ := τ) (pcfgs (F := F) 0).spec) (V3 m c) ∗ (∃ r, prngReg c r)
    ∗ (StableHlo.held (c.tc : Thread nD τ) (others (F := F)) (V3 m c) ∗ emp) ∗ Tk m c ∗ ∃ Wd, owes (c : Thread nD τ) ((0 : CellTallies nD τ sig Unit) + O₀ c) Wd)
  rw [E_first, StableHlo.held_sub_split (c.tc : Thread nD τ) (arr_sub (F := F)) (V3 m c), zero_add]
  iintro ⟨⟨Ha, Hb⟩, HT, Hp, HO⟩
  isplitl [Ha]; · iexact Ha
  isplitl [Hp]; · iexact Hp
  isplitl [Hb]
  · isplitl [Hb]; · iexact Hb
    iempintro
  isplitl [HT] <;> iassumption

theorem reg_post : (reg m).post c ⊢ iprop(StableHlo.held (c : Thread nD τ) (Pipeline.ucRefs τ sig) (V4 m (outs m) c) ∗ E m 1 c) := by
  show iprop(StableHlo.held (c.tc : Thread nD τ) (Pipeline.arrRefs (τ := τ) (pcfgs (F := F) 0).spec) (V4 m (outs m) c) ∗ (∃ r, prngReg c r)
    ∗ (StableHlo.held (c.tc : Thread nD τ) (others (F := F)) (V4 m (outs m) c) ∗ emp) ∗ semVal (barCell c) 0 ∗ ∃ Wd, owes (c : Thread nD τ) (0 : CellTallies nD τ sig Unit) Wd) ⊢ _
  rw [E_last, StableHlo.held_sub_split (c.tc : Thread nD τ) (arr_sub (F := F)) (V4 m (outs m) c)]
  iintro ⟨Ha, -, ⟨Hb, -⟩, HT, HO⟩
  isplitl [Ha Hb]
  · isplitl [Ha]; · iexact Ha
    iexact Hb
  isplitl [HT] <;> iassumption

/-! ## The run -/

/-- What a final state holds on one device. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v50) = V5 m (outs m) c main_v50

set_option backward.isDefEq.respectTransparency.types false in
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Pipeline.Seg.run_eq_chain,
        show (segs m (outs m) 𝒱₀ L lv (E m) () (pdats m) (reg m) c).map Pipeline.Seg.prog = [
          StableHlo.seq (hostOps0 c), StableHlo.seq hostOps0_1, StableHlo.seq hostOps0_2,
          Prog.lift (.customCall (Pipeline.entry 0) ()), StableHlo.seq hostOps1] from rfl]
      dsimp (config := { failIfUnchanged := false }) only
      exact .rfl)
    (fun c => by simp only [segs, Pipeline.Seg.pipes_host, Pipeline.Seg.pipes_region, Pipeline.Seg.pipes_nil]; decide)
    O₀ L_of_ne G (u₀ (F := F)) ?_
    (T₀ := fun c => iprop(StableHlo.held (c : Thread nD τ) (Pipeline.ucRefs τ sig) (V0 m c) ∗ E m 0 c))
    (Tₙ := fun c => iprop(StableHlo.held (c : Thread nD τ) (Pipeline.ucRefs τ sig) (V5 m (outs m) c) ∗ semVal (barCell c) 0))
    (hch := fun c => ⟨.rfl, .rfl, .rfl, reg_pre m c, reg_post m c, ?_⟩)
    (hinit := ?_)
    (QY := fun c s => Ends m c s ∧ s.sem (barCell c) = 0)
    (hfin := fun c s' => ?_)
    (hQ := fun s h hs => ⟨fun c => (h c).1, sem_eq_zero hs fun c sm hsm => by obtain rfl := unscoped_eq sm hsm; exact (h c).2⟩)
  · unfold u₀ G
    iintro Hu
    ihave H := (ownU_pair _ _) $$ Hu
    icases H with ⟨HP, HX⟩
    imodintro
    isplitl [HP]; · iexact HP
    rw [bigSep_onFirst]; iexact HX
  · show iprop(StableHlo.held (c : Thread nD τ) (Pipeline.ucRefs τ sig) (V5 m (outs m) c) ∗ E m 1 c) ⊢ _
    rw [E_last]
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H := hsplit $$ H
    icases H with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨⟨⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c)⟩,
        h (Proc.devRef .tc main_v50) (Finset.mem_filter.mpr ⟨StableHlo.devRef_mem_tcRefs main_v50, by decide⟩)⟩, by simpa using hb⟩
    iexact HSI

end Cert.KernelIdeal.Ring

end
-- ==== Proof.Frames.lean ====
module

/-
  The three frames: the arguments unchanged and every counter at zero.
-/
public import proofs.«01_k».proof.Defs
public import proofs.«01_k».proof.Proof.Gen.Kernel
public import proofs.«01_k».proof.Proof.Launch
public import proofs.«01_k».proof.Proof.Gen.ReferenceIdeal.Run

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => (h.1 c).1, h.2⟩) (Cert.KernelIdeal.Ring.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The frame of the ideal program's text, read at the machine's floats. -/
def sameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The two programs are one text, read at the machine's floats and at the ideal ones. -/
theorem same_text : sameAtBits = Cert.quiescent_Kernel := by sl_kernel_rfl

theorem frame_kernel : Cert.quiescent_Kernel := same_text.mp fun m ρ _ =>
  (θ_run Cert.KernelIdeal.defs _ _).mono (fun _ h => ⟨fun c => (h.1 c).1, h.2⟩) (Cert.KernelIdeal.Ring.run_main (F := Bits) m ρ)

end Cert.Proof

end
-- ==== Proof.Sum.lean ====
module

/-
  Over the extended reals the exchange between the devices leaves the sum of all their partial results on each of them.
-/
public import proofs.«01_k».proof.Proof.Frames

@[expose] public section

noncomputable section

namespace Cert.KernelIdeal.Ring

open Idealize.ShloMosaic Idealize.ShloMosaic.TcCoe
open Cert.KernelIdeal Cert.KernelIdeal.Gen

/-- Whose partial results a device's buffer adds up before stage `s` of a chain. -/
def grp (X : Fin 2) : ℕ → Dev nD → Finset (Dev nD)
  | 0, c => {c}
  | s + 1, c => grp X s c ∪ grp X s (pr X (Fin.ofNat 8 s) c)

theorem grp_disjoint (X : Fin 2) (s : Fin 5) (c : Dev nD) :
    Disjoint (grp X s.val c) (grp X s.val (pr X (Fin.ofNat 8 s.val) c)) := by
  revert X s c; decide +kernel

theorem grp_all (X : Fin 2) (c : Dev nD) : grp X 5 c = Finset.univ := by revert X c; decide +kernel

/-- The partial results of a group of devices, added up. -/
def total (x : Dev nD → Blk Ideal) (G : Finset (Dev nD)) (i : S512x512.Idx) : EReal := ∑ d ∈ G, (x d i : EReal)

variable (x : Dev nD → Blk Ideal)

theorem St_sum (X : Fin 2) (s : ℕ) (hs : s ≤ 5) (c : Dev nD) (i : S512x512.Idx) :
    (St x X s c i : EReal) = total x (grp X s c) i := by
  induction s generalizing c with
  | zero => exact (Finset.sum_singleton (fun d => (x d i : EReal)) c).symm
  | succ s ih =>
    have h8 : (Fin.ofNat 8 s).val = s := Nat.mod_eq_of_lt (by omega)
    have hA := St_add x X (Fin.ofNat 8 s) (by omega) c i
    rw [h8] at hA
    refine hA.trans ?_
    refine (congrArg₂ (fun a b : EReal => a + b) (ih (by omega) c) (ih (by omega) (pr X (Fin.ofNat 8 s) c))).trans ?_
    exact (Finset.sum_union (f := fun d => (x d i : EReal)) (grp_disjoint X ⟨s, by omega⟩ c)).symm

/-- From the fifth stage on every device holds the whole sum: the last stages only copy. -/
theorem St_total (X : Fin 2) (s : ℕ) (h5 : 5 ≤ s) (h8 : s ≤ 8) (c : Dev nD) (i : S512x512.Idx) :
    (St x X s c i : EReal) = total x Finset.univ i := by
  induction s, h5 using Nat.le_induction generalizing c with
  | base => rw [St_sum x X 5 le_rfl c i, grp_all]
  | succ s h ih =>
    have h8' : (Fin.ofNat 8 s).val = s := Nat.mod_eq_of_lt (by omega)
    have hK := St_keep x X (Fin.ofNat 8 s) (by omega) c i
    rw [h8'] at hK
    refine hK.trans ?_
    split
    · exact ih (by omega) _
    · exact ih (by omega) _

/-- The exchange's result: on every device, the sum over the devices. -/
theorem res_total (c : Dev nD) (i : S512x512.Idx) : (res x c i : EReal) = total x Finset.univ i := by
  unfold res
  split
  · exact St_total x 0 8 (by decide) le_rfl c i
  · exact St_total x 1 8 (by decide) le_rfl c i

end Cert.KernelIdeal.Ring

end
-- ==== Proof.Attention.lean ====
module

/-
  The attention of one head over the extended reals, and the reference's result in terms of it.
-/
public import proofs.«01_k».proof.Proof.Sum
public import Idealize.ShloMosaic.Lib.Pointwise
public import Idealize.ShloMosaic.Lib.Tactic.CleanTypes

@[expose] public section

noncomputable section

namespace Cert.Attention

open Idealize.ShloMosaic Idealize.ShloMosaic.TcCoe
open Cert.ReferenceIdeal Cert.ReferenceIdeal.Gen

/-- The masked scores of a head with queries `q` and keys `k`. -/
def score (keep : Fin 256 → Fin 256 → BitVec 1) (q k : Fin 256 → Fin 64 → EReal) (i j : Fin 256) : EReal :=
  Scalar.select (keep i j) ((∑ d : Fin 64, q i d * k j d) * Ideal.ofBits .f32 0x3E000000#32) (Ideal.ofBits .f32 0xCE6E6B28#32)

/-- The exponentials of a row of scores, its greatest subtracted. -/
def expo (s : Fin 256 → Fin 256 → EReal) (i j : Fin 256) : EReal :=
  Ideal.exp (s i j - Finset.univ.fold max (Ideal.ofBits .f32 0xFF800000#32) fun j' => s i j')

/-- What a head gives query `i` along `d`: the values weighted by the row's exponentials over their sum. -/
def attend (keep : Fin 256 → Fin 256 → BitVec 1) (q k v : Fin 256 → Fin 64 → EReal) (i : Fin 256) (d : Fin 64) : EReal :=
  ∑ j : Fin 256, Ideal.div (expo (score keep q k) i j) (∑ j' : Fin 256, expo (score keep q k) i j') * v j d

/-! ## The reference -/

/-- The reference's masked scores. -/
def rScores (x : FVec Ideal S2x256x512 .f32) (wq : FVec Ideal S512x8192 .f32) (k : FVec Ideal S2x256x128x64 .f32) :
    FVec Ideal S2x128x256x256 .f32 :=
  select (broadcastInDim S2x128x256x256 ![0, 1, 2, 3] bcast_S1x1x256x256_S2x128x256x256_0_1_2_3
      (broadcastInDim S1x1x256x256 ![2, 3] bcast_S256x256_S1x1x256x256_2_3 (fun i => lit0 (S256x256.rowMajor i))))
    (mulf (Host.dotGeneral dot_S2x256x128x64_S2x256x128x64_S2x128x256x256_3_3_1_1_02_02 none
        (shapeCast S2x256x128x64 (Host.dotGeneral dot_S2x256x512_S512x8192_S2x256x8192_2_0_01_1_n_n none x wq : FVec Ideal S2x256x8192 .f32)
          shapeCasts_S2x256x8192_S2x256x128x64) k)
      (broadcastInDim S2x128x256x256 ![] bcast_S_S2x128x256x256 (constant S_ .f32 0x3E000000#32)))
    (broadcastInDim S2x128x256x256 ![] bcast_S_S2x128x256x256 (constant S_ .f32 0xCE6E6B28#32))

/-- Their exponentials, each row's greatest subtracted. -/
def rExp (s : FVec Ideal S2x128x256x256 .f32) : FVec Ideal S2x128x256x256 .f32 :=
  Host.exp (subf s (broadcastInDim S2x128x256x256 ![0, 1, 2, 3] bcast_S2x128x256x1_S2x128x256x256_0_1_2_3
    (broadcastInDim S2x128x256x1 ![0, 1, 2] bcast_S2x128x256_S2x128x256x1_0_1_2
      (Host.reduce FloatOps.maximumf s (constant S_ .f32 0xFF800000#32) reducesTo_S2x128x256x256_S2x128x256_d3 h_S_))))

/-- The weights. -/
def rWeights (e : FVec Ideal S2x128x256x256 .f32) : FVec Ideal S2x128x256x256 .f32 :=
  select (broadcastInDim S2x128x256x256 ![0, 1, 2, 3] bcast_S1x1x256x1_S2x128x256x256_0_1_2_3
      (broadcastInDim S1x1x256x1 ![2] bcast_S256_S1x1x256x1_2 (constantI S256 1 1#1)))
    (Host.divf e (broadcastInDim S2x128x256x256 ![0, 1, 2, 3] bcast_S2x128x256x1_S2x128x256x256_0_1_2_3
      (select (broadcastInDim S2x128x256x1 ![0, 1, 2, 3] bcast_S1x1x256x1_S2x128x256x1_0_1_2_3
          (broadcastInDim S1x1x256x1 ![2] bcast_S256_S1x1x256x1_2 (constantI S256 1 1#1)))
        (broadcastInDim S2x128x256x1 ![0, 1, 2] bcast_S2x128x256_S2x128x256x1_0_1_2
          (Host.reduceAdd e (constant S_ .f32 0x00000000#32) reducesTo_S2x128x256x256_S2x128x256_d3 h_S_))
        (broadcastInDim S2x128x256x1 ![] bcast_S_S2x128x256x1 (constant S_ .f32 0x3F800000#32)))))
    (broadcastInDim S2x128x256x256 ![] bcast_S_S2x128x256x256 (constant S_ .f32 0x00000000#32))

/-- The result, from the weights. -/
def rOut (v : FVec Ideal S2x256x128x64 .f32) (w : FVec Ideal S2x128x256x256 .f32) (wo : FVec Ideal S8192x512 .f32) :
    FVec Ideal S2x256x512 .f32 :=
  Host.dotGeneral dot_S2x256x8192_S8192x512_S2x256x512_2_0_01_1_n_n none
    (shapeCast S2x256x8192 (transpose S2x256x128x64 [0, 3, 1, 2]
      (Host.dotGeneral dot_S2x256x128x64_S2x128x256x256_S2x128x64x256_1_3_3_2_02_01 none v w : FVec Ideal S2x128x64x256 .f32)
      transposes_S2x128x64x256_S2x256x128x64_0_3_1_2) shapeCasts_S2x256x128x64_S2x256x8192) wo

variable (x : FVec Ideal S2x256x512 .f32) (wq : FVec Ideal S512x8192 .f32) (k v : FVec Ideal S2x256x128x64 .f32)
  (wo : FVec Ideal S8192x512 .f32)

theorem res_eq (m : (ℓ : Loc nD τ sig) → Buf (Elt Ideal) ℓ) (c : Dev nD) :
    Value.res_main_v23 m c
      = rOut (m ((c.tc : Thread nD τ).loc main_arg3))
          (rWeights (rExp (rScores (m ((c.tc : Thread nD τ).loc main_arg0)) (m ((c.tc : Thread nD τ).loc main_arg1))
            (m ((c.tc : Thread nD τ).loc main_arg2)))))
          (m ((c.tc : Thread nD τ).loc main_arg4)) := by
  unfold Value.res_main_v23
  rfl

set_option maxRecDepth 16384

/-- Which keys a query may attend to. -/
def keep (i j : Fin 256) : BitVec 1 := lit0 (S256x256.rowMajor (ix2 i j))

/-- Head `h`'s lane `d` among the columns of all heads. -/
def col (h : Fin 128) (d : Fin 64) : Fin 8192 := ⟨h.val * 64 + d.val, by omega⟩

theorem rScores_at (b : Fin 2) (h : Fin 128) (i j : Fin 256) :
    rScores x wq k (ix4 b h i j)
      = score keep (fun i d => ∑ e : Fin 512, x (ix3 b i e) * wq (ix2 e (col h d))) (fun j d => k (ix4 b j h d)) i j := by
  pointwise [rScores, score, keep, col]

theorem rExp_at (s : FVec Ideal S2x128x256x256 .f32) (b : Fin 2) (h : Fin 128) (i j : Fin 256) :
    rExp s (ix4 b h i j) = expo (fun i j => s (ix4 b h i j)) i j := by
  pointwise [rExp, expo]

theorem rWeights_at (e : FVec Ideal S2x128x256x256 .f32) (b : Fin 2) (h : Fin 128) (i j : Fin 256) :
    rWeights e (ix4 b h i j) = Ideal.div (e (ix4 b h i j)) (∑ j' : Fin 256, e (ix4 b h i j')) := by
  pointwise [rWeights]

/-- The head and the lane of a column. -/
def headOf (n : Fin 8192) : Fin 128 := ⟨n.val / 64, by omega⟩
def laneOf (n : Fin 8192) : Fin 64 := ⟨n.val % 64, by omega⟩

theorem rOut_at (w : FVec Ideal S2x128x256x256 .f32) (b : Fin 2) (i : Fin 256) (o : Fin 512) :
    rOut v w wo (ix3 b i o)
      = ∑ n : Fin 8192, (∑ j : Fin 256, w (ix4 b (headOf n) i j) * v (ix4 b j (headOf n) (laneOf n))) * wo (ix2 n o) := by
  pointwise [rOut, headOf, laneOf]
  exact Finset.sum_congr rfl fun n _ => congrArg (· * _) (Finset.sum_congr rfl fun j _ => mul_comm _ _)

/-- The reference's result: every head's attention, through the output weights. -/
theorem reference_at (b : Fin 2) (i : Fin 256) (o : Fin 512) :
    rOut v (rWeights (rExp (rScores x wq k))) wo (ix3 b i o)
      = ∑ n : Fin 8192, attend keep (fun i d => ∑ e : Fin 512, x (ix3 b i e) * wq (ix2 e (col (headOf n) d)))
          (fun j d => k (ix4 b j (headOf n) d)) (fun j d => v (ix4 b j (headOf n) d)) i (laneOf n) * wo (ix2 n o) := by
  simp only [rOut_at, rWeights_at, rExp_at, rScores_at, attend]

end Cert.Attention

end
-- ==== Proof.Partial.lean ====
module

/-
  What each device computes before the exchange, over the extended reals: the attention of its own four heads through its
  own rows of the output weights.
-/
public import proofs.«01_k».proof.Proof.Attention

@[expose] public section

noncomputable section

namespace Cert.Attention.Device

open Idealize.ShloMosaic Idealize.ShloMosaic.TcCoe
open Cert.KernelIdeal Cert.KernelIdeal.Gen

/-- The device's number as the program computes it, and the first of its heads. -/
def number (c : Dev nD) : IVec S_ 32 := Host.remui (Host.divui (constantI S_ 32 (Dev.word c)) (constantI S_ 32 1#32)) (constantI S_ 32 32#32)
def first (c : Dev nD) : IVec S_ 32 :=
  select (cmpi .slt (muli (number c) (constantI S_ 32 4#32)) (constantI S_ 32 0#32))
    (addi (muli (number c) (constantI S_ 32 4#32)) (constantI S_ 32 128#32)) (muli (number c) (constantI S_ 32 4#32))

/-- Where its heads start along each axis of the keys and of the values. -/
def starts (c : Dev nD) : Fin 4 → ℤ := fun a =>
  ((![constantI S_ 32 0#32, constantI S_ 32 0#32, first c, constantI S_ 32 0#32] : Fin 4 → IVec S_ 32) a (Shape.Idx.first h_S_)).toInt

/-- Its heads of the keys or of the values. -/
def heads (c : Dev nD) (k : FVec Ideal S2x256x128x64 .f32) : FVec Ideal S2x256x4x64 .f32 :=
  Host.dynamicSlice S2x256x4x64 k (starts c) sliceFits_S2x256x128x64_S2x256x4x64

/-- Its scaled scores. -/
def kScores (c : Dev nD) (x : FVec Ideal S2x256x512 .f32) (wq : FVec Ideal S512x256 .f32) (k : FVec Ideal S2x256x128x64 .f32) :
    FVec Ideal S2x4x256x256 .f32 :=
  mulf (Host.dotGeneral dot_S2x4x256x64_S2x4x64x256_S2x4x256x256_3_2_2_3_01_01 none
      (truncf .bf16 (transpose S2x4x256x64 [0, 2, 1, 3]
        (shapeCast S2x256x4x64 (Host.dotGeneral dot_S2x256x512_S512x256_S2x256x256_2_0_01_1_n_n none x wq : FVec Ideal S2x256x256 .f32)
          shapeCasts_S2x256x256_S2x256x4x64) transposes_S2x256x4x64_S2x4x256x64_0_2_1_3) bitsLt_bf16_f32)
      (truncf .bf16 (transpose S2x4x64x256 [0, 2, 3, 1] (heads c k) transposes_S2x256x4x64_S2x4x64x256_0_2_3_1) bitsLt_bf16_f32))
    (broadcastInDim S2x4x256x256 ![] bcast_S_S2x4x256x256 (constant S_ .f32 0x3E000000#32))

/-- The same with the mask laid over them. -/
def kMasked (s : FVec Ideal S2x4x256x256 .f32) : FVec Ideal S2x4x256x256 .f32 :=
  select (broadcastInDim S2x4x256x256 ![0, 1, 2, 3] bcast_S1x1x256x256_S2x4x256x256_0_1_2_3
      (broadcastInDim S1x1x256x256 ![2, 3] bcast_S256x256_S1x1x256x256_2_3 (fun i => lit0 (S256x256.rowMajor i))))
    s (broadcastInDim S2x4x256x256 ![] bcast_S_S2x4x256x256 (constant S_ .f32 0xCE6E6B28#32))

/-- Their exponentials, each row's greatest subtracted. -/
def kExp (s : FVec Ideal S2x4x256x256 .f32) : FVec Ideal S2x4x256x256 .f32 :=
  Host.exp (subf s (broadcastInDim S2x4x256x256 ![0, 1, 2, 3] bcast_S2x4x256x1_S2x4x256x256_0_1_2_3
    (broadcastInDim S2x4x256x1 ![0, 1, 2] bcast_S2x4x256_S2x4x256x1_0_1_2
      (maximumf (broadcastInDim S2x4x256 ![] bcast_S_S2x4x256 (constant S_ .f32 0xFF800000#32))
        (Host.reduce FloatOps.maximumf s (constant S_ .f32 0xFF800000#32) reducesTo_S2x4x256x256_S2x4x256_d3 h_S_)))))

/-- The weights. -/
def kWeights (e : FVec Ideal S2x4x256x256 .f32) : FVec Ideal S2x4x256x256 .f32 :=
  Host.divf e (broadcastInDim S2x4x256x256 ![0, 1, 2, 3] bcast_S2x4x256x1_S2x4x256x256_0_1_2_3
    (broadcastInDim S2x4x256x1 ![0, 1, 2] bcast_S2x4x256_S2x4x256x1_0_1_2
      (Host.reduceAdd e (constant S_ .f32 0x00000000#32) reducesTo_S2x4x256x256_S2x4x256_d3 h_S_)))

/-- The partial result, from the weights. -/
def kOut (c : Dev nD) (v : FVec Ideal S2x256x128x64 .f32) (w : FVec Ideal S2x4x256x256 .f32) (wo : FVec Ideal S256x512 .f32) :
    FVec Ideal S512x512 .bf16 :=
  shapeCast S512x512 (truncf .bf16 (Host.dotGeneral dot_S2x256x256_S256x512_S2x256x512_2_0_01_1_n_n none
    (shapeCast S2x256x256 (transpose S2x256x4x64 [0, 2, 1, 3]
      (truncf .bf16 (Host.dotGeneral dot_S2x4x256x256_S2x4x256x64_S2x4x256x64_3_2_2_3_01_01 none (truncf .bf16 w bitsLt_bf16_f32)
        (truncf .bf16 (transpose S2x4x256x64 [0, 2, 1, 3] (heads c v) transposes_S2x256x4x64_S2x4x256x64_0_2_1_3) bitsLt_bf16_f32)
          : FVec Ideal S2x4x256x64 .f32) bitsLt_bf16_f32) transposes_S2x4x256x64_S2x256x4x64_0_2_1_3) shapeCasts_S2x256x4x64_S2x256x256)
    (truncf .bf16 wo bitsLt_bf16_f32) : FVec Ideal S2x256x512 .f32) bitsLt_bf16_f32) shapeCasts_S2x256x512_S512x512

variable (c : Dev nD) (x : FVec Ideal S2x256x512 .f32) (wq : FVec Ideal S512x256 .f32) (k v : FVec Ideal S2x256x128x64 .f32)
  (wo : FVec Ideal S256x512 .f32)

set_option maxRecDepth 16384

theorem starts_eq : starts c 0 = 0 ∧ starts c 1 = 0 ∧ starts c 2 = 4 * c.val ∧ starts c 3 = 0 := by
  revert c; decide +kernel

/-- Head `h` of device `c` among all heads. -/
def headAt (c : Dev nD) (h : Fin 4) : Fin 128 := ⟨4 * c.val + h.val, by have := c.isLt; have : c.val < 32 := this; omega⟩

theorem heads_at (b : Fin 2) (j : Fin 256) (h : Fin 4) (d : Fin 64) :
    heads c k (ix4 b j h d) = k (ix4 b j (headAt c h) d) := by
  obtain ⟨h0, h1, h2, h3⟩ := starts_eq c
  have hc : c.val < 32 := c.isLt
  have e0 : Host.clampedStart S2x256x128x64 S2x256x4x64 sliceFits_S2x256x128x64_S2x256x4x64.1 (starts c) 0 = 0 := by
    unfold Host.clampedStart; rw [h0]; rfl
  have e1 : Host.clampedStart S2x256x128x64 S2x256x4x64 sliceFits_S2x256x128x64_S2x256x4x64.1 (starts c) 1 = 0 := by
    unfold Host.clampedStart; rw [h1]; rfl
  have e2 : Host.clampedStart S2x256x128x64 S2x256x4x64 sliceFits_S2x256x128x64_S2x256x4x64.1 (starts c) 2 = 4 * c.val := by
    unfold Host.clampedStart; rw [h2]; revert c; decide +kernel
  have e3 : Host.clampedStart S2x256x128x64 S2x256x4x64 sliceFits_S2x256x128x64_S2x256x4x64.1 (starts c) 3 = 0 := by
    unfold Host.clampedStart; rw [h3]; rfl
  pointwise [heads]
  simp only [e0, e1, e2, e3, headAt, Nat.zero_add]

/-- Lane `d` of a device's head `h` among the columns of its own heads. -/
def colAt (h : Fin 4) (d : Fin 64) : Fin 256 := ⟨h.val * 64 + d.val, by omega⟩

theorem kMasked_at (b : Fin 2) (h : Fin 4) (i j : Fin 256) :
    kMasked (kScores c x wq k) (ix4 b h i j)
      = score keep (fun i d => ∑ e : Fin 512, x (ix3 b i e) * wq (ix2 e (colAt h d))) (fun j d => k (ix4 b j (headAt c h) d)) i j := by
  pointwise [kMasked, kScores, score, colAt]
  simp only [heads_at]
  rfl

theorem kExp_at (s : FVec Ideal S2x4x256x256 .f32) (b : Fin 2) (h : Fin 4) (i j : Fin 256) :
    kExp s (ix4 b h i j) = expo (fun i j => s (ix4 b h i j)) i j := by
  pointwise [kExp, expo]
  rw [max_eq_right (Finset.le_fold_max _ |>.mpr (.inl le_rfl))]

theorem kWeights_at (e : FVec Ideal S2x4x256x256 .f32) (b : Fin 2) (h : Fin 4) (i j : Fin 256) :
    kWeights e (ix4 b h i j) = Ideal.div (e (ix4 b h i j)) (∑ j' : Fin 256, e (ix4 b h i j')) := by
  pointwise [kWeights]

/-- Where query `i` of batch `b` stands among the rows, and the local head and lane of a column. -/
def rowAt (b : Fin 2) (i : Fin 256) : Fin 512 := ⟨b.val * 256 + i.val, by omega⟩
def headIn (n : Fin 256) : Fin 4 := ⟨n.val / 64, by omega⟩
def laneIn (n : Fin 256) : Fin 64 := ⟨n.val % 64, by omega⟩

theorem kOut_at (w : FVec Ideal S2x4x256x256 .f32) (b : Fin 2) (i : Fin 256) (o : Fin 512) :
    kOut c v w wo (ix2 (rowAt b i) o)
      = ∑ n : Fin 256, (∑ j : Fin 256, w (ix4 b (headIn n) i j) * v (ix4 b j (headAt c (headIn n)) (laneIn n))) * wo (ix2 n o) := by
  have hb : ∀ h, (⟨(rowAt b i).val / 256, h⟩ : Fin 2) = b := fun h => Fin.ext (by show (b.val * 256 + i.val) / 256 = b.val; omega)
  have hi : ∀ h, (⟨(rowAt b i).val % 256, h⟩ : Fin 256) = i := fun h => Fin.ext (by show (b.val * 256 + i.val) % 256 = i.val; omega)
  pointwise [kOut]
  simp only [hb, hi, heads_at]
  rfl

/-- A device's partial result: its heads' attention, through its rows of the output weights. -/
theorem partial_at (b : Fin 2) (i : Fin 256) (o : Fin 512) :
    kOut c v (kWeights (kExp (kMasked (kScores c x wq k)))) wo (ix2 (rowAt b i) o)
      = ∑ n : Fin 256, attend keep (fun i d => ∑ e : Fin 512, x (ix3 b i e) * wq (ix2 e (colAt (headIn n) d)))
          (fun j d => k (ix4 b j (headAt c (headIn n)) d)) (fun j d => v (ix4 b j (headAt c (headIn n)) d)) i (laneIn n)
            * wo (ix2 n o) := by
  simp only [kOut_at, kWeights_at, kExp_at, kMasked_at, attend]

end Cert.Attention.Device

end
-- ==== Proof.Buffers.lean ====
module

/-
  What the kernel's buffers hold when the exchange starts: each device's partial result.
-/
public import proofs.«01_k».proof.Proof.Partial
public import Idealize.ShloMosaic.Lib.StableHlo.RunClose

@[expose] public section

noncomputable section

namespace Cert.Attention.Device

open Idealize.ShloMosaic Idealize.ShloMosaic.TcCoe
open Cert.KernelIdeal Cert.KernelIdeal.Gen

variable (c : Dev nD) (m : (ℓ : Loc nD τ sig) → Buf (Elt Ideal) ℓ) (V : Valuation τ sig (Elt Ideal))

/-- The arguments as the device holds them. -/
abbrev arg0 : FVec Ideal S2x256x512 .f32 := m ((c.tc : Thread nD τ).loc main_arg0)
abbrev arg1 : FVec Ideal S512x256 .f32 := m ((c.tc : Thread nD τ).loc main_arg1)
abbrev arg2 : FVec Ideal S2x256x128x64 .f32 := m ((c.tc : Thread nD τ).loc main_arg2)
abbrev arg3 : FVec Ideal S2x256x128x64 .f32 := m ((c.tc : Thread nD τ).loc main_arg3)
abbrev arg4 : FVec Ideal S256x512 .f32 := m ((c.tc : Thread nD τ).loc main_arg4)

set_option maxHeartbeats 4000000

theorem V1_mask : V1 m c main_v26 = broadcastInDim S1x1x256x256 ![2, 3] bcast_S256x256_S1x1x256x256_2_3 (fun i => lit0 (S256x256.rowMajor i)) := by
  simp only [V1, hostOps0]
  after_results_simp
  rfl

theorem V1_low : V1 m c main_cst_14 = constant (F := Ideal) S_ .f32 0xCE6E6B28#32 := by
  simp only [V1, hostOps0]
  after_results_simp

theorem V1_scores : V1 m c main_v25 = kScores c (arg0 c m) (arg1 c m) (arg2 c m) := by
  simp only [V1, hostOps0]
  after_results_simp_entrywise
  rfl

theorem V1_values : V1 m c main_v22 = truncf .bf16 (transpose S2x4x256x64 [0, 2, 1, 3]
    (heads c (arg3 c m)) transposes_S2x256x4x64_S2x4x256x64_0_2_1_3) bitsLt_bf16_f32 := by
  simp only [V1, hostOps0]
  after_results_simp_entrywise
  rfl

theorem V2_masked : StableHlo.after hostOps0_1 V main_v27
    = select (broadcastInDim S2x4x256x256 ![0, 1, 2, 3] bcast_S1x1x256x256_S2x4x256x256_0_1_2_3 (V main_v26)) (V main_v25)
        (broadcastInDim S2x4x256x256 ![] bcast_S_S2x4x256x256 (V main_cst_14)) := by
  simp only [hostOps0_1, StableHlo.TRef.ternary, StableHlo.TRef.unary, StableHlo.TRef.toBuf, StableHlo.TRef.ofBuf, cast_eq]
  after_results_simp
  rfl

theorem V3_partial (h : V main_v22 = truncf .bf16 (transpose S2x4x256x64 [0, 2, 1, 3]
      (heads c (arg3 c m)) transposes_S2x256x4x64_S2x4x256x64_0_2_1_3) bitsLt_bf16_f32) (h4 : V main_arg4 = (arg4 c m)) :
    StableHlo.after hostOps0_2 V main_v47 = kOut c (arg3 c m) (kWeights (kExp (V main_v27))) (arg4 c m) := by
  simp only [hostOps0_2]
  after_results_simp
  simp only [h, h4]
  rfl

theorem xin_eq : Ring.xin m c = kOut c (arg3 c m) (kWeights (kExp (kMasked (kScores c (arg0 c m) (arg1 c m) (arg2 c m))))) (arg4 c m) := by
  unfold Ring.xin
  refine (V3_partial c m (V2 m c) ((V2_of m c main_v22 (by decide)).trans (V1_values c m))
    ((V2_of m c main_arg4 (by decide)).trans ((V1_of m c main_arg4 (by decide)).trans rfl))).trans ?_
  have h : V2 m c main_v27 = kMasked (kScores c (arg0 c m) (arg1 c m) (arg2 c m)) := by
    refine (V2_masked (V1 m c)).trans ?_
    rw [V1_mask, V1_low, V1_scores]
    rfl
  rw [h]

end Cert.Attention.Device

end
-- ==== Proof.Equation.lean ====
module

/-
  The kernel's result is the reference's: the devices' heads together are all the heads, and the sum of their partial results
  over the devices is the sum over all the rows of the output weights.
-/
public import proofs.«01_k».proof.Proof.Buffers
public import Idealize.ShloMosaic.Lib.Layout

@[expose] public section

noncomputable section

namespace Cert.Attention.Device

open Idealize.ShloMosaic Idealize.ShloMosaic.TcCoe
open Cert.KernelIdeal Cert.KernelIdeal.Gen

/-- Column `n` of device `c` among all the columns. -/
def colOf (c : Fin 32) (n : Fin 256) : Fin 8192 := ⟨c.val * 256 + n.val, by omega⟩

theorem sum_cols (f : Fin 8192 → EReal) : ∑ c : Fin 32, ∑ n : Fin 256, f (colOf c n) = ∑ n : Fin 8192, f n := by
  rw [← Fintype.sum_prod_type' (f := fun c n => f (colOf c n))]
  refine Fintype.sum_equiv (finProdFinEquiv (m := 32) (n := 256)) _ _ fun p => congrArg f (Fin.ext ?_)
  show p.1.val * 256 + p.2.val = p.2.val + 256 * p.1.val
  omega

variable (m : (ℓ : Loc nD τ sig) → Buf (Elt Ideal) ℓ)

/-- The exchange's result, read as the program returns it. -/
theorem V5_result (c : Dev nD) (b : Fin 2) (i : Fin 256) (o : Fin 512) :
    (V5 m (Ring.outs m) c main_v50 : FVec Ideal S2x256x512 .f32) (ix3 b i o)
      = Ring.total (Ring.xin m) Finset.univ (ix2 (rowAt b i) o) := by
  have h : V5 m (Ring.outs m) c main_v50
      = shapeCast S2x256x512 (extf .f32 (Ring.res (Ring.xin m) c : FVec Ideal S512x512 .bf16) bitsLt_bf16_f32 : FVec Ideal S512x512 .f32)
          shapeCasts_S512x512_S2x256x512 := by
    rw [← Ring.outs_eq]
    simp only [V5, hostOps1]
    generalize hW : V4 m (Ring.outs m) c = W
    have hv : W main_v48 = Ring.outs m 4 main_v48 c := by rw [← hW]; exact Function.update_self ..
    after_results_simp
    rw [hv]
    rfl
  rw [h]
  pointwise
  exact Ring.res_total (Ring.xin m) c (ix2 (rowAt b i) o)

/-- The whole arrays, and what of them each device holds. -/
structure Shares (X : FVec Ideal S2x256x512 .f32) (WQ : FVec Ideal ⟨2, ![512, 8192]⟩ .f32) (K V : FVec Ideal S2x256x128x64 .f32)
    (WO : FVec Ideal ⟨2, ![8192, 512]⟩ .f32) : Prop where
  x : ∀ c, arg0 c m = X
  wq : ∀ c : Dev nD, arg1 c m = Layout.block ⟨2, ![512, 256]⟩ ⟨2, ![512, 8192]⟩ 1 32 c WQ
  k : ∀ c, arg2 c m = K
  v : ∀ c, arg3 c m = V
  wo : ∀ c : Dev nD, arg4 c m = Layout.block ⟨2, ![256, 512]⟩ ⟨2, ![8192, 512]⟩ 0 32 c WO

variable {m} {X : FVec Ideal S2x256x512 .f32} {WQ : FVec Ideal ⟨2, ![512, 8192]⟩ .f32} {K V : FVec Ideal S2x256x128x64 .f32}
  {WO : FVec Ideal ⟨2, ![8192, 512]⟩ .f32}

theorem Shares.wq_at (H : Shares m X WQ K V WO) (c : Dev nD) (e : Fin 512) (n : Fin 256) :
    arg1 c m (ix2 e n) = WQ (ix2 e (colOf c n)) := by
  rw [H.wq c, Layout.block_apply]
  refine congrArg WQ (funext fun a => Fin.ext ?_)
  match a with
  | ⟨0, _⟩ => rfl
  | ⟨1, _⟩ => rfl

theorem Shares.wo_at (H : Shares m X WQ K V WO) (c : Dev nD) (n : Fin 256) (o : Fin 512) :
    arg4 c m (ix2 n o) = WO (ix2 (colOf c n) o) := by
  rw [H.wo c, Layout.block_apply]
  refine congrArg WO (funext fun a => Fin.ext ?_)
  match a with
  | ⟨0, _⟩ => rfl
  | ⟨1, _⟩ => rfl

theorem head_col (c : Fin 32) (n : Fin 256) : headOf (colOf c n) = headAt c (headIn n) :=
  Fin.ext (by show (c.val * 256 + n.val) / 64 = 4 * c.val + n.val / 64; omega)
theorem lane_col (c : Fin 32) (n : Fin 256) : laneOf (colOf c n) = laneIn n :=
  Fin.ext (by show (c.val * 256 + n.val) % 64 = n.val % 64; omega)
theorem col_head (c : Fin 32) (h : Fin 4) (d : Fin 64) : colOf c (colAt h d) = col (headAt c h) d :=
  Fin.ext (by show c.val * 256 + (h.val * 64 + d.val) = (4 * c.val + h.val) * 64 + d.val; omega)

/-- The devices' partial results add up to the reference's result. -/
theorem total_eq (H : Shares m X WQ K V WO) (b : Fin 2) (i : Fin 256) (o : Fin 512) :
    Ring.total (Ring.xin m) Finset.univ (ix2 (rowAt b i) o)
      = (rOut V (rWeights (rExp (rScores X WQ K))) WO (ix3 b i o) : EReal) := by
  refine Eq.trans ?_ ((sum_cols _).trans (reference_at X WQ K V WO b i o).symm)
  unfold Ring.total
  refine Finset.sum_congr rfl fun d _ => ?_
  refine (congrFun (xin_eq d m) _).trans ((partial_at d _ _ _ _ _ b i o).trans ?_)
  refine Finset.sum_congr rfl fun n _ => ?_
  simp only [H.x d, H.k d, H.v d, H.wq_at, H.wo_at, head_col, lane_col, col_head]

/-- The kernel's result on any device is the reference's. -/
theorem result_eq (H : Shares m X WQ K V WO) (c : Dev nD) :
    V5 m (Ring.outs m) c main_v50 = rOut V (rWeights (rExp (rScores X WQ K))) WO := by
  refine funext fun j => ?_
  obtain ⟨b, i, o, rfl⟩ : ∃ (b : Fin 2) (i : Fin 256) (o : Fin 512), j = ix3 b i o := ⟨j 0, j 1, j 2, eq_ix3 j⟩
  exact (V5_result m c b i o).trans (total_eq H b i o)

end Cert.Attention.Device

namespace Cert.Proof

open Idealize.ShloMosaic Idealize.ShloMosaic.TcCoe

theorem algebraic : Cert.algebraic_KernelIdeal_ReferenceIdeal := by
  intro m g m' g' _ hargs
  have H : Cert.Attention.Device.Shares m _ _ _ _ _ :=
    ⟨fun c => (hargs c).1, fun c => (hargs c).2.1, fun c => (hargs c).2.2.1, fun c => (hargs c).2.2.2.1, fun c => (hargs c).2.2.2.2⟩
  refine ⟨Cert.ReferenceIdeal.Value.res_main_v23 m' 0, ?_, ?_⟩
  · refine (θ_run _ _ _).mono (fun r h c => ?_) (Cert.KernelIdeal.Ring.run_main (F := Ideal) m g)
    obtain ⟨⟨h0, h1, h2, h3, h4⟩, hv⟩ := h.1 c
    exact ⟨hv.trans ((Cert.Attention.Device.result_eq H c).trans (Cert.Attention.res_eq m' 0).symm), h0, h1, h2, h3, h4⟩
  · exact (θ_run _ _ _).mono (fun r h => h 0) (Cert.ReferenceIdeal.Value.run (F := Ideal) m' g')

end Cert.Proof

end
-- ==== Proof.lean ====
/- The certificate of the all-reduce attention kernel: `Cert.Claim`, from the modules below it.
   Every claim is proved elsewhere; here they are put side by side. -/
module

public import proofs.«01_k».proof.Defs
public import proofs.«01_k».proof.Proof.Equation

@[expose] public section

noncomputable section

namespace Cert.Proof

/-- Everything the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
